-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_log_decays_nonpositive [hPre_log_decays_nonpositive : Cert.Pre_log_decays_nonpositive.Facts] (m : (ℓ : Loc Cert.KernelIdeal.nD Cert.KernelIdeal.τ Cert.KernelIdeal.sig) → Buf (Elt Ideal) ℓ) : Prop :=
  ∀ c : Dev Cert.KernelIdeal.nD,
    (Cert.Pre_log_decays_nonpositive.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_log_decays_nonpositive [hPre_log_decays_nonpositive : Cert.Pre_log_decays_nonpositive.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_log_decays_nonpositive.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_log_decays_nonpositive [hKernelIdeal : Cert.KernelIdeal.Facts] [hPre_log_decays_nonpositive : Cert.Pre_log_decays_nonpositive.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_log_decays_nonpositive m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_log_decays_nonpositive [hReferenceIdeal : Cert.ReferenceIdeal.Facts] [hPre_log_decays_nonpositive : Cert.Pre_log_decays_nonpositive.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_log_decays_nonpositive m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def preserves_Kernel_KernelIdeal : Prop :=
  True

def algebraic_KernelIdeal_ReferenceIdeal_pre_log_decays_nonpositive [hKernelIdeal : Cert.KernelIdeal.Facts] [hReferenceIdeal : Cert.ReferenceIdeal.Facts] [hPre_log_decays_nonpositive : Cert.Pre_log_decays_nonpositive.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_log_decays_nonpositive m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v18) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v17) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v15) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v39) = v0 c
          ∧ r.2.mem ((c.tc : Thread Cert.Reference20Ideal.nD Cert.Reference20Ideal.τ).loc Cert.Reference20Ideal.main_v35) = v1 c
          ∧ r.2.mem ((c.tc : Thread Cert.Reference20Ideal.nD Cert.Reference20Ideal.τ).loc Cert.Reference20Ideal.main_v36) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)) (v4 : (c : Dev Cert.Kernel21Ideal.nD) → Buf (Elt Ideal) ((c.tc : Thread Cert.Kernel21Ideal.nD Cert.Kernel21Ideal.τ).loc Cert.Kernel21Ideal.main_v0_4)) (v5 : (c : Dev Cert.Kernel21Ideal.nD) → Buf (Elt Ideal) ((c.tc : Thread Cert.Kernel21Ideal.nD Cert.Kernel21Ideal.τ).loc Cert.Kernel21Ideal.main_v0_5)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_v0_4) = v4 c
          ∧ r.2.mem ((c.tc : Thread Cert.Kernel21Ideal.nD Cert.Kernel21Ideal.τ).loc Cert.Kernel21Ideal.main_v0_5) = v5 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v72) = v0 c
          ∧ r.2.mem ((c.tc : Thread Cert.Reference21Ideal.nD Cert.Reference21Ideal.τ).loc Cert.Reference21Ideal.main_v83) = v1 c
          ∧ r.2.mem ((c.tc : Thread Cert.Reference21Ideal.nD Cert.Reference21Ideal.τ).loc Cert.Reference21Ideal.main_v82) = v2 c
          ∧ r.2.mem ((c.tc : Thread Cert.Reference21Ideal.nD Cert.Reference21Ideal.τ).loc Cert.Reference21Ideal.main_v73) = v3 c
          ∧ r.2.mem ((c.tc : Thread Cert.Reference21Ideal.nD Cert.Reference21Ideal.τ).loc Cert.Reference21Ideal.main_v51) = v4 c
          ∧ r.2.mem ((c.tc : Thread Cert.Reference21Ideal.nD Cert.Reference21Ideal.τ).loc Cert.Reference21Ideal.main_v43) = v5 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v50) = v0 c
          ∧ r.2.mem ((c.tc : Thread Cert.Reference22Ideal.nD Cert.Reference22Ideal.τ).loc Cert.Reference22Ideal.main_v54) = v1 c
          ∧ r.2.mem ((c.tc : Thread Cert.Reference22Ideal.nD Cert.Reference22Ideal.τ).loc Cert.Reference22Ideal.main_v49) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hPre_log_decays_nonpositive : Cert.Pre_log_decays_nonpositive.Facts),
    quiescent_Kernel (hKernel := hKernel)
    ∧ quiescent_KernelIdeal (hKernelIdeal := hKernelIdeal)
    ∧ quiescent_KernelIdeal_pre_log_decays_nonpositive (hKernelIdeal := hKernelIdeal) (hPre_log_decays_nonpositive := hPre_log_decays_nonpositive)
    ∧ quiescent_ReferenceIdeal (hReferenceIdeal := hReferenceIdeal)
    ∧ quiescent_ReferenceIdeal_pre_log_decays_nonpositive (hReferenceIdeal := hReferenceIdeal) (hPre_log_decays_nonpositive := hPre_log_decays_nonpositive)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ preserves_Kernel_KernelIdeal
    ∧ algebraic_KernelIdeal_ReferenceIdeal_pre_log_decays_nonpositive (hKernelIdeal := hKernelIdeal) (hReferenceIdeal := hReferenceIdeal) (hPre_log_decays_nonpositive := hPre_log_decays_nonpositive)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
-- ==== Pre_log_decays_nonpositive.lean ====
abbrev S8448x1024 : Shape := ⟨2, ![8448, 1024]⟩
abbrev S8448x128 : Shape := ⟨2, ![8448, 128]⟩
abbrev S2x132x8x128x128 : Shape := ⟨5, ![2, 132, 8, 128, 128]⟩
abbrev S2x132x8x64x64 : Shape := ⟨5, ![2, 132, 8, 64, 64]⟩
abbrev S8448x16 : Shape := ⟨2, ![8448, 16]⟩
abbrev S_ : Shape := ⟨0, ![]⟩

class Facts : Prop where
  slices_S8448x128_S8448x16_0_0 : S8448x128.Slices ![0, 0] S8448x16
  bcast_S_S8448x16 : S_.BroadcastsInDim S8448x16 (![] : Fin 0 → Fin S8448x16.rank)

variable [Facts]

def fn {F : FTy → Type} [FloatOps F] (main_arg0 : FVec F S8448x1024 .f32) (main_arg1 : FVec F S8448x1024 .f32) (main_arg2 : FVec F S8448x1024 .f32) (main_arg3 : FVec F S8448x128 .f32) (main_arg4 : FVec F S2x132x8x128x128 .f32) (main_arg5 : FVec F S8448x1024 .f32) (main_arg6 : FVec F S2x132x8x64x64 .f32) : IVec S8448x16 1 :=
  let main_v0 : FVec F S8448x16 .f32 := (extractStridedSlice S8448x16 ![0, 0] · slices_S8448x128_S8448x16_0_0) main_arg3
  let main_cst : FVec F S_ .f32 := constant S_ .f32 0x00000000#32
  let main_v1 : FVec F S8448x16 .f32 := broadcastInDim S8448x16 ![] bcast_S_S8448x16 main_cst
  let main_v2 : IVec S8448x16 1 := cmpf .ole main_v0 main_v1
  main_v2
-- ==== Kernel.lean ====
abbrev S8448x1024 : Shape := ⟨2, ![8448, 1024]⟩
abbrev S8448x128 : Shape := ⟨2, ![8448, 128]⟩
abbrev S2x132x8x128x128 : Shape := ⟨5, ![2, 132, 8, 128, 128]⟩
abbrev S2x132x8x64x64 : Shape := ⟨5, ![2, 132, 8, 64, 64]⟩
abbrev S2x8448x1024 : Shape := ⟨3, ![2, 8448, 1024]⟩
abbrev S2x8448x128 : Shape := ⟨3, ![2, 8448, 128]⟩
abbrev S64x1024 : Shape := ⟨2, ![64, 1024]⟩
abbrev S64x128 : Shape := ⟨2, ![64, 128]⟩
abbrev S1x1x8x128x128 : Shape := ⟨5, ![1, 1, 8, 128, 128]⟩
abbrev S1x1x8x64x64 : Shape := ⟨5, ![1, 1, 8, 64, 64]⟩
abbrev S1x64x1024 : Shape := ⟨3, ![1, 64, 1024]⟩
abbrev S1x64x128 : Shape := ⟨3, ![1, 64, 128]⟩
abbrev S8x128x128 : Shape := ⟨3, ![8, 128, 128]⟩
abbrev S1x1x1x64x64 : Shape := ⟨5, ![1, 1, 1, 64, 64]⟩
abbrev S64x64 : Shape := ⟨2, ![64, 64]⟩
abbrev S1x1x1x128x128 : Shape := ⟨5, ![1, 1, 1, 128, 128]⟩
abbrev S128x128 : Shape := ⟨2, ![128, 128]⟩
abbrev S128 : Shape := ⟨1, ![128]⟩
abbrev S1x128 : Shape := ⟨2, ![1, 128]⟩
abbrev S64 : Shape := ⟨1, ![64]⟩
abbrev S64x1 : Shape := ⟨2, ![64, 1]⟩
abbrev S1 : Shape := ⟨1, ![1]⟩
abbrev S1x1 : Shape := ⟨2, ![1, 1]⟩
abbrev S128x64 : Shape := ⟨2, ![128, 64]⟩
abbrev S64x256 : Shape := ⟨2, ![64, 256]⟩
abbrev S1x128x128 : Shape := ⟨3, ![1, 128, 128]⟩
abbrev S1x1x1 : Shape := ⟨3, ![1, 1, 1]⟩
abbrev S256x64 : Shape := ⟨2, ![256, 64]⟩
abbrev S64x896 : Shape := ⟨2, ![64, 896]⟩
abbrev S64x768 : Shape := ⟨2, ![64, 768]⟩
abbrev S64x640 : Shape := ⟨2, ![64, 640]⟩
abbrev S64x512 : Shape := ⟨2, ![64, 512]⟩
abbrev S64x384 : Shape := ⟨2, ![64, 384]⟩

abbrev nBuf : Space → Nat
  | .hbm => 11
  | .vmem => 23
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x1024, .f32⟩
  | .hbm, ⟨3, _⟩ => ⟨S8448x128, .f32⟩
  | .hbm, ⟨4, _⟩ => ⟨S2x132x8x128x128, .f32⟩
  | .hbm, ⟨5, _⟩ => ⟨S8448x1024, .f32⟩
  | .hbm, ⟨6, _⟩ => ⟨S2x132x8x64x64, .f32⟩
  | .hbm, ⟨7, _⟩ => ⟨S2x8448x1024, .f32⟩
  | .hbm, ⟨8, _⟩ => ⟨S2x8448x1024, .f32⟩
  | .hbm, ⟨9, _⟩ => ⟨S2x8448x1024, .f32⟩
  | .hbm, ⟨10, _⟩ => ⟨S2x8448x128, .f32⟩
  | .local _ .vmem, ⟨0, _⟩ => ⟨S64x1024, .f32⟩
  | .local _ .vmem, ⟨1, _⟩ => ⟨S64x1024, .f32⟩
  | .local _ .vmem, ⟨2, _⟩ => ⟨S64x1024, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x128, .f32⟩
  | .local _ .vmem, ⟨7, _⟩ => ⟨S64x128, .f32⟩
  | .local _ .vmem, ⟨8, _⟩ => ⟨S1x1x8x128x128, .f32⟩
  | .local _ .vmem, ⟨9, _⟩ => ⟨S1x1x8x128x128, .f32⟩
  | .local _ .vmem, ⟨10, _⟩ => ⟨S64x1024, .f32⟩
  | .local _ .vmem, ⟨11, _⟩ => ⟨S64x1024, .f32⟩
  | .local _ .vmem, ⟨12, _⟩ => ⟨S1x1x8x64x64, .f32⟩
  | .local _ .vmem, ⟨13, _⟩ => ⟨S1x1x8x64x64, .f32⟩
  | .local _ .vmem, ⟨14, _⟩ => ⟨S1x64x1024, .f32⟩
  | .local _ .vmem, ⟨15, _⟩ => ⟨S1x64x1024, .f32⟩
  | .local _ .vmem, ⟨16, _⟩ => ⟨S1x64x1024, .f32⟩
  | .local _ .vmem, ⟨17, _⟩ => ⟨S1x64x1024, .f32⟩
  | .local _ .vmem, ⟨18, _⟩ => ⟨S1x64x1024, .f32⟩
  | .local _ .vmem, ⟨19, _⟩ => ⟨S1x64x1024, .f32⟩
  | .local _ .vmem, ⟨20, _⟩ => ⟨S1x64x128, .f32⟩
  | .local _ .vmem, ⟨21, _⟩ => ⟨S1x64x128, .f32⟩
  | .local _ .vmem, ⟨22, _⟩ => ⟨S8x128x128, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 132], ![false, false]⟩

def cc0_transform_0 (i : grid0.Coords) : Fin 2 → Nat :=
  let arg0 : BitVec 32 := BitVec.ofNat 32 (i 0).val
  let arg1 : BitVec 32 := BitVec.ofNat 32 (i 1).val
  let c131_i32 : BitVec 32 := 131#32
  let v0 : BitVec 32 := Scalar.subi c131_i32 arg1
  let c0_i32 : BitVec 32 := 0#32
  let v1 : BitVec 1 := Scalar.cmpi .eq arg0 c0_i32
  let c4_i32 : BitVec 32 := 4#32
  let v2 : BitVec 1 := Scalar.cmpi .slt v0 c4_i32
  let c3_i32 : BitVec 32 := 3#32
  let v3 : BitVec 32 := Scalar.subi c3_i32 v0
  let c135_i32 : BitVec 32 := 135#32
  let v4 : BitVec 32 := Scalar.subi c135_i32 v0
  let v5 : BitVec 32 := Scalar.select v2 v3 v4
  let v6 : BitVec 32 := Scalar.select v1 v0 v5
  let c0_i32_0 : BitVec 32 := 0#32
  let c0_i32_1 : BitVec 32 := 0#32
  ![v6.toNat, c0_i32_0.toNat]

def cc0_transform_1 (i : grid0.Coords) : Fin 2 → Nat :=
  let arg0 : BitVec 32 := BitVec.ofNat 32 (i 0).val
  let arg1 : BitVec 32 := BitVec.ofNat 32 (i 1).val
  let c131_i32 : BitVec 32 := 131#32
  let v0 : BitVec 32 := Scalar.subi c131_i32 arg1
  let c0_i32 : BitVec 32 := 0#32
  let v1 : BitVec 1 := Scalar.cmpi .eq arg0 c0_i32
  let c4_i32 : BitVec 32 := 4#32
  let v2 : BitVec 1 := Scalar.cmpi .slt v0 c4_i32
  let c3_i32 : BitVec 32 := 3#32
  let v3 : BitVec 32 := Scalar.subi c3_i32 v0
  let c135_i32 : BitVec 32 := 135#32
  let v4 : BitVec 32 := Scalar.subi c135_i32 v0
  let v5 : BitVec 32 := Scalar.select v2 v3 v4
  let v6 : BitVec 32 := Scalar.select v1 v0 v5
  let c0_i32_0 : BitVec 32 := 0#32
  let c0_i32_1 : BitVec 32 := 0#32
  ![v6.toNat, c0_i32_0.toNat]

def cc0_transform_2 (i : grid0.Coords) : Fin 2 → Nat :=
  let arg0 : BitVec 32 := BitVec.ofNat 32 (i 0).val
  let arg1 : BitVec 32 := BitVec.ofNat 32 (i 1).val
  let c131_i32 : BitVec 32 := 131#32
  let v0 : BitVec 32 := Scalar.subi c131_i32 arg1
  let c0_i32 : BitVec 32 := 0#32
  let v1 : BitVec 1 := Scalar.cmpi .eq arg0 c0_i32
  let c4_i32 : BitVec 32 := 4#32
  let v2 : BitVec 1 := Scalar.cmpi .slt v0 c4_i32
  let c3_i32 : BitVec 32 := 3#32
  let v3 : BitVec 32 := Scalar.subi c3_i32 v0
  let c135_i32 : BitVec 32 := 135#32
  let v4 : BitVec 32 := Scalar.subi c135_i32 v0
  let v5 : BitVec 32 := Scalar.select v2 v3 v4
  let v6 : BitVec 32 := Scalar.select v1 v0 v5
  let c0_i32_0 : BitVec 32 := 0#32
  let c0_i32_1 : BitVec 32 := 0#32
  ![v6.toNat, c0_i32_0.toNat]

def cc0_transform_3 (i : grid0.Coords) : Fin 2 → Nat :=
  let arg0 : BitVec 32 := BitVec.ofNat 32 (i 0).val
  let arg1 : BitVec 32 := BitVec.ofNat 32 (i 1).val
  let c131_i32 : BitVec 32 := 131#32
  let v0 : BitVec 32 := Scalar.subi c131_i32 arg1
  let c0_i32 : BitVec 32 := 0#32
  let v1 : BitVec 1 := Scalar.cmpi .eq arg0 c0_i32
  let c4_i32 : BitVec 32 := 4#32
  let v2 : BitVec 1 := Scalar.cmpi .slt v0 c4_i32
  let c3_i32 : BitVec 32 := 3#32
  let v3 : BitVec 32 := Scalar.subi c3_i32 v0
  let c135_i32 : BitVec 32 := 135#32
  let v4 : BitVec 32 := Scalar.subi c135_i32 v0
  let v5 : BitVec 32 := Scalar.select v2 v3 v4
  let v6 : BitVec 32 := Scalar.select v1 v0 v5
  let c0_i32_0 : BitVec 32 := 0#32
  let c0_i32_1 : BitVec 32 := 0#32
  ![v6.toNat, c0_i32_0.toNat]

def cc0_transform_4 (i : grid0.Coords) : Fin 5 → Nat :=
  let arg0 : BitVec 32 := BitVec.ofNat 32 (i 0).val
  let arg1 : BitVec 32 := BitVec.ofNat 32 (i 1).val
  let c131_i32 : BitVec 32 := 131#32
  let v0 : BitVec 32 := Scalar.subi c131_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c131_i32 : BitVec 32 := 131#32
  let v0 : BitVec 32 := Scalar.subi c131_i32 arg1
  let c0_i32 : BitVec 32 := 0#32
  let v1 : BitVec 1 := Scalar.cmpi .eq arg0 c0_i32
  let c4_i32 : BitVec 32 := 4#32
  let v2 : BitVec 1 := Scalar.cmpi .slt v0 c4_i32
  let c3_i32 : BitVec 32 := 3#32
  let v3 : BitVec 32 := Scalar.subi c3_i32 v0
  let c135_i32 : BitVec 32 := 135#32
  let v4 : BitVec 32 := Scalar.subi c135_i32 v0
  let v5 : BitVec 32 := Scalar.select v2 v3 v4
  let v6 : BitVec 32 := Scalar.select v1 v0 v5
  let c0_i32_0 : BitVec 32 := 0#32
  let c0_i32_1 : BitVec 32 := 0#32
  ![v6.toNat, c0_i32_0.toNat]

def cc0_transform_6 (i : grid0.Coords) : Fin 5 → Nat :=
  let arg0 : BitVec 32 := BitVec.ofNat 32 (i 0).val
  let arg1 : BitVec 32 := BitVec.ofNat 32 (i 1).val
  let c131_i32 : BitVec 32 := 131#32
  let v0 : BitVec 32 := Scalar.subi c131_i32 arg1
  let c0_i32 : BitVec 32 := 0#32
  let c0_i32_0 : BitVec 32 := 0#32
  let c0_i32_1 : BitVec 32 := 0#32
  let c0_i32_2 : BitVec 32 := 0#32
  ![arg0.toNat, v0.toNat, c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c131_i32 : BitVec 32 := 131#32
  let v0 : BitVec 32 := Scalar.subi c131_i32 arg1
  let c0_i32 : BitVec 32 := 0#32
  let v1 : BitVec 1 := Scalar.cmpi .eq arg0 c0_i32
  let c4_i32 : BitVec 32 := 4#32
  let v2 : BitVec 1 := Scalar.cmpi .slt v0 c4_i32
  let c3_i32 : BitVec 32 := 3#32
  let v3 : BitVec 32 := Scalar.subi c3_i32 v0
  let c135_i32 : BitVec 32 := 135#32
  let v4 : BitVec 32 := Scalar.subi c135_i32 v0
  let v5 : BitVec 32 := Scalar.select v2 v3 v4
  let v6 : BitVec 32 := Scalar.select v1 v0 v5
  let c0_i32_0 : BitVec 32 := 0#32
  let c0_i32_1 : BitVec 32 := 0#32
  ![arg0.toNat, v6.toNat, c0_i32_0.toNat]

def cc0_transform_8 (i : grid0.Coords) : Fin 3 → Nat :=
  let arg0 : BitVec 32 := BitVec.ofNat 32 (i 0).val
  let arg1 : BitVec 32 := BitVec.ofNat 32 (i 1).val
  let c131_i32 : BitVec 32 := 131#32
  let v0 : BitVec 32 := Scalar.subi c131_i32 arg1
  let c0_i32 : BitVec 32 := 0#32
  let v1 : BitVec 1 := Scalar.cmpi .eq arg0 c0_i32
  let c4_i32 : BitVec 32 := 4#32
  let v2 : BitVec 1 := Scalar.cmpi .slt v0 c4_i32
  let c3_i32 : BitVec 32 := 3#32
  let v3 : BitVec 32 := Scalar.subi c3_i32 v0
  let c135_i32 : BitVec 32 := 135#32
  let v4 : BitVec 32 := Scalar.subi c135_i32 v0
  let v5 : BitVec 32 := Scalar.select v2 v3 v4
  let v6 : BitVec 32 := Scalar.select v1 v0 v5
  let c0_i32_0 : BitVec 32 := 0#32
  let c0_i32_1 : BitVec 32 := 0#32
  ![arg0.toNat, v6.toNat, c0_i32_0.toNat]

def cc0_transform_9 (i : grid0.Coords) : Fin 3 → Nat :=
  let arg0 : BitVec 32 := BitVec.ofNat 32 (i 0).val
  let arg1 : BitVec 32 := BitVec.ofNat 32 (i 1).val
  let c131_i32 : BitVec 32 := 131#32
  let v0 : BitVec 32 := Scalar.subi c131_i32 arg1
  let c0_i32 : BitVec 32 := 0#32
  let v1 : BitVec 1 := Scalar.cmpi .eq arg0 c0_i32
  let c4_i32 : BitVec 32 := 4#32
  let v2 : BitVec 1 := Scalar.cmpi .slt v0 c4_i32
  let c3_i32 : BitVec 32 := 3#32
  let v3 : BitVec 32 := Scalar.subi c3_i32 v0
  let c135_i32 : BitVec 32 := 135#32
  let v4 : BitVec 32 := Scalar.subi c135_i32 v0
  let v5 : BitVec 32 := Scalar.select v2 v3 v4
  let v6 : BitVec 32 := Scalar.select v1 v0 v5
  let c0_i32_0 : BitVec 32 := 0#32
  let c0_i32_1 : BitVec 32 := 0#32
  ![arg0.toNat, v6.toNat, c0_i32_0.toNat]

def cc0_transform_10 (i : grid0.Coords) : Fin 3 → Nat :=
  let arg0 : BitVec 32 := BitVec.ofNat 32 (i 0).val
  let arg1 : BitVec 32 := BitVec.ofNat 32 (i 1).val
  let c131_i32 : BitVec 32 := 131#32
  let v0 : BitVec 32 := Scalar.subi c131_i32 arg1
  let c0_i32 : BitVec 32 := 0#32
  let v1 : BitVec 1 := Scalar.cmpi .eq arg0 c0_i32
  let c4_i32 : BitVec 32 := 4#32
  let v2 : BitVec 1 := Scalar.cmpi .slt v0 c4_i32
  let c3_i32 : BitVec 32 := 3#32
  let v3 : BitVec 32 := Scalar.subi c3_i32 v0
  let c135_i32 : BitVec 32 := 135#32
  let v4 : BitVec 32 := Scalar.subi c135_i32 v0
  let v5 : BitVec 32 := Scalar.select v2 v3 v4
  let v6 : BitVec 32 := Scalar.select v1 v0 v5
  let c0_i32_0 : BitVec 32 := 0#32
  let c0_i32_1 : BitVec 32 := 0#32
  ![arg0.toNat, v6.toNat, c0_i32_0.toNat]

abbrev stage0_0 : Fin 2 → Memref sig .tc .vmem S64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x8x64x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x64x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8448x1024 : Shape := ⟨2, ![8448, 1024]⟩
abbrev S8448x128 : Shape := ⟨2, ![8448, 128]⟩
abbrev S2x132x8x128x128 : Shape := ⟨5, ![2, 132, 8, 128, 128]⟩
abbrev S2x132x8x64x64 : Shape := ⟨5, ![2, 132, 8, 64, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S132x2x8x128x128 : Shape := ⟨5, ![132, 2, 8, 128, 128]⟩
abbrev S1x132x8x64x64 : Shape := ⟨5, ![1, 132, 8, 64, 64]⟩
abbrev S132x8x64x64 : Shape := ⟨4, ![132, 8, 64, 64]⟩
abbrev S132x2x8x64x64 : Shape := ⟨5, ![132, 2, 8, 64, 64]⟩
abbrev S256x1024 : Shape := ⟨2, ![256, 1024]⟩
abbrev S8192x1024 : Shape := ⟨2, ![8192, 1024]⟩
abbrev S1x8448x1024 : Shape := ⟨3, ![1, 8448, 1024]⟩
abbrev S2x8448x1024 : Shape := ⟨3, ![2, 8448, 1024]⟩
abbrev S2x132x64x8x128 : Shape := ⟨5, ![2, 132, 64, 8, 128]⟩
abbrev S132x2x64x8x128 : Shape := ⟨5, ![132, 2, 64, 8, 128]⟩
abbrev S8448x16 : Shape := ⟨2, ![8448, 16]⟩
abbrev S8448x8 : Shape := ⟨2, ![8448, 8]⟩
abbrev S256x8 : Shape := ⟨2, ![256, 8]⟩
abbrev S8192x8 : Shape := ⟨2, ![8192, 8]⟩
abbrev S1x8448x8 : Shape := ⟨3, ![1, 8448, 8]⟩
abbrev S2x8448x8 : Shape := ⟨3, ![2, 8448, 8]⟩
abbrev S2x132x64x8 : Shape := ⟨4, ![2, 132, 64, 8]⟩
abbrev S132x2x64x8 : Shape := ⟨4, ![132, 2, 64, 8]⟩
abbrev S_ : Shape := ⟨0, ![]⟩
abbrev S2x8x128x128 : Shape := ⟨4, ![2, 8, 128, 128]⟩
abbrev S1x2x64x8x128 : Shape := ⟨5, ![1, 2, 64, 8, 128]⟩
abbrev S2x64x8x128 : Shape := ⟨4, ![2, 64, 8, 128]⟩
abbrev S1x2x64x8 : Shape := ⟨4, ![1, 2, 64, 8]⟩
abbrev S2x64x8 : Shape := ⟨3, ![2, 64, 8]⟩
abbrev S1x2x8x128x128 : Shape := ⟨5, ![1, 2, 8, 128, 128]⟩
abbrev S1x2x8x64x64 : Shape := ⟨5, ![1, 2, 8, 64, 64]⟩
abbrev S2x8x64x64 : Shape := ⟨4, ![2, 8, 64, 64]⟩
abbrev S2x8x64x128 : Shape := ⟨4, ![2, 8, 64, 128]⟩
abbrev S2x8x64 : Shape := ⟨3, ![2, 8, 64]⟩
abbrev S2x8x64x1 : Shape := ⟨4, ![2, 8, 64, 1]⟩
abbrev S2x8x1x64 : Shape := ⟨4, ![2, 8, 1, 64]⟩
abbrev S2x8x64x256 : Shape := ⟨4, ![2, 8, 64, 256]⟩
abbrev S2x8x1 : Shape := ⟨3, ![2, 8, 1]⟩
abbrev S2x8x1x1 : Shape := ⟨4, ![2, 8, 1, 1]⟩
abbrev S2x8x128x64 : Shape := ⟨4, ![2, 8, 128, 64]⟩
abbrev S2x8x256x64 : Shape := ⟨4, ![2, 8, 256, 64]⟩

abbrev nBuf : Space → Nat
  | .hbm => 298
  | .vmem => 0
  | .smem => 0
  | _ => 0

abbrev hbmTy0_0 (i : Nat) : BufTy := match i % 128 with
  | 0 => ⟨S8448x1024, .f32⟩
  | 1 => ⟨S8448x1024, .f32⟩
  | 2 => ⟨S8448x1024, .f32⟩
  | 3 => ⟨S8448x128, .f32⟩
  | 4 => ⟨S2x132x8x128x128, .f32⟩
  | 5 => ⟨S8448x1024, .f32⟩
  | 6 => ⟨S2x132x8x64x64, .f32⟩
  | 7 => ⟨S64, .i32⟩
  | 8 => ⟨S64x1, .i32⟩
  | 9 => ⟨S1x64, .i32⟩
  | 10 => ⟨S64x64, .i32⟩
  | 11 => ⟨S64x64, .i32⟩
  | 12 => ⟨S64x64, .i1⟩
  | 13 => ⟨S132x2x8x128x128, .f32⟩
  | 14 => ⟨S1x132x8x64x64, .f32⟩
  | 15 => ⟨S132x8x64x64, .f32⟩
  | 16 => ⟨S1x132x8x64x64, .f32⟩
  | 17 => ⟨S132x8x64x64, .f32⟩
  | 18 => ⟨S132x8x64x64, .f32⟩
  | 19 => ⟨S1x132x8x64x64, .f32⟩
  | 20 => ⟨S1x132x8x64x64, .f32⟩
  | 21 => ⟨S2x132x8x64x64, .f32⟩
  | 22 => ⟨S132x2x8x64x64, .f32⟩
  | 23 => ⟨S256x1024, .f32⟩
  | 24 => ⟨S256x1024, .f32⟩
  | 25 => ⟨S8192x1024, .f32⟩
  | 26 => ⟨S8192x1024, .f32⟩
  | 27 => ⟨S8448x1024, .f32⟩
  | 28 => ⟨S1x8448x1024, .f32⟩
  | 29 => ⟨S1x8448x1024, .f32⟩
  | 30 => ⟨S2x8448x1024, .f32⟩
  | 31 => ⟨S2x132x64x8x128, .f32⟩
  | 32 => ⟨S132x2x64x8x128, .f32⟩
  | 33 => ⟨S256x1024, .f32⟩
  | 34 => ⟨S256x1024, .f32⟩
  | 35 => ⟨S8192x1024, .f32⟩
  | 36 => ⟨S8192x1024, .f32⟩
  | 37 => ⟨S8448x1024, .f32⟩
  | 38 => ⟨S1x8448x1024, .f32⟩
  | 39 => ⟨S1x8448x1024, .f32⟩
  | 40 => ⟨S2x8448x1024, .f32⟩
  | 41 => ⟨S2x132x64x8x128, .f32⟩
  | 42 => ⟨S132x2x64x8x128, .f32⟩
  | 43 => ⟨S256x1024, .f32⟩
  | 44 => ⟨S256x1024, .f32⟩
  | 45 => ⟨S8192x1024, .f32⟩
  | 46 => ⟨S8192x1024, .f32⟩
  | 47 => ⟨S8448x1024, .f32⟩
  | 48 => ⟨S1x8448x1024, .f32⟩
  | 49 => ⟨S1x8448x1024, .f32⟩
  | 50 => ⟨S2x8448x1024, .f32⟩
  | 51 => ⟨S2x132x64x8x128, .f32⟩
  | 52 => ⟨S132x2x64x8x128, .f32⟩
  | 53 => ⟨S8448x16, .f32⟩
  | 54 => ⟨S8448x8, .f32⟩
  | 55 => ⟨S8448x8, .f32⟩
  | 56 => ⟨S256x8, .f32⟩
  | 57 => ⟨S256x8, .f32⟩
  | 58 => ⟨S8192x8, .f32⟩
  | 59 => ⟨S8192x8, .f32⟩
  | 60 => ⟨S8448x8, .f32⟩
  | 61 => ⟨S1x8448x8, .f32⟩
  | 62 => ⟨S1x8448x8, .f32⟩
  | 63 => ⟨S2x8448x8, .f32⟩
  | 64 => ⟨S2x132x64x8, .f32⟩
  | 65 => ⟨S132x2x64x8, .f32⟩
  | 66 => ⟨S8448x16, .f32⟩
  | 67 => ⟨S8448x8, .f32⟩
  | 68 => ⟨S8448x8, .f32⟩
  | 69 => ⟨S256x8, .f32⟩
  | 70 => ⟨S256x8, .f32⟩
  | 71 => ⟨S8192x8, .f32⟩
  | 72 => ⟨S8192x8, .f32⟩
  | 73 => ⟨S8448x8, .f32⟩
  | 74 => ⟨S1x8448x8, .f32⟩
  | 75 => ⟨S1x8448x8, .f32⟩
  | 76 => ⟨S2x8448x8, .f32⟩
  | 77 => ⟨S2x132x64x8, .f32⟩
  | 78 => ⟨S132x2x64x8, .f32⟩
  | 79 => ⟨S256x1024, .f32⟩
  | 80 => ⟨S256x1024, .f32⟩
  | 81 => ⟨S8192x1024, .f32⟩
  | 82 => ⟨S8192x1024, .f32⟩
  | 83 => ⟨S8448x1024, .f32⟩
  | 84 => ⟨S1x8448x1024, .f32⟩
  | 85 => ⟨S1x8448x1024, .f32⟩
  | 86 => ⟨S2x8448x1024, .f32⟩
  | 87 => ⟨S2x132x64x8x128, .f32⟩
  | 88 => ⟨S132x2x64x8x128, .f32⟩
  | 89 => ⟨S_, .f32⟩
  | 90 => ⟨S2x8x128x128, .f32⟩
  | 91 => ⟨S_, .f32⟩
  | 92 => ⟨S132x2x64x8x128, .f32⟩
  | 93 => ⟨S_, .f32⟩
  | 94 => ⟨S132x2x64x8x128, .f32⟩
  | 95 => ⟨S_, .i32⟩
  | 96 => ⟨S132x2x64x8x128, .f32⟩
  | 97 => ⟨S132x2x64x8x128, .f32⟩
  | 98 => ⟨S132x2x64x8x128, .f32⟩
  | 99 => ⟨S132x2x64x8, .f32⟩
  | 100 => ⟨S132x2x64x8, .f32⟩
  | 101 => ⟨S132x2x8x128x128, .f32⟩
  | 102 => ⟨S132x2x8x64x64, .f32⟩
  | 103 => ⟨S132x2x64x8x128, .f32⟩
  | 104 => ⟨S64x64, .i1⟩
  | 105 => ⟨S_, .i32⟩
  | 106 => ⟨S2x8x128x128, .f32⟩
  | 107 => ⟨S132x2x64x8x128, .f32⟩
  | 108 => ⟨S132x2x64x8x128, .f32⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S_, .i32⟩
  | 118 => ⟨S_, .i32⟩
  | 119 => ⟨S1x2x64x8x128, .f32⟩
  | 120 => ⟨S2x64x8x128, .f32⟩
  | 121 => ⟨S_, .i32⟩
  | 122 => ⟨S_, .i32⟩
  | 123 => ⟨S_, .i32⟩
  | 124 => ⟨S_, .i32⟩
  | 125 => ⟨S1x2x64x8x128, .f32⟩
  | 126 => ⟨S2x64x8x128, .f32⟩
  | 127 => ⟨S_, .i32⟩
  | _ => ⟨S8448x1024, .f32⟩

abbrev hbmTy0_1 (i : Nat) : BufTy := match i % 128 with
  | 0 => ⟨S_, .i32⟩
  | 1 => ⟨S_, .i32⟩
  | 2 => ⟨S_, .i32⟩
  | 3 => ⟨S1x2x64x8x128, .f32⟩
  | 4 => ⟨S2x64x8x128, .f32⟩
  | 5 => ⟨S_, .i32⟩
  | 6 => ⟨S_, .i32⟩
  | 7 => ⟨S_, .i32⟩
  | 8 => ⟨S1x2x64x8, .f32⟩
  | 9 => ⟨S2x64x8, .f32⟩
  | 10 => ⟨S_, .i32⟩
  | 11 => ⟨S_, .i32⟩
  | 12 => ⟨S_, .i32⟩
  | 13 => ⟨S1x2x64x8, .f32⟩
  | 14 => ⟨S2x64x8, .f32⟩
  | 15 => ⟨S_, .i32⟩
  | 16 => ⟨S_, .i32⟩
  | 17 => ⟨S_, .i32⟩
  | 18 => ⟨S_, .i32⟩
  | 19 => ⟨S1x2x8x128x128, .f32⟩
  | 20 => ⟨S2x8x128x128, .f32⟩
  | 21 => ⟨S_, .i32⟩
  | 22 => ⟨S_, .i32⟩
  | 23 => ⟨S_, .i32⟩
  | 24 => ⟨S_, .i32⟩
  | 25 => ⟨S1x2x8x64x64, .f32⟩
  | 26 => ⟨S2x8x64x64, .f32⟩
  | 27 => ⟨S_, .i32⟩
  | 28 => ⟨S_, .i32⟩
  | 29 => ⟨S_, .i32⟩
  | 30 => ⟨S_, .i32⟩
  | 31 => ⟨S1x2x64x8x128, .f32⟩
  | 32 => ⟨S2x64x8x128, .f32⟩
  | 33 => ⟨S2x8x64x128, .f32⟩
  | 34 => ⟨S2x8x64x128, .f32⟩
  | 35 => ⟨S2x8x64x128, .f32⟩
  | 36 => ⟨S2x8x64, .f32⟩
  | 37 => ⟨S_, .f32⟩
  | 38 => ⟨S_, .f32⟩
  | 39 => ⟨S2x8x64, .f32⟩
  | 40 => ⟨S2x8x64, .f32⟩
  | 41 => ⟨S2x8x64x1, .f32⟩
  | 42 => ⟨S2x8x64x1, .f32⟩
  | 43 => ⟨S2x8x1x64, .f32⟩
  | 44 => ⟨S2x8x64x64, .f32⟩
  | 45 => ⟨S2x8x64x64, .f32⟩
  | 46 => ⟨S2x8x64x64, .f32⟩
  | 47 => ⟨S_, .f32⟩
  | 48 => ⟨S_, .f32⟩
  | 49 => ⟨S2x8x64x64, .i1⟩
  | 50 => ⟨S2x8x64x64, .f32⟩
  | 51 => ⟨S2x8x64x64, .f32⟩
  | 52 => ⟨S2x8x64x64, .f32⟩
  | 53 => ⟨S2x8x64x128, .f32⟩
  | 54 => ⟨S2x8x64x128, .f32⟩
  | 55 => ⟨S2x8x64, .f32⟩
  | 56 => ⟨S2x8x64x1, .f32⟩
  | 57 => ⟨S2x8x64x128, .f32⟩
  | 58 => ⟨S2x8x64x128, .f32⟩
  | 59 => ⟨S2x8x64x128, .f32⟩
  | 60 => ⟨S2x8x64x128, .f32⟩
  | 61 => ⟨S2x8x64x256, .f32⟩
  | 62 => ⟨S_, .f32⟩
  | 63 => ⟨S2x8x64x128, .f32⟩
  | 64 => ⟨S2x8x64x256, .f32⟩
  | 65 => ⟨S2x8x64x128, .f32⟩
  | 66 => ⟨S2x8x64x128, .f32⟩
  | 67 => ⟨S2x8x64x128, .f32⟩
  | 68 => ⟨S2x8x64x128, .f32⟩
  | 69 => ⟨S2x8x64x64, .f32⟩
  | 70 => ⟨S2x8x64x64, .f32⟩
  | 71 => ⟨S2x8x64, .f32⟩
  | 72 => ⟨S2x8x64x1, .f32⟩
  | 73 => ⟨S2x8x64x128, .f32⟩
  | 74 => ⟨S2x8x64x128, .f32⟩
  | 75 => ⟨S2x8x64x128, .f32⟩
  | 76 => ⟨S2x8x64x128, .f32⟩
  | 77 => ⟨S2x8x64x128, .f32⟩
  | 78 => ⟨S2x8x1, .f32⟩
  | 79 => ⟨S2x8x1, .f32⟩
  | 80 => ⟨S2x8x1x1, .f32⟩
  | 81 => ⟨S2x8x128x128, .f32⟩
  | 82 => ⟨S2x8x128x128, .f32⟩
  | 83 => ⟨S2x8x64, .f32⟩
  | 84 => ⟨S2x8x64, .f32⟩
  | 85 => ⟨S2x8x64, .f32⟩
  | 86 => ⟨S2x8x64x1, .f32⟩
  | 87 => ⟨S2x8x64x128, .f32⟩
  | 88 => ⟨S2x8x64x128, .f32⟩
  | 89 => ⟨S2x8x128x128, .f32⟩
  | 90 => ⟨S2x8x128x128, .f32⟩
  | 91 => ⟨S2x64x8x128, .f32⟩
  | 92 => ⟨S2x8x64x128, .f32⟩
  | 93 => ⟨S2x8x128x64, .f32⟩
  | 94 => ⟨S2x8x64x128, .f32⟩
  | 95 => ⟨S2x8x128x128, .f32⟩
  | 96 => ⟨S2x8x128x128, .f32⟩
  | 97 => ⟨S2x8x128x64, .f32⟩
  | 98 => ⟨S2x8x64x128, .f32⟩
  | 99 => ⟨S2x8x64x128, .f32⟩
  | 100 => ⟨S2x8x64x64, .f32⟩
  | 101 => ⟨S2x8x128x128, .f32⟩
  | 102 => ⟨S2x8x128x128, .f32⟩
  | 103 => ⟨S2x8x128x128, .f32⟩
  | 104 => ⟨S2x8x64x128, .f32⟩
  | 105 => ⟨S2x8x64x128, .f32⟩
  | 106 => ⟨S2x8x64x128, .f32⟩
  | 107 => ⟨S2x8x64x64, .f32⟩
  | 108 => ⟨S2x8x64x128, .f32⟩
  | 109 => ⟨S2x8x64x128, .f32⟩
  | 110 => ⟨S2x8x64x128, .f32⟩
  | 111 => ⟨S2x8x128x128, .f32⟩
  | 112 => ⟨S2x8x128x128, .f32⟩
  | 113 => ⟨S2x8x128x128, .f32⟩
  | 114 => ⟨S2x8x64x128, .f32⟩
  | 115 => ⟨S_, .f32⟩
  | 116 => ⟨S2x8x64x256, .f32⟩
  | 117 => ⟨S_, .f32⟩
  | 118 => ⟨S2x8x64x256, .f32⟩
  | 119 => ⟨S2x8x64x256, .f32⟩
  | 120 => ⟨S2x8x256x64, .f32⟩
  | 121 => ⟨S2x8x64x256, .f32⟩
  | 122 => ⟨S2x8x64x128, .f32⟩
  | 123 => ⟨S2x8x64x128, .f32⟩
  | 124 => ⟨S2x8x64x128, .f32⟩
  | 125 => ⟨S2x8x64x128, .f32⟩
  | 126 => ⟨S2x64x8x128, .f32⟩
  | 127 => ⟨S2x64x8x128, .f32⟩
  | _ => ⟨S8448x1024, .f32⟩

abbrev hbmTy0_2 (i : Nat) : BufTy := match i % 128 with
  | 0 => ⟨S1x2x64x8x128, .f32⟩
  | 1 => ⟨S_, .i32⟩
  | 2 => ⟨S_, .i32⟩
  | 3 => ⟨S_, .i32⟩
  | 4 => ⟨S_, .i32⟩
  | 5 => ⟨S132x2x64x8x128, .f32⟩
  | 6 => ⟨S1x2x64x8x128, .f32⟩
  | 7 => ⟨S_, .i32⟩
  | 8 => ⟨S_, .i32⟩
  | 9 => ⟨S_, .i32⟩
  | 10 => ⟨S_, .i32⟩
  | 11 => ⟨S132x2x64x8x128, .f32⟩
  | 12 => ⟨S_, .i32⟩
  | 13 => ⟨S_, .i32⟩
  | 14 => ⟨S2x132x64x8x128, .f32⟩
  | 15 => ⟨S2x8448x1024, .f32⟩
  | 16 => ⟨S1x8448x1024, .f32⟩
  | 17 => ⟨S8448x1024, .f32⟩
  | 18 => ⟨S1x8448x1024, .f32⟩
  | 19 => ⟨S8448x1024, .f32⟩
  | 20 => ⟨S256x1024, .f32⟩
  | 21 => ⟨S256x1024, .f32⟩
  | 22 => ⟨S8192x1024, .f32⟩
  | 23 => ⟨S8192x1024, .f32⟩
  | 24 => ⟨S8448x1024, .f32⟩
  | 25 => ⟨S1x8448x1024, .f32⟩
  | 26 => ⟨S1x8448x1024, .f32⟩
  | 27 => ⟨S2x8448x1024, .f32⟩
  | 28 => ⟨S2x132x64x8x128, .f32⟩
  | 29 => ⟨S2x8448x1024, .f32⟩
  | 30 => ⟨S1x8448x1024, .f32⟩
  | 31 => ⟨S8448x1024, .f32⟩
  | 32 => ⟨S1x8448x1024, .f32⟩
  | 33 => ⟨S8448x1024, .f32⟩
  | 34 => ⟨S256x1024, .f32⟩
  | 35 => ⟨S256x1024, .f32⟩
  | 36 => ⟨S8192x1024, .f32⟩
  | 37 => ⟨S8192x1024, .f32⟩
  | 38 => ⟨S8448x1024, .f32⟩
  | 39 => ⟨S1x8448x1024, .f32⟩
  | 40 => ⟨S1x8448x1024, .f32⟩
  | 41 => ⟨S2x8448x1024, .f32⟩
  | _ => ⟨S8448x1024, .f32⟩

abbrev hbmTy (i : Nat) : BufTy := match i / 128 with
  | 0 => hbmTy0_0 i
  | 1 => hbmTy0_1 i
  | 2 => hbmTy0_2 i
  | _ => ⟨S8448x1024, .f32⟩

abbrev bufTy : (tb : Table) → Fin (tcTables nBuf tb) → BufTy
  | .hbm, ⟨i, _⟩ => hbmTy i
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_cst : Ref sig .tc := ⟨.hbm, 89, rfl⟩
abbrev main_v82 : Ref sig .tc := ⟨.hbm, 90, rfl⟩
abbrev main_cst_0 : Ref sig .tc := ⟨.hbm, 91, rfl⟩
abbrev main_v83 : Ref sig .tc := ⟨.hbm, 92, rfl⟩
abbrev main_cst_1 : Ref sig .tc := ⟨.hbm, 93, rfl⟩
abbrev main_v84 : Ref sig .tc := ⟨.hbm, 94, rfl⟩
abbrev main_c : Ref sig .tc := ⟨.hbm, 95, rfl⟩
abbrev main_v85_0 : Ref sig .tc := ⟨.hbm, 96, rfl⟩
abbrev main_v85_1 : Ref sig .tc := ⟨.hbm, 97, rfl⟩
abbrev main_v85_2 : Ref sig .tc := ⟨.hbm, 98, rfl⟩
abbrev main_v85_3 : Ref sig .tc := ⟨.hbm, 99, rfl⟩
abbrev main_v85_4 : Ref sig .tc := ⟨.hbm, 100, rfl⟩
abbrev main_v85_5 : Ref sig .tc := ⟨.hbm, 101, rfl⟩
abbrev main_v85_6 : Ref sig .tc := ⟨.hbm, 102, rfl⟩
abbrev main_v85_7 : Ref sig .tc := ⟨.hbm, 103, rfl⟩
abbrev main_v85_8 : Ref sig .tc := ⟨.hbm, 104, rfl⟩
abbrev main_v85_9 : Ref sig .tc := ⟨.hbm, 105, rfl⟩
abbrev main_v85_10 : Ref sig .tc := ⟨.hbm, 106, rfl⟩
abbrev main_v85_11 : Ref sig .tc := ⟨.hbm, 107, rfl⟩
abbrev main_v85_12 : Ref sig .tc := ⟨.hbm, 108, rfl⟩
abbrev main_while0c_c_14 : Ref sig .tc := ⟨.hbm, 109, rfl⟩
abbrev main_while0c_v114 : Ref sig .tc := ⟨.hbm, 110, rfl⟩
abbrev main_while0b_c_14 : Ref sig .tc := ⟨.hbm, 111, rfl⟩
abbrev main_while0b_v114 : Ref sig .tc := ⟨.hbm, 112, rfl⟩
abbrev main_while0b_c_15 : Ref sig .tc := ⟨.hbm, 113, rfl⟩
abbrev main_while0b_v115 : Ref sig .tc := ⟨.hbm, 114, rfl⟩
abbrev main_while0b_call13_c : Ref sig .tc := ⟨.hbm, 115, rfl⟩
abbrev main_while0b_call13_c_0 : Ref sig .tc := ⟨.hbm, 116, rfl⟩
abbrev main_while0b_call13_c_1 : Ref sig .tc := ⟨.hbm, 117, rfl⟩
abbrev main_while0b_call13_c_2 : Ref sig .tc := ⟨.hbm, 118, rfl⟩
abbrev main_while0b_call13_v0 : Ref sig .tc := ⟨.hbm, 119, rfl⟩
abbrev main_while0b_v116 : Ref sig .tc := ⟨.hbm, 120, rfl⟩
abbrev main_while0b_call14_c : Ref sig .tc := ⟨.hbm, 121, rfl⟩
abbrev main_while0b_call14_c_0 : Ref sig .tc := ⟨.hbm, 122, rfl⟩
abbrev main_while0b_call14_c_1 : Ref sig .tc := ⟨.hbm, 123, rfl⟩
abbrev main_while0b_call14_c_2 : Ref sig .tc := ⟨.hbm, 124, rfl⟩
abbrev main_while0b_call14_v0 : Ref sig .tc := ⟨.hbm, 125, rfl⟩
abbrev main_while0b_v117 : Ref sig .tc := ⟨.hbm, 126, rfl⟩
abbrev main_while0b_call15_c : Ref sig .tc := ⟨.hbm, 127, rfl⟩
abbrev main_while0b_call15_c_0 : Ref sig .tc := ⟨.hbm, 128, rfl⟩
abbrev main_while0b_call15_c_1 : Ref sig .tc := ⟨.hbm, 129, rfl⟩
abbrev main_while0b_call15_c_2 : Ref sig .tc := ⟨.hbm, 130, rfl⟩
abbrev main_while0b_call15_v0 : Ref sig .tc := ⟨.hbm, 131, rfl⟩
abbrev main_while0b_v118 : Ref sig .tc := ⟨.hbm, 132, rfl⟩
abbrev main_while0b_call16_c : Ref sig .tc := ⟨.hbm, 133, rfl⟩
abbrev main_while0b_call16_c_0 : Ref sig .tc := ⟨.hbm, 134, rfl⟩
abbrev main_while0b_call16_c_1 : Ref sig .tc := ⟨.hbm, 135, rfl⟩
abbrev main_while0b_call16_v0 : Ref sig .tc := ⟨.hbm, 136, rfl⟩
abbrev main_while0b_v119 : Ref sig .tc := ⟨.hbm, 137, rfl⟩
abbrev main_while0b_call17_c : Ref sig .tc := ⟨.hbm, 138, rfl⟩
abbrev main_while0b_call17_c_0 : Ref sig .tc := ⟨.hbm, 139, rfl⟩
abbrev main_while0b_call17_c_1 : Ref sig .tc := ⟨.hbm, 140, rfl⟩
abbrev main_while0b_call17_v0 : Ref sig .tc := ⟨.hbm, 141, rfl⟩
abbrev main_while0b_v120 : Ref sig .tc := ⟨.hbm, 142, rfl⟩
abbrev main_while0b_call18_c : Ref sig .tc := ⟨.hbm, 143, rfl⟩
abbrev main_while0b_call18_c_0 : Ref sig .tc := ⟨.hbm, 144, rfl⟩
abbrev main_while0b_call18_c_1 : Ref sig .tc := ⟨.hbm, 145, rfl⟩
abbrev main_while0b_call18_c_2 : Ref sig .tc := ⟨.hbm, 146, rfl⟩
abbrev main_while0b_call18_v0 : Ref sig .tc := ⟨.hbm, 147, rfl⟩
abbrev main_while0b_v121 : Ref sig .tc := ⟨.hbm, 148, rfl⟩
abbrev main_while0b_call19_c : Ref sig .tc := ⟨.hbm, 149, rfl⟩
abbrev main_while0b_call19_c_0 : Ref sig .tc := ⟨.hbm, 150, rfl⟩
abbrev main_while0b_call19_c_1 : Ref sig .tc := ⟨.hbm, 151, rfl⟩
abbrev main_while0b_call19_c_2 : Ref sig .tc := ⟨.hbm, 152, rfl⟩
abbrev main_while0b_call19_v0 : Ref sig .tc := ⟨.hbm, 153, rfl⟩
abbrev main_while0b_v122 : Ref sig .tc := ⟨.hbm, 154, rfl⟩
abbrev main_while0b_call20_c : Ref sig .tc := ⟨.hbm, 155, rfl⟩
abbrev main_while0b_call20_c_0 : Ref sig .tc := ⟨.hbm, 156, rfl⟩
abbrev main_while0b_call20_c_1 : Ref sig .tc := ⟨.hbm, 157, rfl⟩
abbrev main_while0b_call20_c_2 : Ref sig .tc := ⟨.hbm, 158, rfl⟩
abbrev main_while0b_call20_v0 : Ref sig .tc := ⟨.hbm, 159, rfl⟩
abbrev main_while0b_v123 : Ref sig .tc := ⟨.hbm, 160, rfl⟩
abbrev main_while0b_v124 : Ref sig .tc := ⟨.hbm, 161, rfl⟩
abbrev main_while0b_v125 : Ref sig .tc := ⟨.hbm, 162, rfl⟩
abbrev main_while0b_v126 : Ref sig .tc := ⟨.hbm, 163, rfl⟩
abbrev main_while0b_v127 : Ref sig .tc := ⟨.hbm, 164, rfl⟩
abbrev main_while0b_call21_call0_cst : Ref sig .tc := ⟨.hbm, 165, rfl⟩
abbrev main_while0b_call21_call0_v0 : Ref sig .tc := ⟨.hbm, 166, rfl⟩
abbrev main_while0b_v128 : Ref sig .tc := ⟨.hbm, 167, rfl⟩
abbrev main_while0b_v129 : Ref sig .tc := ⟨.hbm, 168, rfl⟩
abbrev main_while0b_v130 : Ref sig .tc := ⟨.hbm, 169, rfl⟩
abbrev main_while0b_v131 : Ref sig .tc := ⟨.hbm, 170, rfl⟩
abbrev main_while0b_v132 : Ref sig .tc := ⟨.hbm, 171, rfl⟩
abbrev main_while0b_v133 : Ref sig .tc := ⟨.hbm, 172, rfl⟩
abbrev main_while0b_v134 : Ref sig .tc := ⟨.hbm, 173, rfl⟩
abbrev main_while0b_v135 : Ref sig .tc := ⟨.hbm, 174, rfl⟩
abbrev main_while0b_cst_16 : Ref sig .tc := ⟨.hbm, 175, rfl⟩
abbrev main_while0b_call22_v0 : Ref sig .tc := ⟨.hbm, 176, rfl⟩
abbrev main_while0b_call22_v1 : Ref sig .tc := ⟨.hbm, 177, rfl⟩
abbrev main_while0b_call22_v2 : Ref sig .tc := ⟨.hbm, 178, rfl⟩
abbrev main_while0b_v136 : Ref sig .tc := ⟨.hbm, 179, rfl⟩
abbrev main_while0b_v137 : Ref sig .tc := ⟨.hbm, 180, rfl⟩
abbrev main_while0b_v138 : Ref sig .tc := ⟨.hbm, 181, rfl⟩
abbrev main_while0b_v139 : Ref sig .tc := ⟨.hbm, 182, rfl⟩
abbrev main_while0b_v140 : Ref sig .tc := ⟨.hbm, 183, rfl⟩
abbrev main_while0b_v141 : Ref sig .tc := ⟨.hbm, 184, rfl⟩
abbrev main_while0b_v142 : Ref sig .tc := ⟨.hbm, 185, rfl⟩
abbrev main_while0b_v143 : Ref sig .tc := ⟨.hbm, 186, rfl⟩
abbrev main_while0b_v144 : Ref sig .tc := ⟨.hbm, 187, rfl⟩
abbrev main_while0b_v145 : Ref sig .tc := ⟨.hbm, 188, rfl⟩
abbrev main_while0b_v146 : Ref sig .tc := ⟨.hbm, 189, rfl⟩
abbrev main_while0b_cst_17 : Ref sig .tc := ⟨.hbm, 190, rfl⟩
abbrev main_while0b_v147 : Ref sig .tc := ⟨.hbm, 191, rfl⟩
abbrev main_while0b_v148 : Ref sig .tc := ⟨.hbm, 192, rfl⟩
abbrev main_while0b_v149 : Ref sig .tc := ⟨.hbm, 193, rfl⟩
abbrev main_while0b_v150 : Ref sig .tc := ⟨.hbm, 194, rfl⟩
abbrev main_while0b_v151 : Ref sig .tc := ⟨.hbm, 195, rfl⟩
abbrev main_while0b_v152 : Ref sig .tc := ⟨.hbm, 196, rfl⟩
abbrev main_while0b_v153 : Ref sig .tc := ⟨.hbm, 197, rfl⟩
abbrev main_while0b_v154 : Ref sig .tc := ⟨.hbm, 198, rfl⟩
abbrev main_while0b_v155 : Ref sig .tc := ⟨.hbm, 199, rfl⟩
abbrev main_while0b_v156 : Ref sig .tc := ⟨.hbm, 200, rfl⟩
abbrev main_while0b_v157 : Ref sig .tc := ⟨.hbm, 201, rfl⟩
abbrev main_while0b_v158 : Ref sig .tc := ⟨.hbm, 202, rfl⟩
abbrev main_while0b_v159 : Ref sig .tc := ⟨.hbm, 203, rfl⟩
abbrev main_while0b_v160 : Ref sig .tc := ⟨.hbm, 204, rfl⟩
abbrev main_while0b_v161 : Ref sig .tc := ⟨.hbm, 205, rfl⟩
abbrev main_while0b_v162 : Ref sig .tc := ⟨.hbm, 206, rfl⟩
abbrev main_while0b_v163 : Ref sig .tc := ⟨.hbm, 207, rfl⟩
abbrev main_while0b_v164 : Ref sig .tc := ⟨.hbm, 208, rfl⟩
abbrev main_while0b_v165 : Ref sig .tc := ⟨.hbm, 209, rfl⟩
abbrev main_while0b_v166 : Ref sig .tc := ⟨.hbm, 210, rfl⟩
abbrev main_while0b_v167 : Ref sig .tc := ⟨.hbm, 211, rfl⟩
abbrev main_while0b_v168 : Ref sig .tc := ⟨.hbm, 212, rfl⟩
abbrev main_while0b_v169 : Ref sig .tc := ⟨.hbm, 213, rfl⟩
abbrev main_while0b_v170 : Ref sig .tc := ⟨.hbm, 214, rfl⟩
abbrev main_while0b_v171 : Ref sig .tc := ⟨.hbm, 215, rfl⟩
abbrev main_while0b_v172 : Ref sig .tc := ⟨.hbm, 216, rfl⟩
abbrev main_while0b_v173 : Ref sig .tc := ⟨.hbm, 217, rfl⟩
abbrev main_while0b_v174 : Ref sig .tc := ⟨.hbm, 218, rfl⟩
abbrev main_while0b_v175 : Ref sig .tc := ⟨.hbm, 219, rfl⟩
abbrev main_while0b_v176 : Ref sig .tc := ⟨.hbm, 220, rfl⟩
abbrev main_while0b_v177 : Ref sig .tc := ⟨.hbm, 221, rfl⟩
abbrev main_while0b_v178 : Ref sig .tc := ⟨.hbm, 222, rfl⟩
abbrev main_while0b_v179 : Ref sig .tc := ⟨.hbm, 223, rfl⟩
abbrev main_while0b_v180 : Ref sig .tc := ⟨.hbm, 224, rfl⟩
abbrev main_while0b_v181 : Ref sig .tc := ⟨.hbm, 225, rfl⟩
abbrev main_while0b_v182 : Ref sig .tc := ⟨.hbm, 226, rfl⟩
abbrev main_while0b_v183 : Ref sig .tc := ⟨.hbm, 227, rfl⟩
abbrev main_while0b_v184 : Ref sig .tc := ⟨.hbm, 228, rfl⟩
abbrev main_while0b_v185 : Ref sig .tc := ⟨.hbm, 229, rfl⟩
abbrev main_while0b_v186 : Ref sig .tc := ⟨.hbm, 230, rfl⟩
abbrev main_while0b_v187 : Ref sig .tc := ⟨.hbm, 231, rfl⟩
abbrev main_while0b_v188 : Ref sig .tc := ⟨.hbm, 232, rfl⟩
abbrev main_while0b_v189 : Ref sig .tc := ⟨.hbm, 233, rfl⟩
abbrev main_while0b_v190 : Ref sig .tc := ⟨.hbm, 234, rfl⟩
abbrev main_while0b_v191 : Ref sig .tc := ⟨.hbm, 235, rfl⟩
abbrev main_while0b_v192 : Ref sig .tc := ⟨.hbm, 236, rfl⟩
abbrev main_while0b_v193 : Ref sig .tc := ⟨.hbm, 237, rfl⟩
abbrev main_while0b_v194 : Ref sig .tc := ⟨.hbm, 238, rfl⟩
abbrev main_while0b_v195 : Ref sig .tc := ⟨.hbm, 239, rfl⟩
abbrev main_while0b_v196 : Ref sig .tc := ⟨.hbm, 240, rfl⟩
abbrev main_while0b_v197 : Ref sig .tc := ⟨.hbm, 241, rfl⟩
abbrev main_while0b_v198 : Ref sig .tc := ⟨.hbm, 242, rfl⟩
abbrev main_while0b_cst_18 : Ref sig .tc := ⟨.hbm, 243, rfl⟩
abbrev main_while0b_v199 : Ref sig .tc := ⟨.hbm, 244, rfl⟩
abbrev main_while0b_cst_19 : Ref sig .tc := ⟨.hbm, 245, rfl⟩
abbrev main_while0b_v200 : Ref sig .tc := ⟨.hbm, 246, rfl⟩
abbrev main_while0b_v201 : Ref sig .tc := ⟨.hbm, 247, rfl⟩
abbrev main_while0b_v202 : Ref sig .tc := ⟨.hbm, 248, rfl⟩
abbrev main_while0b_v203 : Ref sig .tc := ⟨.hbm, 249, rfl⟩
abbrev main_while0b_v204 : Ref sig .tc := ⟨.hbm, 250, rfl⟩
abbrev main_while0b_v205 : Ref sig .tc := ⟨.hbm, 251, rfl⟩
abbrev main_while0b_v206 : Ref sig .tc := ⟨.hbm, 252, rfl⟩
abbrev main_while0b_v207 : Ref sig .tc := ⟨.hbm, 253, rfl⟩
abbrev main_while0b_v208 : Ref sig .tc := ⟨.hbm, 254, rfl⟩
abbrev main_while0b_v209 : Ref sig .tc := ⟨.hbm, 255, rfl⟩
abbrev main_while0b_call23_v0 : Ref sig .tc := ⟨.hbm, 256, rfl⟩
abbrev main_while0b_call23_c : Ref sig .tc := ⟨.hbm, 257, rfl⟩
abbrev main_while0b_call23_c_0 : Ref sig .tc := ⟨.hbm, 258, rfl⟩
abbrev main_while0b_call23_c_1 : Ref sig .tc := ⟨.hbm, 259, rfl⟩
abbrev main_while0b_call23_c_2 : Ref sig .tc := ⟨.hbm, 260, rfl⟩
abbrev main_while0b_v210 : Ref sig .tc := ⟨.hbm, 261, rfl⟩
abbrev main_while0b_call24_v0 : Ref sig .tc := ⟨.hbm, 262, rfl⟩
abbrev main_while0b_call24_c : Ref sig .tc := ⟨.hbm, 263, rfl⟩
abbrev main_while0b_call24_c_0 : Ref sig .tc := ⟨.hbm, 264, rfl⟩
abbrev main_while0b_call24_c_1 : Ref sig .tc := ⟨.hbm, 265, rfl⟩
abbrev main_while0b_call24_c_2 : Ref sig .tc := ⟨.hbm, 266, rfl⟩
abbrev main_while0b_v211 : Ref sig .tc := ⟨.hbm, 267, rfl⟩
abbrev main_while0b_c_20 : Ref sig .tc := ⟨.hbm, 268, rfl⟩
abbrev main_while0b_v212 : Ref sig .tc := ⟨.hbm, 269, rfl⟩
abbrev main_v86 : Ref sig .tc := ⟨.hbm, 270, rfl⟩
abbrev main_v87 : Ref sig .tc := ⟨.hbm, 271, rfl⟩
abbrev main_v88 : Ref sig .tc := ⟨.hbm, 272, rfl⟩
abbrev main_v89 : Ref sig .tc := ⟨.hbm, 273, rfl⟩
abbrev main_v90 : Ref sig .tc := ⟨.hbm, 274, rfl⟩
abbrev main_v91 : Ref sig .tc := ⟨.hbm, 275, rfl⟩
abbrev main_v92 : Ref sig .tc := ⟨.hbm, 276, rfl⟩
abbrev main_v93 : Ref sig .tc := ⟨.hbm, 277, rfl⟩
abbrev main_v94 : Ref sig .tc := ⟨.hbm, 278, rfl⟩
abbrev main_v95 : Ref sig .tc := ⟨.hbm, 279, rfl⟩
abbrev main_v96 : Ref sig .tc := ⟨.hbm, 280, rfl⟩
abbrev main_v97 : Ref sig .tc := ⟨.hbm, 281, rfl⟩
abbrev main_v98 : Ref sig .tc := ⟨.hbm, 282, rfl⟩
abbrev main_v99 : Ref sig .tc := ⟨.hbm, 283, rfl⟩
abbrev main_v100 : Ref sig .tc := ⟨.hbm, 284, rfl⟩
abbrev main_v101 : Ref sig .tc := ⟨.hbm, 285, rfl⟩
abbrev main_v102 : Ref sig .tc := ⟨.hbm, 286, rfl⟩
abbrev main_v103 : Ref sig .tc := ⟨.hbm, 287, rfl⟩
abbrev main_v104 : Ref sig .tc := ⟨.hbm, 288, rfl⟩
abbrev main_v105 : Ref sig .tc := ⟨.hbm, 289, rfl⟩
abbrev main_v106 : Ref sig .tc := ⟨.hbm, 290, rfl⟩
abbrev main_v107 : Ref sig .tc := ⟨.hbm, 291, rfl⟩
abbrev main_v108 : Ref sig .tc := ⟨.hbm, 292, rfl⟩
abbrev main_v109 : Ref sig .tc := ⟨.hbm, 293, rfl⟩
abbrev main_v110 : Ref sig .tc := ⟨.hbm, 294, rfl⟩
abbrev main_v111 : Ref sig .tc := ⟨.hbm, 295, rfl⟩
abbrev main_v112 : Ref sig .tc := ⟨.hbm, 296, rfl⟩
abbrev main_v113 : Ref sig .tc := ⟨.hbm, 297, rfl⟩

abbrev nD : Nat := 1
abbrev τ : Topo := Topo.v7x

variable {F : FTy → Type} [FloatOps F]

abbrev main_while0_count : Scf.Loop 32 := ⟨0#32, 132#32, 1#32⟩
-- ==== Kernel2.lean ====
abbrev S8448x1024 : Shape := ⟨2, ![8448, 1024]⟩
abbrev S8448x11776 : Shape := ⟨2, ![8448, 11776]⟩
abbrev S1024x11776 : Shape := ⟨2, ![1024, 11776]⟩
abbrev S768x1024 : Shape := ⟨2, ![768, 1024]⟩
abbrev S768x2944 : Shape := ⟨2, ![768, 2944]⟩
abbrev S1024x2944 : Shape := ⟨2, ![1024, 2944]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S8448x11776, .bf16⟩
  | .hbm, ⟨2, _⟩ => ⟨S1024x11776, .bf16⟩
  | .local _ .vmem, ⟨0, _⟩ => ⟨S768x1024, .bf16⟩
  | .local _ .vmem, ⟨1, _⟩ => ⟨S768x1024, .bf16⟩
  | .local _ .vmem, ⟨2, _⟩ => ⟨S768x2944, .bf16⟩
  | .local _ .vmem, ⟨3, _⟩ => ⟨S768x2944, .bf16⟩
  | .local _ .vmem, ⟨4, _⟩ => ⟨S1024x2944, .bf16⟩
  | .local _ .vmem, ⟨5, _⟩ => ⟨S1024x2944, .bf16⟩
  | .local _ .vmem, ⟨6, _⟩ => ⟨S1024x2944, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 11], ![false, false, false]⟩

def k0_cond3 (i : grid0.Coords) : BitVec 1 :=
  let arg2 : BitVec 32 := BitVec.ofNat 32 (i 2).val
  let c10_i32 : BitVec 32 := 10#32
  let v9 : BitVec 1 := Scalar.cmpi .eq arg2 c10_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x2944 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2944 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S8448x1024 : Shape := ⟨2, ![8448, 1024]⟩
abbrev S8448x11776 : Shape := ⟨2, ![8448, 11776]⟩
abbrev S11776x1024 : Shape := ⟨2, ![11776, 1024]⟩
abbrev S1024x11776 : Shape := ⟨2, ![1024, 11776]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x11776, .bf16⟩
  | .hbm, ⟨2, _⟩ => ⟨S8448x1024, .f32⟩
  | .hbm, ⟨3, _⟩ => ⟨S8448x11776, .f32⟩
  | .hbm, ⟨4, _⟩ => ⟨S11776x1024, .f32⟩
  | .hbm, ⟨5, _⟩ => ⟨S1024x11776, .f32⟩
  | .hbm, ⟨6, _⟩ => ⟨S1024x11776, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel3.lean ====
abbrev S8448x2816 : Shape := ⟨2, ![8448, 2816]⟩
abbrev S8448x1024 : Shape := ⟨2, ![8448, 1024]⟩
abbrev S2816x1024 : Shape := ⟨2, ![2816, 1024]⟩
abbrev S1408x1408 : Shape := ⟨2, ![1408, 1408]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S2816x1024, .bf16⟩
  | .local _ .vmem, ⟨0, _⟩ => ⟨S1408x1408, .bf16⟩
  | .local _ .vmem, ⟨1, _⟩ => ⟨S1408x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond3 (i : grid0.Coords) : BitVec 1 :=
  let arg2 : BitVec 32 := BitVec.ofNat 32 (i 2).val
  let c5_i32 : BitVec 32 := 5#32
  let v9 : BitVec 1 := Scalar.cmpi .eq arg2 c5_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8448x2816 : Shape := ⟨2, ![8448, 2816]⟩
abbrev S8448x1024 : Shape := ⟨2, ![8448, 1024]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S8448x1024, .bf16⟩
  | .hbm, ⟨2, _⟩ => ⟨S8448x2816, .f32⟩
  | .hbm, ⟨3, _⟩ => ⟨S8448x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel4.lean ====
abbrev S8448x1024 : Shape := ⟨2, ![8448, 1024]⟩
abbrev S2816x1024 : Shape := ⟨2, ![2816, 1024]⟩
abbrev S8448x2816 : Shape := ⟨2, ![8448, 2816]⟩
abbrev S1408x1024 : Shape := ⟨2, ![1408, 1024]⟩
abbrev S1408x2816 : Shape := ⟨2, ![1408, 2816]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S2816x1024, .bf16⟩
  | .hbm, ⟨2, _⟩ => ⟨S8448x2816, .bf16⟩
  | .local _ .vmem, ⟨0, _⟩ => ⟨S1408x1024, .bf16⟩
  | .local _ .vmem, ⟨1, _⟩ => ⟨S1408x1024, .bf16⟩
  | .local _ .vmem, ⟨2, _⟩ => ⟨S2816x1024, .bf16⟩
  | .local _ .vmem, ⟨3, _⟩ => ⟨S1408x2816, .bf16⟩
  | .local _ .vmem, ⟨4, _⟩ => ⟨S1408x2816, .bf16⟩
  | .local _ .vmem, ⟨5, _⟩ => ⟨S8x128, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8448x1024 : Shape := ⟨2, ![8448, 1024]⟩
abbrev S2816x1024 : Shape := ⟨2, ![2816, 1024]⟩
abbrev S8448x2816 : Shape := ⟨2, ![8448, 2816]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S2816x1024, .bf16⟩
  | .hbm, ⟨2, _⟩ => ⟨S2816x1024, .f32⟩
  | .hbm, ⟨3, _⟩ => ⟨S8448x1024, .f32⟩
  | .hbm, ⟨4, _⟩ => ⟨S8448x2816, .f32⟩
  | .hbm, ⟨5, _⟩ => ⟨S8448x2816, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel5.lean ====
abbrev S8448x1024 : Shape := ⟨2, ![8448, 1024]⟩
abbrev S2x8448x2816 : Shape := ⟨3, ![2, 8448, 2816]⟩
abbrev S4x1024x1408 : Shape := ⟨3, ![4, 1024, 1408]⟩
abbrev S1408x1024 : Shape := ⟨2, ![1408, 1024]⟩
abbrev S1x1408x1408 : Shape := ⟨3, ![1, 1408, 1408]⟩
abbrev S1x1024x1408 : Shape := ⟨3, ![1, 1024, 1408]⟩
abbrev S1024x1408 : Shape := ⟨2, ![1024, 1408]⟩
abbrev S1408x1408 : Shape := ⟨2, ![1408, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S2x8448x2816, .bf16⟩
  | .hbm, ⟨2, _⟩ => ⟨S4x1024x1408, .bf16⟩
  | .local _ .vmem, ⟨0, _⟩ => ⟨S1408x1024, .bf16⟩
  | .local _ .vmem, ⟨1, _⟩ => ⟨S1408x1024, .bf16⟩
  | .local _ .vmem, ⟨2, _⟩ => ⟨S1x1408x1408, .bf16⟩
  | .local _ .vmem, ⟨3, _⟩ => ⟨S1x1408x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S1024x1408, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 6], ![false, false, false]⟩

def k0_cond3 (i : grid0.Coords) : BitVec 1 :=
  let arg2 : BitVec 32 := BitVec.ofNat 32 (i 2).val
  let c5_i32 : BitVec 32 := 5#32
  let v10 : BitVec 1 := Scalar.cmpi .eq arg2 c5_i32
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1408x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8448x1024 : Shape := ⟨2, ![8448, 1024]⟩
abbrev S2x8448x2816 : Shape := ⟨3, ![2, 8448, 2816]⟩
abbrev S1x8448x2816 : Shape := ⟨3, ![1, 8448, 2816]⟩
abbrev S8448x2816 : Shape := ⟨2, ![8448, 2816]⟩
abbrev S8448x5632 : Shape := ⟨2, ![8448, 5632]⟩
abbrev S5632x1024 : Shape := ⟨2, ![5632, 1024]⟩
abbrev S1024x5632 : Shape := ⟨2, ![1024, 5632]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 21
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S2x8448x2816, .bf16⟩
  | .hbm, ⟨2, _⟩ => ⟨S1x8448x2816, .bf16⟩
  | .hbm, ⟨3, _⟩ => ⟨S8448x2816, .bf16⟩
  | .hbm, ⟨4, _⟩ => ⟨S1x8448x2816, .bf16⟩
  | .hbm, ⟨5, _⟩ => ⟨S8448x2816, .bf16⟩
  | .hbm, ⟨6, _⟩ => ⟨S8448x5632, .bf16⟩
  | .hbm, ⟨7, _⟩ => ⟨S8448x1024, .f32⟩
  | .hbm, ⟨8, _⟩ => ⟨S8448x5632, .f32⟩
  | .hbm, ⟨9, _⟩ => ⟨S5632x1024, .f32⟩
  | .hbm, ⟨10, _⟩ => ⟨S1024x5632, .f32⟩
  | .hbm, ⟨11, _⟩ => ⟨S1024x1408, .f32⟩
  | .hbm, ⟨12, _⟩ => ⟨S1024x1408, .f32⟩
  | .hbm, ⟨13, _⟩ => ⟨S1024x1408, .f32⟩
  | .hbm, ⟨14, _⟩ => ⟨S1024x1408, .f32⟩
  | .hbm, ⟨15, _⟩ => ⟨S1x1024x1408, .f32⟩
  | .hbm, ⟨16, _⟩ => ⟨S1x1024x1408, .f32⟩
  | .hbm, ⟨17, _⟩ => ⟨S1x1024x1408, .f32⟩
  | .hbm, ⟨18, _⟩ => ⟨S1x1024x1408, .f32⟩
  | .hbm, ⟨19, _⟩ => ⟨S4x1024x1408, .f32⟩
  | .hbm, ⟨20, _⟩ => ⟨S4x1024x1408, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩

abbrev nD : Nat := 1
abbrev τ : Topo := Topo.v7x

variable {F : FTy → Type} [FloatOps F]
-- ==== Kernel6.lean ====
abbrev S2x8448x2816 : Shape := ⟨3, ![2, 8448, 2816]⟩
abbrev S4x1024x1408 : Shape := ⟨3, ![4, 1024, 1408]⟩
abbrev S8448x1024 : Shape := ⟨2, ![8448, 1024]⟩
abbrev S1x1408x1408 : Shape := ⟨3, ![1, 1408, 1408]⟩
abbrev S1x1024x1408 : Shape := ⟨3, ![1, 1024, 1408]⟩
abbrev S1408x1024 : Shape := ⟨2, ![1408, 1024]⟩
abbrev S1408x1408 : Shape := ⟨2, ![1408, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x8448x2816, .bf16⟩
  | .hbm, ⟨1, _⟩ => ⟨S4x1024x1408, .bf16⟩
  | .hbm, ⟨2, _⟩ => ⟨S8448x1024, .f32⟩
  | .local _ .vmem, ⟨0, _⟩ => ⟨S1x1408x1408, .bf16⟩
  | .local _ .vmem, ⟨1, _⟩ => ⟨S1x1408x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S2x8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1408x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2x8448x2816 : Shape := ⟨3, ![2, 8448, 2816]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x5632 : Shape := ⟨2, ![1024, 5632]⟩
abbrev S1x8448x2816 : Shape := ⟨3, ![1, 8448, 2816]⟩
abbrev S8448x2816 : Shape := ⟨2, ![8448, 2816]⟩
abbrev S8448x5632 : Shape := ⟨2, ![8448, 5632]⟩
abbrev S8448x1024 : Shape := ⟨2, ![8448, 1024]⟩

abbrev nBuf : Space → Nat
  | .hbm => 19
  | .vmem => 0
  | .smem => 0
  | _ => 0

abbrev bufTy : (tb : Table) → Fin (tcTables nBuf tb) → BufTy
  | .hbm, ⟨0, _⟩ => ⟨S2x8448x2816, .bf16⟩
  | .hbm, ⟨1, _⟩ => ⟨S4x1024x1408, .bf16⟩
  | .hbm, ⟨2, _⟩ => ⟨S1x1024x1408, .bf16⟩
  | .hbm, ⟨3, _⟩ => ⟨S1024x1408, .bf16⟩
  | .hbm, ⟨4, _⟩ => ⟨S1x1024x1408, .bf16⟩
  | .hbm, ⟨5, _⟩ => ⟨S1024x1408, .bf16⟩
  | .hbm, ⟨6, _⟩ => ⟨S1x1024x1408, .bf16⟩
  | .hbm, ⟨7, _⟩ => ⟨S1024x1408, .bf16⟩
  | .hbm, ⟨8, _⟩ => ⟨S1x1024x1408, .bf16⟩
  | .hbm, ⟨9, _⟩ => ⟨S1024x1408, .bf16⟩
  | .hbm, ⟨10, _⟩ => ⟨S1024x5632, .bf16⟩
  | .hbm, ⟨11, _⟩ => ⟨S1x8448x2816, .bf16⟩
  | .hbm, ⟨12, _⟩ => ⟨S8448x2816, .bf16⟩
  | .hbm, ⟨13, _⟩ => ⟨S1x8448x2816, .bf16⟩
  | .hbm, ⟨14, _⟩ => ⟨S8448x2816, .bf16⟩
  | .hbm, ⟨15, _⟩ => ⟨S8448x5632, .bf16⟩
  | .hbm, ⟨16, _⟩ => ⟨S1024x5632, .f32⟩
  | .hbm, ⟨17, _⟩ => ⟨S8448x5632, .f32⟩
  | .hbm, ⟨18, _⟩ => ⟨S8448x1024, .f32⟩
  | _, _ => ⟨S2x8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩

abbrev nD : Nat := 1
abbrev τ : Topo := Topo.v7x

variable {F : FTy → Type} [FloatOps F]
-- ==== Kernel7.lean ====
abbrev S8448x1024 : Shape := ⟨2, ![8448, 1024]⟩
abbrev S1024x1024 : Shape := ⟨2, ![1024, 1024]⟩
abbrev S2816x1024 : Shape := ⟨2, ![2816, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x1024, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference7Ideal.lean ====
abbrev S8448x1024 : Shape := ⟨2, ![8448, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .f32⟩
  | .hbm, ⟨3, _⟩ => ⟨S8448x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel8.lean ====
abbrev S8448x1024 : Shape := ⟨2, ![8448, 1024]⟩
abbrev S1024x1024 : Shape := ⟨2, ![1024, 1024]⟩
abbrev S2816x1024 : Shape := ⟨2, ![2816, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .bf16⟩
  | .local _ .vmem, ⟨0, _⟩ => ⟨S2816x1024, .bf16⟩
  | .local _ .vmem, ⟨1, _⟩ => ⟨S2816x1024, .bf16⟩
  | .local _ .vmem, ⟨2, _⟩ => ⟨S1024x1024, .bf16⟩
  | .local _ .vmem, ⟨3, _⟩ => ⟨S2816x1024, .bf16⟩
  | .local _ .vmem, ⟨4, _⟩ => ⟨S2816x1024, .bf16⟩
  | .local _ .vmem, ⟨5, _⟩ => ⟨S8x128, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8448x1024 : Shape := ⟨2, ![8448, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S1024x1024, .f32⟩
  | .hbm, ⟨3, _⟩ => ⟨S8448x1024, .f32⟩
  | .hbm, ⟨4, _⟩ => ⟨S8448x1024, .f32⟩
  | .hbm, ⟨5, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel9.lean ====
abbrev S8448x2048 : Shape := ⟨2, ![8448, 2048]⟩
abbrev S8448x1024 : Shape := ⟨2, ![8448, 1024]⟩
abbrev S2048x1024 : Shape := ⟨2, ![2048, 1024]⟩
abbrev S2816x1024 : Shape := ⟨2, ![2816, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x1024, .bf16⟩
  | .hbm, ⟨2, _⟩ => ⟨S2048x1024, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8448x2048 : Shape := ⟨2, ![8448, 2048]⟩
abbrev S8448x1024 : Shape := ⟨2, ![8448, 1024]⟩
abbrev S1024x2048 : Shape := ⟨2, ![1024, 2048]⟩
abbrev S2048x1024 : Shape := ⟨2, ![2048, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x1024, .bf16⟩
  | .hbm, ⟨2, _⟩ => ⟨S8448x2048, .f32⟩
  | .hbm, ⟨3, _⟩ => ⟨S8448x1024, .f32⟩
  | .hbm, ⟨4, _⟩ => ⟨S1024x2048, .f32⟩
  | .hbm, ⟨5, _⟩ => ⟨S2048x1024, .f32⟩
  | .hbm, ⟨6, _⟩ => ⟨S2048x1024, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel10.lean ====
abbrev S8448x1024 : Shape := ⟨2, ![8448, 1024]⟩
abbrev S2048x1024 : Shape := ⟨2, ![2048, 1024]⟩
abbrev S8448x2048 : Shape := ⟨2, ![8448, 2048]⟩
abbrev S1408x1024 : Shape := ⟨2, ![1408, 1024]⟩
abbrev S1408x2048 : Shape := ⟨2, ![1408, 2048]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S2048x1024, .bf16⟩
  | .hbm, ⟨2, _⟩ => ⟨S8448x2048, .f32⟩
  | .local _ .vmem, ⟨0, _⟩ => ⟨S1408x1024, .bf16⟩
  | .local _ .vmem, ⟨1, _⟩ => ⟨S1408x1024, .bf16⟩
  | .local _ .vmem, ⟨2, _⟩ => ⟨S2048x1024, .bf16⟩
  | .local _ .vmem, ⟨3, _⟩ => ⟨S1408x2048, .f32⟩
  | .local _ .vmem, ⟨4, _⟩ => ⟨S1408x2048, .f32⟩
  | .local _ .vmem, ⟨5, _⟩ => ⟨S8x128, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8448x1024 : Shape := ⟨2, ![8448, 1024]⟩
abbrev S2048x1024 : Shape := ⟨2, ![2048, 1024]⟩
abbrev S8448x2048 : Shape := ⟨2, ![8448, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S2048x1024, .bf16⟩
  | .hbm, ⟨2, _⟩ => ⟨S2048x1024, .f32⟩
  | .hbm, ⟨3, _⟩ => ⟨S8448x1024, .f32⟩
  | .hbm, ⟨4, _⟩ => ⟨S8448x2048, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S8448x1024 : Shape := ⟨2, ![8448, 1024]⟩
abbrev S1024x1024 : Shape := ⟨2, ![1024, 1024]⟩
abbrev S1408x1024 : Shape := ⟨2, ![1408, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .f32⟩
  | .local _ .vmem, ⟨4, _⟩ => ⟨S1408x1024, .f32⟩
  | .local _ .vmem, ⟨5, _⟩ => ⟨S8x128, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8448x1024 : Shape := ⟨2, ![8448, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S1024x1024, .f32⟩
  | .hbm, ⟨3, _⟩ => ⟨S8448x1024, .f32⟩
  | .hbm, ⟨4, _⟩ => ⟨S8448x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S8448x1024 : Shape := ⟨2, ![8448, 1024]⟩
abbrev S1024x11776 : Shape := ⟨2, ![1024, 11776]⟩
abbrev S8448x11776 : Shape := ⟨2, ![8448, 11776]⟩
abbrev S2816x1024 : Shape := ⟨2, ![2816, 1024]⟩
abbrev S1024x512 : Shape := ⟨2, ![1024, 512]⟩
abbrev S2816x512 : Shape := ⟨2, ![2816, 512]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S1024x11776, .bf16⟩
  | .hbm, ⟨2, _⟩ => ⟨S8448x11776, .f32⟩
  | .local _ .vmem, ⟨0, _⟩ => ⟨S2816x1024, .bf16⟩
  | .local _ .vmem, ⟨1, _⟩ => ⟨S2816x1024, .bf16⟩
  | .local _ .vmem, ⟨2, _⟩ => ⟨S1024x512, .bf16⟩
  | .local _ .vmem, ⟨3, _⟩ => ⟨S1024x512, .bf16⟩
  | .local _ .vmem, ⟨4, _⟩ => ⟨S2816x512, .f32⟩
  | .local _ .vmem, ⟨5, _⟩ => ⟨S2816x512, .f32⟩
  | .local _ .vmem, ⟨6, _⟩ => ⟨S8x128, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 23, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2816x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8448x1024 : Shape := ⟨2, ![8448, 1024]⟩
abbrev S1024x11776 : Shape := ⟨2, ![1024, 11776]⟩
abbrev S8448x11776 : Shape := ⟨2, ![8448, 11776]⟩

abbrev nBuf : Space → Nat
  | .hbm => 5
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x11776, .bf16⟩
  | .hbm, ⟨2, _⟩ => ⟨S8448x1024, .f32⟩
  | .hbm, ⟨3, _⟩ => ⟨S1024x11776, .f32⟩
  | .hbm, ⟨4, _⟩ => ⟨S8448x11776, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S8448x1024 : Shape := ⟨2, ![8448, 1024]⟩
abbrev S4x1024x1408 : Shape := ⟨3, ![4, 1024, 1408]⟩
abbrev S2x8448x2816 : Shape := ⟨3, ![2, 8448, 2816]⟩
abbrev S2816x1024 : Shape := ⟨2, ![2816, 1024]⟩
abbrev S1x1024x1408 : Shape := ⟨3, ![1, 1024, 1408]⟩
abbrev S1x2816x1408 : Shape := ⟨3, ![1, 2816, 1408]⟩
abbrev S8x128 : Shape := ⟨2, ![8, 128]⟩
abbrev S1024x1408 : Shape := ⟨2, ![1024, 1408]⟩
abbrev S2816x1408 : Shape := ⟨2, ![2816, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8448x1024, .bf16⟩
  | .hbm, ⟨1, _⟩ => ⟨S4x1024x1408, .bf16⟩
  | .hbm, ⟨2, _⟩ => ⟨S2x8448x2816, .bf16⟩
  | .local _ .vmem, ⟨0, _⟩ => ⟨S2816x1024, .bf16⟩
  | .local _ .vmem, ⟨1, _⟩ => ⟨S2816x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x2816x1408, .bf16⟩
  | .local _ .vmem, ⟨5, _⟩ => ⟨S1x2816x1408, .bf16⟩
  | .local _ .vmem, ⟨6, _⟩ => ⟨S8x128, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2816x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8448x1024 : Shape := ⟨2, ![8448, 1024]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x5632 : Shape := ⟨2, ![1024, 5632]⟩
abbrev S8448x5632 : Shape := ⟨2, ![8448, 5632]⟩
abbrev S8448x2816 : Shape := ⟨2, ![8448, 2816]⟩
abbrev S1x8448x2816 : Shape := ⟨3, ![1, 8448, 2816]⟩
abbrev S2x8448x2816 : Shape := ⟨3, ![2, 8448, 2816]⟩

abbrev nBuf : Space → Nat
  | .hbm => 20
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S4x1024x1408, .bf16⟩
  | .hbm, ⟨2, _⟩ => ⟨S1x1024x1408, .bf16⟩
  | .hbm, ⟨3, _⟩ => ⟨S1024x1408, .bf16⟩
  | .hbm, ⟨4, _⟩ => ⟨S1x1024x1408, .bf16⟩
  | .hbm, ⟨5, _⟩ => ⟨S1024x1408, .bf16⟩
  | .hbm, ⟨6, _⟩ => ⟨S1x1024x1408, .bf16⟩
  | .hbm, ⟨7, _⟩ => ⟨S1024x1408, .bf16⟩
  | .hbm, ⟨8, _⟩ => ⟨S1x1024x1408, .bf16⟩
  | .hbm, ⟨9, _⟩ => ⟨S1024x1408, .bf16⟩
  | .hbm, ⟨10, _⟩ => ⟨S1024x5632, .bf16⟩
  | .hbm, ⟨11, _⟩ => ⟨S8448x1024, .f32⟩
  | .hbm, ⟨12, _⟩ => ⟨S1024x5632, .f32⟩
  | .hbm, ⟨13, _⟩ => ⟨S8448x5632, .f32⟩
  | .hbm, ⟨14, _⟩ => ⟨S8448x2816, .f32⟩
  | .hbm, ⟨15, _⟩ => ⟨S8448x2816, .f32⟩
  | .hbm, ⟨16, _⟩ => ⟨S1x8448x2816, .f32⟩
  | .hbm, ⟨17, _⟩ => ⟨S1x8448x2816, .f32⟩
  | .hbm, ⟨18, _⟩ => ⟨S2x8448x2816, .f32⟩
  | .hbm, ⟨19, _⟩ => ⟨S2x8448x2816, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩

abbrev nD : Nat := 1
abbrev τ : Topo := Topo.v7x

variable {F : FTy → Type} [FloatOps F]
-- ==== Kernel14.lean ====
abbrev S8448x2816 : Shape := ⟨2, ![8448, 2816]⟩
abbrev S2816x1024 : Shape := ⟨2, ![2816, 1024]⟩
abbrev S8448x1024 : Shape := ⟨2, ![8448, 1024]⟩
abbrev S768x2816 : Shape := ⟨2, ![768, 2816]⟩
abbrev S768x1024 : Shape := ⟨2, ![768, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S8448x1024, .f32⟩
  | .local _ .vmem, ⟨0, _⟩ => ⟨S768x2816, .bf16⟩
  | .local _ .vmem, ⟨1, _⟩ => ⟨S768x2816, .bf16⟩
  | .local _ .vmem, ⟨2, _⟩ => ⟨S2816x1024, .bf16⟩
  | .local _ .vmem, ⟨3, _⟩ => ⟨S768x1024, .f32⟩
  | .local _ .vmem, ⟨4, _⟩ => ⟨S768x1024, .f32⟩
  | .local _ .vmem, ⟨5, _⟩ => ⟨S8x128, .f32⟩
  | _, _ => ⟨S8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8448x2816 : Shape := ⟨2, ![8448, 2816]⟩
abbrev S2816x1024 : Shape := ⟨2, ![2816, 1024]⟩
abbrev S8448x1024 : Shape := ⟨2, ![8448, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8448x2816, .bf16⟩
  | .hbm, ⟨1, _⟩ => ⟨S2816x1024, .bf16⟩
  | .hbm, ⟨2, _⟩ => ⟨S8448x2816, .f32⟩
  | .hbm, ⟨3, _⟩ => ⟨S2816x1024, .f32⟩
  | .hbm, ⟨4, _⟩ => ⟨S8448x1024, .f32⟩
  | _, _ => ⟨S8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S8448x2048 : Shape := ⟨2, ![8448, 2048]⟩
abbrev S2048x1024 : Shape := ⟨2, ![2048, 1024]⟩
abbrev S8448x1024 : Shape := ⟨2, ![8448, 1024]⟩
abbrev S1408x2048 : Shape := ⟨2, ![1408, 2048]⟩
abbrev S1408x1024 : Shape := ⟨2, ![1408, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8448x2048, .bf16⟩
  | .hbm, ⟨1, _⟩ => ⟨S2048x1024, .bf16⟩
  | .hbm, ⟨2, _⟩ => ⟨S8448x1024, .bf16⟩
  | .local _ .vmem, ⟨0, _⟩ => ⟨S1408x2048, .bf16⟩
  | .local _ .vmem, ⟨1, _⟩ => ⟨S1408x2048, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | .local _ .vmem, ⟨5, _⟩ => ⟨S8x128, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8448x2048 : Shape := ⟨2, ![8448, 2048]⟩
abbrev S2048x1024 : Shape := ⟨2, ![2048, 1024]⟩
abbrev S8448x1024 : Shape := ⟨2, ![8448, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x1024, .bf16⟩
  | .hbm, ⟨2, _⟩ => ⟨S8448x2048, .f32⟩
  | .hbm, ⟨3, _⟩ => ⟨S2048x1024, .f32⟩
  | .hbm, ⟨4, _⟩ => ⟨S8448x1024, .f32⟩
  | .hbm, ⟨5, _⟩ => ⟨S8448x1024, .bf16⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S8448x1024 : Shape := ⟨2, ![8448, 1024]⟩
abbrev S1024x1024 : Shape := ⟨2, ![1024, 1024]⟩
abbrev S2816x1024 : Shape := ⟨2, ![2816, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .bf16⟩
  | .local _ .vmem, ⟨0, _⟩ => ⟨S2816x1024, .bf16⟩
  | .local _ .vmem, ⟨1, _⟩ => ⟨S2816x1024, .bf16⟩
  | .local _ .vmem, ⟨2, _⟩ => ⟨S1024x1024, .bf16⟩
  | .local _ .vmem, ⟨3, _⟩ => ⟨S2816x1024, .bf16⟩
  | .local _ .vmem, ⟨4, _⟩ => ⟨S2816x1024, .bf16⟩
  | .local _ .vmem, ⟨5, _⟩ => ⟨S8x128, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8448x1024 : Shape := ⟨2, ![8448, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .hbm, ⟨3, _⟩ => ⟨S1024x1024, .f32⟩
  | .hbm, ⟨4, _⟩ => ⟨S8448x1024, .f32⟩
  | .hbm, ⟨5, _⟩ => ⟨S8448x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel17.lean ====
abbrev S8448x1024 : Shape := ⟨2, ![8448, 1024]⟩
abbrev S1024x1024 : Shape := ⟨2, ![1024, 1024]⟩
abbrev S1408x1024 : Shape := ⟨2, ![1408, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .local _ .vmem, ⟨0, _⟩ => ⟨S1408x1024, .bf16⟩
  | .local _ .vmem, ⟨1, _⟩ => ⟨S1408x1024, .bf16⟩
  | .local _ .vmem, ⟨2, _⟩ => ⟨S1024x1024, .bf16⟩
  | .local _ .vmem, ⟨3, _⟩ => ⟨S1408x1024, .f32⟩
  | .local _ .vmem, ⟨4, _⟩ => ⟨S1408x1024, .f32⟩
  | .local _ .vmem, ⟨5, _⟩ => ⟨S8x128, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8448x1024 : Shape := ⟨2, ![8448, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S1024x1024, .bf16⟩
  | .hbm, ⟨2, _⟩ => ⟨S8448x1024, .f32⟩
  | .hbm, ⟨3, _⟩ => ⟨S1024x1024, .f32⟩
  | .hbm, ⟨4, _⟩ => ⟨S8448x1024, .f32⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S8448x1024 : Shape := ⟨2, ![8448, 1024]⟩
abbrev S1024x1024 : Shape := ⟨2, ![1024, 1024]⟩
abbrev S2816x1024 : Shape := ⟨2, ![2816, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S1024x1024, .bf16⟩
  | .local _ .vmem, ⟨0, _⟩ => ⟨S2816x1024, .bf16⟩
  | .local _ .vmem, ⟨1, _⟩ => ⟨S2816x1024, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .bf16⟩
  | .local _ .vmem, ⟨5, _⟩ => ⟨S1024x1024, .f32⟩
  | _, _ => ⟨S8448x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 3], ![false, false, false]⟩

def k0_cond3 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2816x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S8448x1024 : Shape := ⟨2, ![8448, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8448x1024, .bf16⟩
  | .hbm, ⟨1, _⟩ => ⟨S8448x1024, .bf16⟩
  | .hbm, ⟨2, _⟩ => ⟨S8448x1024, .f32⟩
  | .hbm, ⟨3, _⟩ => ⟨S8448x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S8448x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel19.lean ====
abbrev S2x8448x2816 : Shape := ⟨3, ![2, 8448, 2816]⟩
abbrev S8448x2816 : Shape := ⟨2, ![8448, 2816]⟩
abbrev S2x256x1408 : Shape := ⟨3, ![2, 256, 1408]⟩
abbrev S256x1408 : Shape := ⟨2, ![256, 1408]⟩
abbrev S1x256x1408 : Shape := ⟨3, ![1, 256, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2x8448x2816, .bf16⟩
  | .hbm, ⟨1, _⟩ => ⟨S8448x2816, .bf16⟩
  | .hbm, ⟨2, _⟩ => ⟨S2x8448x2816, .bf16⟩
  | .local _ .vmem, ⟨0, _⟩ => ⟨S2x256x1408, .bf16⟩
  | .local _ .vmem, ⟨1, _⟩ => ⟨S2x256x1408, .bf16⟩
  | .local _ .vmem, ⟨2, _⟩ => ⟨S256x1408, .bf16⟩
  | .local _ .vmem, ⟨3, _⟩ => ⟨S256x1408, .bf16⟩
  | .local _ .vmem, ⟨4, _⟩ => ⟨S2x256x1408, .bf16⟩
  | .local _ .vmem, ⟨5, _⟩ => ⟨S2x256x1408, .bf16⟩
  | _, _ => ⟨S2x8448x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 33], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S2x256x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S2x8448x2816 : Shape := ⟨3, ![2, 8448, 2816]⟩
abbrev S8448x2816 : Shape := ⟨2, ![8448, 2816]⟩
abbrev S1x8448x2816 : Shape := ⟨3, ![1, 8448, 2816]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S2x8448x2816, .bf16⟩
  | .hbm, ⟨1, _⟩ => ⟨S8448x2816, .bf16⟩
  | .hbm, ⟨2, _⟩ => ⟨S1x8448x2816, .bf16⟩
  | .hbm, ⟨3, _⟩ => ⟨S8448x2816, .bf16⟩
  | .hbm, ⟨4, _⟩ => ⟨S1x8448x2816, .bf16⟩
  | .hbm, ⟨5, _⟩ => ⟨S8448x2816, .bf16⟩
  | .hbm, ⟨6, _⟩ => ⟨S8448x2816, .f32⟩
  | .hbm, ⟨7, _⟩ => ⟨S8448x2816, .f32⟩
  | .hbm, ⟨8, _⟩ => ⟨S8448x2816, .f32⟩
  | .hbm, ⟨9, _⟩ => ⟨S8448x2816, .f32⟩
  | .hbm, ⟨10, _⟩ => ⟨S8448x2816, .f32⟩
  | .hbm, ⟨11, _⟩ => ⟨S_, .f32⟩
  | .hbm, ⟨12, _⟩ => ⟨S8448x2816, .f32⟩
  | .hbm, ⟨13, _⟩ => ⟨S8448x2816, .f32⟩
  | .hbm, ⟨14, _⟩ => ⟨S_, .f32⟩
  | .hbm, ⟨15, _⟩ => ⟨S8448x2816, .f32⟩
  | .hbm, ⟨16, _⟩ => ⟨S8448x2816, .f32⟩
  | .hbm, ⟨17, _⟩ => ⟨S_, .f32⟩
  | .hbm, ⟨18, _⟩ => ⟨S8448x2816, .f32⟩
  | .hbm, ⟨19, _⟩ => ⟨S8448x2816, .f32⟩
  | .hbm, ⟨20, _⟩ => ⟨S8448x2816, .f32⟩
  | .hbm, ⟨21, _⟩ => ⟨S8448x2816, .f32⟩
  | .hbm, ⟨22, _⟩ => ⟨S8448x2816, .f32⟩
  | .hbm, ⟨23, _⟩ => ⟨S8448x2816, .f32⟩
  | .hbm, ⟨24, _⟩ => ⟨S8448x2816, .f32⟩
  | .hbm, ⟨25, _⟩ => ⟨S8448x2816, .f32⟩
  | .hbm, ⟨26, _⟩ => ⟨S8448x2816, .f32⟩
  | .hbm, ⟨27, _⟩ => ⟨S8448x2816, .f32⟩
  | .hbm, ⟨28, _⟩ => ⟨S8448x2816, .f32⟩
  | .hbm, ⟨29, _⟩ => ⟨S1x8448x2816, .f32⟩
  | .hbm, ⟨30, _⟩ => ⟨S1x8448x2816, .f32⟩
  | .hbm, ⟨31, _⟩ => ⟨S2x8448x2816, .f32⟩
  | .hbm, ⟨32, _⟩ => ⟨S2x8448x2816, .bf16⟩
  | _, _ => ⟨S2x8448x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v7_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v7_1 : Ref sig .tc := ⟨.hbm, 20, rfl⟩
abbrev main_v7_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩

abbrev nD : Nat := 1
abbrev τ : Topo := Topo.v7x

variable {F : FTy → Type} [FloatOps F]
-- ==== Kernel20.lean ====
abbrev S8448x11776 : Shape := ⟨2, ![8448, 11776]⟩
abbrev S8448x1024 : Shape := ⟨2, ![8448, 1024]⟩
abbrev S256x2048 : Shape := ⟨2, ![256, 2048]⟩
abbrev S256x1024 : Shape := ⟨2, ![256, 1024]⟩

abbrev nBuf : Space → Nat
  | .hbm => 8
  | .vmem => 14
  | .smem => 0
  | _ => 0

abbrev bufTy : (tb : Table) → Fin (tcTables nBuf tb) → BufTy
  | .hbm, ⟨0, _⟩ => ⟨S8448x11776, .f32⟩
  | .hbm, ⟨1, _⟩ => ⟨S8448x1024, .bf16⟩
  | .hbm, ⟨2, _⟩ => ⟨S8448x1024, .bf16⟩
  | .hbm, ⟨3, _⟩ => ⟨S8448x1024, .bf16⟩
  | .hbm, ⟨4, _⟩ => ⟨S8448x11776, .bf16⟩
  | .hbm, ⟨5, _⟩ => ⟨S8448x11776, .bf16⟩
  | .hbm, ⟨6, _⟩ => ⟨S8448x1024, .bf16⟩
  | .hbm, ⟨7, _⟩ => ⟨S8448x1024, .bf16⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x2048, .bf16⟩
  | .local _ .vmem, ⟨9, _⟩ => ⟨S256x2048, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | _, _ => ⟨S8448x11776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![1, 33], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference20Ideal.lean ====
abbrev S8448x11776 : Shape := ⟨2, ![8448, 11776]⟩
abbrev S8448x1024 : Shape := ⟨2, ![8448, 1024]⟩
abbrev S8448x2048 : Shape := ⟨2, ![8448, 2048]⟩
abbrev S_ : Shape := ⟨0, ![]⟩
abbrev S8448x4096 : Shape := ⟨2, ![8448, 4096]⟩
abbrev S8448x5632 : Shape := ⟨2, ![8448, 5632]⟩

abbrev nBuf : Space → Nat
  | .hbm => 51
  | .vmem => 0
  | .smem => 0
  | _ => 0

abbrev bufTy : (tb : Table) → Fin (tcTables nBuf tb) → BufTy
  | .hbm, ⟨0, _⟩ => ⟨S8448x11776, .f32⟩
  | .hbm, ⟨1, _⟩ => ⟨S8448x1024, .bf16⟩
  | .hbm, ⟨2, _⟩ => ⟨S8448x1024, .bf16⟩
  | .hbm, ⟨3, _⟩ => ⟨S8448x1024, .bf16⟩
  | .hbm, ⟨4, _⟩ => ⟨S8448x11776, .bf16⟩
  | .hbm, ⟨5, _⟩ => ⟨S8448x2048, .f32⟩
  | .hbm, ⟨6, _⟩ => ⟨S8448x1024, .f32⟩
  | .hbm, ⟨7, _⟩ => ⟨S8448x1024, .f32⟩
  | .hbm, ⟨8, _⟩ => ⟨S8448x1024, .f32⟩
  | .hbm, ⟨9, _⟩ => ⟨S8448x1024, .f32⟩
  | .hbm, ⟨10, _⟩ => ⟨S8448x1024, .f32⟩
  | .hbm, ⟨11, _⟩ => ⟨S8448x1024, .f32⟩
  | .hbm, ⟨12, _⟩ => ⟨S8448x1024, .f32⟩
  | .hbm, ⟨13, _⟩ => ⟨S_, .f32⟩
  | .hbm, ⟨14, _⟩ => ⟨S8448x1024, .f32⟩
  | .hbm, ⟨15, _⟩ => ⟨S8448x1024, .f32⟩
  | .hbm, ⟨16, _⟩ => ⟨S_, .f32⟩
  | .hbm, ⟨17, _⟩ => ⟨S8448x1024, .f32⟩
  | .hbm, ⟨18, _⟩ => ⟨S8448x1024, .f32⟩
  | .hbm, ⟨19, _⟩ => ⟨S_, .f32⟩
  | .hbm, ⟨20, _⟩ => ⟨S8448x1024, .f32⟩
  | .hbm, ⟨21, _⟩ => ⟨S8448x1024, .f32⟩
  | .hbm, ⟨22, _⟩ => ⟨S8448x1024, .f32⟩
  | .hbm, ⟨23, _⟩ => ⟨S8448x1024, .f32⟩
  | .hbm, ⟨24, _⟩ => ⟨S8448x1024, .f32⟩
  | .hbm, ⟨25, _⟩ => ⟨S8448x1024, .f32⟩
  | .hbm, ⟨26, _⟩ => ⟨S_, .f32⟩
  | .hbm, ⟨27, _⟩ => ⟨S8448x1024, .f32⟩
  | .hbm, ⟨28, _⟩ => ⟨S8448x1024, .f32⟩
  | .hbm, ⟨29, _⟩ => ⟨S_, .f32⟩
  | .hbm, ⟨30, _⟩ => ⟨S8448x1024, .f32⟩
  | .hbm, ⟨31, _⟩ => ⟨S8448x1024, .f32⟩
  | .hbm, ⟨32, _⟩ => ⟨S_, .f32⟩
  | .hbm, ⟨33, _⟩ => ⟨S8448x1024, .f32⟩
  | .hbm, ⟨34, _⟩ => ⟨S8448x1024, .f32⟩
  | .hbm, ⟨35, _⟩ => ⟨S8448x1024, .f32⟩
  | .hbm, ⟨36, _⟩ => ⟨S8448x1024, .f32⟩
  | .hbm, ⟨37, _⟩ => ⟨S8448x1024, .f32⟩
  | .hbm, ⟨38, _⟩ => ⟨S8448x1024, .f32⟩
  | .hbm, ⟨39, _⟩ => ⟨S8448x1024, .f32⟩
  | .hbm, ⟨40, _⟩ => ⟨S8448x1024, .f32⟩
  | .hbm, ⟨41, _⟩ => ⟨S8448x1024, .f32⟩
  | .hbm, ⟨42, _⟩ => ⟨S8448x1024, .f32⟩
  | .hbm, ⟨43, _⟩ => ⟨S8448x1024, .f32⟩
  | .hbm, ⟨44, _⟩ => ⟨S8448x2048, .f32⟩
  | .hbm, ⟨45, _⟩ => ⟨S8448x2048, .bf16⟩
  | .hbm, ⟨46, _⟩ => ⟨S8448x1024, .bf16⟩
  | .hbm, ⟨47, _⟩ => ⟨S8448x1024, .bf16⟩
  | .hbm, ⟨48, _⟩ => ⟨S8448x4096, .bf16⟩
  | .hbm, ⟨49, _⟩ => ⟨S8448x5632, .bf16⟩
  | .hbm, ⟨50, _⟩ => ⟨S8448x11776, .bf16⟩
  | _, _ => ⟨S8448x11776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩

abbrev nD : Nat := 1
abbrev τ : Topo := Topo.v7x

variable {F : FTy → Type} [FloatOps F]
-- ==== Kernel21.lean ====
abbrev S8448x1024 : Shape := ⟨2, ![8448, 1024]⟩
abbrev S8x6144 : Shape := ⟨2, ![8, 6144]⟩
abbrev S1x1024 : Shape := ⟨2, ![1, 1024]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S7x1024 : Shape := ⟨2, ![7, 1024]⟩

abbrev nBuf : Space → Nat
  | .hbm => 12
  | .vmem => 20
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8x6144, .f32⟩
  | .hbm, ⟨3, _⟩ => ⟨S1x1024, .f32⟩
  | .hbm, ⟨4, _⟩ => ⟨S8448x1024, .f32⟩
  | .hbm, ⟨5, _⟩ => ⟨S8448x1024, .f32⟩
  | .hbm, ⟨6, _⟩ => ⟨S8448x1024, .f32⟩
  | .hbm, ⟨7, _⟩ => ⟨S8448x1024, .bf16⟩
  | .hbm, ⟨8, _⟩ => ⟨S8x1024, .f32⟩
  | .hbm, ⟨9, _⟩ => ⟨S1x1024, .f32⟩
  | .hbm, ⟨10, _⟩ => ⟨S8x1024, .f32⟩
  | .hbm, ⟨11, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S1x1024, .f32⟩
  | .local _ .vmem, ⟨6, _⟩ => ⟨S8x1024, .f32⟩
  | .local _ .vmem, ⟨7, _⟩ => ⟨S8x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S8x1024, .f32⟩
  | .local _ .vmem, ⟨17, _⟩ => ⟨S1x1024, .f32⟩
  | .local _ .vmem, ⟨18, _⟩ => ⟨S8x1024, .f32⟩
  | .local _ .vmem, ⟨19, _⟩ => ⟨S8x1024, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨2, ![1, 33], ![false, false]⟩

def k0_cond1 (i : grid0.Coords) : BitVec 1 :=
  let arg1 : BitVec 32 := BitVec.ofNat 32 (i 1).val
  let c0_i32 : BitVec 32 := 0#32
  let v73 : BitVec 1 := Scalar.cmpi .eq arg1 c0_i32
  let v74 : BitVec 32 := Scalar.extui v73
  let c0_i32_31 : BitVec 32 := 0#32
  let v75 : BitVec 1 := Scalar.cmpi .ne v74 c0_i32_31
  v75

def k0_cond2 (i : grid0.Coords) : BitVec 1 :=
  let arg1 : BitVec 32 := BitVec.ofNat 32 (i 1).val
  let c0_i32 : BitVec 32 := 0#32
  let v73 : BitVec 1 := Scalar.cmpi .eq arg1 c0_i32
  let v_true : BitVec 1 := 1#1
  let v76 : BitVec 1 := Scalar.xori v73 v_true
  let v77 : BitVec 32 := Scalar.extui v76
  let c0_i32_32 : BitVec 32 := 0#32
  let v78 : BitVec 1 := Scalar.cmpi .ne v77 c0_i32_32
  v78

def k0_cond3 (i : grid0.Coords) : BitVec 1 :=
  let arg1 : BitVec 32 := BitVec.ofNat 32 (i 1).val
  let c0_i32 : BitVec 32 := 0#32
  let v73 : BitVec 1 := Scalar.cmpi .eq arg1 c0_i32
  let v79 : BitVec 32 := Scalar.extui v73
  let c0_i32_33 : BitVec 32 := 0#32
  let v80 : BitVec 1 := Scalar.cmpi .ne v79 c0_i32_33
  v80

def k0_cond4 (i : grid0.Coords) : BitVec 1 :=
  let arg1 : BitVec 32 := BitVec.ofNat 32 (i 1).val
  let c0_i32 : BitVec 32 := 0#32
  let v73 : BitVec 1 := Scalar.cmpi .eq arg1 c0_i32
  let true_34 : BitVec 1 := 1#1
  let v81 : BitVec 1 := Scalar.xori v73 true_34
  let v82 : BitVec 32 := Scalar.extui v81
  let c0_i32_35 : BitVec 32 := 0#32
  let v83 : BitVec 1 := Scalar.cmpi .ne v82 c0_i32_35
  v83

def k0_cond5 (i : grid0.Coords) : BitVec 1 :=
  let arg1 : BitVec 32 := BitVec.ofNat 32 (i 1).val
  let c0_i32 : BitVec 32 := 0#32
  let v73 : BitVec 1 := Scalar.cmpi .eq arg1 c0_i32
  let v84 : BitVec 32 := Scalar.extui v73
  let c0_i32_36 : BitVec 32 := 0#32
  let v85 : BitVec 1 := Scalar.cmpi .ne v84 c0_i32_36
  v85

def k0_cond6 (i : grid0.Coords) : BitVec 1 :=
  let arg1 : BitVec 32 := BitVec.ofNat 32 (i 1).val
  let c0_i32 : BitVec 32 := 0#32
  let v73 : BitVec 1 := Scalar.cmpi .eq arg1 c0_i32
  let true_37 : BitVec 1 := 1#1
  let v86 : BitVec 1 := Scalar.xori v73 true_37
  let v87 : BitVec 32 := Scalar.extui v86
  let c0_i32_38 : BitVec 32 := 0#32
  let v88 : BitVec 1 := Scalar.cmpi .ne v87 c0_i32_38
  v88

def k0_cond7 (i : grid0.Coords) : BitVec 1 :=
  let arg1 : BitVec 32 := BitVec.ofNat 32 (i 1).val
  let c0_i32 : BitVec 32 := 0#32
  let v73 : BitVec 1 := Scalar.cmpi .eq arg1 c0_i32
  let v89 : BitVec 32 := Scalar.extui v73
  let c0_i32_39 : BitVec 32 := 0#32
  let v90 : BitVec 1 := Scalar.cmpi .ne v89 c0_i32_39
  v90

def k0_cond8 (i : grid0.Coords) : BitVec 1 :=
  let arg1 : BitVec 32 := BitVec.ofNat 32 (i 1).val
  let c0_i32 : BitVec 32 := 0#32
  let v73 : BitVec 1 := Scalar.cmpi .eq arg1 c0_i32
  let true_40 : BitVec 1 := 1#1
  let v91 : BitVec 1 := Scalar.xori v73 true_40
  let v92 : BitVec 32 := Scalar.extui v91
  let c0_i32_41 : BitVec 32 := 0#32
  let v93 : BitVec 1 := Scalar.cmpi .ne v92 c0_i32_41
  v93

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![c0_i32.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![c0_i32.toNat, c4_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c3_i32 : BitVec 32 := 3#32
  let c0_i32_0 : BitVec 32 := 0#32
  ![c0_i32.toNat, c3_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 1 → Memref sig .tc .vmem S8x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true, false]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]
-- ==== Reference21Ideal.lean ====
abbrev S8448x1024 : Shape := ⟨2, ![8448, 1024]⟩
abbrev S8x6144 : Shape := ⟨2, ![8, 6144]⟩
abbrev S1x1024 : Shape := ⟨2, ![1, 1024]⟩
abbrev S8x1024 : Shape := ⟨2, ![8, 1024]⟩
abbrev S1024 : Shape := ⟨1, ![1024]⟩
abbrev S_ : Shape := ⟨0, ![]⟩
abbrev S8448 : Shape := ⟨1, ![8448]⟩
abbrev S8448x1 : Shape := ⟨2, ![8448, 1]⟩

abbrev nBuf : Space → Nat
  | .hbm => 109
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8x6144, .f32⟩
  | .hbm, ⟨3, _⟩ => ⟨S1x1024, .f32⟩
  | .hbm, ⟨4, _⟩ => ⟨S8448x1024, .f32⟩
  | .hbm, ⟨5, _⟩ => ⟨S8448x1024, .f32⟩
  | .hbm, ⟨6, _⟩ => ⟨S8x1024, .f32⟩
  | .hbm, ⟨7, _⟩ => ⟨S8x1024, .f32⟩
  | .hbm, ⟨8, _⟩ => ⟨S8x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S8448x1024, .f32⟩
  | .hbm, ⟨13, _⟩ => ⟨S8448x1024, .f32⟩
  | .hbm, ⟨14, _⟩ => ⟨S8448x1024, .f32⟩
  | .hbm, ⟨15, _⟩ => ⟨S1024, .f32⟩
  | .hbm, ⟨16, _⟩ => ⟨S8448x1024, .f32⟩
  | .hbm, ⟨17, _⟩ => ⟨S_, .f32⟩
  | .hbm, ⟨18, _⟩ => ⟨S8448, .f32⟩
  | .hbm, ⟨19, _⟩ => ⟨S8448x1, .f32⟩
  | .hbm, ⟨20, _⟩ => ⟨S_, .f32⟩
  | .hbm, ⟨21, _⟩ => ⟨S8448x1, .f32⟩
  | .hbm, ⟨22, _⟩ => ⟨S8448x1, .f32⟩
  | .hbm, ⟨23, _⟩ => ⟨S_, .f32⟩
  | .hbm, ⟨24, _⟩ => ⟨S8448x1, .f32⟩
  | .hbm, ⟨25, _⟩ => ⟨S8448x1, .f32⟩
  | .hbm, ⟨26, _⟩ => ⟨S8448x1, .f32⟩
  | .hbm, ⟨27, _⟩ => ⟨S8448x1, .f32⟩
  | .hbm, ⟨28, _⟩ => ⟨S_, .f32⟩
  | .hbm, ⟨29, _⟩ => ⟨S8448x1, .f32⟩
  | .hbm, ⟨30, _⟩ => ⟨S8448x1, .f32⟩
  | .hbm, ⟨31, _⟩ => ⟨S8448x1024, .f32⟩
  | .hbm, ⟨32, _⟩ => ⟨S8448x1024, .f32⟩
  | .hbm, ⟨33, _⟩ => ⟨S1x1024, .f32⟩
  | .hbm, ⟨34, _⟩ => ⟨S8448x1024, .f32⟩
  | .hbm, ⟨35, _⟩ => ⟨S8448x1024, .f32⟩
  | .hbm, ⟨36, _⟩ => ⟨S1x1024, .f32⟩
  | .hbm, ⟨37, _⟩ => ⟨S1024, .f32⟩
  | .hbm, ⟨38, _⟩ => ⟨S_, .f32⟩
  | .hbm, ⟨39, _⟩ => ⟨S1024, .f32⟩
  | .hbm, ⟨40, _⟩ => ⟨S1024, .f32⟩
  | .hbm, ⟨41, _⟩ => ⟨S1x1024, .f32⟩
  | .hbm, ⟨42, _⟩ => ⟨S8448x1024, .f32⟩
  | .hbm, ⟨43, _⟩ => ⟨S8448x1024, .f32⟩
  | .hbm, ⟨44, _⟩ => ⟨S1x1024, .f32⟩
  | .hbm, ⟨45, _⟩ => ⟨S1024, .f32⟩
  | .hbm, ⟨46, _⟩ => ⟨S1x1024, .f32⟩
  | .hbm, ⟨47, _⟩ => ⟨S8448x1024, .f32⟩
  | .hbm, ⟨48, _⟩ => ⟨S8448x1024, .f32⟩
  | .hbm, ⟨49, _⟩ => ⟨S8448x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S8x1024, .f32⟩
  | .hbm, ⟨58, _⟩ => ⟨S8448x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S8448x1024, .f32⟩
  | .hbm, ⟨63, _⟩ => ⟨S8448x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S_, .f32⟩
  | .hbm, ⟨68, _⟩ => ⟨S8x1024, .f32⟩
  | .hbm, ⟨69, _⟩ => ⟨S8448x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S8448x1024, .f32⟩
  | .hbm, ⟨74, _⟩ => ⟨S8448x1024, .f32⟩
  | .hbm, ⟨75, _⟩ => ⟨S_, .f32⟩
  | .hbm, ⟨76, _⟩ => ⟨S1024, .f32⟩
  | .hbm, ⟨77, _⟩ => ⟨S8448x1024, .f32⟩
  | .hbm, ⟨78, _⟩ => ⟨S_, .f32⟩
  | .hbm, ⟨79, _⟩ => ⟨S8448, .f32⟩
  | .hbm, ⟨80, _⟩ => ⟨S8448x1, .f32⟩
  | .hbm, ⟨81, _⟩ => ⟨S8448x1024, .f32⟩
  | .hbm, ⟨82, _⟩ => ⟨S8448x1024, .f32⟩
  | .hbm, ⟨83, _⟩ => ⟨S8448x1024, .f32⟩
  | .hbm, ⟨84, _⟩ => ⟨S8448x1, .f32⟩
  | .hbm, ⟨85, _⟩ => ⟨S_, .f32⟩
  | .hbm, ⟨86, _⟩ => ⟨S8448x1, .f32⟩
  | .hbm, ⟨87, _⟩ => ⟨S8448x1, .f32⟩
  | .hbm, ⟨88, _⟩ => ⟨S_, .f32⟩
  | .hbm, ⟨89, _⟩ => ⟨S8448, .f32⟩
  | .hbm, ⟨90, _⟩ => ⟨S8448x1024, .f32⟩
  | .hbm, ⟨91, _⟩ => ⟨S8448x1024, .f32⟩
  | .hbm, ⟨92, _⟩ => ⟨S8448x1024, .f32⟩
  | .hbm, ⟨93, _⟩ => ⟨S8448x1024, .f32⟩
  | .hbm, ⟨94, _⟩ => ⟨S8448x1024, .f32⟩
  | .hbm, ⟨95, _⟩ => ⟨S1x1024, .f32⟩
  | .hbm, ⟨96, _⟩ => ⟨S8448x1024, .f32⟩
  | .hbm, ⟨97, _⟩ => ⟨S8448x1024, .f32⟩
  | .hbm, ⟨98, _⟩ => ⟨S8448x1024, .f32⟩
  | .hbm, ⟨99, _⟩ => ⟨S8448x1024, .f32⟩
  | .hbm, ⟨100, _⟩ => ⟨S_, .f32⟩
  | .hbm, ⟨101, _⟩ => ⟨S1024, .f32⟩
  | .hbm, ⟨102, _⟩ => ⟨S1x1024, .f32⟩
  | .hbm, ⟨103, _⟩ => ⟨S_, .f32⟩
  | .hbm, ⟨104, _⟩ => ⟨S1024, .f32⟩
  | .hbm, ⟨105, _⟩ => ⟨S1x1024, .f32⟩
  | .hbm, ⟨106, _⟩ => ⟨S_, .f32⟩
  | .hbm, ⟨107, _⟩ => ⟨S8x1024, .f32⟩
  | .hbm, ⟨108, _⟩ => ⟨S8448x1024, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_3 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_4 : Ref sig .tc := ⟨.hbm, 50, rfl⟩
abbrev main_v39 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_cst_6 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_8 : Ref sig .tc := ⟨.hbm, 64, rfl⟩
abbrev main_v49 : Ref sig .tc := ⟨.hbm, 65, rfl⟩
abbrev main_v50 : Ref sig .tc := ⟨.hbm, 66, rfl⟩
abbrev main_cst_9 : Ref sig .tc := ⟨.hbm, 67, rfl⟩
abbrev main_v51 : Ref sig .tc := ⟨.hbm, 68, rfl⟩
abbrev main_v52 : Ref sig .tc := ⟨.hbm, 69, rfl⟩
abbrev main_cst_10 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_cst_12 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_cst_14 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_15 : Ref sig .tc := ⟨.hbm, 100, rfl⟩
abbrev main_v78 : Ref sig .tc := ⟨.hbm, 101, rfl⟩
abbrev main_v79 : Ref sig .tc := ⟨.hbm, 102, rfl⟩
abbrev main_cst_16 : Ref sig .tc := ⟨.hbm, 103, rfl⟩
abbrev main_v80 : Ref sig .tc := ⟨.hbm, 104, rfl⟩
abbrev main_v81 : Ref sig .tc := ⟨.hbm, 105, rfl⟩
abbrev main_cst_17 : Ref sig .tc := ⟨.hbm, 106, rfl⟩
abbrev main_v82 : Ref sig .tc := ⟨.hbm, 107, rfl⟩
abbrev main_v83 : Ref sig .tc := ⟨.hbm, 108, rfl⟩

abbrev nD : Nat := 1
abbrev τ : Topo := Topo.v7x

variable {F : FTy → Type} [FloatOps F]
-- ==== Kernel22.lean ====
abbrev S8448x1024 : Shape := ⟨2, ![8448, 1024]⟩
abbrev S8448x11776 : Shape := ⟨2, ![8448, 11776]⟩
abbrev S1x128 : Shape := ⟨2, ![1, 128]⟩
abbrev S128x1024 : Shape := ⟨2, ![128, 1024]⟩
abbrev S128x128 : Shape := ⟨2, ![128, 128]⟩
abbrev S128 : Shape := ⟨1, ![128]⟩
abbrev S128x1 : Shape := ⟨2, ![128, 1]⟩
abbrev S128x896 : Shape := ⟨2, ![128, 896]⟩
abbrev S128x768 : Shape := ⟨2, ![128, 768]⟩
abbrev S128x640 : Shape := ⟨2, ![128, 640]⟩
abbrev S128x256 : Shape := ⟨2, ![128, 256]⟩
abbrev S128x512 : Shape := ⟨2, ![128, 512]⟩
abbrev S128x384 : Shape := ⟨2, ![128, 384]⟩

abbrev nBuf : Space → Nat
  | .hbm => 9
  | .vmem => 14
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x11776, .f32⟩
  | .hbm, ⟨3, _⟩ => ⟨S1x128, .f32⟩
  | .hbm, ⟨4, _⟩ => ⟨S8448x1024, .f32⟩
  | .hbm, ⟨5, _⟩ => ⟨S8448x11776, .bf16⟩
  | .hbm, ⟨6, _⟩ => ⟨S8448x1024, .f32⟩
  | .hbm, ⟨7, _⟩ => ⟨S8448x11776, .bf16⟩
  | .hbm, ⟨8, _⟩ => ⟨S1x128, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S1x128, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .bf16⟩
  | .local _ .vmem, ⟨12, _⟩ => ⟨S128x1024, .bf16⟩
  | .local _ .vmem, ⟨13, _⟩ => ⟨S1x128, .f32⟩
  | _, _ => ⟨S8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![1, 66], ![false, false]⟩

def k0_cond1 (i : grid0.Coords) : BitVec 1 :=
  let arg1 : BitVec 32 := BitVec.ofNat 32 (i 1).val
  let c0_i32 : BitVec 32 := 0#32
  let v359 : BitVec 1 := Scalar.cmpi .eq arg1 c0_i32
  let v360 : BitVec 32 := Scalar.extui v359
  let c0_i32_85 : BitVec 32 := 0#32
  let v361 : BitVec 1 := Scalar.cmpi .ne v360 c0_i32_85
  v361

def k0_cond2 (i : grid0.Coords) : BitVec 1 :=
  let arg1 : BitVec 32 := BitVec.ofNat 32 (i 1).val
  let c0_i32 : BitVec 32 := 0#32
  let v359 : BitVec 1 := Scalar.cmpi .eq arg1 c0_i32
  let v_true : BitVec 1 := 1#1
  let v362 : BitVec 1 := Scalar.xori v359 v_true
  let v363 : BitVec 32 := Scalar.extui v362
  let c0_i32_86 : BitVec 32 := 0#32
  let v364 : BitVec 1 := Scalar.cmpi .ne v363 c0_i32_86
  v364

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]
-- ==== Reference22Ideal.lean ====
abbrev S8448x1024 : Shape := ⟨2, ![8448, 1024]⟩
abbrev S8448x11776 : Shape := ⟨2, ![8448, 11776]⟩
abbrev S1x128 : Shape := ⟨2, ![1, 128]⟩
abbrev S8448x8x128 : Shape := ⟨3, ![8448, 8, 128]⟩
abbrev S128 : Shape := ⟨1, ![128]⟩
abbrev S_ : Shape := ⟨0, ![]⟩
abbrev S8448x8 : Shape := ⟨2, ![8448, 8]⟩
abbrev S8448x8x1 : Shape := ⟨3, ![8448, 8, 1]⟩
abbrev S1x1x128 : Shape := ⟨3, ![1, 1, 128]⟩
abbrev S8448x3072 : Shape := ⟨2, ![8448, 3072]⟩
abbrev S8448x7680 : Shape := ⟨2, ![8448, 7680]⟩

abbrev nBuf : Space → Nat
  | .hbm => 85
  | .vmem => 0
  | .smem => 0
  | _ => 0

abbrev bufTy : (tb : Table) → Fin (tcTables nBuf tb) → BufTy
  | .hbm, ⟨0, _⟩ => ⟨S8448x1024, .f32⟩
  | .hbm, ⟨1, _⟩ => ⟨S8448x1024, .f32⟩
  | .hbm, ⟨2, _⟩ => ⟨S8448x11776, .f32⟩
  | .hbm, ⟨3, _⟩ => ⟨S1x128, .f32⟩
  | .hbm, ⟨4, _⟩ => ⟨S8448x1024, .f32⟩
  | .hbm, ⟨5, _⟩ => ⟨S8448x11776, .bf16⟩
  | .hbm, ⟨6, _⟩ => ⟨S8448x1024, .f32⟩
  | .hbm, ⟨7, _⟩ => ⟨S8448x1024, .f32⟩
  | .hbm, ⟨8, _⟩ => ⟨S8448x8x128, .f32⟩
  | .hbm, ⟨9, _⟩ => ⟨S128, .f32⟩
  | .hbm, ⟨10, _⟩ => ⟨S8448x8x128, .f32⟩
  | .hbm, ⟨11, _⟩ => ⟨S_, .f32⟩
  | .hbm, ⟨12, _⟩ => ⟨S8448x8, .f32⟩
  | .hbm, ⟨13, _⟩ => ⟨S8448x8x1, .f32⟩
  | .hbm, ⟨14, _⟩ => ⟨S_, .f32⟩
  | .hbm, ⟨15, _⟩ => ⟨S8448x8x1, .f32⟩
  | .hbm, ⟨16, _⟩ => ⟨S8448x8x1, .f32⟩
  | .hbm, ⟨17, _⟩ => ⟨S_, .f32⟩
  | .hbm, ⟨18, _⟩ => ⟨S8448x8x1, .f32⟩
  | .hbm, ⟨19, _⟩ => ⟨S8448x8x1, .f32⟩
  | .hbm, ⟨20, _⟩ => ⟨S8448x8x1, .f32⟩
  | .hbm, ⟨21, _⟩ => ⟨S8448x8x1, .f32⟩
  | .hbm, ⟨22, _⟩ => ⟨S_, .f32⟩
  | .hbm, ⟨23, _⟩ => ⟨S8448x8x1, .f32⟩
  | .hbm, ⟨24, _⟩ => ⟨S8448x8x1, .f32⟩
  | .hbm, ⟨25, _⟩ => ⟨S8448x8x128, .f32⟩
  | .hbm, ⟨26, _⟩ => ⟨S8448x8x128, .f32⟩
  | .hbm, ⟨27, _⟩ => ⟨S1x1x128, .f32⟩
  | .hbm, ⟨28, _⟩ => ⟨S8448x8x128, .f32⟩
  | .hbm, ⟨29, _⟩ => ⟨S8448x8x128, .f32⟩
  | .hbm, ⟨30, _⟩ => ⟨S8448x8x128, .f32⟩
  | .hbm, ⟨31, _⟩ => ⟨S8448x8x128, .f32⟩
  | .hbm, ⟨32, _⟩ => ⟨S8448x8x128, .f32⟩
  | .hbm, ⟨33, _⟩ => ⟨S_, .f32⟩
  | .hbm, ⟨34, _⟩ => ⟨S8448x8x128, .f32⟩
  | .hbm, ⟨35, _⟩ => ⟨S8448x8x128, .f32⟩
  | .hbm, ⟨36, _⟩ => ⟨S_, .f32⟩
  | .hbm, ⟨37, _⟩ => ⟨S8448x8x128, .f32⟩
  | .hbm, ⟨38, _⟩ => ⟨S8448x8x128, .f32⟩
  | .hbm, ⟨39, _⟩ => ⟨S_, .f32⟩
  | .hbm, ⟨40, _⟩ => ⟨S8448x8x128, .f32⟩
  | .hbm, ⟨41, _⟩ => ⟨S8448x8x128, .f32⟩
  | .hbm, ⟨42, _⟩ => ⟨S8448x8x128, .f32⟩
  | .hbm, ⟨43, _⟩ => ⟨S8448x8x128, .f32⟩
  | .hbm, ⟨44, _⟩ => ⟨S8448x8x128, .f32⟩
  | .hbm, ⟨45, _⟩ => ⟨S8448x1024, .f32⟩
  | .hbm, ⟨46, _⟩ => ⟨S8448x8x128, .f32⟩
  | .hbm, ⟨47, _⟩ => ⟨S8448x8x128, .f32⟩
  | .hbm, ⟨48, _⟩ => ⟨S8448x8x128, .f32⟩
  | .hbm, ⟨49, _⟩ => ⟨S8448x8x128, .f32⟩
  | .hbm, ⟨50, _⟩ => ⟨S8448x8x128, .f32⟩
  | .hbm, ⟨51, _⟩ => ⟨S8448x8x128, .f32⟩
  | .hbm, ⟨52, _⟩ => ⟨S8448x8x128, .f32⟩
  | .hbm, ⟨53, _⟩ => ⟨S8448x1024, .f32⟩
  | .hbm, ⟨54, _⟩ => ⟨S8448x8x128, .f32⟩
  | .hbm, ⟨55, _⟩ => ⟨S_, .f32⟩
  | .hbm, ⟨56, _⟩ => ⟨S128, .f32⟩
  | .hbm, ⟨57, _⟩ => ⟨S1x1x128, .f32⟩
  | .hbm, ⟨58, _⟩ => ⟨S8448x8x128, .f32⟩
  | .hbm, ⟨59, _⟩ => ⟨S8448x8x128, .f32⟩
  | .hbm, ⟨60, _⟩ => ⟨S_, .f32⟩
  | .hbm, ⟨61, _⟩ => ⟨S128, .f32⟩
  | .hbm, ⟨62, _⟩ => ⟨S8448x8x128, .f32⟩
  | .hbm, ⟨63, _⟩ => ⟨S_, .f32⟩
  | .hbm, ⟨64, _⟩ => ⟨S8448x8, .f32⟩
  | .hbm, ⟨65, _⟩ => ⟨S8448x8x1, .f32⟩
  | .hbm, ⟨66, _⟩ => ⟨S8448x8x128, .f32⟩
  | .hbm, ⟨67, _⟩ => ⟨S8448x8x128, .f32⟩
  | .hbm, ⟨68, _⟩ => ⟨S8448x8x1, .f32⟩
  | .hbm, ⟨69, _⟩ => ⟨S_, .f32⟩
  | .hbm, ⟨70, _⟩ => ⟨S8448x8x1, .f32⟩
  | .hbm, ⟨71, _⟩ => ⟨S8448x8x1, .f32⟩
  | .hbm, ⟨72, _⟩ => ⟨S_, .f32⟩
  | .hbm, ⟨73, _⟩ => ⟨S8448x8, .f32⟩
  | .hbm, ⟨74, _⟩ => ⟨S8448x8x128, .f32⟩
  | .hbm, ⟨75, _⟩ => ⟨S8448x8x128, .f32⟩
  | .hbm, ⟨76, _⟩ => ⟨S8448x8x128, .f32⟩
  | .hbm, ⟨77, _⟩ => ⟨S8448x8x128, .f32⟩
  | .hbm, ⟨78, _⟩ => ⟨S8448x8x128, .f32⟩
  | .hbm, ⟨79, _⟩ => ⟨S1x128, .f32⟩
  | .hbm, ⟨80, _⟩ => ⟨S8448x1024, .f32⟩
  | .hbm, ⟨81, _⟩ => ⟨S8448x3072, .bf16⟩
  | .hbm, ⟨82, _⟩ => ⟨S8448x1024, .bf16⟩
  | .hbm, ⟨83, _⟩ => ⟨S8448x7680, .bf16⟩
  | .hbm, ⟨84, _⟩ => ⟨S8448x11776, .bf16⟩
  | _, _ => ⟨S8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v21_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v21_1 : Ref sig .tc := ⟨.hbm, 42, rfl⟩
abbrev main_v21_0 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_3 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_4 : Ref sig .tc := ⟨.hbm, 60, rfl⟩
abbrev main_v34 : Ref sig .tc := ⟨.hbm, 61, rfl⟩
abbrev main_v35 : Ref sig .tc := ⟨.hbm, 62, rfl⟩
abbrev main_cst_5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩

abbrev nD : Nat := 1
abbrev τ : Topo := Topo.v7x

variable {F : FTy → Type} [FloatOps F]
-- ==== Proof.Spec.lean ====
/- The backward step of the gated delta rule on one chunk of 64 rows of one head, as sums over rows and columns:
   what both programs compute. -/
module

public import Idealize.ShloMosaic.Lib.Pointwise

@[expose] public section

noncomputable section

namespace Cert.Scan

open Idealize.ShloMosaic

/-- What the backward step reads of one head at one chunk: the rows of q, k, v and of the output's cotangent, the log
    decays and the write strengths, the state before the chunk, the chunk's inverse, and the order of the rows
    (`le j i`: row `j` is read no later than row `i`). -/
structure Chunk where
  q : Fin 64 → Fin 128 → EReal
  k : Fin 64 → Fin 128 → EReal
  v : Fin 64 → Fin 128 → EReal
  o : Fin 64 → Fin 128 → EReal
  g : Fin 64 → EReal
  b : Fin 64 → EReal
  s : Fin 128 → Fin 128 → EReal
  T : Fin 64 → Fin 64 → EReal
  le : Fin 64 → Fin 64 → Bool

namespace Chunk

variable (X : Chunk)

/-- The log decay from the chunk's first row through row `i`. -/
def cum (i : Fin 64) : EReal := ∑ j, if X.le j i then X.g j else 0

/-- The log decay of the whole chunk. -/
def tot : EReal := ∑ j, X.g j

/-- The decay from row `j` to row `i`, zero where `j` comes after `i`. -/
def decay (i j : Fin 64) : EReal := if X.le j i then Ideal.exp (X.cum i - X.cum j) else 0

/-- The keys the chunk's inverse mixes, in front of the state. -/
def w (i : Fin 64) (c : Fin 128) : EReal := ∑ x, X.T i x * (X.k x c * X.b x * Ideal.exp (X.cum x))

/-- The values the chunk's inverse mixes. -/
def u (i : Fin 64) (c : Fin 128) : EReal := ∑ x, X.T i x * (X.v x c * X.b x)

/-- The corrected values. -/
def vn (i : Fin 64) (c : Fin 128) : EReal := X.u i c - ∑ e, X.w i e * X.s e c

/-- The attention weights within the chunk. -/
def attn (i j : Fin 64) : EReal := (∑ c, X.q i c * X.k j c) * X.decay i j

/-- The keys as they enter the state after the chunk. -/
def kd (i : Fin 64) (c : Fin 128) : EReal := X.k i c * Ideal.exp (X.tot - X.cum i)

/-- The cotangent of the corrected values, `D` the cotangent of the state after the chunk. -/
def dvn (D : Fin 128 → Fin 128 → EReal) (i : Fin 64) (c : Fin 128) : EReal :=
  (∑ e, D e c * X.kd i e) + ∑ x, X.o x c * X.attn x i

/-- The cotangent of v. -/
def dv (D : Fin 128 → Fin 128 → EReal) (i : Fin 64) (c : Fin 128) : EReal :=
  (∑ x, X.dvn D x c * X.T x i) * X.b i

/-- The cotangent of the attention weights before the decay, times the decay. -/
def da (i j : Fin 64) : EReal := (∑ c, X.o i c * X.vn j c) * X.decay i j

/-- The cotangent of q. -/
def dq (i : Fin 64) (e : Fin 128) : EReal :=
  (∑ c, X.o i c * X.s e c) * Ideal.exp (X.cum i) + ∑ j, X.da i j * X.k j e

/-- The cotangent of the state before the chunk. -/
def ds (D : Fin 128 → Fin 128 → EReal) (e c : Fin 128) : EReal :=
  D e c * Ideal.exp X.tot + (∑ x, X.o x c * (X.q x e * Ideal.exp (X.cum x))) + ∑ x, -X.dvn D x c * X.w x e

/-- The chunk with its rows named another way. -/
def comp (σ : Equiv.Perm (Fin 64)) : Chunk where
  q i := X.q (σ i)
  k i := X.k (σ i)
  v i := X.v (σ i)
  o i := X.o (σ i)
  g i := X.g (σ i)
  b i := X.b (σ i)
  s := X.s
  T i j := X.T (σ i) (σ j)
  le j i := X.le (σ j) (σ i)

variable (σ : Equiv.Perm (Fin 64)) (D : Fin 128 → Fin 128 → EReal)

theorem cum_comp (i : Fin 64) : (X.comp σ).cum i = X.cum (σ i) :=
  Equiv.sum_comp σ fun j => if X.le j (σ i) then X.g j else 0

theorem tot_comp : (X.comp σ).tot = X.tot := Equiv.sum_comp σ X.g

theorem decay_comp (i j : Fin 64) : (X.comp σ).decay i j = X.decay (σ i) (σ j) := by
  simp only [decay, cum_comp]; rfl

theorem w_comp (i : Fin 64) (c : Fin 128) : (X.comp σ).w i c = X.w (σ i) c := by
  simp only [w, cum_comp]
  exact Equiv.sum_comp σ fun x => X.T (σ i) x * (X.k x c * X.b x * Ideal.exp (X.cum x))

theorem u_comp (i : Fin 64) (c : Fin 128) : (X.comp σ).u i c = X.u (σ i) c :=
  Equiv.sum_comp σ fun x => X.T (σ i) x * (X.v x c * X.b x)

theorem vn_comp (i : Fin 64) (c : Fin 128) : (X.comp σ).vn i c = X.vn (σ i) c := by
  simp only [vn, u_comp, w_comp]; rfl

theorem attn_comp (i j : Fin 64) : (X.comp σ).attn i j = X.attn (σ i) (σ j) := by
  simp only [attn, decay_comp]; rfl

theorem kd_comp (i : Fin 64) (c : Fin 128) : (X.comp σ).kd i c = X.kd (σ i) c := by
  simp only [kd, tot_comp, cum_comp]; rfl

theorem dvn_comp (i : Fin 64) (c : Fin 128) : (X.comp σ).dvn D i c = X.dvn D (σ i) c := by
  simp only [dvn, kd_comp, attn_comp]
  exact congrArg _ (Equiv.sum_comp σ fun x => X.o x c * X.attn x (σ i))

/-- The cotangent of v of the renamed rows is the renamed cotangent. -/
theorem dv_comp (i : Fin 64) (c : Fin 128) : (X.comp σ).dv D i c = X.dv D (σ i) c := by
  simp only [dv, dvn_comp]
  exact congrArg (· * X.b (σ i)) (Equiv.sum_comp σ fun x => X.dvn D x c * X.T x (σ i))

theorem da_comp (i j : Fin 64) : (X.comp σ).da i j = X.da (σ i) (σ j) := by
  simp only [da, vn_comp, decay_comp]; rfl

/-- The cotangent of q of the renamed rows is the renamed cotangent. -/
theorem dq_comp (i : Fin 64) (e : Fin 128) : (X.comp σ).dq i e = X.dq (σ i) e := by
  simp only [dq, da_comp, cum_comp]
  exact congrArg _ (Equiv.sum_comp σ fun x => X.da (σ i) x * X.k x e)

/-- The cotangent of the state doesn't depend on the rows' names. -/
theorem ds_comp (e c : Fin 128) : (X.comp σ).ds D e c = X.ds D e c := by
  simp only [ds, dvn_comp, w_comp, tot_comp, cum_comp]
  exact congrArg₂ (· + ·)
    (congrArg _ (Equiv.sum_comp σ fun x => X.o x c * (X.q x e * Ideal.exp (X.cum x))))
    (Equiv.sum_comp σ fun x => -X.dvn D x c * X.w x e)

/-- With log decays at most zero, and an order of the rows in which what precedes `j` precedes every later `i`, the decay
    is the clamped exponential times the mask. -/
theorem decay_clamp (hg : ∀ i, X.g i ≤ 0) (htr : ∀ i j l, X.le l j = true → X.le j i = true → X.le l i = true)
    (i j : Fin 64) :
    Ideal.exp (min (X.cum i - X.cum j) 0) * (if X.le j i then 1 else 0) = X.decay i j := by
  unfold decay
  by_cases h : X.le j i = true
  · rw [if_pos h, if_pos h, mul_one, min_eq_left]
    have hc : X.cum i ≤ X.cum j := by
      refine Finset.sum_le_sum fun l _ => ?_
      by_cases h1 : X.le l j = true
      · rw [if_pos h1, if_pos (htr i j l h1 h)]
      · rw [if_neg h1]
        split
        · exact hg l
        · exact le_refl _
    exact EReal.sub_nonpos.mpr hc
  · rw [if_neg h, if_neg h, mul_zero]

end Chunk

end Cert.Scan
-- ==== Proof.Whole.lean ====
/- The backward step over the whole sequence: the chunks of each direction in the order they are read, the cotangent of the
   state carried back over them, and the two results at every row and column. -/
module

public import proofs.«01_k».proof.Proof.Spec

@[expose] public section

noncomputable section

namespace Cert.Scan

open Idealize.ShloMosaic

/-- The order of a chunk's rows in a direction: forward, or backward. -/
def leD (d : Fin 2) (j i : Fin 64) : Bool := if d = 0 then decide (j ≤ i) else decide (i ≤ j)

/-- The lane of head `h`'s log decay in direction `d`. -/
def gLane (d : Fin 2) (h : Fin 8) : Fin 128 := ⟨8 * d.val + h.val, by omega⟩

/-- The lane of head `h`'s write strength in direction `d`. -/
def bLane (d : Fin 2) (h : Fin 8) : Fin 128 := ⟨16 + 8 * d.val + h.val, by omega⟩

/-- The number of the chunk direction `d` reads in place `p`: forward, in turn; backward, the first four chunks are reversed
    and so are the others. -/
def placeN (d p : ℕ) : ℕ := if d = 0 then p else if p < 4 then 3 - p else 135 - p

theorem placeN_lt (d : ℕ) {p : ℕ} (h : p < 132) : placeN d p < 132 := by
  unfold placeN
  split_ifs <;> omega

theorem placeN_placeN (d : ℕ) {p : ℕ} (h : p < 132) : placeN d (placeN d p) = p := by
  unfold placeN
  by_cases h0 : d = 0
  · simp only [if_pos h0]
  · simp only [if_neg h0]
    split_ifs <;> omega

/-- The chunk of rows direction `d` reads in place `p`; and the place at which it reads chunk `p` (the rule is its own
    inverse). -/
def place (d : Fin 2) (p : Fin 132) : Fin 132 := ⟨placeN d.val p.val, placeN_lt d.val p.isLt⟩

theorem place_place (d : Fin 2) (p : Fin 132) : place d (place d p) = p := Fin.ext (placeN_placeN d.val p.isLt)

/-- Row `i` of the chunk direction `d` reads in place `p`. -/
def row (d : Fin 2) (p : Fin 132) (i : Fin 64) : Fin 8448 :=
  ⟨64 * (place d p).val + i.val, by have := (place d p).isLt; omega⟩

/-- Column `c` of head `h`. -/
def col (h : Fin 8) (c : Fin 128) : Fin 1024 := ⟨128 * h.val + c.val, by omega⟩

/-- The arrays the backward step reads. -/
structure Args where
  q : Fin 8448 → Fin 1024 → EReal
  k : Fin 8448 → Fin 1024 → EReal
  v : Fin 8448 → Fin 1024 → EReal
  sp : Fin 8448 → Fin 128 → EReal
  s : Fin 2 → Fin 132 → Fin 8 → Fin 128 → Fin 128 → EReal
  o : Fin 8448 → Fin 1024 → EReal
  T : Fin 2 → Fin 132 → Fin 8 → Fin 64 → Fin 64 → EReal

namespace Args

variable (A : Args)

/-- The log decays are at most zero. -/
def Decays : Prop := ∀ (r : Fin 8448) (d : Fin 2) (h : Fin 8), A.sp r (gLane d h) ≤ 0

/-- The chunk direction `d` reads in place `p`, of head `h`. -/
def chunk (d : Fin 2) (p : Fin 132) (h : Fin 8) : Chunk where
  q i c := A.q (row d p i) (col h c)
  k i c := A.k (row d p i) (col h c)
  v i c := A.v (row d p i) (col h c)
  o i c := A.o (row d p i) (col h c)
  g i := A.sp (row d p i) (gLane d h)
  b i := A.sp (row d p i) (bLane d h)
  s := A.s d p h
  T := A.T d p h
  le := leD d

/-- The place the scan is at after `n` steps back. -/
def back (n : ℕ) : Fin 132 := ⟨131 - n, by omega⟩

/-- The cotangent of the state after `n` steps back from the end. -/
def dstate (d : Fin 2) (h : Fin 8) : ℕ → Fin 128 → Fin 128 → EReal
  | 0 => fun _ _ => 0
  | n + 1 => (A.chunk d (back n) h).ds (dstate d h n)

/-- The cotangent of q at row `i` of the chunk in place `p`. -/
def dq (d : Fin 2) (p : Fin 132) (h : Fin 8) (i : Fin 64) (c : Fin 128) : EReal := (A.chunk d p h).dq i c

/-- The cotangent of v at row `i` of the chunk in place `p`. -/
def dv (d : Fin 2) (p : Fin 132) (h : Fin 8) (i : Fin 64) (c : Fin 128) : EReal :=
  (A.chunk d p h).dv (A.dstate d h (131 - p.val)) i c

end Args

/-- The chunk a row is in. -/
def chunkOf (r : Fin 8448) : Fin 132 := ⟨r.val / 64, by omega⟩

/-- Its row within the chunk. -/
def inChunk (r : Fin 8448) : Fin 64 := ⟨r.val % 64, by omega⟩

/-- The head a column is of. -/
def headOf (x : Fin 1024) : Fin 8 := ⟨x.val / 128, by omega⟩

/-- Its column within the head. -/
def inHead (x : Fin 1024) : Fin 128 := ⟨x.val % 128, by omega⟩

theorem row_val (d : Fin 2) (p : Fin 132) (i : Fin 64) : (row d p i).val = 64 * (place d p).val + i.val := by rw [row]

theorem col_val (h : Fin 8) (c : Fin 128) : (col h c).val = 128 * h.val + c.val := by rw [col]

theorem chunkOf_val (r : Fin 8448) : (chunkOf r).val = r.val / 64 := by rw [chunkOf]

theorem inChunk_val (r : Fin 8448) : (inChunk r).val = r.val % 64 := by rw [inChunk]

theorem headOf_val (x : Fin 1024) : (headOf x).val = x.val / 128 := by rw [headOf]

theorem inHead_val (x : Fin 1024) : (inHead x).val = x.val % 128 := by rw [inHead]

/-- Values of a direction, a place, a head, a row and a column, at the rows and columns of the whole array. -/
def spread (f : Fin 2 → Fin 132 → Fin 8 → Fin 64 → Fin 128 → EReal) (d : Fin 2) (r : Fin 8448) (x : Fin 1024) : EReal :=
  f d (place d (chunkOf r)) (headOf x) (inChunk r) (inHead x)

/-- At a row of a chunk and a column of a head, the value is that chunk's and that head's. -/
theorem spread_apply (f : Fin 2 → Fin 132 → Fin 8 → Fin 64 → Fin 128 → EReal) (d : Fin 2) (p : Fin 132) (h : Fin 8)
    (i : Fin 64) (c : Fin 128) : spread f d (row d p i) (col h c) = f d p h i c := by
  have hi := i.isLt
  have hc := c.isLt
  have e1 : (64 * (place d p).val + i.val) / 64 = (place d p).val := by omega
  have e2 : (64 * (place d p).val + i.val) % 64 = i.val := by omega
  have e3 : (128 * h.val + c.val) / 128 = h.val := by omega
  have e4 : (128 * h.val + c.val) % 128 = c.val := by omega
  have h1 : chunkOf (row d p i) = place d p := by
    apply Fin.ext; rw [chunkOf_val, row_val]; exact e1
  have h2 : inChunk (row d p i) = i := by
    apply Fin.ext; rw [inChunk_val, row_val]; exact e2
  have h3 : headOf (col h c) = h := by
    apply Fin.ext; rw [headOf_val, col_val]; exact e3
  have h4 : inHead (col h c) = c := by
    apply Fin.ext; rw [inHead_val, col_val]; exact e4
  rw [spread, h1, h2, h3, h4, place_place]

end Cert.Scan
-- ==== Proof.KernelUnit.lean ====
/- One head of the kernel's body at one grid point, as vector operations of that head's blocks, each
   read at an index. -/
module

public import proofs.«01_k».proof.Proof.Gen.KernelIdeal.Skeleton
public import proofs.«01_k».proof.Proof.Spec
public import Idealize.ShloMosaic.Lib.Pointwise

@[expose] public section

set_option maxRecDepth 16384

noncomputable section

namespace Cert.KernelIdeal.Unit

open Cert.KernelIdeal Cert.KernelIdeal.Gen Idealize.ShloMosaic Idealize.ShloMosaic.TcCoe

/-- An array of extended reals. -/
abbrev VF (s : Shape) := FVec Ideal s .f32

/-- The decay between two rows of the chunk, masked to the rows already read. -/
def decayV (inc : VF S64x64) (gc : VF S64x1) : VF S64x64 :=
  mulf (exp (minimumf (subf (broadcastTo S64x64 (shapeCast S64x1 gc shapeCasts_S64x1_S64x1) broadcasts_S64x1_S64x64)
    (transpose S64x64 [1, 0] (broadcastTo S64x64 (shapeCast S64x1 gc shapeCasts_S64x1_S64x1) broadcasts_S64x1_S64x64)
      transposes_S64x64_p1_0_S64x64))
    (broadcast S64x64 (Scalar.ofBits .f32 0x00000000#32)))) inc

/-- The keys times the write strengths. -/
def kbV (k : VF S64x128) (be : VF S64x1) : VF S64x128 := mulf k (broadcastTo S64x128 be broadcasts_S64x1_S64x128)

/-- The attention weights within the chunk. -/
def attnV (q k : VF S64x128) (be : VF S64x1) (dc : VF S64x64) : FVec Ideal S64x64 .bf16 :=
  truncf .bf16 (mulf (extractStridedSlice S64x64 ![64, 0]
    (matmul dot_S128x128_S64x128_S128x64_1_1_0_0_n_n none
      (truncf .bf16 (concatenate S128x128 0 [⟨S64x128, kbV k be⟩, ⟨S64x128, q⟩] concatenates_S64x128_S64x128_S128x128_d0) bitsLt_bf16_f32)
      (truncf .bf16 k bitsLt_bf16_f32) (constant S128x64 .f32 0x00000000#32))
    slices_S128x64_o64_0_S64x64) dc) bitsLt_bf16_f32

/-- The chunk's inverse times the keys and times the values. -/
def wuV (T : VF S64x64) (k v : VF S64x128) (gc be : VF S64x1) : VF S64x256 :=
  matmul dot_S64x64_S64x256_S64x256_1_0_0_1_n_n none (truncf .bf16 T bitsLt_bf16_f32)
    (truncf .bf16 (concatenate S64x256 1
      [⟨S64x128, mulf (kbV k be) (broadcastTo S64x128 (exp gc) broadcasts_S64x1_S64x128)⟩,
       ⟨S64x128, mulf v (broadcastTo S64x128 be broadcasts_S64x1_S64x128)⟩] concatenates_S64x128_S64x128_S64x256_d1) bitsLt_bf16_f32)
    (constant S64x256 .f32 0x00000000#32)

/-- The mixed keys above the decayed queries. -/
def wqV (wu : VF S64x256) (q : VF S64x128) (gc : VF S64x1) : FVec Ideal S128x128 .bf16 :=
  truncf .bf16 (concatenate S128x128 0 [⟨S64x128, extractStridedSlice S64x128 ![0, 0] wu slices_S64x256_o0_0_S64x128⟩,
    ⟨S64x128, mulf q (broadcastTo S64x128 (exp gc) broadcasts_S64x1_S64x128)⟩] concatenates_S64x128_S64x128_S128x128_d0) bitsLt_bf16_f32

/-- The corrected values. -/
def vnV (wu : VF S64x256) (wq : FVec Ideal S128x128 .bf16) (s : VF S128x128) : VF S64x128 :=
  subf (extractStridedSlice S64x128 ![0, 128] wu slices_S64x256_o0_128_S64x128)
    (extractStridedSlice S64x128 ![0, 0] (matmul dot_S128x128_S128x128_S128x128_1_0_0_1_n_n none wq
      (truncf .bf16 s bitsLt_bf16_f32) (constant S128x128 .f32 0x00000000#32)) slices_S128x128_o0_0_S64x128)

/-- The cotangent of the corrected values. -/
def dvnV (D : VF S128x128) (k o : VF S64x128) (gl : VF S1x1) (gc : VF S64x1) (attn : FVec Ideal S64x64 .bf16) : VF S64x128 :=
  addf
    (extf .f32 (truncf .bf16 (transpose S64x128 [1, 0]
      (matmul dot_S128x128_S64x128_S128x64_0_1_1_0_n_n none (shapeCast S128x128 D shapeCasts_S128x128_S128x128)
        (truncf .bf16 (mulf k (broadcastTo S64x128 (exp (subf (broadcastTo S64x1 gl broadcasts_S1x1_S64x1) gc))
          broadcasts_S64x1_S64x128)) bitsLt_bf16_f32)
        (constant S128x64 .f32 0x00000000#32))
      transposes_S128x64_p1_0_S64x128) bitsLt_bf16_f32) bitsLt_bf16_f32)
    (extf .f32 (truncf .bf16 (transpose S64x128 [1, 0]
      (matmul dot_S64x128_S64x64_S128x64_0_0_1_1_n_n none o attn (constant S128x64 .f32 0x00000000#32))
      transposes_S128x64_p1_0_S64x128) bitsLt_bf16_f32) bitsLt_bf16_f32)

/-- The zero block. -/
def zV : VF S64x128 := broadcast S64x128 (Scalar.ofBits .f32 0x00000000#32)

/-- The cotangent of the corrected values, negated, above the output's. -/
def catV (o dvn : VF S64x128) : VF S128x128 :=
  addf (concatenate S128x128 0 [⟨S64x128, zV⟩, ⟨S64x128, o⟩] concatenates_S64x128_S64x128_S128x128_d0)
    (concatenate S128x128 0 [⟨S64x128, subf zV dvn⟩, ⟨S64x128, zV⟩] concatenates_S64x128_S64x128_S128x128_d0)

/-- The cotangent of the state before the chunk. -/
def dsV (D : VF S128x128) (gl : VF S1x1) (cat : VF S128x128) (wq : FVec Ideal S128x128 .bf16) : VF S128x128 :=
  addf (mulf (shapeCast S128x128 D shapeCasts_S128x128_S128x128) (broadcastTo S128x128 (exp gl) broadcasts_S1x1_S128x128))
    (extf .f32 (truncf .bf16 (transpose S128x128 [1, 0]
      (matmul dot_S128x128_S128x128_S128x128_0_0_1_1_n_n none cat wq (constant S128x128 .f32 0x00000000#32))
      transposes_S128x128_p1_0_S128x128) bitsLt_bf16_f32) bitsLt_bf16_f32)

/-- The two cotangents times the state. -/
def csV (cat s : VF S128x128) : VF S128x128 :=
  extf .f32 (truncf .bf16 (matmul dot_S128x128_S128x128_S128x128_1_1_0_0_n_n none cat (truncf .bf16 s bitsLt_bf16_f32)
    (constant S128x128 .f32 0x00000000#32)) bitsLt_bf16_f32) bitsLt_bf16_f32

/-- The cotangent of q; `x` is the block of products the keys' cotangent takes, of which q's takes nothing. -/
def dqV (cs : VF S128x128) (gc : VF S64x1) (o vn k : VF S64x128) (dc x : VF S64x64) : VF S64x128 :=
  addf (mulf (extractStridedSlice S64x128 ![64, 0] cs slices_S128x128_o64_0_S64x128) (broadcastTo S64x128 (exp gc) broadcasts_S64x1_S64x128))
    (extractStridedSlice S64x128 ![64, 0] (extf .f32 (truncf .bf16
      (matmul dot_S128x64_S64x128_S128x128_1_0_0_1_n_n none
        (addf (concatenate S128x64 0 [⟨S64x64, broadcast S64x64 (Scalar.ofBits .f32 0x00000000#32)⟩,
            ⟨S64x64, mulf (extf .f32 (truncf .bf16 (matmul dot_S64x128_S64x128_S64x64_1_1_0_0_n_n none o
              (truncf .bf16 vn bitsLt_bf16_f32) (constant S64x64 .f32 0x00000000#32)) bitsLt_bf16_f32) bitsLt_bf16_f32) dc⟩]
            concatenates_S64x64_S64x64_S128x64_d0)
          (concatenate S128x64 0 [⟨S64x64, x⟩, ⟨S64x64, broadcast S64x64 (Scalar.ofBits .f32 0x00000000#32)⟩]
            concatenates_S64x64_S64x64_S128x64_d0))
        (truncf .bf16 k bitsLt_bf16_f32) (constant S128x128 .f32 0x00000000#32)) bitsLt_bf16_f32) bitsLt_bf16_f32)
      slices_S128x128_o64_0_S64x128)

/-- The cotangent of v. -/
def dvV (dvn : VF S64x128) (cs : VF S128x128) (T : VF S64x64) (be : VF S64x1) : VF S64x128 :=
  mulf (extractStridedSlice S64x128 ![0, 128] (extf .f32 (truncf .bf16 (transpose S64x256 [1, 0]
      (matmul dot_S64x256_S64x64_S256x64_0_0_1_1_n_n none
        (addf (concatenate S64x256 1 [⟨S64x128, zV⟩, ⟨S64x128, dvn⟩] concatenates_S64x128_S64x128_S64x256_d1)
          (concatenate S64x256 1 [⟨S64x128, extractStridedSlice S64x128 ![0, 0] cs slices_S128x128_o0_0_S64x128⟩,
            ⟨S64x128, zV⟩] concatenates_S64x128_S64x128_S64x256_d1))
        (truncf .bf16 T bitsLt_bf16_f32) (constant S256x64 .f32 0x00000000#32))
      transposes_S256x64_p1_0_S64x256) bitsLt_bf16_f32) bitsLt_bf16_f32) slices_S64x256_o0_128_S64x128)
    (broadcastTo S64x128 be broadcasts_S64x1_S64x128)

theorem decayV_apply (inc : VF S64x64) (gc : VF S64x1) (i j : Fin 64) :
    decayV inc gc (ix2 i j) = Ideal.exp (min (gc (ix2 i 0) - gc (ix2 j 0)) 0) * inc (ix2 i j) := by
  pointwise [decayV]

/-- The vectors of one head hold what the chunk `X` holds: its rows, its summed log decays, its write strengths. -/
structure Holds (X : Scan.Chunk) (q k v o : VF S64x128) (gc be : VF S64x1) (gl : VF S1x1) (s : VF S128x128)
    (T dc : VF S64x64) : Prop where
  q : ∀ i c, q (ix2 i c) = X.q i c
  k : ∀ i c, k (ix2 i c) = X.k i c
  v : ∀ i c, v (ix2 i c) = X.v i c
  o : ∀ i c, o (ix2 i c) = X.o i c
  gc : ∀ i, gc (ix2 i 0) = X.cum i
  be : ∀ i, be (ix2 i 0) = X.b i
  gl : gl (ix2 0 0) = X.tot
  s : ∀ e c, s (ix2 e c) = X.s e c
  T : ∀ i j, T (ix2 i j) = X.T i j
  dc : ∀ i j, dc (ix2 i j) = X.decay i j

section

variable {X : Scan.Chunk} {q k v o : VF S64x128} {gc be : VF S64x1} {gl : VF S1x1} {s : VF S128x128}
  {T dc : VF S64x64} (H : Holds X q k v o gc be gl s T dc)

include H

theorem attnV_eq (i j : Fin 64) : attnV q k be dc (ix2 i j) = X.attn i j := by
  have h : attnV q k be dc (ix2 i j) = (∑ x, q (ix2 i x) * k (ix2 j x)) * dc (ix2 i j) := by
    pointwise [attnV, kbV]
  simp only [h, H.q, H.k, H.dc, Scan.Chunk.attn]

theorem wuV_lo (i : Fin 64) (c : Fin 128) (h : c.val < 256) : wuV T k v gc be (ix2 i ⟨c.val, h⟩) = X.w i c := by
  have h : wuV T k v gc be (ix2 i ⟨c.val, h⟩) = ∑ x, T (ix2 i x) * (k (ix2 x c) * be (ix2 x 0) * Ideal.exp (gc (ix2 x 0))) := by
    pointwise [wuV, kbV]
  simp only [h, H.T, H.k, H.be, H.gc, Scan.Chunk.w]

theorem wuV_hi (i : Fin 64) (c : Fin 128) (h : 128 + c.val < 256) : wuV T k v gc be (ix2 i ⟨128 + c.val, h⟩) = X.u i c := by
  have h : wuV T k v gc be (ix2 i ⟨128 + c.val, h⟩) = ∑ x, T (ix2 i x) * (v (ix2 x c) * be (ix2 x 0)) := by
    pointwise [wuV, kbV]
  simp only [h, H.T, H.v, H.be, Scan.Chunk.u]

theorem wqV_lo (i : Fin 64) (c : Fin 128) (h : i.val < 128) :
    wqV (wuV T k v gc be) q gc (ix2 ⟨i.val, h⟩ c) = X.w i c := by
  have h : wqV (wuV T k v gc be) q gc (ix2 ⟨i.val, h⟩ c) = wuV T k v gc be (ix2 i ⟨c.val, by omega⟩) := by
    pointwise [wqV]
  rw [h, wuV_lo H]

theorem wqV_hi (i : Fin 64) (c : Fin 128) (h : 64 + i.val < 128) :
    wqV (wuV T k v gc be) q gc (ix2 ⟨64 + i.val, h⟩ c) = X.q i c * Ideal.exp (X.cum i) := by
  have h : wqV (wuV T k v gc be) q gc (ix2 ⟨64 + i.val, h⟩ c) = q (ix2 i c) * Ideal.exp (gc (ix2 i 0)) := by
    pointwise [wqV]
  rw [h, H.q, H.gc]

theorem vnV_eq (i : Fin 64) (c : Fin 128) :
    vnV (wuV T k v gc be) (wqV (wuV T k v gc be) q gc) s (ix2 i c) = X.vn i c := by
  have h : ∀ (wu : VF S64x256) (wq : FVec Ideal S128x128 .bf16), vnV wu wq s (ix2 i c) =
      wu (ix2 i ⟨128 + c.val, by omega⟩) - ∑ x, wq (ix2 ⟨i.val, by omega⟩ x) * s (ix2 x c) := by
    intro wu wq; pointwise [vnV]
  simp only [h, wuV_hi H, wqV_lo H, H.s, Scan.Chunk.vn]

variable {D : VF S128x128} {E : Fin 128 → Fin 128 → EReal} (hD : ∀ e c, D (ix2 e c) = E e c)

include hD

theorem dvnV_eq (i : Fin 64) (c : Fin 128) :
    dvnV D k o gl gc (attnV q k be dc) (ix2 i c) = X.dvn E i c := by
  have h : ∀ attn : FVec Ideal S64x64 .bf16, dvnV D k o gl gc attn (ix2 i c) =
      ∑ x, D (ix2 x c) * (k (ix2 i x) * Ideal.exp (gl (ix2 0 0) - gc (ix2 i 0))) + ∑ x, o (ix2 x c) * attn (ix2 x i) := by
    intro attn; pointwise [dvnV]
  simp only [h, hD, H.k, H.gl, H.gc, H.o, attnV_eq H, Scan.Chunk.dvn, Scan.Chunk.kd]

/-- The head's next cotangent of the state. -/
theorem dsV_eq (e c : Fin 128) :
    dsV D gl (catV o (dvnV D k o gl gc (attnV q k be dc))) (wqV (wuV T k v gc be) q gc) (ix2 e c) = X.ds E e c := by
  have h : ∀ (dvn : VF S64x128) (wq : FVec Ideal S128x128 .bf16), dsV D gl (catV o dvn) wq (ix2 e c) =
      D (ix2 e c) * Ideal.exp (gl (ix2 0 0)) +
      (∑ x : Fin 64, (0 - dvn (ix2 x c)) * wq (ix2 ⟨x.val, by omega⟩ e) + ∑ x : Fin 64, o (ix2 x c) * wq (ix2 ⟨64 + x.val, by omega⟩ e)) := by
    intro dvn wq; pointwise [dsV, catV, zV]
  simp only [h, hD, H.gl, H.o, dvnV_eq H hD, wqV_lo H, wqV_hi H, zero_sub, Scan.Chunk.ds]
  rw [add_comm (∑ x, -X.dvn E x c * X.w x e), add_assoc]

/-- The head's cotangent of v. -/
theorem dvV_eq (cs : VF S128x128) (i : Fin 64) (c : Fin 128) :
    dvV (dvnV D k o gl gc (attnV q k be dc)) cs T be (ix2 i c) = X.dv E i c := by
  have h : ∀ dvn : VF S64x128, dvV dvn cs T be (ix2 i c) = (∑ x, dvn (ix2 x c) * T (ix2 x i)) * be (ix2 i 0) := by
    intro dvn; pointwise [dvV, zV]
  simp only [h, dvnV_eq H hD, H.T, H.be, Scan.Chunk.dv]

omit hD

/-- The head's cotangent of q. -/
theorem dqV_eq (dvn : VF S64x128) (x : VF S64x64) (i : Fin 64) (c : Fin 128) :
    dqV (csV (catV o dvn) s) gc o (vnV (wuV T k v gc be) (wqV (wuV T k v gc be) q gc) s) k dc x (ix2 i c) = X.dq i c := by
  have h : ∀ (cs : VF S128x128) (vn : VF S64x128), dqV cs gc o vn k dc x (ix2 i c) =
      cs (ix2 ⟨64 + i.val, by omega⟩ c) * Ideal.exp (gc (ix2 i 0)) +
      ∑ x, (∑ x_1, o (ix2 i x_1) * vn (ix2 x x_1)) * dc (ix2 i x) * k (ix2 x c) := by
    intro cs vn; pointwise [dqV]
  have h2 : csV (catV o dvn) s (ix2 ⟨64 + i.val, by omega⟩ c) = ∑ x, o (ix2 i x) * s (ix2 c x) := by
    pointwise [csV, catV, zV]
  simp only [h, h2, vnV_eq H, H.o, H.s, H.k, H.gc, H.dc, Scan.Chunk.dq, Scan.Chunk.da]

end

end Cert.KernelIdeal.Unit
-- ==== Proof.KernelLeaf.lean ====
/- What one head of the kernel's body reads of the blocks at one grid point: its columns, its lanes of the gates, the mask
   of the rows already read. -/
module

public import proofs.«01_k».proof.Proof.Whole
public import proofs.«01_k».proof.Proof.KernelUnit

@[expose] public section

set_option maxRecDepth 16384

noncomputable section

namespace Cert.KernelIdeal.Unit

open Cert.Scan
open Cert.KernelIdeal Cert.KernelIdeal.Gen Idealize.ShloMosaic Idealize.ShloMosaic.TcCoe

/-- The column whose rows are the entries of `x` at the lane `w` names. -/
def laneV (w : BitVec 32) (x : VF S64x128) : VF S64x1 :=
  shapeCast S64x1 (multiReduction (F := Ideal) .add [1] S64 (select (cmpi .eq (iota .tc S64x128 32 [1] iota_S64x128_d1_w32) (broadcast S64x128 w))
    x (broadcast S64x128 (Scalar.ofBits .f32 0x00000000#32))) 0x00000000#32 reduces_S64x128_S64 (.inl rfl) rfl) shapeCasts_S64_S64x1

/-- The entry of the row `x` at the lane `w` names. -/
def lane1V (w : BitVec 32) (x : VF S1x128) : VF S1x1 :=
  shapeCast S1x1 (multiReduction (F := Ideal) .add [1] S1 (select (cmpi .eq (iota .tc S1x128 32 [1] iota_S1x128_d1_w32) (broadcast S1x128 w))
    x (broadcast S1x128 (Scalar.ofBits .f32 0x00000000#32))) 0x00000000#32 reduces_S1x128_S1 (.inl rfl) rfl) shapeCasts_S1_S1x1

/-- The mask: one where row `j` is read no later than row `i` in direction `a`. -/
def incV (a : BitVec 32) : VF S64x64 :=
  sitofp .f32 (extui 32 (cmpi .sge (muli (broadcast S64x64 (Scalar.select (Scalar.cmpi .eq a 0#32) 1#32 4294967295#32))
    (subi (iota .tc S64x64 32 [0] iota_S64x64_d0_w32) (iota .tc S64x64 32 [1] iota_S64x64_d1_w32)))
    (broadcast S64x64 0#32)) natLt_1_32)

theorem lane_word : ∀ x l : Fin 128, IntOp.cmpi .eq (BitVec.ofNat 32 x.val) (BitVec.ofNat 32 l.val) = if x = l then 1#1 else 0#1 := by
  decide +kernel

theorem select_lane (x l : Fin 128) (y : EReal) :
    Scalar.select (IntOp.cmpi .eq (BitVec.ofNat 32 x.val) (BitVec.ofNat 32 l.val)) y 0 = if x = l then y else 0 := by
  rw [lane_word]
  by_cases h : x = l
  · rw [if_pos h, if_pos h]; rfl
  · rw [if_neg h, if_neg h]; rfl

/-- The lane column at a lane. -/
theorem laneV_apply (l : Fin 128) (x : VF S64x128) (i : Fin 64) : laneV (BitVec.ofNat 32 l.val) x (ix2 i 0) = x (ix2 i l) := by
  have h : laneV (BitVec.ofNat 32 l.val) x (ix2 i 0) =
      ∑ y : Fin 128, Scalar.select (IntOp.cmpi .eq (BitVec.ofNat 32 y.val) (BitVec.ofNat 32 l.val)) (x (ix2 i y)) 0 := by
    pointwise [laneV]
  simp only [h, select_lane, Finset.sum_ite_eq', Finset.mem_univ, if_true]

/-- The lane entry at a lane. -/
theorem lane1V_apply (l : Fin 128) (x : VF S1x128) : lane1V (BitVec.ofNat 32 l.val) x (ix2 0 0) = x (ix2 0 l) := by
  have h : lane1V (BitVec.ofNat 32 l.val) x (ix2 0 0) =
      ∑ y : Fin 128, Scalar.select (IntOp.cmpi .eq (BitVec.ofNat 32 y.val) (BitVec.ofNat 32 l.val)) (x (ix2 0 y)) 0 := by
    pointwise [lane1V]
  simp only [h, select_lane, Finset.sum_ite_eq', Finset.mem_univ, if_true]

theorem mask_zero : ∀ i j : Fin 64, IntOp.cmpi CmpIPredicate.sge (IntOp.muli (1#32) (IntOp.subi (BitVec.ofNat 32 i.val) (BitVec.ofNat 32 j.val))) 0#32
    = if j ≤ i then 1#1 else 0#1 := by
  decide +kernel

theorem mask_one : ∀ i j : Fin 64, IntOp.cmpi CmpIPredicate.sge (IntOp.muli (Scalar.select (Scalar.cmpi .eq 1#32 0#32) 1#32 4294967295#32)
    (IntOp.subi (BitVec.ofNat 32 i.val) (BitVec.ofNat 32 j.val))) 0#32
    = if i ≤ j then 1#1 else 0#1 := by
  decide +kernel

theorem word_one : FloatOps.sitofp (F := Ideal) .f32 (BitVec.setWidth 32 1#1) = (1 : EReal) := by
  show ((((BitVec.setWidth 32 1#1).toInt : ℤ) : ℝ) : EReal) = 1
  have : (BitVec.setWidth 32 1#1).toInt = 1 := by decide
  rw [this]; norm_num

theorem word_zero : FloatOps.sitofp (F := Ideal) .f32 (BitVec.setWidth 32 0#1) = (0 : EReal) := by
  show ((((BitVec.setWidth 32 0#1).toInt : ℤ) : ℝ) : EReal) = 0
  have : (BitVec.setWidth 32 0#1).toInt = 0 := by decide
  rw [this]; norm_num

/-- The mask of the rows already read in direction `d`. -/
theorem incV_apply (d : Fin 2) (i j : Fin 64) : incV (BitVec.ofNat 32 d.val) (ix2 i j) = if leD d j i then 1 else 0 := by
  fin_cases d
  · have h : incV (BitVec.ofNat 32 0) (ix2 i j) = FloatOps.sitofp (F := Ideal) .f32 (BitVec.setWidth 32
        (IntOp.cmpi CmpIPredicate.sge (IntOp.muli (1#32) (IntOp.subi (BitVec.ofNat 32 i.val) (BitVec.ofNat 32 j.val))) 0#32)) := by
      pointwise [incV]
    refine h.trans ?_
    rw [mask_zero]
    by_cases hl : j ≤ i
    · rw [if_pos hl, word_one]; simp [leD, hl]
    · rw [if_neg hl, word_zero]; simp [leD, hl]
  · have h : incV (BitVec.ofNat 32 1) (ix2 i j) = FloatOps.sitofp (F := Ideal) .f32 (BitVec.setWidth 32
        (IntOp.cmpi CmpIPredicate.sge (IntOp.muli (Scalar.select (Scalar.cmpi .eq 1#32 0#32) 1#32 4294967295#32)
          (IntOp.subi (BitVec.ofNat 32 i.val) (BitVec.ofNat 32 j.val))) 0#32)) := by
      pointwise [incV]
    refine h.trans ?_
    rw [mask_one]
    by_cases hl : i ≤ j
    · rw [if_pos hl, word_one]; simp [leD, hl]
    · rw [if_neg hl, word_zero]; simp [leD, hl]

theorem leD_trans (d : Fin 2) (i j l : Fin 64) (h1 : leD d l j = true) (h2 : leD d j i = true) : leD d l i = true := by
  unfold leD at *
  split at h1 <;> simp_all only [decide_eq_true_eq, if_true, if_false]
  · exact le_trans h1 h2
  · exact le_trans h2 h1

/-- The log decays summed through each row, by lane. -/
def cumV (a : BitVec 32) (sp : VF S64x128) : VF S64x128 :=
  matmul dot_S64x64_S64x128_S64x128_1_0_0_1_n_n (some .fp32) (incV a) sp (constant S64x128 .f32 0x00000000#32)

/-- The log decays summed over the chunk, by lane. -/
def totV (sp : VF S64x128) : VF S1x128 :=
  shapeCast S1x128 (multiReduction (F := Ideal) .add [0] S128 sp 0x00000000#32 reduces_S64x128_S128 (.inl rfl) rfl) shapeCasts_S128_S1x128

theorem cumV_apply (d : Fin 2) (sp : VF S64x128) (i : Fin 64) (l : Fin 128) :
    cumV (BitVec.ofNat 32 d.val) sp (ix2 i l) = ∑ j, if leD d j i then sp (ix2 j l) else 0 := by
  have h : cumV (BitVec.ofNat 32 d.val) sp (ix2 i l) = ∑ j, incV (BitVec.ofNat 32 d.val) (ix2 i j) * sp (ix2 j l) := by
    pointwise [cumV]
  rw [h]
  refine Finset.sum_congr rfl fun j _ => ?_
  rw [incV_apply]
  split
  · rw [one_mul]
  · rw [zero_mul]

theorem totV_apply (sp : VF S64x128) (l : Fin 128) : totV sp (ix2 0 l) = ∑ j, sp (ix2 j l) := by
  pointwise [totV]

/-- The word of the lane of a head's log decay. -/
def gWord (a : BitVec 32) (h : Fin 8) : BitVec 32 := Scalar.addi (Scalar.muli a 8#32) (BitVec.ofNat 32 h.val)

/-- The word of the lane of a head's write strength. -/
def bWord (a : BitVec 32) (h : Fin 8) : BitVec 32 := Scalar.addi (Scalar.addi 16#32 (Scalar.muli a 8#32)) (BitVec.ofNat 32 h.val)

theorem gWord_eq : ∀ (d : Fin 2) (h : Fin 8), gWord (BitVec.ofNat 32 d.val) h = BitVec.ofNat 32 (gLane d h).val := by decide +kernel

theorem bWord_eq : ∀ (d : Fin 2) (h : Fin 8), bWord (BitVec.ofNat 32 d.val) h = BitVec.ofNat 32 (bLane d h).val := by decide +kernel

/-- Head `h`'s columns of a block of rows. -/
def headV (h : Fin 8) (x : VF S64x1024) : VF S64x128 :=
  extractStridedSlice S64x128 ![0, 128 * h.val] x (by
    have := h.isLt
    refine ⟨rfl, fun a => ?_⟩
    fin_cases a <;> simp <;> omega)

theorem headV_apply (h : Fin 8) (x : VF S64x1024) (i : Fin 64) (c : Fin 128) :
    headV h x (ix2 i c) = x (ix2 i ⟨128 * h.val + c.val, by omega⟩) := by
  pointwise [headV]

end Cert.KernelIdeal.Unit
-- ==== Proof.KernelHead.lean ====
/- One head of the kernel's body at one grid point, of the blocks the point reads: what it adds to the output blocks and what
   it leaves in the scratch. -/
module

public import proofs.«01_k».proof.Proof.KernelLeaf

@[expose] public section

set_option maxRecDepth 16384

noncomputable section

namespace Cert.KernelIdeal.Unit

open Cert.Scan
open Cert.KernelIdeal Cert.KernelIdeal.Gen Idealize.ShloMosaic Idealize.ShloMosaic.TcCoe

/-- Head `h`'s state of the block of states. -/
def sV (h : Fin 8) (x : VF S1x1x8x128x128) : VF S128x128 :=
  shapeCast S128x128 (View.ld (Val := Elt Ideal) (e' := .f32) x (Rect.unit (s := S1x1x8x128x128) ![0, 0, h.val, 0, 0] S1x1x1x128x128.size (by
    have := h.isLt
    intro a; fin_cases a <;> simp <;> omega))) shapeCasts_S1x1x1x128x128_S128x128

/-- Head `h`'s inverse of the block of inverses. -/
def tV (h : Fin 8) (x : VF S1x1x8x64x64) : VF S64x64 :=
  shapeCast S64x64 (View.ld (Val := Elt Ideal) (e' := .f32) x (Rect.unit (s := S1x1x8x64x64) ![0, 0, h.val, 0, 0] S1x1x1x64x64.size (by
    have := h.isLt
    intro a; fin_cases a <;> simp <;> omega))) shapeCasts_S1x1x1x64x64_S64x64

/-- Head `h`'s block of the scratch. -/
def dV (h : Fin 8) (x : VF S8x128x128) : VF S128x128 :=
  shapeCast S128x128 (View.ld (Val := Elt Ideal) (e' := .f32) x (Rect.unit (s := S8x128x128) ![h.val, 0, 0] S1x128x128.size (by
    have := h.isLt
    intro a; fin_cases a <;> simp <;> omega))) shapeCasts_S1x128x128_S128x128

theorem sV_cast (y : Vec Ideal S1x1x1x128x128 .f32) (e c : Fin 128) :
    shapeCast S128x128 y shapeCasts_S1x1x1x128x128_S128x128 (ix2 e c) = y (ix5 0 0 0 e c) := by
  pointwise

theorem sV_apply (h : Fin 8) (x : VF S1x1x8x128x128) (e c : Fin 128) : sV h x (ix2 e c) = x (ix5 0 0 h e c) := by
  refine (sV_cast _ e c).trans (congrArg x (funext fun a => Fin.ext ?_))
  fin_cases a
  · show 0 + 1 * 0 = 0
    omega
  · show 0 + 1 * 0 = 0
    omega
  · show h.val + 1 * 0 = h.val
    omega
  · show 0 + 1 * e.val = e.val
    omega
  · show 0 + 1 * c.val = c.val
    omega

theorem tV_cast (y : Vec Ideal S1x1x1x64x64 .f32) (i j : Fin 64) :
    shapeCast S64x64 y shapeCasts_S1x1x1x64x64_S64x64 (ix2 i j) = y (ix5 0 0 0 i j) := by
  pointwise

theorem tV_apply (h : Fin 8) (x : VF S1x1x8x64x64) (i j : Fin 64) : tV h x (ix2 i j) = x (ix5 0 0 h i j) := by
  refine (tV_cast _ i j).trans (congrArg x (funext fun a => Fin.ext ?_))
  fin_cases a
  · show 0 + 1 * 0 = 0
    omega
  · show 0 + 1 * 0 = 0
    omega
  · show h.val + 1 * 0 = h.val
    omega
  · show 0 + 1 * i.val = i.val
    omega
  · show 0 + 1 * j.val = j.val
    omega

theorem dV_cast (y : Vec Ideal S1x128x128 .f32) (e c : Fin 128) :
    shapeCast S128x128 y shapeCasts_S1x128x128_S128x128 (ix2 e c) = y (ix3 0 e c) := by
  pointwise

theorem dV_apply (h : Fin 8) (x : VF S8x128x128) (e c : Fin 128) : dV h x (ix2 e c) = x (ix3 h e c) := by
  refine (dV_cast _ e c).trans (congrArg x (funext fun a => Fin.ext ?_))
  fin_cases a
  · show h.val + 1 * 0 = h.val
    omega
  · show 0 + 1 * e.val = e.val
    omega
  · show 0 + 1 * c.val = c.val
    omega

/-- Head `h`'s summed log decays. -/
def gcH (a : BitVec 32) (h : Fin 8) (sp : VF S64x128) : VF S64x1 := laneV (gWord a h) (cumV a sp)

/-- Head `h`'s write strengths. -/
def beH (a : BitVec 32) (h : Fin 8) (sp : VF S64x128) : VF S64x1 := laneV (bWord a h) sp

/-- Head `h`'s log decay of the whole chunk. -/
def glH (a : BitVec 32) (h : Fin 8) (sp : VF S64x128) : VF S1x1 := lane1V (gWord a h) (totV sp)

/-- Head `h`'s decays between rows. -/
def dcH (a : BitVec 32) (h : Fin 8) (sp : VF S64x128) : VF S64x64 := decayV (incV a) (gcH a h sp)

/-- Head `h`'s mixed keys and values. -/
def wuH (a : BitVec 32) (h : Fin 8) (k v : VF S64x1024) (sp : VF S64x128) (T : VF S1x1x8x64x64) : VF S64x256 :=
  wuV (tV h T) (headV h k) (headV h v) (gcH a h sp) (beH a h sp)

/-- Head `h`'s mixed keys above the decayed queries. -/
def wqH (a : BitVec 32) (h : Fin 8) (q k v : VF S64x1024) (sp : VF S64x128) (T : VF S1x1x8x64x64) : FVec Ideal S128x128 .bf16 :=
  wqV (wuH a h k v sp T) (headV h q) (gcH a h sp)

/-- Head `h`'s cotangent of the corrected values. -/
def dvnH (a : BitVec 32) (h : Fin 8) (q k : VF S64x1024) (sp : VF S64x128) (o : VF S64x1024) (D : VF S128x128) : VF S64x128 :=
  dvnV D (headV h k) (headV h o) (glH a h sp) (gcH a h sp) (attnV (headV h q) (headV h k) (beH a h sp) (dcH a h sp))

/-- What head `h` leaves in the scratch. -/
def dsH (a : BitVec 32) (h : Fin 8) (q k v : VF S64x1024) (sp : VF S64x128) (o : VF S64x1024) (T : VF S1x1x8x64x64)
    (D : VF S128x128) : VF S128x128 :=
  dsV D (glH a h sp) (catV (headV h o) (dvnH a h q k sp o D)) (wqH a h q k v sp T)

/-- Head `h`'s columns of v's cotangent. -/
def dvH (a : BitVec 32) (h : Fin 8) (q k : VF S64x1024) (sp : VF S64x128) (s : VF S1x1x8x128x128) (o : VF S64x1024)
    (T : VF S1x1x8x64x64) (D : VF S128x128) : VF S64x128 :=
  dvV (dvnH a h q k sp o D) (csV (catV (headV h o) (dvnH a h q k sp o D)) (sV h s)) (tV h T) (beH a h sp)

/-- The strict mask: one where row `j` is read before row `i` in direction `a`. -/
def strictV (a : BitVec 32) : VF S64x64 :=
  sitofp .f32 (extui 32 (cmpi .sgt (muli (broadcast S64x64 (Scalar.select (Scalar.cmpi .eq a 0#32) 1#32 4294967295#32))
    (subi (iota .tc S64x64 32 [0] iota_S64x64_d0_w32) (iota .tc S64x64 32 [1] iota_S64x64_d1_w32)))
    (broadcast S64x64 0#32)) natLt_1_32)

/-- The leading half of a number's digits, … -/
def hiV (x : VF S64x64) : FVec Ideal S64x64 .bf16 := truncf .bf16 x bitsLt_bf16_f32

/-- … and what is left of it. -/
def loV (x : VF S64x64) : FVec Ideal S64x64 .bf16 := truncf .bf16 (subf x (extf .f32 (hiV x) bitsLt_bf16_f32)) bitsLt_bf16_f32

/-- A product with the second factor transposed, in three products of halves. -/
def ntV (x y : VF S64x64) : VF S64x64 :=
  addf (matmul dot_S64x64_S64x64_S64x64_1_1_0_0_n_n none (hiV x) (hiV y) (constant S64x64 .f32 0x00000000#32))
    (addf (matmul dot_S64x64_S64x64_S64x64_1_1_0_0_n_n none (hiV x) (loV y) (constant S64x64 .f32 0x00000000#32))
      (matmul dot_S64x64_S64x64_S64x64_1_1_0_0_n_n none (loV x) (hiV y) (constant S64x64 .f32 0x00000000#32)))

/-- A product with the first factor transposed, in three products of halves. -/
def tnV (x y : VF S64x64) : VF S64x64 :=
  addf (matmul dot_S64x64_S64x64_S64x64_0_0_1_1_n_n none (hiV x) (hiV y) (constant S64x64 .f32 0x00000000#32))
    (addf (matmul dot_S64x64_S64x64_S64x64_0_0_1_1_n_n none (hiV x) (loV y) (constant S64x64 .f32 0x00000000#32))
      (matmul dot_S64x64_S64x64_S64x64_0_0_1_1_n_n none (loV x) (hiV y) (constant S64x64 .f32 0x00000000#32)))

/-- Head `h`'s block of products the keys' cotangent takes. -/
def xH (a : BitVec 32) (h : Fin 8) (q k v : VF S64x1024) (sp : VF S64x128) (s : VF S1x1x8x128x128) (o : VF S64x1024)
    (T : VF S1x1x8x64x64) (D : VF S128x128) : VF S64x64 :=
  mulf (mulf (subf (broadcast S64x64 (Scalar.ofBits .f32 0x00000000#32)) (tnV (tV h T) (ntV
    (extf .f32 (truncf .bf16 (matmul dot_S64x256_S64x256_S64x64_1_1_0_0_n_n none
      (addf (concatenate S64x256 1 [⟨S64x128, zV⟩, ⟨S64x128, dvnH a h q k sp o D⟩] concatenates_S64x128_S64x128_S64x256_d1)
        (concatenate S64x256 1 [⟨S64x128, extractStridedSlice S64x128 ![0, 0]
          (csV (catV (headV h o) (dvnH a h q k sp o D)) (sV h s)) slices_S128x128_o0_0_S64x128⟩, ⟨S64x128, zV⟩]
          concatenates_S64x128_S64x128_S64x256_d1))
      (truncf .bf16 (concatenate S64x256 1
        [⟨S64x128, mulf (kbV (headV h k) (beH a h sp)) (broadcastTo S64x128 (exp (gcH a h sp)) broadcasts_S64x1_S64x128)⟩,
         ⟨S64x128, mulf (headV h v) (broadcastTo S64x128 (beH a h sp) broadcasts_S64x1_S64x128)⟩]
        concatenates_S64x128_S64x128_S64x256_d1) bitsLt_bf16_f32)
      (constant S64x64 .f32 0x00000000#32)) bitsLt_bf16_f32) bitsLt_bf16_f32) (tV h T)))) (strictV a)) (dcH a h sp)

/-- Head `h`'s columns of q's cotangent. -/
def dqH (a : BitVec 32) (h : Fin 8) (q k v : VF S64x1024) (sp : VF S64x128) (s : VF S1x1x8x128x128) (o : VF S64x1024)
    (T : VF S1x1x8x64x64) (D : VF S128x128) : VF S64x128 :=
  dqV (csV (catV (headV h o) (dvnH a h q k sp o D)) (sV h s)) (gcH a h sp) (headV h o)
    (vnV (wuH a h k v sp T) (wqH a h q k v sp T) (sV h s)) (headV h k) (dcH a h sp) (xH a h q k v sp s o T D)

/-- A block of zeros. -/
def z (n : ℕ) : VF ⟨2, ![64, n]⟩ := broadcast ⟨2, ![64, n]⟩ (Scalar.ofBits .f32 0x00000000#32)

/-- The eight heads' columns side by side: each padded with zeros, and the eight summed. -/
def rowsV (f : Fin 8 → VF S64x128) : VF S64x1024 :=
  addf (addf (addf (addf (addf (addf (addf
    (concatenate S64x1024 1 [⟨S64x896, z 896⟩, ⟨S64x128, f 7⟩] concatenates_S64x896_S64x128_S64x1024_d1)
    (concatenate S64x1024 1 [⟨S64x896, concatenate S64x896 1 [⟨S64x768, z 768⟩, ⟨S64x128, f 6⟩] concatenates_S64x768_S64x128_S64x896_d1⟩,
      ⟨S64x128, z 128⟩] concatenates_S64x896_S64x128_S64x1024_d1))
    (concatenate S64x1024 1 [⟨S64x768, concatenate S64x768 1 [⟨S64x640, z 640⟩, ⟨S64x128, f 5⟩] concatenates_S64x640_S64x128_S64x768_d1⟩,
      ⟨S64x256, z 256⟩] concatenates_S64x768_S64x256_S64x1024_d1))
    (concatenate S64x1024 1 [⟨S64x640, concatenate S64x640 1 [⟨S64x512, z 512⟩, ⟨S64x128, f 4⟩] concatenates_S64x512_S64x128_S64x640_d1⟩,
      ⟨S64x384, z 384⟩] concatenates_S64x640_S64x384_S64x1024_d1))
    (concatenate S64x1024 1 [⟨S64x512, concatenate S64x512 1 [⟨S64x384, z 384⟩, ⟨S64x128, f 3⟩] concatenates_S64x384_S64x128_S64x512_d1⟩,
      ⟨S64x512, z 512⟩] concatenates_S64x512_S64x512_S64x1024_d1))
    (concatenate S64x1024 1 [⟨S64x384, concatenate S64x384 1 [⟨S64x256, z 256⟩, ⟨S64x128, f 2⟩] concatenates_S64x256_S64x128_S64x384_d1⟩,
      ⟨S64x640, z 640⟩] concatenates_S64x384_S64x640_S64x1024_d1))
    (concatenate S64x1024 1 [⟨S64x256, concatenate S64x256 1 [⟨S64x128, z 128⟩, ⟨S64x128, f 1⟩] concatenates_S64x128_S64x128_S64x256_d1⟩,
      ⟨S64x768, z 768⟩] concatenates_S64x256_S64x768_S64x1024_d1))
    (concatenate S64x1024 1 [⟨S64x128, f 0⟩, ⟨S64x896, z 896⟩] concatenates_S64x128_S64x896_S64x1024_d1)

theorem rowsV_apply (f : Fin 8 → VF S64x128) (h : Fin 8) (i : Fin 64) (c : Fin 128) :
    rowsV f (ix2 i ⟨128 * h.val + c.val, by omega⟩) = f h (ix2 i c) := by
  have := c.isLt
  fin_cases h <;> pointwise [rowsV, z] <;> split_ifs <;> first | omega | simp only [zero_add, add_zero]

/-- The chunk of head `h` in direction `d`, of the blocks a grid point reads. -/
def chunkB (d : Fin 2) (h : Fin 8) (q k v : VF S64x1024) (sp : VF S64x128) (s : VF S1x1x8x128x128) (o : VF S64x1024)
    (T : VF S1x1x8x64x64) : Scan.Chunk where
  q i c := q (ix2 i ⟨128 * h.val + c.val, by omega⟩)
  k i c := k (ix2 i ⟨128 * h.val + c.val, by omega⟩)
  v i c := v (ix2 i ⟨128 * h.val + c.val, by omega⟩)
  o i c := o (ix2 i ⟨128 * h.val + c.val, by omega⟩)
  g i := sp (ix2 i (gLane d h))
  b i := sp (ix2 i (bLane d h))
  s e c := s (ix5 0 0 h e c)
  T i j := T (ix5 0 0 h i j)
  le := leD d

section

variable (d : Fin 2) (h : Fin 8) (q k v : VF S64x1024) (sp : VF S64x128) (s : VF S1x1x8x128x128) (o : VF S64x1024)
  (T : VF S1x1x8x64x64) (hg : ∀ i, sp (ix2 i (gLane d h)) ≤ 0)

include hg

theorem holdsH : Holds (chunkB d h q k v sp s o T) (headV h q) (headV h k) (headV h v) (headV h o)
    (gcH (BitVec.ofNat 32 d.val) h sp) (beH (BitVec.ofNat 32 d.val) h sp) (glH (BitVec.ofNat 32 d.val) h sp) (sV h s) (tV h T)
    (dcH (BitVec.ofNat 32 d.val) h sp) := by
  have hgc : ∀ i, gcH (BitVec.ofNat 32 d.val) h sp (ix2 i 0) = (chunkB d h q k v sp s o T).cum i := fun i => by
    rw [gcH, gWord_eq, laneV_apply, cumV_apply]; rfl
  refine ⟨headV_apply h q, headV_apply h k, headV_apply h v, headV_apply h o, hgc, fun i => ?_, ?_, sV_apply h s, tV_apply h T, fun i j => ?_⟩
  · rw [beH, bWord_eq, laneV_apply]; rfl
  · rw [glH, gWord_eq, lane1V_apply, totV_apply]; rfl
  · rw [dcH, decayV_apply, hgc, hgc, incV_apply]
    exact (chunkB d h q k v sp s o T).decay_clamp hg (fun i j l => leD_trans d i j l) i j

variable {D : VF S128x128} {E : Fin 128 → Fin 128 → EReal} (hD : ∀ e c, D (ix2 e c) = E e c)

include hD

theorem dsH_eq (e c : Fin 128) : dsH (BitVec.ofNat 32 d.val) h q k v sp o T D (ix2 e c) = (chunkB d h q k v sp s o T).ds E e c :=
  dsV_eq (holdsH d h q k v sp s o T hg) hD e c

theorem dvH_eq (i : Fin 64) (c : Fin 128) :
    dvH (BitVec.ofNat 32 d.val) h q k sp s o T D (ix2 i c) = (chunkB d h q k v sp s o T).dv E i c :=
  dvV_eq (holdsH d h q k v sp s o T hg) hD _ i c

omit hD

theorem dqH_eq (i : Fin 64) (c : Fin 128) :
    dqH (BitVec.ofNat 32 d.val) h q k v sp s o T D (ix2 i c) = (chunkB d h q k v sp s o T).dq i c :=
  dqV_eq (holdsH d h q k v sp s o T hg) _ _ i c

end

end Cert.KernelIdeal.Unit
-- ==== Proof.KernelBody.lean ====
/- What the kernel's body leaves at one grid point, of the blocks the point reads: the scratch head by head, and the output
   blocks of q's and of v's cotangent. -/
module

public import proofs.«01_k».proof.Proof.Gen.KernelIdeal.Frame
public import proofs.«01_k».proof.Proof.KernelHead

@[expose] public section

set_option maxRecDepth 16384
set_option maxHeartbeats 2000000

noncomputable section

namespace Cert.KernelIdeal.Unit

open Cert.KernelIdeal Cert.KernelIdeal.Gen Idealize.ShloMosaic Idealize.ShloMosaic.TcCoe

theorem hz2 : (![0, 0] : Fin 2 → Nat) = fun _ => 0 := funext fun a => by fin_cases a <;> rfl

theorem hz3 : (![0, 0, 0] : Fin 3 → Nat) = fun _ => 0 := funext fun a => by fin_cases a <;> rfl

theorem inbS (h : Fin 8) : ∀ a, (![h.val, 0, 0] : Fin 3 → Nat) a + S1x128x128.size a ≤ S8x128x128.size a := by
  have := h.isLt
  intro a; fin_cases a <;> simp <;> omega

/-- The piece of the scratch head `h` writes. -/
def pieceS (h : Fin 8) (y : VF S128x128) : View.Piece (Elt Ideal) S8x128x128 .f32 :=
  ⟨Rect.unit (s := S8x128x128) ![h.val, 0, 0] S1x128x128.size (inbS h), shapeCast S1x128x128 y shapeCasts_S128x128_S1x128x128⟩

/-- The scratch with head `h`'s block `f h`. -/
def scratchV (f : Fin 8 → VF S128x128) : VF S8x128x128 := fun x => f (x 0) (ix2 (x 1) (x 2))

/-- An output block of the eight heads' columns. -/
def blockV (f : Fin 8 → VF S64x128) : VF S1x64x1024 := shapeCast S1x64x1024 (rowsV f) shapeCasts_S64x1024_S1x64x1024

theorem blockV_apply (f : Fin 8 → VF S64x128) (h : Fin 8) (i : Fin 64) (c : Fin 128) :
    blockV f (ix3 0 i ⟨128 * h.val + c.val, by omega⟩) = f h (ix2 i c) := by
  rw [← rowsV_apply f h i c]
  pointwise [blockV]

section

variable (c : Dev nD) (i : grid0.Coords) (a2 : Memref sig .tc .vmem S64x1024 .f32) (h2 : a2.IsWhole)
  (a3 : Memref sig .tc .vmem S64x1024 .f32) (h3 : a3.IsWhole) (a4 : Memref sig .tc .vmem S64x1024 .f32) (h4 : a4.IsWhole)
  (a5 : Memref sig .tc .vmem S64x128 .f32) (h5 : a5.IsWhole) (a6 : Memref sig .tc .vmem S1x1x8x128x128 .f32) (h6 : a6.IsWhole)
  (a7 : Memref sig .tc .vmem S64x1024 .f32) (h7 : a7.IsWhole) (a8 : Memref sig .tc .vmem S1x1x8x64x64 .f32) (h8 : a8.IsWhole)
  (a9 : Memref sig .tc .vmem S1x64x1024 .f32) (h9 : a9.IsWhole) (a10 : Memref sig .tc .vmem S1x64x1024 .f32) (h10 : a10.IsWhole)
  (a11 : Memref sig .tc .vmem S1x64x1024 .f32) (h11 : a11.IsWhole) (a12 : Memref sig .tc .vmem S1x64x128 .f32) (h12 : a12.IsWhole)
  (a13 : Memref sig .tc .vmem S8x128x128 .f32) (h13 : a13.IsWhole)
  (x0 x1 x2 : Vec Ideal S64x1024 .f32) (x3 : Vec Ideal S64x128 .f32) (x4 : Vec Ideal S1x1x8x128x128 .f32) (x5 : Vec Ideal S64x1024 .f32)
  (x6 : Vec Ideal S1x1x8x64x64 .f32)

theorem sout0_B_0_eq (hc : ¬cond0_0 i) (xs : Vec Ideal S8x128x128 .f32) :
    sout0_B_0 c i a2 h2 a3 h3 a4 h4 a5 h5 a6 h6 a7 h7 a8 h8 a9 h9 a10 h10 a11 h11 a12 h12 a13 h13 hc x0 x1 x2 x3 x4 x5 x6 xs =
      View.canon [pieceS 7 (dsH (BitVec.ofNat 32 (i 0).val) 7 x0 x1 x2 x3 x5 x6 (dV 7 xs)),
      pieceS 6 (dsH (BitVec.ofNat 32 (i 0).val) 6 x0 x1 x2 x3 x5 x6 (dV 6 xs)),
      pieceS 5 (dsH (BitVec.ofNat 32 (i 0).val) 5 x0 x1 x2 x3 x5 x6 (dV 5 xs)),
      pieceS 4 (dsH (BitVec.ofNat 32 (i 0).val) 4 x0 x1 x2 x3 x5 x6 (dV 4 xs)),
      pieceS 3 (dsH (BitVec.ofNat 32 (i 0).val) 3 x0 x1 x2 x3 x5 x6 (dV 3 xs)),
      pieceS 2 (dsH (BitVec.ofNat 32 (i 0).val) 2 x0 x1 x2 x3 x5 x6 (dV 2 xs)),
      pieceS 1 (dsH (BitVec.ofNat 32 (i 0).val) 1 x0 x1 x2 x3 x5 x6 (dV 1 xs)),
      pieceS 0 (dsH (BitVec.ofNat 32 (i 0).val) 0 x0 x1 x2 x3 x5 x6 (dV 0 xs))] := by
  unfold sout0_B_0
  rw [View.read_writes_eq_canon _ _ _ (scover0_B_0 c i a2 h2 a3 h3 a4 h4 a5 h5 a6 h6 a7 h7 a8 h8 a9 h9 a10 h10 a11 h11 a12 h12 a13 h13 hc x0 x1 x2 x3 x4 x5 x6 xs)]
  unfold kernelRun0_B
  dsimp only
  sl_unfold_words
  simp only [View.readAt_eq_ld, h2.read_unread, h3.read_unread, h4.read_unread, h5.read_unread, h6.read_unread, h7.read_unread, h8.read_unread, h13.read_unread,
    View.ld_unit_zero (S := S64x1024) hz2, View.ld_unit_zero (S := S64x128) hz2]
  rfl

theorem out0_B_7_eq (hc : ¬cond0_0 i) (xs : Vec Ideal S8x128x128 .f32) :
    out0_B_7 c i a2 h2 a3 h3 a4 h4 a5 h5 a6 h6 a7 h7 a8 h8 a9 h9 a10 h10 a11 h11 a12 h12 a13 h13 hc x0 x1 x2 x3 x4 x5 x6 xs =
      blockV fun h => dqH (BitVec.ofNat 32 (i 0).val) h x0 x1 x2 x3 x4 x5 x6 (dV h xs) := by
  unfold out0_B_7
  rw [View.read_writes_eq_canon _ _ _ (cover0_B_7 c i a2 h2 a3 h3 a4 h4 a5 h5 a6 h6 a7 h7 a8 h8 a9 h9 a10 h10 a11 h11 a12 h12 a13 h13 hc x0 x1 x2 x3 x4 x5 x6 xs)]
  unfold kernelRun0_B
  dsimp only
  rw [View.canon_unit_zero hz3]
  sl_unfold_words
  simp only [View.readAt_eq_ld, h2.read_unread, h3.read_unread, h4.read_unread, h5.read_unread, h6.read_unread, h7.read_unread, h8.read_unread, h13.read_unread,
    View.ld_unit_zero (S := S64x1024) hz2, View.ld_unit_zero (S := S64x128) hz2]
  rfl

theorem out0_B_9_eq (hc : ¬cond0_0 i) (xs : Vec Ideal S8x128x128 .f32) :
    out0_B_9 c i a2 h2 a3 h3 a4 h4 a5 h5 a6 h6 a7 h7 a8 h8 a9 h9 a10 h10 a11 h11 a12 h12 a13 h13 hc x0 x1 x2 x3 x4 x5 x6 xs =
      blockV fun h => dvH (BitVec.ofNat 32 (i 0).val) h x0 x1 x3 x4 x5 x6 (dV h xs) := by
  unfold out0_B_9
  rw [View.read_writes_eq_canon _ _ _ (cover0_B_9 c i a2 h2 a3 h3 a4 h4 a5 h5 a6 h6 a7 h7 a8 h8 a9 h9 a10 h10 a11 h11 a12 h12 a13 h13 hc x0 x1 x2 x3 x4 x5 x6 xs)]
  unfold kernelRun0_B
  dsimp only
  rw [View.canon_unit_zero hz3]
  sl_unfold_words
  simp only [View.readAt_eq_ld, h2.read_unread, h3.read_unread, h4.read_unread, h5.read_unread, h6.read_unread, h7.read_unread, h8.read_unread, h13.read_unread,
    View.ld_unit_zero (S := S64x1024) hz2, View.ld_unit_zero (S := S64x128) hz2]
  rfl

end

end Cert.KernelIdeal.Unit
-- ==== Proof.KernelBodyA.lean ====
/- What the kernel's body leaves at a direction's first grid point, where it first clears the scratch. -/
module

public import proofs.«01_k».proof.Proof.KernelBody

@[expose] public section

set_option maxRecDepth 16384
set_option maxHeartbeats 8000000

noncomputable section

namespace Cert.KernelIdeal.Unit

open Cert.KernelIdeal Cert.KernelIdeal.Gen Idealize.ShloMosaic Idealize.ShloMosaic.TcCoe

/-- The whole scratch as the body clears it. -/
def clearedPiece : View.Piece (Elt Ideal) S8x128x128 .f32 :=
  ⟨Rect.unit (s := S8x128x128) ![0, 0, 0] S8x128x128.size inb_S8x128x128_S8x128x128_0_0_0, k0_pay3 (F := Ideal)⟩

/-- The scratch a direction's first grid point reads its states from: the one it has just cleared. -/
def cleared : Vec Ideal S8x128x128 .f32 := View.canon (Val := Elt Ideal) [clearedPiece]

section

variable (c : Dev nD) (i : grid0.Coords) (a2 : Memref sig .tc .vmem S64x1024 .f32) (h2 : a2.IsWhole)
  (a3 : Memref sig .tc .vmem S64x1024 .f32) (h3 : a3.IsWhole) (a4 : Memref sig .tc .vmem S64x1024 .f32) (h4 : a4.IsWhole)
  (a5 : Memref sig .tc .vmem S64x128 .f32) (h5 : a5.IsWhole) (a6 : Memref sig .tc .vmem S1x1x8x128x128 .f32) (h6 : a6.IsWhole)
  (a7 : Memref sig .tc .vmem S64x1024 .f32) (h7 : a7.IsWhole) (a8 : Memref sig .tc .vmem S1x1x8x64x64 .f32) (h8 : a8.IsWhole)
  (a9 : Memref sig .tc .vmem S1x64x1024 .f32) (h9 : a9.IsWhole) (a10 : Memref sig .tc .vmem S1x64x1024 .f32) (h10 : a10.IsWhole)
  (a11 : Memref sig .tc .vmem S1x64x1024 .f32) (h11 : a11.IsWhole) (a12 : Memref sig .tc .vmem S1x64x128 .f32) (h12 : a12.IsWhole)
  (a13 : Memref sig .tc .vmem S8x128x128 .f32) (h13 : a13.IsWhole)
  (x0 x1 x2 : Vec Ideal S64x1024 .f32) (x3 : Vec Ideal S64x128 .f32) (x4 : Vec Ideal S1x1x8x128x128 .f32) (x5 : Vec Ideal S64x1024 .f32)
  (x6 : Vec Ideal S1x1x8x64x64 .f32)

theorem sout0_A_0_eq (hc : cond0_0 i) :
    sout0_A_0 c i a2 h2 a3 h3 a4 h4 a5 h5 a6 h6 a7 h7 a8 h8 a9 h9 a10 h10 a11 h11 a12 h12 a13 h13 hc x0 x1 x2 x3 x4 x5 x6 =
      View.canon [pieceS 7 (dsH (BitVec.ofNat 32 (i 0).val) 7 x0 x1 x2 x3 x5 x6 (dV 7 cleared)),
      pieceS 6 (dsH (BitVec.ofNat 32 (i 0).val) 6 x0 x1 x2 x3 x5 x6 (dV 6 cleared)),
      pieceS 5 (dsH (BitVec.ofNat 32 (i 0).val) 5 x0 x1 x2 x3 x5 x6 (dV 5 cleared)),
      pieceS 4 (dsH (BitVec.ofNat 32 (i 0).val) 4 x0 x1 x2 x3 x5 x6 (dV 4 cleared)),
      pieceS 3 (dsH (BitVec.ofNat 32 (i 0).val) 3 x0 x1 x2 x3 x5 x6 (dV 3 cleared)),
      pieceS 2 (dsH (BitVec.ofNat 32 (i 0).val) 2 x0 x1 x2 x3 x5 x6 (dV 2 cleared)),
      pieceS 1 (dsH (BitVec.ofNat 32 (i 0).val) 1 x0 x1 x2 x3 x5 x6 (dV 1 cleared)),
      pieceS 0 (dsH (BitVec.ofNat 32 (i 0).val) 0 x0 x1 x2 x3 x5 x6 (dV 0 cleared)), clearedPiece] := by
  unfold sout0_A_0
  rw [View.read_writes_eq_canon _ _ _ (scover0_A_0 c i a2 h2 a3 h3 a4 h4 a5 h5 a6 h6 a7 h7 a8 h8 a9 h9 a10 h10 a11 h11 a12 h12 a13 h13 hc x0 x1 x2 x3 x4 x5 x6)]
  unfold kernelRun0_A
  dsimp only
  sl_unfold_words
  simp only [View.readCov_eq_canon', View.readAt_eq_ld, h2.read_unread, h3.read_unread, h4.read_unread, h5.read_unread, h6.read_unread, h7.read_unread, h8.read_unread,
    View.ld_unit_zero (S := S64x1024) hz2, View.ld_unit_zero (S := S64x128) hz2]
  rfl

theorem out0_A_7_eq (hc : cond0_0 i) :
    out0_A_7 c i a2 h2 a3 h3 a4 h4 a5 h5 a6 h6 a7 h7 a8 h8 a9 h9 a10 h10 a11 h11 a12 h12 a13 h13 hc x0 x1 x2 x3 x4 x5 x6 =
      blockV fun h => dqH (BitVec.ofNat 32 (i 0).val) h x0 x1 x2 x3 x4 x5 x6 (dV h cleared) := by
  unfold out0_A_7
  rw [View.read_writes_eq_canon _ _ _ (cover0_A_7 c i a2 h2 a3 h3 a4 h4 a5 h5 a6 h6 a7 h7 a8 h8 a9 h9 a10 h10 a11 h11 a12 h12 a13 h13 hc x0 x1 x2 x3 x4 x5 x6)]
  unfold kernelRun0_A
  dsimp only
  rw [View.canon_unit_zero hz3]
  sl_unfold_words
  simp only [View.readCov_eq_canon', View.readAt_eq_ld, h2.read_unread, h3.read_unread, h4.read_unread, h5.read_unread, h6.read_unread, h7.read_unread, h8.read_unread,
    View.ld_unit_zero (S := S64x1024) hz2, View.ld_unit_zero (S := S64x128) hz2]
  rfl

theorem out0_A_9_eq (hc : cond0_0 i) :
    out0_A_9 c i a2 h2 a3 h3 a4 h4 a5 h5 a6 h6 a7 h7 a8 h8 a9 h9 a10 h10 a11 h11 a12 h12 a13 h13 hc x0 x1 x2 x3 x4 x5 x6 =
      blockV fun h => dvH (BitVec.ofNat 32 (i 0).val) h x0 x1 x3 x4 x5 x6 (dV h cleared) := by
  unfold out0_A_9
  rw [View.read_writes_eq_canon _ _ _ (cover0_A_9 c i a2 h2 a3 h3 a4 h4 a5 h5 a6 h6 a7 h7 a8 h8 a9 h9 a10 h10 a11 h11 a12 h12 a13 h13 hc x0 x1 x2 x3 x4 x5 x6)]
  unfold kernelRun0_A
  dsimp only
  rw [View.canon_unit_zero hz3]
  sl_unfold_words
  simp only [View.readCov_eq_canon', View.readAt_eq_ld, h2.read_unread, h3.read_unread, h4.read_unread, h5.read_unread, h6.read_unread, h7.read_unread, h8.read_unread,
    View.ld_unit_zero (S := S64x1024) hz2, View.ld_unit_zero (S := S64x128) hz2]
  rfl

end

end Cert.KernelIdeal.Unit
-- ==== Proof.KernelScratch.lean ====
/- The scratch the kernel carries, read at a head, a row and a column. -/
module

public import proofs.«01_k».proof.Proof.KernelBodyA

@[expose] public section

set_option maxRecDepth 16384

noncomputable section

namespace Cert.KernelIdeal.Unit

open Cert.Scan
open Cert.KernelIdeal Cert.KernelIdeal.Gen Idealize.ShloMosaic Idealize.ShloMosaic.TcCoe

/-- Where head `h`'s piece puts its entry. -/
theorem pieceS_emb (h : Fin 8) (y : VF S128x128) (e c : Fin 128) : (pieceS h y).1.emb (ix3 0 e c) = ix3 h e c := by
  funext a
  apply Fin.ext
  fin_cases a
  · show h.val + 1 * 0 = h.val
    omega
  · show 0 + 1 * e.val = e.val
    omega
  · show 0 + 1 * c.val = c.val
    omega

theorem pieceS_cast (y : VF S128x128) (e c : Fin 128) :
    shapeCast S1x128x128 y shapeCasts_S128x128_S1x128x128 (ix3 0 e c) = y (ix2 e c) := by
  pointwise

/-- Head `h`'s piece holds head `h`'s entries, … -/
theorem canon_same (h : Fin 8) (y : VF S128x128) (L : List (View.Piece (Elt Ideal) S8x128x128 .f32)) (e c : Fin 128) :
    View.canon (Val := Elt Ideal) (pieceS h y :: L) (ix3 h e c) = y (ix2 e c) := by
  rw [← pieceS_emb h y e c]
  exact (View.canon_cons_emb _ _ _ _).trans (pieceS_cast y e c)

/-- … and no other head's. -/
theorem canon_other (h h' : Fin 8) (hne : h ≠ h') (y : VF S128x128) (L : List (View.Piece (Elt Ideal) S8x128x128 .f32)) (e c : Fin 128) :
    View.canon (Val := Elt Ideal) (pieceS h' y :: L) (ix3 h e c) = View.canon (Val := Elt Ideal) L (ix3 h e c) := by
  refine View.canon_cons_of_not_mem _ _ fun hm => hne ?_
  obtain ⟨n, hn, he⟩ := (LoadRect.mem_set _).mp hm (0 : Fin 3)
  have h1 : n < 1 := hn
  have h0 : h.val = h'.val + 1 * n := he
  apply Fin.ext
  omega

/-- The eight heads' pieces, the last written first, over whatever was there. -/
theorem canon_heads (f : Fin 8 → VF S128x128) (L : List (View.Piece (Elt Ideal) S8x128x128 .f32)) (h : Fin 8) (e c : Fin 128) :
    View.canon (Val := Elt Ideal) (pieceS 7 (f 7) :: pieceS 6 (f 6) :: pieceS 5 (f 5) :: pieceS 4 (f 4) :: pieceS 3 (f 3) ::
      pieceS 2 (f 2) :: pieceS 1 (f 1) :: pieceS 0 (f 0) :: L) (ix3 h e c) = f h (ix2 e c) := by
  by_cases h7 : h = 7
  · subst h7; exact canon_same _ _ _ _ _
  rw [canon_other _ _ h7]
  by_cases h6 : h = 6
  · subst h6; exact canon_same _ _ _ _ _
  rw [canon_other _ _ h6]
  by_cases h5 : h = 5
  · subst h5; exact canon_same _ _ _ _ _
  rw [canon_other _ _ h5]
  by_cases h4 : h = 4
  · subst h4; exact canon_same _ _ _ _ _
  rw [canon_other _ _ h4]
  by_cases h3 : h = 3
  · subst h3; exact canon_same _ _ _ _ _
  rw [canon_other _ _ h3]
  by_cases h2 : h = 2
  · subst h2; exact canon_same _ _ _ _ _
  rw [canon_other _ _ h2]
  by_cases h1 : h = 1
  · subst h1; exact canon_same _ _ _ _ _
  rw [canon_other _ _ h1]
  have h0 : h = 0 := by
    have := h.isLt
    simp only [Fin.ext_iff] at *
    omega
  subst h0
  exact canon_same _ _ _ _ _

/-- A cleared scratch is zero. -/
theorem cleared_apply (x : S8x128x128.Idx) : cleared x = 0 := by
  rw [cleared, clearedPiece, View.canon_unit_zero hz3]
  pointwise [k0_pay3]

end Cert.KernelIdeal.Unit
-- ==== Proof.KernelBlocks.lean ====
/- The blocks a grid point reads, as the chunk of the whole arrays they are. -/
module

public import proofs.«01_k».proof.Proof.KernelScratch
public import proofs.«01_k».proof.Proof.Gen.KernelIdeal.Value
public import Idealize.ShloMosaic.Lib.Pipeline.ValueKit.Geometry

@[expose] public section

set_option maxRecDepth 16384

noncomputable section

namespace Cert.KernelIdeal.Unit

open Cert.Scan
open Cert.KernelIdeal Cert.KernelIdeal.Gen Idealize.ShloMosaic Idealize.ShloMosaic.TcCoe

variable (m : (ℓ : Loc nD τ sig) → Buf (Elt Ideal) ℓ) (c : Dev nD)

/-- The arrays the kernel is given. -/
def args : Scan.Args where
  q r x := (m ((c : Thread nD τ).loc main_arg0) : VF S8448x1024) (ix2 r x)
  k r x := (m ((c : Thread nD τ).loc main_arg1) : VF S8448x1024) (ix2 r x)
  v r x := (m ((c : Thread nD τ).loc main_arg2) : VF S8448x1024) (ix2 r x)
  sp r x := (m ((c : Thread nD τ).loc main_arg3) : VF S8448x128) (ix2 r x)
  s d p h e x := (m ((c : Thread nD τ).loc main_arg4) : VF S2x132x8x128x128) (ix5 d p h e x)
  o r x := (m ((c : Thread nD τ).loc main_arg5) : VF S8448x1024) (ix2 r x)
  T d p h i j := (m ((c : Thread nD τ).loc main_arg6) : VF S2x132x8x64x64) (ix5 d p h i j)

/-- The direction of a grid point, … -/
def dir (t : Fin cfg0.N) : Fin 2 := grid0.coords t 0

/-- … how many steps back it is, … -/
def steps (t : Fin cfg0.N) : Fin 132 := grid0.coords t 1

/-- … and so the place it is at. -/
def pl (t : Fin cfg0.N) : Fin 132 := Args.back (steps t).val

theorem steps_val (t : Fin cfg0.N) : (steps t).val = t.val % 132 :=
  (by decide +kernel : ∀ t : Fin grid0.N, (grid0.coords t 1).val = t.val % 132) t

theorem dir_val (t : Fin cfg0.N) : (dir t).val = t.val / 132 :=
  (by decide +kernel : ∀ t : Fin grid0.N, (grid0.coords t 0).val = t.val / 132) t

theorem index0 (t : Fin cfg0.N) : win0_0.index t = ![(place (dir t) (pl t)).val, 0] :=
  (by decide +kernel : ∀ t : Fin grid0.N, win0_0.index t = ![placeN (grid0.coords t 0).val (131 - (grid0.coords t 1).val), 0]) t

theorem index1 (t : Fin cfg0.N) : win0_1.index t = ![(place (dir t) (pl t)).val, 0] :=
  (by decide +kernel : ∀ t : Fin grid0.N, win0_1.index t = ![placeN (grid0.coords t 0).val (131 - (grid0.coords t 1).val), 0]) t

theorem index2 (t : Fin cfg0.N) : win0_2.index t = ![(place (dir t) (pl t)).val, 0] :=
  (by decide +kernel : ∀ t : Fin grid0.N, win0_2.index t = ![placeN (grid0.coords t 0).val (131 - (grid0.coords t 1).val), 0]) t

theorem index3 (t : Fin cfg0.N) : win0_3.index t = ![(place (dir t) (pl t)).val, 0] :=
  (by decide +kernel : ∀ t : Fin grid0.N, win0_3.index t = ![placeN (grid0.coords t 0).val (131 - (grid0.coords t 1).val), 0]) t

theorem index4 (t : Fin cfg0.N) : win0_4.index t = ![(dir t).val, (pl t).val, 0, 0, 0] :=
  (by decide +kernel : ∀ t : Fin grid0.N, win0_4.index t = ![(grid0.coords t 0).val, 131 - (grid0.coords t 1).val, 0, 0, 0]) t

theorem index5 (t : Fin cfg0.N) : win0_5.index t = ![(place (dir t) (pl t)).val, 0] :=
  (by decide +kernel : ∀ t : Fin grid0.N, win0_5.index t = ![placeN (grid0.coords t 0).val (131 - (grid0.coords t 1).val), 0]) t

theorem index6 (t : Fin cfg0.N) : win0_6.index t = ![(dir t).val, (pl t).val, 0, 0, 0] :=
  (by decide +kernel : ∀ t : Fin grid0.N, win0_6.index t = ![(grid0.coords t 0).val, 131 - (grid0.coords t 1).val, 0, 0, 0]) t

theorem index7 (t : Fin cfg0.N) : win0_7.index t = ![(dir t).val, (place (dir t) (pl t)).val, 0] :=
  (by decide +kernel : ∀ t : Fin grid0.N, win0_7.index t = ![(grid0.coords t 0).val, placeN (grid0.coords t 0).val (131 - (grid0.coords t 1).val), 0]) t

theorem index9 (t : Fin cfg0.N) : win0_9.index t = ![(dir t).val, (place (dir t) (pl t)).val, 0] :=
  (by decide +kernel : ∀ t : Fin grid0.N, win0_9.index t = ![(grid0.coords t 0).val, placeN (grid0.coords t 0).val (131 - (grid0.coords t 1).val), 0]) t

theorem blk0 (t : Fin cfg0.N) (i : Fin 64) (x : Fin 1024) :
    (iblk m c 0 t : VF S64x1024) (ix2 i x) = (args m c).q (row (dir t) (pl t) i) x := by
  blk_simp [iblk]
  refine congrArg (m (c.tc.loc main_arg0)) (funext fun a => Fin.ext ?_)
  fin_cases a
  · blk_simp [index0]
    show (place (dir t) (pl t)).val * 64 + i.val = 64 * (place (dir t) (pl t)).val + i.val
    omega
  · blk_simp [index0]
    rfl

theorem blk1 (t : Fin cfg0.N) (i : Fin 64) (x : Fin 1024) :
    (iblk m c 1 t : VF S64x1024) (ix2 i x) = (args m c).k (row (dir t) (pl t) i) x := by
  blk_simp [iblk]
  refine congrArg (m (c.tc.loc main_arg1)) (funext fun a => Fin.ext ?_)
  fin_cases a
  · blk_simp [index1]
    show (place (dir t) (pl t)).val * 64 + i.val = 64 * (place (dir t) (pl t)).val + i.val
    omega
  · blk_simp [index1]
    rfl

theorem blk2 (t : Fin cfg0.N) (i : Fin 64) (x : Fin 1024) :
    (iblk m c 2 t : VF S64x1024) (ix2 i x) = (args m c).v (row (dir t) (pl t) i) x := by
  blk_simp [iblk]
  refine congrArg (m (c.tc.loc main_arg2)) (funext fun a => Fin.ext ?_)
  fin_cases a
  · blk_simp [index2]
    show (place (dir t) (pl t)).val * 64 + i.val = 64 * (place (dir t) (pl t)).val + i.val
    omega
  · blk_simp [index2]
    rfl

theorem blk5 (t : Fin cfg0.N) (i : Fin 64) (x : Fin 1024) :
    (iblk m c 5 t : VF S64x1024) (ix2 i x) = (args m c).o (row (dir t) (pl t) i) x := by
  blk_simp [iblk]
  refine congrArg (m (c.tc.loc main_arg5)) (funext fun a => Fin.ext ?_)
  fin_cases a
  · blk_simp [index5]
    show (place (dir t) (pl t)).val * 64 + i.val = 64 * (place (dir t) (pl t)).val + i.val
    omega
  · blk_simp [index5]
    rfl

theorem blk3 (t : Fin cfg0.N) (i : Fin 64) (x : Fin 128) :
    (iblk m c 3 t : VF S64x128) (ix2 i x) = (args m c).sp (row (dir t) (pl t) i) x := by
  blk_simp [iblk]
  refine congrArg (m (c.tc.loc main_arg3)) (funext fun a => Fin.ext ?_)
  fin_cases a
  · blk_simp [index3]
    show (place (dir t) (pl t)).val * 64 + i.val = 64 * (place (dir t) (pl t)).val + i.val
    omega
  · blk_simp [index3]
    rfl

theorem blk4 (t : Fin cfg0.N) (h : Fin 8) (i x : Fin 128) :
    (iblk m c 4 t : VF S1x1x8x128x128) (ix5 0 0 h i x) = (args m c).s (dir t) (pl t) h i x := by
  blk_simp [iblk]
  refine congrArg (m (c.tc.loc main_arg4)) (funext fun a => Fin.ext ?_)
  fin_cases a
  · blk_simp [index4]
    rfl
  · blk_simp [index4]
    rfl
  · blk_simp [index4]
    rfl
  · blk_simp [index4]
    rfl
  · blk_simp [index4]
    rfl

theorem blk6 (t : Fin cfg0.N) (h : Fin 8) (i x : Fin 64) :
    (iblk m c 6 t : VF S1x1x8x64x64) (ix5 0 0 h i x) = (args m c).T (dir t) (pl t) h i x := by
  blk_simp [iblk]
  refine congrArg (m (c.tc.loc main_arg6)) (funext fun a => Fin.ext ?_)
  fin_cases a
  · blk_simp [index6]
    rfl
  · blk_simp [index6]
    rfl
  · blk_simp [index6]
    rfl
  · blk_simp [index6]
    rfl
  · blk_simp [index6]
    rfl

/-- The blocks a grid point reads are its chunk's. -/
theorem chunkB_eq (t : Fin cfg0.N) (h : Fin 8) :
    chunkB (dir t) h (iblk m c 0 t) (iblk m c 1 t) (iblk m c 2 t) (iblk m c 3 t) (iblk m c 4 t) (iblk m c 5 t) (iblk m c 6 t) =
      (args m c).chunk (dir t) (pl t) h := by
  unfold chunkB Args.chunk
  congr 1
  · exact funext fun i => funext fun x => blk0 m c t i (col h x)
  · exact funext fun i => funext fun x => blk1 m c t i (col h x)
  · exact funext fun i => funext fun x => blk2 m c t i (col h x)
  · exact funext fun i => funext fun x => blk5 m c t i (col h x)
  · exact funext fun i => blk3 m c t i (gLane (dir t) h)
  · exact funext fun i => blk3 m c t i (bLane (dir t) h)
  · exact funext fun i => funext fun x => blk4 m c t h i x
  · exact funext fun i => funext fun x => blk6 m c t h i x

/-- The log decays of the block a grid point reads are at most zero, if all are. -/
theorem decays_blk (hA : (args m c).Decays) (t : Fin cfg0.N) (h : Fin 8) (i : Fin 64) :
    @LE.le EReal _ ((iblk m c 3 t : VF S64x128) (ix2 i (gLane (dir t) h))) 0 :=
  le_of_eq_of_le (α := EReal) (blk3 m c t i (gLane (dir t) h)) (hA _ _ _)

end Cert.KernelIdeal.Unit
-- ==== Proof.KernelScan.lean ====
/- What the kernel carries in its scratch and writes back, point after point, and the arrays it ends with. -/
module

public import proofs.«01_k».proof.Proof.KernelBlocks

@[expose] public section

set_option maxRecDepth 16384

noncomputable section

namespace Cert.KernelIdeal.Unit

open Cert.Scan
open Cert.KernelIdeal Cert.KernelIdeal.Gen Idealize.ShloMosaic Idealize.ShloMosaic.TcCoe

variable (m : (ℓ : Loc nD τ sig) → Buf (Elt Ideal) ℓ) (c : Dev nD)

theorem dir_word (t : Fin cfg0.N) : BitVec.ofNat 32 (grid0.coords t 0).val = BitVec.ofNat 32 (dir t).val := rfl

/-- One step back, at head `h`. -/
theorem step_ds (hA : (args m c).Decays) (t : Fin cfg0.N) (h : Fin 8) (D : VF S128x128)
    (hD : ∀ e x, D (ix2 e x) = (args m c).dstate (dir t) h (steps t).val e x) (e x : Fin 128) :
    dsH (BitVec.ofNat 32 (grid0.coords t 0).val) h (iblk m c 0 t) (iblk m c 1 t) (iblk m c 2 t) (iblk m c 3 t) (iblk m c 5 t)
      (iblk m c 6 t) D (ix2 e x) = (args m c).dstate (dir t) h ((steps t).val + 1) e x := by
  rw [dir_word, dsH_eq (dir t) h _ _ _ _ (iblk m c 4 t) _ _ (decays_blk m c hA t h) hD, chunkB_eq]
  rfl

/-- The head's columns of v's cotangent at a point. -/
theorem step_dv (hA : (args m c).Decays) (t : Fin cfg0.N) (h : Fin 8) (D : VF S128x128)
    (hD : ∀ e x, D (ix2 e x) = (args m c).dstate (dir t) h (steps t).val e x) (i : Fin 64) (x : Fin 128) :
    dvH (BitVec.ofNat 32 (grid0.coords t 0).val) h (iblk m c 0 t) (iblk m c 1 t) (iblk m c 3 t) (iblk m c 4 t) (iblk m c 5 t)
      (iblk m c 6 t) D (ix2 i x) = (args m c).dv (dir t) (pl t) h i x := by
  rw [dir_word, dvH_eq (dir t) h _ _ (iblk m c 2 t) _ _ _ _ (decays_blk m c hA t h) hD, chunkB_eq]
  have : 131 - (pl t).val = (steps t).val := by
    show 131 - (131 - (steps t).val) = (steps t).val
    have := (steps t).isLt
    omega
  rw [Args.dv, this]

/-- The head's columns of q's cotangent at a point. -/
theorem step_dq (hA : (args m c).Decays) (t : Fin cfg0.N) (h : Fin 8) (D : VF S128x128) (i : Fin 64) (x : Fin 128) :
    dqH (BitVec.ofNat 32 (grid0.coords t 0).val) h (iblk m c 0 t) (iblk m c 1 t) (iblk m c 2 t) (iblk m c 3 t) (iblk m c 4 t)
      (iblk m c 5 t) (iblk m c 6 t) D (ix2 i x) = (args m c).dq (dir t) (pl t) h i x := by
  rw [dir_word, dqH_eq (dir t) h _ _ _ _ _ _ _ (decays_blk m c hA t h), chunkB_eq]
  rfl

/-- The state a direction's first point takes is zero. -/
theorem first_state (t : Fin cfg0.N) (h0 : t.val % 132 = 0) (h : Fin 8) (e x : Fin 128) :
    dV h cleared (ix2 e x) = (args m c).dstate (dir t) h (steps t).val e x := by
  have hs : (steps t).val = 0 := (steps_val t).trans h0
  rw [dV_apply, cleared_apply, hs]
  rfl

/-- The scratch after a point is the cotangent of the state before its chunk. -/
theorem scratch_eq (hA : (args m c).Decays) : ∀ (n : ℕ) (hn : n < cfg0.N) (h : Fin 8) (e x : Fin 128),
    (outsAt0 m c n hn).2.2.2.2 (ix3 h e x) = (args m c).dstate (dir ⟨n, hn⟩) h ((steps ⟨n, hn⟩).val + 1) e x := by
  intro n
  induction n with
  | zero =>
    intro hn h e x
    have h0 : (⟨0, hn⟩ : Fin cfg0.N).val % 132 = 0 := rfl
    rw [outsAt0_A m c ⟨0, hn⟩ h0]
    dsimp only
    rw [sout0_A_0_eq, canon_heads fun h => dsH _ h _ _ _ _ _ _ (dV h cleared)]
    exact step_ds m c hA ⟨0, hn⟩ h _ (first_state m c ⟨0, hn⟩ h0 h) e x
  | succ n ih =>
    intro hn h e x
    by_cases h0 : (⟨n + 1, hn⟩ : Fin cfg0.N).val % 132 = 0
    · rw [outsAt0_A m c ⟨n + 1, hn⟩ h0]
      dsimp only
      rw [sout0_A_0_eq, canon_heads fun h => dsH _ h _ _ _ _ _ _ (dV h cleared)]
      exact step_ds m c hA ⟨n + 1, hn⟩ h _ (first_state m c ⟨n + 1, hn⟩ h0 h) e x
    · rw [outsAt0_B m c ⟨n + 1, hn⟩ h0]
      dsimp only
      rw [sout0_B_0_eq, canon_heads fun h => dsH _ h _ _ _ _ _ _ (dV h _)]
      refine step_ds m c hA ⟨n + 1, hn⟩ h _ (fun e x => ?_) e x
      rw [dV_apply]
      have hn' : n < cfg0.N := by omega
      have hd : dir ⟨n + 1, hn⟩ = dir ⟨n, hn'⟩ := by
        apply Fin.ext; rw [dir_val, dir_val]; dsimp only at h0 ⊢; omega
      have hs : (steps ⟨n + 1, hn⟩).val = (steps ⟨n, hn'⟩).val + 1 := by
        rw [steps_val, steps_val]; dsimp only at h0 ⊢; omega
      rw [hd, hs]
      exact ih hn' h e x

end Cert.KernelIdeal.Unit
-- ==== Proof.KernelResult.lean ====
/- The arrays the kernel ends with: q's and v's cotangent at every direction, row and column. -/
module

public import proofs.«01_k».proof.Proof.KernelScan

@[expose] public section

set_option maxRecDepth 16384

noncomputable section

namespace Cert.KernelIdeal.Unit

open Cert.Scan
open Cert.KernelIdeal Cert.KernelIdeal.Gen Idealize.ShloMosaic Idealize.ShloMosaic.TcCoe

variable (m : (ℓ : Loc nD τ sig) → Buf (Elt Ideal) ℓ) (c : Dev nD)

/-- What a point leaves of q's cotangent. -/
theorem block_dq (hA : (args m c).Decays) (t : Fin cfg0.N) (h : Fin 8) (i : Fin 64) (x : Fin 128) :
    (outsAt0 m c t.val t.isLt).1 (ix3 0 i (col h x)) = (args m c).dq (dir t) (pl t) h i x := by
  by_cases h0 : t.val % 132 = 0
  · rw [outsAt0_A m c t h0]
    dsimp only
    rw [out0_A_7_eq]
    exact (blockV_apply _ h i x).trans (step_dq m c hA t h _ i x)
  · rw [outsAt0_B m c t h0]
    dsimp only
    rw [out0_B_7_eq]
    exact (blockV_apply _ h i x).trans (step_dq m c hA t h _ i x)

/-- What a point leaves of v's cotangent. -/
theorem block_dv (hA : (args m c).Decays) (t : Fin cfg0.N) (h : Fin 8) (i : Fin 64) (x : Fin 128) :
    (outsAt0 m c t.val t.isLt).2.2.1 (ix3 0 i (col h x)) = (args m c).dv (dir t) (pl t) h i x := by
  by_cases h0 : t.val % 132 = 0
  · rw [outsAt0_A m c t h0]
    dsimp only
    rw [out0_A_9_eq]
    exact (blockV_apply _ h i x).trans (step_dv m c hA t h _ (first_state m c t h0 h) i x)
  · rw [outsAt0_B m c t h0]
    dsimp only
    rw [out0_B_9_eq]
    refine (blockV_apply _ h i x).trans (step_dv m c hA t h _ (fun e x => ?_) i x)
    rw [dV_apply]
    have hn : t.val - 1 < cfg0.N := Nat.lt_of_le_of_lt (Nat.sub_le _ _) t.isLt
    have hd : dir t = dir ⟨t.val - 1, hn⟩ := by
      apply Fin.ext; rw [dir_val, dir_val]; dsimp only; omega
    have hs : (steps t).val = (steps ⟨t.val - 1, hn⟩).val + 1 := by
      rw [steps_val, steps_val]; dsimp only; omega
    rw [hd, hs]
    exact scratch_eq m c hA (t.val - 1) hn h e x

/-- An index of a block, by its row, its head and its column in the head. -/
theorem block_idx (y : S1x64x1024.Idx) : y = ix3 0 (y 1) (col (headOf (y 2)) (inHead (y 2))) := by
  funext a
  apply Fin.ext
  fin_cases a
  · have : (y 0).val < 1 := (y 0).isLt
    show (y 0).val = 0
    omega
  · rfl
  · show (y 2).val = 128 * ((y 2).val / 128) + (y 2).val % 128
    omega

/-- The array of q's cotangents. -/
def dqArr (A : Scan.Args) : VF S2x8448x1024 := fun x => spread A.dq (x 0) (x 1) (x 2)

/-- The array of v's cotangents. -/
def dvArr (A : Scan.Args) : VF S2x8448x1024 := fun x => spread A.dv (x 0) (x 1) (x 2)

/-- Where a point's block of q's cotangent lies in the array. -/
theorem at_dq (A : Scan.Args) (t : Fin cfg0.N) (h : Fin 8) (i : Fin 64) (x : Fin 128) :
    dqArr A ((win0_7.blk t).view.emb (ix3 0 i (col h x))) = A.dq (dir t) (pl t) h i x := by
  rw [← spread_apply A.dq]
  unfold dqArr
  congr 1
  · apply Fin.ext; blk_simp [index7]; rfl
  · apply Fin.ext; blk_simp [index7]
    show (place (dir t) (pl t)).val * 64 + i.val = 64 * (place (dir t) (pl t)).val + i.val
    omega
  · apply Fin.ext; blk_simp [index7]

/-- The kernel ends with q's cotangents. -/
theorem dq_array (hA : (args m c).Decays) : (dats m 0 c).arrAt 7 cfg0.N = dqArr (args m c) := by
  refine (dats m 0 c).arrAt_eq_of_covers 7 _ (by decide +kernel) fun t hf y => ?_
  blk_simp
  rw [after0_7, block_idx y]
  exact (block_dq m c hA t _ _ _).trans (at_dq (args m c) t _ _ _).symm

/-- Where a point's block of v's cotangent lies in the array. -/
theorem at_dv (A : Scan.Args) (t : Fin cfg0.N) (h : Fin 8) (i : Fin 64) (x : Fin 128) :
    dvArr A ((win0_9.blk t).view.emb (ix3 0 i (col h x))) = A.dv (dir t) (pl t) h i x := by
  rw [← spread_apply A.dv]
  unfold dvArr
  congr 1
  · apply Fin.ext; blk_simp [index9]; rfl
  · apply Fin.ext; blk_simp [index9]
    show (place (dir t) (pl t)).val * 64 + i.val = 64 * (place (dir t) (pl t)).val + i.val
    omega
  · apply Fin.ext; blk_simp [index9]

/-- The kernel ends with v's cotangents. -/
theorem dv_array (hA : (args m c).Decays) : (dats m 0 c).arrAt 9 cfg0.N = dvArr (args m c) := by
  refine (dats m 0 c).arrAt_eq_of_covers 9 _ (by decide +kernel) fun t hf y => ?_
  blk_simp
  rw [after0_9, block_idx y]
  exact (block_dv m c hA t _ _ _).trans (at_dv (args m c) t _ _ _).symm

end Cert.KernelIdeal.Unit
-- ==== Proof.Decays.lean ====
/- The precondition, read: where it holds of the kernel's arguments, the log decays are at most zero. -/
module

public import proofs.«01_k».proof.Defs
public import proofs.«01_k».proof.Proof.KernelBlocks

@[expose] public section

noncomputable section

namespace Cert.KernelIdeal.Unit

open Cert.Scan
open Cert.KernelIdeal Cert.KernelIdeal.Gen Idealize.ShloMosaic Idealize.ShloMosaic.TcCoe

/-- The shape relations the precondition's operations take. -/
theorem decaysFacts : Cert.Pre_log_decays_nonpositive.Facts where
  slices_S8448x128_S8448x16_0_0 := by decide
  bcast_S_S8448x16 := by decide

/-- Each comparison of the precondition, at a row and a lane. -/
theorem compared_apply (x : FVec Ideal S8448x128 .f32)
    (hs : S8448x128.Slices ![0, 0] Cert.Pre_log_decays_nonpositive.S8448x16)
    (hb : Cert.Pre_log_decays_nonpositive.S_.BroadcastsInDim Cert.Pre_log_decays_nonpositive.S8448x16
      (![] : Fin 0 → Fin Cert.Pre_log_decays_nonpositive.S8448x16.rank)) (r : Fin 8448) (l : Fin 16) :
    (cmpf .ole (extractStridedSlice Cert.Pre_log_decays_nonpositive.S8448x16 ![0, 0] x hs)
      (broadcastInDim Cert.Pre_log_decays_nonpositive.S8448x16 ![] hb (constant Cert.Pre_log_decays_nonpositive.S_ .f32 0x00000000#32))
      : IVec Cert.Pre_log_decays_nonpositive.S8448x16 1) (ix2 r l)
      = BitVec.ofBool (decide (x (ix2 r ⟨l.val, by omega⟩) ≤ (0 : EReal))) := by
  pointwise

/-- Where the precondition holds, the log decays are at most zero. -/
theorem decays_of_pre (m : (ℓ : Loc nD τ sig) → Buf (Elt Ideal) ℓ)
    (hm : Cert.Pre_KernelIdeal_log_decays_nonpositive (hPre_log_decays_nonpositive := decaysFacts) m) (c : Dev nD) :
    (args m c).Decays := by
  intro r d h
  have h1 := congrFun (hm c) (ix2 r ⟨8 * d.val + h.val, by omega⟩)
  unfold Cert.Pre_log_decays_nonpositive.fn at h1
  dsimp only at h1
  have h2 := (compared_apply (m ((c.tc : Thread nD τ).loc main_arg3)) _ _ r ⟨8 * d.val + h.val, by omega⟩).symm.trans h1
  by_contra hn
  have h3 : decide ((args m c).sp r (gLane d h) ≤ 0) = false := decide_eq_false hn
  have h4 : BitVec.ofBool (decide ((args m c).sp r (gLane d h) ≤ 0)) = 1#1 := h2
  rw [h3] at h4
  exact absurd h4 (by decide)

end Cert.KernelIdeal.Unit
-- ==== Proof.RefOps.lean ====
/- Three host operations of the reference, read at an index: a chunk sliced at the scan's place, the running sum down a
   chunk's rows, and a trip's rows written back at the scan's place. -/
module

public import proofs.«01_k».proof.Proof.Gen.ReferenceIdeal
public import Idealize.ShloMosaic.Lib.Pointwise
public import Idealize.ShloMosaic.Lib.DynamicIndex

@[expose] public section

noncomputable section

namespace Cert.ReferenceIdeal.Scan

open Idealize.ShloMosaic Cert.ReferenceIdeal.Gen

/-- The words of the scan's place and of four zeros, read as signed numbers. -/
theorem start5 (w : IVec S_ 32) (p : ℕ) (hw : (w (Shape.Idx.first h_S_)).toInt = p) (k : Fin 5) :
    ((![w, constantI S_ 32 0#32, constantI S_ 32 0#32, constantI S_ 32 0#32, constantI S_ 32 0#32] : Fin 5 → IVec S_ 32) k
      (Shape.Idx.first h_S_)).toInt = ((![p, 0, 0, 0, 0] : Fin 5 → ℕ) k : ℤ) := by
  fin_cases k
  · exact hw
  all_goals rfl

/-- The words of the scan's place and of three zeros, read as signed numbers. -/
theorem start4 (w : IVec S_ 32) (p : ℕ) (hw : (w (Shape.Idx.first h_S_)).toInt = p) (k : Fin 4) :
    ((![w, constantI S_ 32 0#32, constantI S_ 32 0#32, constantI S_ 32 0#32] : Fin 4 → IVec S_ 32) k
      (Shape.Idx.first h_S_)).toInt = ((![p, 0, 0, 0] : Fin 4 → ℕ) k : ℤ) := by
  fin_cases k
  · exact hw
  all_goals rfl

/-- The rows of one chunk, heads before rows. -/
theorem rows_apply (X : FVec Ideal S132x2x64x8x128 .f32) (w : IVec S_ 32) (p : Fin 132)
    (hw : (w (Shape.Idx.first h_S_)).toInt = (p.val : ℤ)) (d : Fin 2) (h : Fin 8) (i : Fin 64) (c : Fin 128) :
    transpose S2x8x64x128 [0, 2, 1, 3] (shapeCast S2x64x8x128 (Host.dynamicSlice S1x2x64x8x128 X (fun k =>
      ((![w, constantI S_ 32 0#32, constantI S_ 32 0#32, constantI S_ 32 0#32, constantI S_ 32 0#32] : Fin 5 → IVec S_ 32) k
      (Shape.Idx.first h_S_)).toInt) sliceFits_S132x2x64x8x128_S1x2x64x8x128) shapeCasts_S1x2x64x8x128_S2x64x8x128)
      transposes_S2x64x8x128_S2x8x64x128_0_2_1_3 (ix4 d h i c) = X (ix5 p d i h c) := by
  have hp := p.isLt
  rw [Host.dynamicSlice_eq_extractStridedSlice S1x2x64x8x128 X _ (![p.val, 0, 0, 0, 0] : Fin 5 → ℕ) _
    ⟨rfl, fun a => by fin_cases a; exacts [(by omega : p.val + 1 ≤ 132), le_rfl, le_rfl, le_rfl, le_rfl]⟩ (start5 w p hw)]
  pointwise

/-- The states before one chunk. -/
theorem state_apply (X : FVec Ideal S132x2x8x128x128 .f32) (w : IVec S_ 32) (p : Fin 132)
    (hw : (w (Shape.Idx.first h_S_)).toInt = (p.val : ℤ)) (d : Fin 2) (h : Fin 8) (i c : Fin 128) :
    shapeCast S2x8x128x128 (Host.dynamicSlice S1x2x8x128x128 X (fun k =>
      ((![w, constantI S_ 32 0#32, constantI S_ 32 0#32, constantI S_ 32 0#32, constantI S_ 32 0#32] : Fin 5 → IVec S_ 32) k
      (Shape.Idx.first h_S_)).toInt) sliceFits_S132x2x8x128x128_S1x2x8x128x128) shapeCasts_S1x2x8x128x128_S2x8x128x128
      (ix4 d h i c) = X (ix5 p d h i c) := by
  have hp := p.isLt
  rw [Host.dynamicSlice_eq_extractStridedSlice S1x2x8x128x128 X _ (![p.val, 0, 0, 0, 0] : Fin 5 → ℕ) _
    ⟨rfl, fun a => by fin_cases a; exacts [(by omega : p.val + 1 ≤ 132), le_rfl, le_rfl, le_rfl, le_rfl]⟩ (start5 w p hw)]
  pointwise

/-- The inverses of one chunk. -/
theorem inverse_apply (X : FVec Ideal S132x2x8x64x64 .f32) (w : IVec S_ 32) (p : Fin 132)
    (hw : (w (Shape.Idx.first h_S_)).toInt = (p.val : ℤ)) (d : Fin 2) (h : Fin 8) (i j : Fin 64) :
    shapeCast S2x8x64x64 (Host.dynamicSlice S1x2x8x64x64 X (fun k =>
      ((![w, constantI S_ 32 0#32, constantI S_ 32 0#32, constantI S_ 32 0#32, constantI S_ 32 0#32] : Fin 5 → IVec S_ 32) k
      (Shape.Idx.first h_S_)).toInt) sliceFits_S132x2x8x64x64_S1x2x8x64x64) shapeCasts_S1x2x8x64x64_S2x8x64x64
      (ix4 d h i j) = X (ix5 p d h i j) := by
  have hp := p.isLt
  rw [Host.dynamicSlice_eq_extractStridedSlice S1x2x8x64x64 X _ (![p.val, 0, 0, 0, 0] : Fin 5 → ℕ) _
    ⟨rfl, fun a => by fin_cases a; exacts [(by omega : p.val + 1 ≤ 132), le_rfl, le_rfl, le_rfl, le_rfl]⟩ (start5 w p hw)]
  pointwise

/-- One number per row of one chunk, heads before rows. -/
theorem scalars_apply (X : FVec Ideal S132x2x64x8 .f32) (w : IVec S_ 32) (p : Fin 132)
    (hw : (w (Shape.Idx.first h_S_)).toInt = (p.val : ℤ)) (d : Fin 2) (h : Fin 8) (i : Fin 64) :
    transpose S2x8x64 [0, 2, 1] (shapeCast S2x64x8 (Host.dynamicSlice S1x2x64x8 X (fun k =>
      ((![w, constantI S_ 32 0#32, constantI S_ 32 0#32, constantI S_ 32 0#32] : Fin 4 → IVec S_ 32) k
      (Shape.Idx.first h_S_)).toInt) sliceFits_S132x2x64x8_S1x2x64x8) shapeCasts_S1x2x64x8_S2x64x8)
      transposes_S2x64x8_S2x8x64_0_2_1 (ix3 d h i) = X (ix4 p d i h) := by
  have hp := p.isLt
  rw [Host.dynamicSlice_eq_extractStridedSlice S1x2x64x8 X _ (![p.val, 0, 0, 0] : Fin 4 → ℕ) _
    ⟨rfl, fun a => by fin_cases a; exacts [(by omega : p.val + 1 ≤ 132), le_rfl, le_rfl, le_rfl]⟩ (start4 w p hw)]
  pointwise

/-- A vector of rows as one column. -/
theorem column_apply (y : FVec Ideal S2x8x64 .f32) (d : Fin 2) (h : Fin 8) (i : Fin 64) :
    broadcastInDim S2x8x64x1 ![0, 1, 2] bcast_S2x8x64_S2x8x64x1_0_1_2 y (ix4 d h i 0) = y (ix3 d h i) := by
  pointwise

/-- Two cotangents of the two halves, padded to the whole and added: the second half is the first cotangent. -/
theorem padded_apply (x y : FVec Ideal S2x8x64x128 .f32) (d : Fin 2) (h : Fin 8) (i : Fin 64) (c : Fin 128) :
    addf (pad S2x8x64x256 ![0, 0, 0, 128] ![0, 0, 0, 0] ![0, 0, 0, 0] x (constant S_ .f32 0x00000000#32)
        pads_S2x8x64x128_S2x8x64x256_000_000_000_12800 h_S_)
      (pad S2x8x64x256 ![0, 0, 0, 0] ![0, 0, 0, 128] ![0, 0, 0, 0] y (constant S_ .f32 0x00000000#32)
        pads_S2x8x64x128_S2x8x64x256_000_000_000_01280 h_S_) (ix4 d h i ⟨128 + c.val, by omega⟩) = x (ix4 d h i c) := by
  pointwise

/-- The rows written back at the scan's place are there, and every other place keeps its rows. -/
theorem put_apply (X : FVec Ideal S132x2x64x8x128 .f32) (U : FVec Ideal S2x8x64x128 .f32) (w : IVec S_ 32) (p : Fin 132)
    (hw : (w (Shape.Idx.first h_S_)).toInt = (p.val : ℤ)) (p' : Fin 132) (d : Fin 2) (h : Fin 8) (i : Fin 64) (c : Fin 128) :
    Host.dynamicUpdateSlice X (broadcastInDim S1x2x64x8x128 ![1, 2, 3, 4] bcast_S2x64x8x128_S1x2x64x8x128_1_2_3_4
      (transpose S2x64x8x128 [0, 2, 1, 3] U transposes_S2x8x64x128_S2x64x8x128_0_2_1_3)) (fun k =>
      ((![w, constantI S_ 32 0#32, constantI S_ 32 0#32, constantI S_ 32 0#32, constantI S_ 32 0#32] : Fin 5 → IVec S_ 32) k
      (Shape.Idx.first h_S_)).toInt) updateFits_S132x2x64x8x128_S1x2x64x8x128 (ix5 p' d i h c)
      = if p' = p then U (ix4 d h i c) else X (ix5 p' d i h c) := by
  have hp := p.isLt
  have hf : S132x2x64x8x128.Slices (![p.val, 0, 0, 0, 0] : Fin 5 → ℕ) S1x2x64x8x128 :=
    ⟨rfl, fun a => by fin_cases a; exacts [(by omega : p.val + 1 ≤ 132), le_rfl, le_rfl, le_rfl, le_rfl]⟩
  rw [Host.dynamicUpdateSlice_eq_updateSlice X _ _ _ (![p.val, 0, 0, 0, 0] : Fin 5 → ℕ)
    (fun a => by have := hf.2 a; rw [start5 w p hw a]; omega) hf]
  pointwise
  by_cases h : p' = p
  · rw [if_pos h, dif_pos (by subst h; omega)]
  · rw [if_neg h, dif_neg (fun hc => h (Fin.ext (by omega)))]

/-- A fold of sums is the first value and the sum of the rest. -/
theorem foldl_sum {α : Type} (f : α → EReal) (l : List α) (v : EReal) :
    l.foldl (fun r n => r + f n) v = v + (l.map f).sum := by
  induction l generalizing v with
  | nil => simp
  | cons a l ih => rw [List.foldl_cons, ih, List.map_cons, List.sum_cons, add_assoc]

/-- The element a window position of row `i` reads: zero above the first row. -/
def window (x : FVec Ideal S2x8x64 .f32) (d : Fin 2) (h : Fin 8) (i : Fin 64) (q : (⟨3, ![1, 1, 64]⟩ : Shape).Idx) : EReal :=
  if hin : ∀ a : Fin 3, (![0, 0, 63] : Fin 3 → ℕ) a ≤ (ix3 d h i a).val * (![1, 1, 1] : Fin 3 → ℕ) a + (q a).val ∧
      (ix3 d h i a).val * (![1, 1, 1] : Fin 3 → ℕ) a + (q a).val - (![0, 0, 63] : Fin 3 → ℕ) a < S2x8x64.size a then
    x (fun a => ⟨(ix3 d h i a).val * (![1, 1, 1] : Fin 3 → ℕ) a + (q a).val - (![0, 0, 63] : Fin 3 → ℕ) a, (hin a).2⟩)
  else 0

/-- Position `w` of row `i`'s window reads row `i + w - 63`. -/
theorem window_apply (x : FVec Ideal S2x8x64 .f32) (d : Fin 2) (h : Fin 8) (i w : Fin 64) :
    window x d h i (ix3 0 0 w) = if hw : 63 ≤ i.val + w.val then x (ix3 d h ⟨i.val + w.val - 63, by omega⟩) else 0 := by
  have hd := d.isLt
  have hh := h.isLt
  unfold window
  by_cases hw : 63 ≤ i.val + w.val
  · have hin : ∀ a : Fin 3, (![0, 0, 63] : Fin 3 → ℕ) a ≤ (ix3 d h i a).val * (![1, 1, 1] : Fin 3 → ℕ) a
        + ((ix3 0 0 w : (⟨3, ![1, 1, 64]⟩ : Shape).Idx) a).val ∧ (ix3 d h i a).val * (![1, 1, 1] : Fin 3 → ℕ) a
        + ((ix3 0 0 w : (⟨3, ![1, 1, 64]⟩ : Shape).Idx) a).val - (![0, 0, 63] : Fin 3 → ℕ) a < S2x8x64.size a := by
      intro a
      match a with
      | 0 => show 0 ≤ d.val * 1 + 0 ∧ d.val * 1 + 0 - 0 < 2; omega
      | 1 => show 0 ≤ h.val * 1 + 0 ∧ h.val * 1 + 0 - 0 < 8; omega
      | 2 => show 63 ≤ i.val * 1 + w.val ∧ i.val * 1 + w.val - 63 < 64; omega
    rw [dif_pos hin, dif_pos hw]
    refine congrArg x (funext fun a => Fin.ext ?_)
    match a with
    | 0 => show d.val * 1 + 0 - 0 = d.val; omega
    | 1 => show h.val * 1 + 0 - 0 = h.val; omega
    | 2 => show i.val * 1 + w.val - 63 = i.val + w.val - 63; omega
  · rw [dif_neg hw, dif_neg]
    intro hin
    have h2 : 63 ≤ i.val * 1 + w.val := (hin 2).1
    omega

/-- A window's elements add up to the rows up to `i`. -/
theorem sum_window (x : FVec Ideal S2x8x64 .f32) (d : Fin 2) (h : Fin 8) (i : Fin 64) :
    ∑ q, window x d h i q = ∑ j : Fin 64, if j ≤ i then x (ix3 d h j) else 0 := by
  rw [sum_idx3, Fin.sum_univ_one, Fin.sum_univ_one]
  simp only [window_apply]
  rw [← Finset.sum_filter]
  refine (Finset.sum_filter_add_sum_filter_not Finset.univ (fun w : Fin 64 => 63 ≤ i.val + w.val) _).symm.trans ?_
  rw [Finset.sum_eq_zero (s := Finset.univ.filter fun w : Fin 64 => ¬ 63 ≤ i.val + w.val)
    fun w hw => dif_neg (Finset.mem_filter.mp hw).2, add_zero]
  refine Finset.sum_bij' (fun w _ => ⟨i.val + w.val - 63, by omega⟩) (fun j _ => ⟨j.val + 63 - i.val - (if i.val < j.val then j.val - i.val else 0), by split_ifs <;> omega⟩) ?_ ?_ ?_ ?_ ?_
  · intro w hw
    rw [Finset.mem_filter]
    exact ⟨Finset.mem_univ _, Fin.le_def.mpr (by show i.val + w.val - 63 ≤ i.val; omega)⟩
  · intro j hj
    have hle : j.val ≤ i.val := Fin.le_def.mp (Finset.mem_filter.mp hj).2
    rw [Finset.mem_filter]
    refine ⟨Finset.mem_univ _, ?_⟩
    show 63 ≤ i.val + (j.val + 63 - i.val - (if i.val < j.val then j.val - i.val else 0))
    rw [if_neg (by omega)]
    omega
  · intro w hw
    have h1 : 63 ≤ i.val + w.val := (Finset.mem_filter.mp hw).2
    apply Fin.ext
    show i.val + w.val - 63 + 63 - i.val - (if i.val < i.val + w.val - 63 then _ else 0) = w.val
    rw [if_neg (by omega)]
    omega
  · intro j hj
    have hle : j.val ≤ i.val := Fin.le_def.mp (Finset.mem_filter.mp hj).2
    apply Fin.ext
    show i.val + (j.val + 63 - i.val - (if i.val < j.val then j.val - i.val else 0)) - 63 = j.val
    rw [if_neg (by omega)]
    omega
  · intro w hw
    rw [dif_pos (Finset.mem_filter.mp hw).2]

/-- The running sum down a chunk's rows: at row `i`, the sum of the rows up to it. -/
theorem runningSum_apply (x : FVec Ideal S2x8x64 .f32) (d : Fin 2) (h : Fin 8) (i : Fin 64) :
    Host.reduceWindowAdd ![1, 1, 64] ![1, 1, 1] ![0, 0, 63] ![0, 0, 0] x
      (broadcastInDim S_ ![] bcast_S_S_ (constant S_ .f32 0x00000000#32))
      reduceWindows_S2x8x64_S2x8x64_w1s1p0_0_w1s1p0_0_w64s1p63_0 h_S_ (ix3 d h i)
      = ∑ j : Fin 64, if j ≤ i then x (ix3 d h j) else 0 := by
  have hz : (broadcastInDim S_ ![] bcast_S_S_ (constant (F := Ideal) S_ .f32 0x00000000#32)) (Shape.Idx.first h_S_) = (0 : EReal) := by
    pointwise
  unfold Host.reduceWindowAdd
  rw [hz]
  show Ideal.hostReduceWindowAdd _ _ _ _ _ _ _ _ = _
  unfold Ideal.hostReduceWindowAdd Host.reduceWindow
  refine (foldl_sum _ _ _).trans ?_
  rw [zero_add, ← Fin.sum_univ_def]
  refine (Finset.sum_congr rfl fun n _ => ?_).trans ((Equiv.sum_comp (Shape.rowMajor ⟨3, ![1, 1, 64]⟩).symm (window x d h i)).trans (sum_window x d h i))
  unfold window
  split
  · next hin =>
    symm
    rw [dif_pos]
    · rfl
    · exact hin
  · next hin =>
    symm
    rw [dif_neg]
    exact hin

end Cert.ReferenceIdeal.Scan
-- ==== Proof.RefTrip.lean ====
/- One trip of the reference's scan back over the chunks, read at an index: what it computes of a chunk is the backward step
   on that chunk. -/
module

public import proofs.«01_k».proof.Proof.Spec
public import proofs.«01_k».proof.Proof.RefOps
public import proofs.«01_k».proof.Proof.Gen.ReferenceIdeal.Run

@[expose] public section

noncomputable section

namespace Cert.ReferenceIdeal.Scan

open Idealize.ShloMosaic Idealize.ShloMosaic.TcCoe Cert.ReferenceIdeal.Gen Cert.ReferenceIdeal.Value
open Cert.Scan (Chunk)

/-- The scan is at place `p`, where the arrays it reads hold the chunks `X`. -/
structure At (V : Valuation τ sig (Elt Ideal)) (p : Fin 132) (X : Fin 2 → Fin 8 → Chunk) : Prop where
  counter : (V (Proc.devRef .tc main_v85_9) : IVec S_ 32) = constantI S_ 32 (BitVec.ofNat 32 (131 - p.val))
  mask : ∀ i j, (V (Proc.devRef .tc main_v85_8) : IVec S64x64 1) (ix2 i j) = if j ≤ i then 1#1 else 0#1
  q : ∀ d h i c, (V (Proc.devRef .tc main_v85_0) : FVec Ideal S132x2x64x8x128 .f32) (ix5 p d i h c) = (X d h).q i c
  k : ∀ d h i c, (V (Proc.devRef .tc main_v85_1) : FVec Ideal S132x2x64x8x128 .f32) (ix5 p d i h c) = (X d h).k i c
  v : ∀ d h i c, (V (Proc.devRef .tc main_v85_2) : FVec Ideal S132x2x64x8x128 .f32) (ix5 p d i h c) = (X d h).v i c
  g : ∀ d h i, (V (Proc.devRef .tc main_v85_3) : FVec Ideal S132x2x64x8 .f32) (ix4 p d i h) = (X d h).g i
  b : ∀ d h i, (V (Proc.devRef .tc main_v85_4) : FVec Ideal S132x2x64x8 .f32) (ix4 p d i h) = (X d h).b i
  s : ∀ d h e c, (V (Proc.devRef .tc main_v85_5) : FVec Ideal S132x2x8x128x128 .f32) (ix5 p d h e c) = (X d h).s e c
  T : ∀ d h i j, (V (Proc.devRef .tc main_v85_6) : FVec Ideal S132x2x8x64x64 .f32) (ix5 p d h i j) = (X d h).T i j
  o : ∀ d h i c, (V (Proc.devRef .tc main_v85_7) : FVec Ideal S132x2x64x8x128 .f32) (ix5 p d i h c) = (X d h).o i c
  le : ∀ d h i j, (X d h).le j i = decide (j ≤ i)

/-- The word of the mask's fill value is minus infinity. -/
theorem ofBits_neg_inf : Ideal.ofBits .f32 0xFF800000#32 = ⊥ := by simp [Ideal.ofBits, Ideal.ieee]

namespace At

variable {V : Valuation τ sig (Elt Ideal)} {p : Fin 132} {X : Fin 2 → Fin 8 → Chunk}

/-- The scan's place, as the trip computes it from the counter. -/
theorem start (H : At V p X) :
    ((res_main_while0b_v115 V : IVec S_ 32) (Shape.Idx.first h_S_)).toInt = (p.val : ℤ) := by
  have hp := p.isLt
  unfold res_main_while0b_v115
  rw [H.counter]
  show (132#32 - BitVec.ofNat 32 (131 - p.val) - 1#32).toInt = (p.val : ℤ)
  have e : 132#32 - BitVec.ofNat 32 (131 - p.val) - 1#32 = BitVec.ofNat 32 p.val := by
    apply BitVec.eq_of_toNat_eq
    simp only [BitVec.toNat_sub, BitVec.toNat_ofNat]
    omega
  rw [e]
  exact toInt_ofNat_of_lt (by omega)

/-- The trip's states. -/
theorem s_apply (H : At V p X) (d : Fin 2) (h : Fin 8) (e c : Fin 128) :
    (res_main_while0b_v121 V : FVec Ideal S2x8x128x128 .f32) (ix4 d h e c) = (X d h).s e c := by
  unfold res_main_while0b_v121
  exact (state_apply _ _ p H.start d h e c).trans (H.s d h e c)

/-- The trip's inverses. -/
theorem T_apply (H : At V p X) (d : Fin 2) (h : Fin 8) (i j : Fin 64) :
    (res_main_while0b_v122 V : FVec Ideal S2x8x64x64 .f32) (ix4 d h i j) = (X d h).T i j := by
  unfold res_main_while0b_v122
  exact (inverse_apply _ _ p H.start d h i j).trans (H.T d h i j)

/-- The trip's rows of q. -/
theorem q_apply (H : At V p X) (d : Fin 2) (h : Fin 8) (i : Fin 64) (c : Fin 128) :
    (res_main_while0b_v124 V : FVec Ideal S2x8x64x128 .f32) (ix4 d h i c) = (X d h).q i c := by
  unfold res_main_while0b_v124
  exact (rows_apply _ _ p H.start d h i c).trans (H.q d h i c)

/-- The trip's rows of k. -/
theorem k_apply (H : At V p X) (d : Fin 2) (h : Fin 8) (i : Fin 64) (c : Fin 128) :
    (res_main_while0b_v125 V : FVec Ideal S2x8x64x128 .f32) (ix4 d h i c) = (X d h).k i c := by
  unfold res_main_while0b_v125
  exact (rows_apply _ _ p H.start d h i c).trans (H.k d h i c)

/-- The trip's rows of the output's cotangent. -/
theorem o_apply (H : At V p X) (d : Fin 2) (h : Fin 8) (i : Fin 64) (c : Fin 128) :
    (res_main_while0b_v176 V : FVec Ideal S2x8x64x128 .f32) (ix4 d h i c) = (X d h).o i c := by
  unfold res_main_while0b_v176
  exact (rows_apply _ _ p H.start d h i c).trans (H.o d h i c)

/-- The trip's write strengths. -/
theorem b_apply (H : At V p X) (d : Fin 2) (h : Fin 8) (i : Fin 64) :
    (res_main_while0b_v130 V : FVec Ideal S2x8x64x1 .f32) (ix4 d h i 0) = (X d h).b i := by
  unfold res_main_while0b_v130
  exact (column_apply _ d h i).trans ((scalars_apply _ _ p H.start d h i).trans (H.b d h i))

/-- The trip's running sums of log decays. -/
theorem cum_apply (H : At V p X) (d : Fin 2) (h : Fin 8) (i : Fin 64) :
    (res_main_while0b_v128 V : FVec Ideal S2x8x64 .f32) (ix3 d h i) = (X d h).cum i := by
  unfold res_main_while0b_v128
  refine (runningSum_apply _ d h i).trans (Finset.sum_congr rfl fun j _ => ?_)
  simp only [H.le d h i j, decide_eq_true_eq]
  exact if_congr Iff.rfl ((scalars_apply _ _ p H.start d h j).trans (H.g d h j)) rfl

/-- The sum of a chunk's log decays is the running sum at its last row. -/
theorem last_apply (H : At V p X) (d : Fin 2) (h : Fin 8) :
    (res_main_while0b_v162 V : FVec Ideal S2x8x1 .f32) (ix3 d h 0) = (X d h).tot := by
  have e : (res_main_while0b_v162 V : FVec Ideal S2x8x1 .f32) (ix3 d h 0)
      = (res_main_while0b_v128 V : FVec Ideal S2x8x64 .f32) (ix3 d h 63) := by
    pointwise [res_main_while0b_v162]
  have t : (X d h).cum 63 = (X d h).tot := Finset.sum_congr rfl fun j _ => by
    have hj : j ≤ 63 := Fin.le_last j
    rw [H.le, if_pos (decide_eq_true hj)]
  exact e.trans ((H.cum_apply d h 63).trans t)

/-- The trip's decay from row to row. -/
theorem decay_apply (H : At V p X) (d : Fin 2) (h : Fin 8) (i j : Fin 64) :
    (res_main_while0b_v137 V : FVec Ideal S2x8x64x64 .f32) (ix4 d h i j) = (X d h).decay i j := by
  pointwise [res_main_while0b_v137]
  rw [H.mask, H.cum_apply, H.cum_apply, Chunk.decay, H.le]
  by_cases hij : j ≤ i
  · rw [if_pos hij, if_pos (decide_eq_true hij)]
    rfl
  · rw [if_neg hij, if_neg (by simpa using hij)]
    show Ideal.exp (Ideal.ofBits .f32 0xFF800000#32) = 0
    rw [ofBits_neg_inf]
    rfl

/-- The keys the inverse mixes. -/
theorem w_apply (H : At V p X) (d : Fin 2) (h : Fin 8) (i : Fin 64) (c : Fin 128) :
    (res_main_while0b_v149 V : FVec Ideal S2x8x64x128 .f32) (ix4 d h i c) = (X d h).w i c := by
  pointwise [res_main_while0b_v149, res_main_while0b_v148]
  simp only [H.T_apply, H.k_apply, H.b_apply, H.cum_apply, Chunk.w]

/-- The corrected values. -/
theorem vn_apply (H : At V p X) (d : Fin 2) (h : Fin 8) (i : Fin 64) (c : Fin 128) :
    (res_main_while0b_v152 V : FVec Ideal S2x8x64x128 .f32) (ix4 d h i c) = (X d h).vn i c := by
  obtain ⟨y, hy, e⟩ : ∃ y : FVec Ideal S2x8x64x128 .f32,
      (∀ d h i c, y (ix4 d h i c) = (X d h).v i c) ∧ (res_main_while0b_v148 V : FVec Ideal S2x8x64x256 .f32) =
        Host.dotGeneral dot_S2x8x64x64_S2x8x64x256_S2x8x64x256_3_2_2_3_01_01 none (res_main_while0b_v122 V)
          (concatenate S2x8x64x256 3 [⟨S2x8x64x128, mulf (mulf (res_main_while0b_v125 V)
            (broadcastInDim S2x8x64x128 ![0, 1, 2, 3] bcast_S2x8x64x1_S2x8x64x128_0_1_2_3 (res_main_while0b_v130 V)))
            (broadcastInDim S2x8x64x128 ![0, 1, 2, 3] bcast_S2x8x64x1_S2x8x64x128_0_1_2_3
              (broadcastInDim S2x8x64x1 ![0, 1, 2] bcast_S2x8x64_S2x8x64x1_0_1_2 (Host.exp (res_main_while0b_v128 V))))⟩,
            ⟨S2x8x64x128, mulf y (broadcastInDim S2x8x64x128 ![0, 1, 2, 3] bcast_S2x8x64x1_S2x8x64x128_0_1_2_3
              (res_main_while0b_v130 V))⟩] concatenates_S2x8x64x128_S2x8x64x128_S2x8x64x256_d3) :=
    ⟨_, fun d h i c => (rows_apply _ _ p H.start d h i c).trans (H.v d h i c), rfl⟩
  unfold res_main_while0b_v152
  rw [e]
  pointwise
  simp only [hy, H.T_apply, H.b_apply, H.w_apply, H.s_apply, Chunk.vn, Chunk.u]

/-- The attention weights within the chunk. -/
theorem attn_apply (H : At V p X) (d : Fin 2) (h : Fin 8) (i j : Fin 64) :
    (res_main_while0b_v154 V : FVec Ideal S2x8x64x64 .f32) (ix4 d h i j) = (X d h).attn i j := by
  pointwise [res_main_while0b_v154]
  simp only [H.q_apply, H.k_apply, H.decay_apply, Chunk.attn]

/-- The exponential of a running sum. -/
theorem expCum_apply (H : At V p X) (d : Fin 2) (h : Fin 8) (i : Fin 64) :
    (res_main_while0b_v156 V : FVec Ideal S2x8x64x1 .f32) (ix4 d h i 0) = Ideal.exp ((X d h).cum i) := by
  pointwise [res_main_while0b_v156]
  rw [H.cum_apply]

/-- The decayed rows of q. -/
theorem qd_apply (H : At V p X) (d : Fin 2) (h : Fin 8) (i : Fin 64) (c : Fin 128) :
    (res_main_while0b_v158 V : FVec Ideal S2x8x64x128 .f32) (ix4 d h i c)
      = (X d h).q i c * Ideal.exp ((X d h).cum i) := by
  pointwise [res_main_while0b_v158]
  rw [H.q_apply, H.expCum_apply]

/-- The decay of the whole chunk. -/
theorem expTot_apply (H : At V p X) (d : Fin 2) (h : Fin 8) :
    (res_main_while0b_v164 V : FVec Ideal S2x8x1x1 .f32) (ix4 d h 0 0) = Ideal.exp (X d h).tot := by
  pointwise [res_main_while0b_v164]
  rw [H.last_apply]

/-- The keys as they enter the state. -/
theorem kd_apply (H : At V p X) (d : Fin 2) (h : Fin 8) (i : Fin 64) (c : Fin 128) :
    (res_main_while0b_v172 V : FVec Ideal S2x8x64x128 .f32) (ix4 d h i c) = (X d h).kd i c := by
  pointwise [res_main_while0b_v172]
  rw [H.k_apply, H.last_apply, H.cum_apply, Chunk.kd]

/-- The carried cotangent of the state, of one head. -/
def carried (V : Valuation τ sig (Elt Ideal)) (d : Fin 2) (h : Fin 8) (e c : Fin 128) : EReal :=
  (V (Proc.devRef .tc main_v85_10) : FVec Ideal S2x8x128x128 .f32) (ix4 d h e c)

/-- The cotangent of the corrected values. -/
theorem dvn_apply (H : At V p X) (d : Fin 2) (h : Fin 8) (i : Fin 64) (c : Fin 128) :
    (res_main_while0b_v183 V : FVec Ideal S2x8x64x128 .f32) (ix4 d h i c) = (X d h).dvn (carried V d h) i c := by
  pointwise [res_main_while0b_v183]
  simp only [H.kd_apply, H.o_apply, H.attn_apply, Chunk.dvn]
  rfl

/-- Its negative. -/
theorem ndvn_apply (H : At V p X) (d : Fin 2) (h : Fin 8) (i : Fin 64) (c : Fin 128) :
    (res_main_while0b_v194 V : FVec Ideal S2x8x64x128 .f32) (ix4 d h i c) = -(X d h).dvn (carried V d h) i c := by
  pointwise [res_main_while0b_v194]
  rw [H.dvn_apply]

/-- The cotangent of the mixed values: the corrected values' through the inverse. -/
theorem du_apply (H : At V p X) (d : Fin 2) (h : Fin 8) (i : Fin 64) (c : Fin 128) :
    (res_main_while0b_v203 V : FVec Ideal S2x8x64x256 .f32) (ix4 d h i ⟨128 + c.val, by omega⟩)
      = ∑ x, (X d h).dvn (carried V d h) x c * (X d h).T x i := by
  obtain ⟨z, hz, e⟩ : ∃ z : FVec Ideal S2x8x64x256 .f32,
      (∀ d h i (c : Fin 128), z (ix4 d h i ⟨128 + c.val, by omega⟩)
        = (res_main_while0b_v183 V : FVec Ideal S2x8x64x128 .f32) (ix4 d h i c)) ∧
      (res_main_while0b_v203 V : FVec Ideal S2x8x64x256 .f32) = transpose S2x8x64x256 [0, 1, 3, 2]
        (Host.dotGeneral dot_S2x8x64x256_S2x8x64x64_S2x8x256x64_2_2_3_3_01_01 none z (res_main_while0b_v122 V))
        transposes_S2x8x256x64_S2x8x64x256_0_1_3_2 := ⟨_, fun d h i c => padded_apply _ _ d h i c, rfl⟩
  rw [e]
  pointwise
  simp only [hz, H.dvn_apply, H.T_apply]

/-- The state's cotangent after the trip. -/
theorem ds_apply (H : At V p X) (d : Fin 2) (h : Fin 8) (e c : Fin 128) :
    (step_main_v85_10 V : FVec Ideal S2x8x128x128 .f32) (ix4 d h e c) = (X d h).ds (carried V d h) e c := by
  pointwise [step_main_v85_10, id]
  simp only [H.expTot_apply, H.o_apply, H.qd_apply, H.ndvn_apply, H.w_apply, Chunk.ds]
  rfl

/-- The cotangents of q after the trip: at the scan's place the chunk's, elsewhere what was there. -/
theorem dq_apply (H : At V p X) (p' : Fin 132) (d : Fin 2) (h : Fin 8) (i : Fin 64) (c : Fin 128) :
    (step_main_v85_11 V : FVec Ideal S132x2x64x8x128 .f32) (ix5 p' d i h c) = if p' = p then (X d h).dq i c
      else (V (Proc.devRef .tc main_v85_11) : FVec Ideal S132x2x64x8x128 .f32) (ix5 p' d i h c) := by
  unfold step_main_v85_11
  refine (put_apply _ _ _ p H.start p' d h i c).trans (if_congr Iff.rfl ?_ rfl)
  pointwise
  simp only [H.o_apply, H.s_apply, H.expCum_apply, H.vn_apply, H.decay_apply, H.k_apply, Chunk.dq, Chunk.da]

/-- The cotangents of v after the trip: at the scan's place the chunk's, elsewhere what was there. -/
theorem dv_apply (H : At V p X) (p' : Fin 132) (d : Fin 2) (h : Fin 8) (i : Fin 64) (c : Fin 128) :
    (step_main_v85_12 V : FVec Ideal S132x2x64x8x128 .f32) (ix5 p' d i h c)
      = if p' = p then (X d h).dv (carried V d h) i c
      else (V (Proc.devRef .tc main_v85_12) : FVec Ideal S132x2x64x8x128 .f32) (ix5 p' d i h c) := by
  unfold step_main_v85_12
  refine (put_apply _ _ _ p H.start p' d h i c).trans (if_congr Iff.rfl ?_ rfl)
  pointwise
  simp only [H.du_apply, H.b_apply, Chunk.dv]

end At

end Cert.ReferenceIdeal.Scan
-- ==== Proof.RefRead.lean ====
/- The reference's set-up, read at an index: the arguments cut into chunks in the order each direction reads them, and the
   results put back in the rows' own order. -/
module

public import proofs.«01_k».proof.Proof.Whole
public import proofs.«01_k».proof.Proof.Gen.ReferenceIdeal
public import Idealize.ShloMosaic.Lib.Pointwise

@[expose] public section

noncomputable section

namespace Cert.ReferenceIdeal.Scan

open Idealize.ShloMosaic Cert.ReferenceIdeal.Gen Cert.Scan

/-- The rows with the context and the rest each reversed. -/
def flipRows (x : FVec Ideal S8448x1024 .f32) : FVec Ideal S8448x1024 .f32 :=
  concatenate S8448x1024 0 [⟨S256x1024, Host.reverse [0]
      (extractStridedSlice S256x1024 ![0, 0] x slices_S8448x1024_S256x1024_0_0)⟩,
    ⟨S8192x1024, Host.reverse [0] (extractStridedSlice S8192x1024 ![256, 0] x slices_S8448x1024_S8192x1024_256_0)⟩]
    concatenates_S256x1024_S8192x1024_S8448x1024_d0

/-- Two arrays of rows, one for each direction. -/
def pairRows (x y : FVec Ideal S8448x1024 .f32) : FVec Ideal S2x8448x1024 .f32 :=
  concatenate S2x8448x1024 0 [⟨S1x8448x1024, broadcastInDim S1x8448x1024 ![1, 2] bcast_S8448x1024_S1x8448x1024_1_2 x⟩,
    ⟨S1x8448x1024, broadcastInDim S1x8448x1024 ![1, 2] bcast_S8448x1024_S1x8448x1024_1_2 y⟩]
    concatenates_S1x8448x1024_S1x8448x1024_S2x8448x1024_d0

/-- The rows as the two directions read them, cut into chunks and the columns into heads, the chunks outermost. -/
def chunkRows (x : FVec Ideal S8448x1024 .f32) : FVec Ideal S132x2x64x8x128 .f32 :=
  transpose S132x2x64x8x128 [1, 0, 2, 3, 4] (shapeCast S2x132x64x8x128 (pairRows x (flipRows x))
    shapeCasts_S2x8448x1024_S2x132x64x8x128) transposes_S2x132x64x8x128_S132x2x64x8x128_1_0_2_3_4

/-- The first direction's rows, of the chunks. -/
def firstRows (y : FVec Ideal S132x2x64x8x128 .f32) : FVec Ideal S8448x1024 .f32 :=
  shapeCast S8448x1024 (extractStridedSlice S1x8448x1024 ![0, 0, 0] (shapeCast S2x8448x1024
    (transpose S2x132x64x8x128 [1, 0, 2, 3, 4] y transposes_S132x2x64x8x128_S2x132x64x8x128_1_0_2_3_4)
    shapeCasts_S2x132x64x8x128_S2x8448x1024) slices_S2x8448x1024_S1x8448x1024_0_0_0) shapeCasts_S1x8448x1024_S8448x1024

/-- The second direction's rows, of the chunks. -/
def secondRows (y : FVec Ideal S132x2x64x8x128 .f32) : FVec Ideal S8448x1024 .f32 :=
  shapeCast S8448x1024 (extractStridedSlice S1x8448x1024 ![1, 0, 0] (shapeCast S2x8448x1024
    (transpose S2x132x64x8x128 [1, 0, 2, 3, 4] y transposes_S132x2x64x8x128_S2x132x64x8x128_1_0_2_3_4)
    shapeCasts_S2x132x64x8x128_S2x8448x1024) slices_S2x8448x1024_S1x8448x1024_1_0_0) shapeCasts_S1x8448x1024_S8448x1024

/-- The chunks' rows put back in the rows' own order, one array for each direction. -/
def putBack (y : FVec Ideal S132x2x64x8x128 .f32) : FVec Ideal S2x8448x1024 .f32 :=
  pairRows (firstRows y) (flipRows (secondRows y))

/-- Eight numbers per row, with the context and the rest each reversed. -/
def flipScalars (x : FVec Ideal S8448x8 .f32) : FVec Ideal S8448x8 .f32 :=
  concatenate S8448x8 0 [⟨S256x8, Host.reverse [0] (extractStridedSlice S256x8 ![0, 0] x slices_S8448x8_S256x8_0_0)⟩,
    ⟨S8192x8, Host.reverse [0] (extractStridedSlice S8192x8 ![256, 0] x slices_S8448x8_S8192x8_256_0)⟩]
    concatenates_S256x8_S8192x8_S8448x8_d0

/-- Sixteen numbers per row as the two directions read them, cut into chunks: the first eight in turn, the second eight
    reversed. -/
def chunkScalars (x : FVec Ideal S8448x16 .f32) : FVec Ideal S132x2x64x8 .f32 :=
  transpose S132x2x64x8 [1, 0, 2, 3] (shapeCast S2x132x64x8
    (concatenate S2x8448x8 0 [⟨S1x8448x8, broadcastInDim S1x8448x8 ![1, 2] bcast_S8448x8_S1x8448x8_1_2
        (extractStridedSlice S8448x8 ![0, 0] x slices_S8448x16_S8448x8_0_0)⟩,
      ⟨S1x8448x8, broadcastInDim S1x8448x8 ![1, 2] bcast_S8448x8_S1x8448x8_1_2
        (flipScalars (extractStridedSlice S8448x8 ![0, 8] x slices_S8448x16_S8448x8_0_8))⟩]
      concatenates_S1x8448x8_S1x8448x8_S2x8448x8_d0)
      shapeCasts_S2x8448x8_S2x132x64x8) transposes_S2x132x64x8_S132x2x64x8_1_0_2_3

/-- The saved inverses, the backward direction's with rows and columns reversed, the chunks outermost. -/
def chunkInverses (x : FVec Ideal S2x132x8x64x64 .f32) : FVec Ideal S132x2x8x64x64 .f32 :=
  transpose S132x2x8x64x64 [1, 0, 2, 3, 4]
    (concatenate S2x132x8x64x64 0 [⟨S1x132x8x64x64, broadcastInDim S1x132x8x64x64 ![1, 2, 3, 4]
        bcast_S132x8x64x64_S1x132x8x64x64_1_2_3_4 (shapeCast S132x8x64x64 (extractStridedSlice S1x132x8x64x64
          ![0, 0, 0, 0, 0] x slices_S2x132x8x64x64_S1x132x8x64x64_0_0_0_0_0) shapeCasts_S1x132x8x64x64_S132x8x64x64)⟩,
      ⟨S1x132x8x64x64, broadcastInDim S1x132x8x64x64 ![1, 2, 3, 4] bcast_S132x8x64x64_S1x132x8x64x64_1_2_3_4
        (Host.reverse [2, 3] (shapeCast S132x8x64x64 (extractStridedSlice S1x132x8x64x64
          ![1, 0, 0, 0, 0] x slices_S2x132x8x64x64_S1x132x8x64x64_1_0_0_0_0) shapeCasts_S1x132x8x64x64_S132x8x64x64))⟩]
      concatenates_S1x132x8x64x64_S1x132x8x64x64_S2x132x8x64x64_d0) transposes_S2x132x8x64x64_S132x2x8x64x64_1_0_2_3_4

/-- The rows of a chunk in the order a direction reads them. -/
def turn (d : Fin 2) : Equiv.Perm (Fin 64) := if d = 0 then Equiv.refl _ else Fin.revPerm

theorem turn_zero (i : Fin 64) : turn 0 i = i := rfl

theorem turn_one (i : Fin 64) : turn 1 i = i.rev := rfl

theorem row_zero_val (p : Fin 132) (i : Fin 64) : (row 0 p i).val = 64 * p.val + i.val := by
  rw [row_val]; rfl

theorem row_one_val (p : Fin 132) (i : Fin 64) :
    (row 1 p i).val = 64 * (if p.val < 4 then 3 - p.val else 135 - p.val) + i.val := by
  rw [row_val]; rfl

/-- Two indices with equal coordinates are equal. -/
theorem ix2_congr {n0 n1 : ℕ} {a a' : Fin n0} {b b' : Fin n1} (ha : a.val = a'.val) (hb : b.val = b'.val) :
    ix2 a b = ix2 a' b' := by
  rw [Fin.ext ha, Fin.ext hb]

/-- The row read in place of row `r` when the context and the rest are each reversed. -/
def mirror (r : Fin 8448) : Fin 8448 := ⟨if r.val < 256 then 255 - r.val else 8703 - r.val, by split_ifs <;> omega⟩

theorem mirror_val (r : Fin 8448) : (mirror r).val = if r.val < 256 then 255 - r.val else 8703 - r.val := by rw [mirror]

/-- The row at number `64 p + i`. -/
def nth (p : Fin 132) (i : Fin 64) : Fin 8448 := ⟨p.val * 64 + i.val, by omega⟩

theorem nth_val (p : Fin 132) (i : Fin 64) : (nth p i).val = p.val * 64 + i.val := by rw [nth]

theorem nth_eq (p : Fin 132) (i : Fin 64) : nth p i = row 0 p i :=
  Fin.ext (by rw [nth_val, row_zero_val, Nat.mul_comm])

theorem mirror_nth (p : Fin 132) (i : Fin 64) : mirror (nth p i) = row 1 p i.rev := by
  have hp := p.isLt
  have hi := i.isLt
  apply Fin.ext
  rw [mirror_val, nth_val, row_one_val, Fin.val_rev]
  by_cases h : p.val < 4
  · rw [if_pos h, if_pos (by omega)]; omega
  · rw [if_neg h, if_neg (by omega)]; omega

theorem reverseContext_Rows (y : FVec Ideal S256x1024 .f32) (r : Fin 256) (c : Fin 1024) :
    Host.reverse [0] y (ix2 r c) = y (ix2 r.rev c) := by
  unfold Host.reverse
  refine congrArg y (funext fun a => ?_)
  match a with
  | 0 => rfl
  | 1 => rfl

theorem reverseRest_Rows (y : FVec Ideal S8192x1024 .f32) (r : Fin 8192) (c : Fin 1024) :
    Host.reverse [0] y (ix2 r c) = y (ix2 r.rev c) := by
  unfold Host.reverse
  refine congrArg y (funext fun a => ?_)
  match a with
  | 0 => rfl
  | 1 => rfl

theorem contextThenRest_Rows (a : FVec Ideal S256x1024 .f32) (b : FVec Ideal S8192x1024 .f32) (r : Fin 8448) (c : Fin 1024) :
    concatenate S8448x1024 0 [⟨S256x1024, a⟩, ⟨S8192x1024, b⟩] concatenates_S256x1024_S8192x1024_S8448x1024_d0 (ix2 r c)
      = if h : r.val < 256 then a (ix2 ⟨r.val, h⟩ c) else b (ix2 ⟨r.val - 256, by omega⟩ c) := by
  pointwise

/-- The reversed rows at a row. -/
theorem flipRows_apply (x : FVec Ideal S8448x1024 .f32) (r : Fin 8448) (c : Fin 1024) :
    flipRows x (ix2 r c) = x (ix2 (mirror r) c) := by
  have hr := r.isLt
  unfold flipRows
  rw [contextThenRest_Rows]
  by_cases h : r.val < 256
  · rw [dif_pos h, reverseContext_Rows]
    pointwise
    refine congrArg x (ix2_congr ?_ rfl)
    rw [mirror_val, if_pos h]
    simp only [Fin.val_rev]
    omega
  · rw [dif_neg h, reverseRest_Rows]
    pointwise
    refine congrArg x (ix2_congr ?_ rfl)
    rw [mirror_val, if_neg h]
    simp only [Fin.val_rev]
    omega

theorem reverseContext_Scalars (y : FVec Ideal S256x8 .f32) (r : Fin 256) (c : Fin 8) :
    Host.reverse [0] y (ix2 r c) = y (ix2 r.rev c) := by
  unfold Host.reverse
  refine congrArg y (funext fun a => ?_)
  match a with
  | 0 => rfl
  | 1 => rfl

theorem reverseRest_Scalars (y : FVec Ideal S8192x8 .f32) (r : Fin 8192) (c : Fin 8) :
    Host.reverse [0] y (ix2 r c) = y (ix2 r.rev c) := by
  unfold Host.reverse
  refine congrArg y (funext fun a => ?_)
  match a with
  | 0 => rfl
  | 1 => rfl

theorem contextThenRest_Scalars (a : FVec Ideal S256x8 .f32) (b : FVec Ideal S8192x8 .f32) (r : Fin 8448) (c : Fin 8) :
    concatenate S8448x8 0 [⟨S256x8, a⟩, ⟨S8192x8, b⟩] concatenates_S256x8_S8192x8_S8448x8_d0 (ix2 r c)
      = if h : r.val < 256 then a (ix2 ⟨r.val, h⟩ c) else b (ix2 ⟨r.val - 256, by omega⟩ c) := by
  pointwise

/-- The reversed numbers at a row. -/
theorem flipScalars_apply (x : FVec Ideal S8448x8 .f32) (r : Fin 8448) (c : Fin 8) :
    flipScalars x (ix2 r c) = x (ix2 (mirror r) c) := by
  have hr := r.isLt
  unfold flipScalars
  rw [contextThenRest_Scalars]
  by_cases h : r.val < 256
  · rw [dif_pos h, reverseContext_Scalars]
    pointwise
    refine congrArg x (ix2_congr ?_ rfl)
    rw [mirror_val, if_pos h]
    simp only [Fin.val_rev]
    omega
  · rw [dif_neg h, reverseRest_Scalars]
    pointwise
    refine congrArg x (ix2_congr ?_ rfl)
    rw [mirror_val, if_neg h]
    simp only [Fin.val_rev]
    omega

/-- A column by its head, the head's number first. -/
theorem col_eq (h : Fin 8) (c : Fin 128) (hlt : h.val * 128 + c.val < 1024) : (⟨h.val * 128 + c.val, hlt⟩ : Fin 1024) = col h c :=
  Fin.ext (by rw [col_val]; exact congrArg (· + c.val) (Nat.mul_comm _ _))

/-- Chunk `p` of the rows. -/
theorem chunkRows_apply (x : FVec Ideal S8448x1024 .f32) (p : Fin 132) (d : Fin 2) (i : Fin 64) (h : Fin 8) (c : Fin 128) :
    chunkRows x (ix5 p d i h c) = x (ix2 (row d p (turn d i)) (col h c)) := by
  match d with
  | 0 =>
    pointwise [chunkRows, pairRows]
    rw [col_eq, turn_zero, ← nth_eq]
    rfl
  | 1 =>
    pointwise [chunkRows, pairRows]
    rw [flipRows_apply, col_eq, turn_one, ← mirror_nth]
    rfl

/-- Chunk `p` of the numbers. -/
theorem chunkScalars_apply (x : FVec Ideal S8448x16 .f32) (p : Fin 132) (d : Fin 2) (i : Fin 64) (h : Fin 8) :
    chunkScalars x (ix4 p d i h) = x (ix2 (row d p (turn d i)) ⟨8 * d.val + h.val, by omega⟩) := by
  match d with
  | 0 =>
    pointwise [chunkScalars]
    rw [turn_zero, ← nth_eq]
    rfl
  | 1 =>
    pointwise [chunkScalars]
    rw [flipScalars_apply, turn_one, ← mirror_nth]
    pointwise
    rfl

/-- Chunk `p` of the inverses. -/
theorem chunkInverses_apply (x : FVec Ideal S2x132x8x64x64 .f32) (p : Fin 132) (d : Fin 2) (h : Fin 8) (i j : Fin 64) :
    chunkInverses x (ix5 p d h i j) = x (ix5 d p h (turn d i) (turn d j)) := by
  match d with
  | 0 =>
    pointwise [chunkInverses]
    rfl
  | 1 =>
    pointwise [chunkInverses]
    rfl

/-- What was put back: at row `i` of the chunk a direction reads in place `p`, that chunk's row. -/
theorem putBack_apply (y : FVec Ideal S132x2x64x8x128 .f32) (f : Fin 2 → Fin 132 → Fin 8 → Fin 64 → Fin 128 → EReal)
    (hy : ∀ p d i h c, y (ix5 p d i h c) = f d p h (turn d i) c) (d : Fin 2) (r : Fin 8448) (x : Fin 1024) :
    putBack y (ix3 d r x) = spread f d r x := by
  have hr := r.isLt
  match d with
  | 0 =>
    pointwise [putBack, pairRows, firstRows]
    refine (hy _ _ _ _ _).trans ?_
    unfold spread
    rw [turn_zero]
    rfl
  | 1 =>
    pointwise [putBack, pairRows]
    rw [flipRows_apply]
    pointwise [secondRows]
    refine (hy _ _ _ _ _).trans ?_
    unfold spread
    rw [turn_one]
    have hm := mirror_val r
    have e1 : (⟨(mirror r).val / 64, by omega⟩ : Fin 132) = place 1 (chunkOf r) := by
      apply Fin.ext
      show (mirror r).val / 64 = if (chunkOf r).val < 4 then 3 - (chunkOf r).val else 135 - (chunkOf r).val
      rw [chunkOf_val]
      by_cases h : r.val < 256
      · rw [if_pos h] at hm
        rw [if_pos (by omega)]
        omega
      · rw [if_neg h] at hm
        rw [if_neg (by omega)]
        omega
    have e2 : (⟨(mirror r).val % 64, by omega⟩ : Fin 64).rev = inChunk r := by
      apply Fin.ext
      rw [Fin.val_rev, inChunk_val]
      show 64 - ((mirror r).val % 64 + 1) = r.val % 64
      by_cases h : r.val < 256
      · rw [if_pos h] at hm
        omega
      · rw [if_neg h] at hm
        omega
    exact congrArg₂ (fun P I => f 1 P _ I _) e1 e2

end Cert.ReferenceIdeal.Scan
-- ==== Proof.RefEntry.lean ====
/- What the reference's arrays hold when its scan begins: the arguments, cut into chunks in the order each direction reads
   them. -/
module

public import proofs.«01_k».proof.Proof.RefRead
public import proofs.«01_k».proof.Proof.Gen.ReferenceIdeal.Run

@[expose] public section

noncomputable section

namespace Cert.ReferenceIdeal.Scan

open Idealize.ShloMosaic Idealize.ShloMosaic.TcCoe Idealize.ShloMosaic.Tactic Idealize.ShloMosaic.StableHlo
open Cert.ReferenceIdeal.Gen Cert.ReferenceIdeal.Value

variable (m : (ℓ : Loc nD τ sig) → Buf (Elt Ideal) ℓ) (c : Dev nD)

set_option maxRecDepth 8192 in
set_option maxHeartbeats 1000000 in
/-- The rows of q. -/
theorem entry_q : entryContents preI m c (Proc.devRef .tc main_v85_0)
    = chunkRows (m ((c.tc : Thread nD τ).loc main_arg0)) := by
  simp only [entryContents, afterL_cons, afterL_nil]
  after_reads_simp
  rfl

set_option maxRecDepth 8192 in
set_option maxHeartbeats 1000000 in
/-- The rows of k. -/
theorem entry_k : entryContents preI m c (Proc.devRef .tc main_v85_1)
    = chunkRows (m ((c.tc : Thread nD τ).loc main_arg1)) := by
  simp only [entryContents, afterL_cons, afterL_nil]
  after_reads_simp
  rfl

set_option maxRecDepth 8192 in
set_option maxHeartbeats 1000000 in
/-- The rows of v. -/
theorem entry_v : entryContents preI m c (Proc.devRef .tc main_v85_2)
    = chunkRows (m ((c.tc : Thread nD τ).loc main_arg2)) := by
  simp only [entryContents, afterL_cons, afterL_nil]
  after_reads_simp
  rfl

set_option maxRecDepth 8192 in
set_option maxHeartbeats 1000000 in
/-- The rows of the output's cotangent. -/
theorem entry_o : entryContents preI m c (Proc.devRef .tc main_v85_7)
    = chunkRows (m ((c.tc : Thread nD τ).loc main_arg5)) := by
  simp only [entryContents, afterL_cons, afterL_nil]
  after_reads_simp
  rfl

end Cert.ReferenceIdeal.Scan
-- ==== Proof.RefEntryRest.lean ====
/- What the reference's arrays hold when its scan begins: the arguments, cut into chunks in the order each direction reads
   them; the saved states and inverses; the mask; a zero cotangent of the last state. -/
module

public import proofs.«01_k».proof.Proof.RefRead
public import proofs.«01_k».proof.Proof.Gen.ReferenceIdeal.Run

@[expose] public section

noncomputable section

namespace Cert.ReferenceIdeal.Scan

open Idealize.ShloMosaic Idealize.ShloMosaic.TcCoe Idealize.ShloMosaic.Tactic Idealize.ShloMosaic.StableHlo
open Cert.ReferenceIdeal.Gen Cert.ReferenceIdeal.Value

variable (m : (ℓ : Loc nD τ sig) → Buf (Elt Ideal) ℓ) (c : Dev nD)

set_option maxRecDepth 8192 in
set_option maxHeartbeats 1000000 in
/-- The log decays. -/
theorem entry_g : entryContents preI m c (Proc.devRef .tc main_v85_3)
    = chunkScalars (extractStridedSlice S8448x16 ![0, 0] (m ((c.tc : Thread nD τ).loc main_arg3)) slices_S8448x128_S8448x16_0_0) := by
  simp only [entryContents, afterL_cons, afterL_nil]
  after_reads_simp
  rfl

set_option maxRecDepth 8192 in
set_option maxHeartbeats 1000000 in
/-- The write strengths. -/
theorem entry_b : entryContents preI m c (Proc.devRef .tc main_v85_4)
    = chunkScalars (extractStridedSlice S8448x16 ![0, 16] (m ((c.tc : Thread nD τ).loc main_arg3)) slices_S8448x128_S8448x16_0_16) := by
  simp only [entryContents, afterL_cons, afterL_nil]
  after_reads_simp
  rfl

set_option maxRecDepth 8192 in
set_option maxHeartbeats 1000000 in
/-- The states. -/
theorem entry_s : entryContents preI m c (Proc.devRef .tc main_v85_5)
    = transpose S132x2x8x128x128 [1, 0, 2, 3, 4] (m ((c.tc : Thread nD τ).loc main_arg4))
        transposes_S2x132x8x128x128_S132x2x8x128x128_1_0_2_3_4 := by
  simp only [entryContents, afterL_cons, afterL_nil]
  after_reads_simp
  rfl

set_option maxRecDepth 8192 in
set_option maxHeartbeats 1000000 in
/-- The inverses. -/
theorem entry_T : entryContents preI m c (Proc.devRef .tc main_v85_6)
    = chunkInverses (m ((c.tc : Thread nD τ).loc main_arg6)) := by
  simp only [entryContents, afterL_cons, afterL_nil]
  after_reads_simp
  rfl

set_option maxRecDepth 8192 in
set_option maxHeartbeats 1000000 in
/-- The mask. -/
theorem entry_mask : entryContents preI m c (Proc.devRef .tc main_v85_8)
    = cmpi .sge (broadcastInDim S64x64 ![0, 1] bcast_S64x1_S64x64_0_1 (broadcastInDim S64x1 ![0] bcast_S64_S64x1_0 (iotaInDim S64 32 0)))
        (broadcastInDim S64x64 ![0, 1] bcast_S1x64_S64x64_0_1 (broadcastInDim S1x64 ![1] bcast_S64_S1x64_1 (iotaInDim S64 32 0))) := by
  simp only [entryContents, afterL_cons, afterL_nil]
  after_reads_simp
  rfl

set_option maxRecDepth 8192 in
set_option maxHeartbeats 1000000 in
/-- The cotangent of the last state. -/
theorem entry_ds : entryContents preI m c (Proc.devRef .tc main_v85_10)
    = broadcastInDim S2x8x128x128 ![] bcast_S_S2x8x128x128 (constant (F := Ideal) S_ .f32 0x00000000#32) := by
  simp only [entryContents, afterL_cons, afterL_nil]
  after_reads_simp
  rfl

end Cert.ReferenceIdeal.Scan
-- ==== Proof.RefScan.lean ====
/- The reference's scan back over the 132 chunks: after `n` trips the carried cotangent is the state's, and the places
   behind hold their chunks' cotangents of q and v. -/
module

public import proofs.«01_k».proof.Proof.RefTrip
public import proofs.«01_k».proof.Proof.RefRead
public import proofs.«01_k».proof.Proof.RefEntry
public import proofs.«01_k».proof.Proof.RefEntryRest

@[expose] public section

noncomputable section

namespace Cert.ReferenceIdeal.Scan

open Idealize.ShloMosaic Idealize.ShloMosaic.TcCoe Idealize.ShloMosaic.StableHlo
open Cert.ReferenceIdeal.Gen Cert.ReferenceIdeal.Value
open Cert.Scan (Chunk Args row col gLane bLane leD spread)

/-- The arrays the reference reads, by row, column, direction, place and head. -/
def args (m : (ℓ : Loc nD τ sig) → Buf (Elt Ideal) ℓ) (c : Dev nD) : Args where
  q r x := (m ((c.tc : Thread nD τ).loc main_arg0) : FVec Ideal S8448x1024 .f32) (ix2 r x)
  k r x := (m ((c.tc : Thread nD τ).loc main_arg1) : FVec Ideal S8448x1024 .f32) (ix2 r x)
  v r x := (m ((c.tc : Thread nD τ).loc main_arg2) : FVec Ideal S8448x1024 .f32) (ix2 r x)
  sp r x := (m ((c.tc : Thread nD τ).loc main_arg3) : FVec Ideal S8448x128 .f32) (ix2 r x)
  s d p h e x := (m ((c.tc : Thread nD τ).loc main_arg4) : FVec Ideal S2x132x8x128x128 .f32) (ix5 d p h e x)
  o r x := (m ((c.tc : Thread nD τ).loc main_arg5) : FVec Ideal S8448x1024 .f32) (ix2 r x)
  T d p h i j := (m ((c.tc : Thread nD τ).loc main_arg6) : FVec Ideal S2x132x8x64x64 .f32) (ix5 d p h i j)

/-- The chunk the scan reads at place `p`: its rows in the order the direction reads them. -/
def turned (A : Args) (p : Fin 132) (d : Fin 2) (h : Fin 8) : Chunk := (A.chunk d p h).comp (turn d)

/-- Read in its direction's order, a chunk's rows come in turn. -/
theorem turned_le (A : Args) (p : Fin 132) (d : Fin 2) (h : Fin 8) (i j : Fin 64) :
    (turned A p d h).le j i = decide (j ≤ i) := by
  show leD d (turn d j) (turn d i) = _
  match d with
  | 0 => rfl
  | 1 =>
    show decide (i.rev ≤ j.rev) = decide (j ≤ i)
    simp only [Fin.rev_le_rev]

/-- Rows and columns below 64, compared as words. -/
theorem sge_rows (i j : Fin 64) :
    IntOp.cmpi .sge (BitVec.ofNat 32 i.val) (BitVec.ofNat 32 j.val) = if j ≤ i then 1#1 else 0#1 := by
  revert i j
  decide +kernel

/-- The mask is one at and below the diagonal. -/
theorem mask_apply (i j : Fin 64) :
    (cmpi .sge (broadcastInDim S64x64 ![0, 1] bcast_S64x1_S64x64_0_1 (broadcastInDim S64x1 ![0] bcast_S64_S64x1_0 (iotaInDim S64 32 0)))
      (broadcastInDim S64x64 ![0, 1] bcast_S1x64_S64x64_0_1 (broadcastInDim S1x64 ![1] bcast_S64_S1x64_1 (iotaInDim S64 32 0)))
      : IVec S64x64 1) (ix2 i j) = if j ≤ i then 1#1 else 0#1 := by
  pointwise
  exact sge_rows i j

/-- The log decays the scan reads at a place. -/
theorem lanes_apply (x : FVec Ideal S8448x128 .f32) (r : Fin 8448) (d : Fin 2) (h : Fin 8) (hlt : 8 * d.val + h.val < 16) :
    extractStridedSlice S8448x16 ![0, 0] x slices_S8448x128_S8448x16_0_0 (ix2 r ⟨8 * d.val + h.val, hlt⟩)
      = x (ix2 r (gLane d h)) := by
  pointwise
  rfl

/-- The write strengths the scan reads at a place. -/
theorem strengthLanes_apply (x : FVec Ideal S8448x128 .f32) (r : Fin 8448) (d : Fin 2) (h : Fin 8)
    (hlt : 8 * d.val + h.val < 16) :
    extractStridedSlice S8448x16 ![0, 16] x slices_S8448x128_S8448x16_0_16 (ix2 r ⟨8 * d.val + h.val, hlt⟩)
      = x (ix2 r (bLane d h)) := by
  pointwise
  refine congrArg x (congrArg (ix2 r) (Fin.ext ?_))
  show 16 + (8 * d.val + h.val) = 16 + 8 * d.val + h.val
  omega

variable (m : (ℓ : Loc nD τ sig) → Buf (Elt Ideal) ℓ) (c : Dev nD)

/-- The reference's arrays after `n` trips. -/
abbrev after (n : ℕ) : Valuation τ sig (Elt Ideal) := STEP^[n] (entryContents preI m c)

/-- A buffer no trip writes holds after `n` trips what it held at first. -/
theorem after_kept (r : DevRef τ sig) (hr : ∀ V : Valuation τ sig (Elt Ideal), STEP V r = V r) (n : ℕ) :
    after m c n r = entryContents preI m c r := by
  induction n with
  | zero => rfl
  | succ n ih =>
    unfold after at ih ⊢
    rw [Function.iterate_succ_apply', hr, ih]

/-- The counter counts the trips. -/
theorem after_counter (n : ℕ) :
    (after m c n (Proc.devRef .tc main_v85_9) : IVec S_ 32) = constantI S_ 32 (BitVec.ofNat 32 n) := by
  induction n with
  | zero => exact ctr_entry m c
  | succ n ih =>
    unfold after at ih ⊢
    rw [Function.iterate_succ_apply', STEP_main_v85_9]
    unfold step_main_v85_9
    rw [ih]
    funext x
    show BitVec.ofNat 32 n + 1#32 = BitVec.ofNat 32 (n + 1)
    exact (BitVec.ofNat_add n 1).symm

/-- Before trip `n` the scan is at place `131 - n`. -/
theorem after_at (n : ℕ) (hn : n < 132) : At (after m c n) (Args.back n) (turned (args m c) (Args.back n)) where
  counter := by
    rw [after_counter]
    have e : 131 - (Args.back n).val = n := by
      show 131 - (131 - n) = n
      omega
    rw [e]
  mask i j := by
    rw [after_kept m c _ STEP_main_v85_8, entry_mask]
    exact mask_apply i j
  q d h i x := by
    rw [after_kept m c _ STEP_main_v85_0, entry_q]
    exact chunkRows_apply _ _ d i h x
  k d h i x := by
    rw [after_kept m c _ STEP_main_v85_1, entry_k]
    exact chunkRows_apply _ _ d i h x
  v d h i x := by
    rw [after_kept m c _ STEP_main_v85_2, entry_v]
    exact chunkRows_apply _ _ d i h x
  o d h i x := by
    rw [after_kept m c _ STEP_main_v85_7, entry_o]
    exact chunkRows_apply _ _ d i h x
  g d h i := by
    rw [after_kept m c _ STEP_main_v85_3, entry_g]
    exact (chunkScalars_apply _ _ d i h).trans (lanes_apply _ _ d h _)
  b d h i := by
    rw [after_kept m c _ STEP_main_v85_4, entry_b]
    exact (chunkScalars_apply _ _ d i h).trans (strengthLanes_apply _ _ d h _)
  s d h e x := by
    rw [after_kept m c _ STEP_main_v85_5, entry_s]
    pointwise
    rfl
  T d h i j := by
    rw [after_kept m c _ STEP_main_v85_6, entry_T]
    exact chunkInverses_apply _ _ d h i j
  le := turned_le (args m c) _

/-- The carried cotangent after `n` trips. -/
theorem after_carried (n : ℕ) (hn : n ≤ 132) (d : Fin 2) (h : Fin 8) :
    At.carried (after m c n) d h = (args m c).dstate d h n := by
  induction n with
  | zero =>
    funext e x
    show (entryContents preI m c (Proc.devRef .tc main_v85_10) : FVec Ideal S2x8x128x128 .f32) (ix4 d h e x) = (0 : EReal)
    rw [entry_ds]
    pointwise
  | succ n ih =>
    have H := after_at m c n (by omega)
    funext e x
    have hs : At.carried (after m c (n + 1)) d h e x
        = (step_main_v85_10 (after m c n) : FVec Ideal S2x8x128x128 .f32) (ix4 d h e x) := by
      unfold At.carried after
      rw [Function.iterate_succ_apply', STEP_main_v85_10]
    rw [hs, H.ds_apply, ih (by omega)]
    exact Chunk.ds_comp _ _ _ e x

/-- The cotangents of q after `n` trips, at the places behind. -/
theorem after_dq (n : ℕ) (hn : n ≤ 132) (p : Fin 132) (hp : 132 - n ≤ p.val) (d : Fin 2) (h : Fin 8) (i : Fin 64)
    (x : Fin 128) : (after m c n (Proc.devRef .tc main_v85_11) : FVec Ideal S132x2x64x8x128 .f32) (ix5 p d i h x)
      = (args m c).dq d p h (turn d i) x := by
  induction n with
  | zero => have := p.isLt; omega
  | succ n ih =>
    have H := after_at m c n (by omega)
    have hs : (after m c (n + 1) (Proc.devRef .tc main_v85_11) : FVec Ideal S132x2x64x8x128 .f32) (ix5 p d i h x)
        = (step_main_v85_11 (after m c n) : FVec Ideal S132x2x64x8x128 .f32) (ix5 p d i h x) := by
      unfold after
      rw [Function.iterate_succ_apply', STEP_main_v85_11]
    rw [hs, H.dq_apply]
    by_cases hc : p = Args.back n
    · rw [if_pos hc, hc]
      exact Chunk.dq_comp _ _ i x
    · rw [if_neg hc]
      have hb : (Args.back n).val = 131 - n := rfl
      have hv : p.val ≠ 131 - n := fun e => hc (Fin.ext (e.trans hb.symm))
      exact ih (by omega) (by omega)

/-- The cotangents of v after `n` trips, at the places behind. -/
theorem after_dv (n : ℕ) (hn : n ≤ 132) (p : Fin 132) (hp : 132 - n ≤ p.val) (d : Fin 2) (h : Fin 8) (i : Fin 64)
    (x : Fin 128) : (after m c n (Proc.devRef .tc main_v85_12) : FVec Ideal S132x2x64x8x128 .f32) (ix5 p d i h x)
      = (args m c).dv d p h (turn d i) x := by
  induction n with
  | zero => have := p.isLt; omega
  | succ n ih =>
    have H := after_at m c n (by omega)
    have hs : (after m c (n + 1) (Proc.devRef .tc main_v85_12) : FVec Ideal S132x2x64x8x128 .f32) (ix5 p d i h x)
        = (step_main_v85_12 (after m c n) : FVec Ideal S132x2x64x8x128 .f32) (ix5 p d i h x) := by
      unfold after
      rw [Function.iterate_succ_apply', STEP_main_v85_12]
    rw [hs, H.dv_apply, after_carried m c n (by omega)]
    have hb : (Args.back n).val = 131 - n := rfl
    by_cases hc : p = Args.back n
    · rw [if_pos hc, hc]
      have e : 131 - (Args.back n).val = n := by omega
      refine (Chunk.dv_comp _ _ _ i x).trans ?_
      show _ = ((args m c).chunk d (Args.back n) h).dv ((args m c).dstate d h (131 - (Args.back n).val)) (turn d i) x
      rw [e]
    · rw [if_neg hc]
      have hv : p.val ≠ 131 - n := fun e => hc (Fin.ext (e.trans hb.symm))
      exact ih (by omega) (by omega)

/-- The reference's first result is q's cotangent. -/
theorem dq_result : (out_main_v99 (after m c 132) : FVec Ideal S2x8448x1024 .f32)
    = fun x => spread (args m c).dq (x 0) (x 1) (x 2) := by
  funext x
  rw [eq_ix3 x]
  exact putBack_apply (after m c 132 (Proc.devRef .tc main_v85_11)) (args m c).dq
    (fun p d i h e => after_dq m c 132 le_rfl p (by omega) d h i e) (x 0) (x 1) (x 2)

/-- The reference's second result is v's cotangent. -/
theorem dv_result : (out_main_v113 (after m c 132) : FVec Ideal S2x8448x1024 .f32)
    = fun x => spread (args m c).dv (x 0) (x 1) (x 2) := by
  funext x
  rw [eq_ix3 x]
  exact putBack_apply (after m c 132 (Proc.devRef .tc main_v85_12)) (args m c).dv
    (fun p d i h e => after_dv m c 132 le_rfl p (by omega) d h i e) (x 0) (x 1) (x 2)

end Cert.ReferenceIdeal.Scan
-- ==== Proof.Product.lean ====
/- A product's inner sum, taken block by block: the sum of its first so many terms, and how a block adds to it. (`hz`, `hz3`: a
   whole block is read and stored from its first entry.) -/
module

public import Idealize.ShloMosaic.Lib.Pointwise

@[expose] public section

noncomputable section

namespace Cert.Product

theorem hz : (![0, 0] : Fin 2 → Nat) = fun _ => 0 := funext fun a => by fin_cases a <;> rfl

theorem hz3 : (![0, 0, 0] : Fin 3 → Nat) = fun _ => 0 := funext fun a => by fin_cases a <;> rfl

/-- The sum of the first `n` terms of `f`. -/
def upto {K : ℕ} (f : Fin K → EReal) (n : ℕ) : EReal :=
  ∑ k ∈ Finset.range n, if h : k < K then f ⟨k, h⟩ else 0

/-- No terms sum to zero. -/
theorem upto_zero {K : ℕ} (f : Fin K → EReal) : upto f 0 = 0 := Finset.sum_range_zero _

/-- All the terms: the whole sum. -/
theorem upto_all {K : ℕ} (f : Fin K → EReal) (n : ℕ) (hn : n = K) : upto f n = ∑ k, f k := by
  subst hn
  unfold upto
  rw [Finset.sum_range]
  exact Finset.sum_congr rfl fun k _ => dif_pos k.isLt

/-- One block of `b` terms more, where `g` lists the block. -/
theorem upto_add {K : ℕ} (f : Fin K → EReal) (n b n' : ℕ) (hn' : n' = n + b) (hK : n' ≤ K) (g : Fin b → EReal)
    (hg : ∀ (x : Fin b) (h : n + x.val < K), g x = f ⟨n + x.val, h⟩) : upto f n' = upto f n + ∑ x, g x := by
  subst hn'
  unfold upto
  rw [Finset.sum_range_add, Finset.sum_range (n := b)]
  congr 1
  refine Finset.sum_congr rfl fun x _ => ?_
  have h : n + x.val < K := Nat.lt_of_lt_of_le (Nat.add_lt_add_left x.isLt n) hK
  rw [dif_pos h]
  exact (hg x h).symm

/-- The next number's remainder, where it isn't zero. -/
theorem succ_mod (n q : ℕ) (h : ¬(n + 1) % (q + 1) = 0) : (n + 1) % (q + 1) = n % (q + 1) + 1 := by
  have hl : n % (q + 1) < q + 1 := Nat.mod_lt n (Nat.succ_pos q)
  rw [Nat.add_mod, Nat.mod_eq_of_lt (Nat.lt_succ_of_le (Nat.one_le_iff_ne_zero.mpr fun e => h (by rw [e]; exact Nat.mod_one _)) : 1 < q + 1)] at h ⊢
  rcases Nat.lt_or_ge (n % (q + 1) + 1) (q + 1) with hlt | hge
  · exact Nat.mod_eq_of_lt hlt
  · exact absurd (by rw [show n % (q + 1) + 1 = q + 1 by omega]; exact Nat.mod_self _) h

/-- A sum carried over a grid whose points run through `q + 1` blocks of `b` terms each, again and again: `s` is what is
    held after a point, `p` what the point adds, `f` the terms of the sum it is at. After any point but a run's last,
    the terms so far are held. -/
theorem carried {K N : ℕ} (q b : ℕ) (hq : 0 < q) (s p : Fin N → EReal) (f : Fin N → Fin K → EReal)
    (first : ∀ t, t.val % (q + 1) = 0 → s t = p t)
    (middle : ∀ (t : Fin N) (hp : t.val - 1 < N), ¬t.val % (q + 1) = 0 → ¬t.val % (q + 1) = q → s t = s ⟨t.val - 1, hp⟩ + p t)
    (same : ∀ (t : Fin N) (hp : t.val - 1 < N), ¬t.val % (q + 1) = 0 → f t = f ⟨t.val - 1, hp⟩)
    (step : ∀ t, upto (f t) (t.val % (q + 1) * b + b) = upto (f t) (t.val % (q + 1) * b) + p t) :
    ∀ (n : ℕ) (hn : n < N), n % (q + 1) ≠ q → s ⟨n, hn⟩ = upto (f ⟨n, hn⟩) (n % (q + 1) * b + b) := by
  have start : ∀ t : Fin N, t.val % (q + 1) = 0 → s t = upto (f t) (t.val % (q + 1) * b + b) := fun t h0 => by
    rw [step, first t h0, h0, Nat.zero_mul, upto_zero, zero_add]
  intro n
  induction n with
  | zero => exact fun hn _ => start ⟨0, hn⟩ (Nat.zero_mod _)
  | succ n ih =>
    intro hn h2
    by_cases h0 : (n + 1) % (q + 1) = 0
    · exact start ⟨n + 1, hn⟩ h0
    have hp : n < N := Nat.lt_of_succ_lt hn
    have hm := succ_mod n q h0
    have hl : (n + 1) % (q + 1) < q + 1 := Nat.mod_lt (n + 1) (Nat.succ_pos q)
    have h1 : s ⟨n + 1, hn⟩ = s ⟨n, hp⟩ + p ⟨n + 1, hn⟩ := middle ⟨n + 1, hn⟩ hp h0 h2
    have h3 : f ⟨n + 1, hn⟩ = f ⟨n, hp⟩ := same ⟨n + 1, hn⟩ hp h0
    have h4 := step ⟨n + 1, hn⟩
    dsimp only at h4
    rw [h1, h4, ih hp (by omega), h3, hm, Nat.succ_mul]

/-- … and a run's last point adds the last ones: the whole sum. -/
theorem carried_all {K N : ℕ} (q b : ℕ) (hq : 0 < q) (hK : q * b + b = K) (s p : Fin N → EReal) (f : Fin N → Fin K → EReal)
    (first : ∀ t, t.val % (q + 1) = 0 → s t = p t)
    (middle : ∀ (t : Fin N) (hp : t.val - 1 < N), ¬t.val % (q + 1) = 0 → ¬t.val % (q + 1) = q → s t = s ⟨t.val - 1, hp⟩ + p t)
    (same : ∀ (t : Fin N) (hp : t.val - 1 < N), ¬t.val % (q + 1) = 0 → f t = f ⟨t.val - 1, hp⟩)
    (step : ∀ t, upto (f t) (t.val % (q + 1) * b + b) = upto (f t) (t.val % (q + 1) * b) + p t)
    (t : Fin N) (hp : t.val - 1 < N) (h : t.val % (q + 1) = q) : s ⟨t.val - 1, hp⟩ + p t = ∑ k, f t k := by
  obtain ⟨n, hn⟩ := t
  cases n with
  | zero => exact absurd ((Nat.zero_mod _).symm.trans h) (Nat.ne_of_lt hq)
  | succ n =>
    have h0 : ¬(n + 1) % (q + 1) = 0 := fun e => Nat.ne_of_gt hq (h.symm.trans e)
    have hm := succ_mod n q h0
    have h3 : f ⟨n + 1, hn⟩ = f ⟨n, hp⟩ := same ⟨n + 1, hn⟩ hp h0
    have h4 := step ⟨n + 1, hn⟩
    have h5 : s ⟨n, hp⟩ = _ := carried q b hq s p f first middle same step n hp (by dsimp only at h; omega)
    dsimp only at h h4 ⊢
    rw [← upto_all _ ((n + 1) % (q + 1) * b + b) (by rw [h]; exact hK), h4, h3, hm, Nat.succ_mul]
    exact congrArg (· + _) h5

end Cert.Product
-- ==== Proof.WIn.lean ====
/- The gradient of the input projection's weights: the kernel's blocks, its carried sum, and the array it ends with. -/
module

public import proofs.«01_k».proof.Proof.Product
public import proofs.«01_k».proof.Defs
public import proofs.«01_k».proof.Proof.Gen.Kernel2Ideal.Value
public import proofs.«01_k».proof.Proof.Gen.Reference2Ideal.Run
public import Idealize.ShloMosaic.Lib.Pipeline.ValueKit.Geometry

@[expose] public section

set_option maxRecDepth 16384

noncomputable section

namespace Cert.Kernel2Ideal.Gradient

open Cert.Product
open Cert.Kernel2Ideal Cert.Kernel2Ideal.Gen Idealize.ShloMosaic Idealize.ShloMosaic.TcCoe

section
variable (c : Dev nD) (i : grid0.Coords) (a3 : Memref sig .tc .vmem S768x1024 .bf16) (h3 : a3.IsWhole)
  (a4 : Memref sig .tc .vmem S768x2944 .bf16) (h4 : a4.IsWhole) (a5 : Memref sig .tc .vmem S1024x2944 .bf16) (h5 : a5.IsWhole)
  (a6 : Memref sig .tc .vmem S1024x2944 .f32) (h6 : a6.IsWhole) (x0 : Vec Ideal S768x1024 .bf16) (x1 : Vec Ideal S768x2944 .bf16)
  (xs : Vec Ideal S1024x2944 .f32)

/-- A first point leaves its blocks' product in the scratch. -/
theorem first_eq (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, View.ld_unit_zero (S := S768x1024) hz, View.ld_unit_zero (S := S768x2944) hz]

/-- A middle point adds its blocks' product to what the scratch held, … -/
theorem middle_eq (hc0 : ¬cond0_0 i) (hc1 : cond0_1 i) (hc2 : ¬cond0_2 i) :
    sout0_B_0 c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero hz]
  simp only [View.readAt_eq_ld, h3.read_unread, h4.read_unread, h6.read_unread, View.ld_unit_zero (S := S768x1024) hz,
    View.ld_unit_zero (S := S768x2944) hz, View.ld_unit_zero (S := S1024x2944) hz]

/-- … and a last point writes that sum out. -/
theorem last_eq (hc0 : ¬cond0_0 i) (hc1 : cond0_1 i) (hc2 : cond0_2 i) :
    out0_C_2 c i a3 h3 a4 h4 a5 h5 a6 h6 hc0 hc1 hc2 x0 x1 xs = k0_pay4 (k0_pay3 x0 x1 xs) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz]
  rw [View.readCov_unit_zero (S := S1024x2944) _ hz]
  simp only [View.readAt_eq_ld, h3.read_unread, h4.read_unread, h6.read_unread, View.ld_unit_zero (S := S768x1024) hz,
    View.ld_unit_zero (S := S768x2944) hz, View.ld_unit_zero (S := S1024x2944) hz]

end

/-- A block's product at an entry. -/
theorem prod_apply (x0 : Vec Ideal S768x1024 .bf16) (x1 : Vec Ideal S768x2944 .bf16) (i : Fin 1024) (j : Fin 2944) :
    k0_pay2 x0 x1 (ix2 i j) = ∑ x : Fin 768, x0 (ix2 x i) * x1 (ix2 x j) := by
  pointwise [k0_pay2, k0_pay1]

/-- … and with what was held before. -/
theorem add_apply (x0 : Vec Ideal S768x1024 .bf16) (x1 : Vec Ideal S768x2944 .bf16) (xs : Vec Ideal S1024x2944 .f32) (i : Fin 1024) (j : Fin 2944) :
    k0_pay3 x0 x1 xs (ix2 i j) = xs (ix2 i j) + k0_pay2 x0 x1 (ix2 i j) := by
  pointwise [k0_pay3, k0_pay2, k0_pay1]

/-- The sum written out is the sum held. -/
theorem out_apply (v : Vec Ideal S1024x2944 .f32) (i : Fin 1024) (j : Fin 2944) : k0_pay4 v (ix2 i j) = v (ix2 i j) := by
  pointwise [k0_pay4]

theorem index0 (t : Fin cfg0.N) : win0_0.index t = ![t.val % 11, 0] :=
  (by decide +kernel : ∀ t : Fin grid0.N, win0_0.index t = ![t.val % 11, 0]) t

theorem index1 (t : Fin cfg0.N) : win0_1.index t = ![t.val % 11, t.val / 11] :=
  (by decide +kernel : ∀ t : Fin grid0.N, win0_1.index t = ![t.val % 11, t.val / 11]) t

theorem index2 (t : Fin cfg0.N) : win0_2.index t = ![0, t.val / 11] :=
  (by decide +kernel : ∀ t : Fin grid0.N, win0_2.index t = ![0, t.val / 11]) t

variable (m : (ℓ : Loc nD τ sig) → Buf (Elt Ideal) ℓ) (c : Dev nD)

/-- The layer's input, as a matrix, … -/
def X (k : Fin 8448) (i : Fin 1024) : EReal := (m ((c : Thread nD τ).loc main_arg0) : Vec Ideal S8448x1024 .bf16) (ix2 k i)

/-- … and the projection's cotangent. -/
def Y (k : Fin 8448) (j : Fin 11776) : EReal := (m ((c : Thread nD τ).loc main_arg1) : Vec Ideal S8448x11776 .bf16) (ix2 k j)

/-- The terms of the gradient's sum at an entry. -/
def term (i : Fin 1024) (j : Fin 11776) (k : Fin 8448) : EReal := X m c k i * Y m c k j

/-- The block's row in the array, … -/
def row (t : Fin cfg0.N) (x : Fin 768) : Fin 8448 := ⟨t.val % 11 * 768 + x.val, by omega⟩

/-- … and its column. -/
def col (t : Fin cfg0.N) (j : Fin 2944) : Fin 11776 := ⟨t.val / 11 * 2944 + j.val, by
  have := lt_of_lt_of_eq t.isLt N_0; omega⟩

theorem blk0 (t : Fin cfg0.N) (x : Fin 768) (i : Fin 1024) : iblk m c 0 t (ix2 x i) = X m c (row t x) i := by
  blk_simp [iblk]
  refine congrArg (m (c.tc.loc main_arg0)) (funext fun a => Fin.ext ?_)
  fin_cases a
  · blk_simp [index0]; rfl
  · blk_simp [index0]; rfl

theorem blk1 (t : Fin cfg0.N) (x : Fin 768) (j : Fin 2944) : iblk m c 1 t (ix2 x j) = Y m c (row t x) (col t j) := by
  blk_simp [iblk]
  refine congrArg (m (c.tc.loc main_arg1)) (funext fun a => Fin.ext ?_)
  fin_cases a
  · blk_simp [index1]; rfl
  · blk_simp [index1]; rfl

/-- A point's block adds its terms to the ones before. -/
theorem step (t : Fin cfg0.N) (i : Fin 1024) (j : Fin 2944) :
    upto (term m c i (col t j)) (t.val % 11 * 768 + 768) = upto (term m c i (col t j)) (t.val % 11 * 768) +
      k0_pay2 (iblk m c 0 t) (iblk m c 1 t) (ix2 i j) := by
  rw [prod_apply]
  exact upto_add _ _ _ _ rfl (by omega) _ fun x h => by rw [blk0, blk1]; rfl

/-- What a last point writes out: all the terms. -/
theorem block_eq (t : Fin cfg0.N) (h : t.val % 11 = 10) (i : Fin 1024) (j : Fin 2944) :
    (outsAt0 m c t.val t.isLt).1 (ix2 i j) = ∑ k, term m c i (col t j) k := by
  have hn : t.val - 1 < cfg0.N := Nat.lt_of_le_of_lt (Nat.sub_le _ _) t.isLt
  rw [outsAt0_C m c t (by omega) (by omega) h]
  dsimp only
  rw [last_eq, out_apply, add_apply]
  refine carried_all 10 768 (by decide) rfl (fun t => (outsAt0 m c t.val t.isLt).2 (ix2 i j))
    (fun t => k0_pay2 (iblk m c 0 t) (iblk m c 1 t) (ix2 i j)) (fun t => term m c i (col t j))
    (fun t h0 => ?_) (fun t hp h0 h2 => ?_) (fun t hp h0 => ?_) (fun t => step m c t i j) t hn h
  · rw [outsAt0_A m c t h0 (by omega) (by omega)]
    dsimp only
    rw [first_eq]
  · rw [outsAt0_B m c t h0 (by omega) h2]
    dsimp only
    rw [middle_eq, add_apply]
  · exact congrArg _ (Fin.ext (by simp only [col]; omega))

/-- The gradient. -/
def grad : Vec Ideal S1024x11776 .bf16 := fun y => ∑ k, term m c (y 0) (y 1) k

/-- Where a point's block of it lies in the array. -/
theorem at_grad (t : Fin cfg0.N) (i : Fin 1024) (j : Fin 2944) :
    grad m c ((win0_2.blk t).view.emb (ix2 i j)) = ∑ k, term m c i (col t j) k := by
  have h0 : (win0_2.blk t).view.emb (ix2 i j) 0 = i := by
    apply Fin.ext; blk_simp [index2]
  have h1 : (win0_2.blk t).view.emb (ix2 i j) 1 = col t j := by
    apply Fin.ext; blk_simp [index2]; rfl
  exact congrArg₂ (fun a b => ∑ k, term m c a b k) h0 h1

/-- The kernel ends with the gradient. -/
theorem array_eq : (dats m 0 c).arrAt 2 cfg0.N = grad m c := by
  refine (dats m 0 c).arrAt_eq_of_covers 2 _ (by decide +kernel) fun t hf y => ?_
  blk_simp
  rw [after0_2, eq_ix2 y]
  exact (block_eq m c t ((flush0_2 t).mp hf) _ _).trans (at_grad m c t _ _).symm

end Cert.Kernel2Ideal.Gradient

namespace Cert.Reference2Ideal.Gradient

open Cert.Reference2Ideal Cert.Reference2Ideal.Gen Idealize.ShloMosaic

/-- The reference's result at an entry. -/
theorem ref_apply (x : FVec Ideal S8448x1024 .bf16) (y : FVec Ideal S8448x11776 .bf16) (i : Fin 1024) (j : Fin 11776) :
    truncf .bf16 (transpose S1024x11776 [1, 0] (Host.dotGeneral dot_S8448x11776_S8448x1024_S11776x1024_0_0_1_1_n_n none
      (extf .f32 y bitsLt_bf16_f32) (extf .f32 x bitsLt_bf16_f32)) transposes_S11776x1024_S1024x11776_1_0) bitsLt_bf16_f32 (ix2 i j)
      = ∑ k : Fin 8448, x (ix2 k i) * y (ix2 k j) := by
  refine Eq.trans (b := ∑ k : Fin 8448, y (ix2 k j) * x (ix2 k i)) (by pointwise) ?_
  exact Finset.sum_congr rfl fun k _ => mul_comm _ _

/-- The reference runs, its arguments end unchanged, and it has no semaphore. -/
theorem frame : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- The kernel and the reference end with the same gradient. -/
theorem values : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => Cert.Kernel2Ideal.Gradient.grad m c, ?_, ?_⟩
  · refine (θ_run Cert.Kernel2Ideal.defs _ _).mono (fun r h c => ?_) (Cert.Kernel2Ideal.Value.run_blocks (F := Ideal) m ρ)
    exact ⟨(h c).1.trans (Cert.Kernel2Ideal.Gradient.array_eq m c), (h c).2⟩
  · refine (θ_run Cert.Reference2Ideal.defs _ _).mono (fun r h c => ?_) (Cert.Reference2Ideal.Value.run (F := Ideal) m' ρ')
    refine ⟨(h c).1.trans ?_, (h c).2⟩
    rw [(hagree c).1, (hagree c).2]
    funext y
    rw [eq_ix2 y]
    exact ref_apply _ _ _ _

end Cert.Reference2Ideal.Gradient
-- ==== Proof.FfnOut.lean ====
/- The gradient of the feed-forward block's second weights: the kernel's blocks, its carried sum, and the array it ends with. -/
module

public import proofs.«01_k».proof.Proof.Product
public import proofs.«01_k».proof.Defs
public import proofs.«01_k».proof.Proof.Gen.Kernel3Ideal.Value
public import proofs.«01_k».proof.Proof.Gen.Reference3Ideal.Run
public import Idealize.ShloMosaic.Lib.Pipeline.ValueKit.Geometry

@[expose] public section

set_option maxRecDepth 16384

noncomputable section

namespace Cert.Kernel3Ideal.Gradient

open Cert.Product
open Cert.Kernel3Ideal Cert.Kernel3Ideal.Gen Idealize.ShloMosaic Idealize.ShloMosaic.TcCoe

section
variable (c : Dev nD) (i : grid0.Coords) (a3 : Memref sig .tc .vmem S1408x1408 .bf16) (h3 : a3.IsWhole)
  (a4 : Memref sig .tc .vmem S1408x1024 .bf16) (h4 : a4.IsWhole) (a5 : Memref sig .tc .vmem S1408x1024 .bf16) (h5 : a5.IsWhole)
  (a6 : Memref sig .tc .vmem S1408x1024 .f32) (h6 : a6.IsWhole) (x0 : Vec Ideal S1408x1408 .bf16) (x1 : Vec Ideal S1408x1024 .bf16)
  (xs : Vec Ideal S1408x1024 .f32)

/-- A first point leaves its blocks' product in the scratch. -/
theorem first_eq (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, View.ld_unit_zero (S := S1408x1408) hz, View.ld_unit_zero (S := S1408x1024) hz]

/-- A middle point adds its blocks' product to what the scratch held, … -/
theorem middle_eq (hc0 : ¬cond0_0 i) (hc1 : cond0_1 i) (hc2 : ¬cond0_2 i) :
    sout0_B_0 c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero hz]
  simp only [View.readAt_eq_ld, h3.read_unread, h4.read_unread, h6.read_unread, View.ld_unit_zero (S := S1408x1408) hz,
    View.ld_unit_zero (S := S1408x1024) hz, View.ld_unit_zero (S := S1408x1024) hz]

/-- … and a last point writes that sum out. -/
theorem last_eq (hc0 : ¬cond0_0 i) (hc1 : cond0_1 i) (hc2 : cond0_2 i) :
    out0_C_2 c i a3 h3 a4 h4 a5 h5 a6 h6 hc0 hc1 hc2 x0 x1 xs = k0_pay4 (k0_pay3 x0 x1 xs) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz]
  rw [View.readCov_unit_zero (S := S1408x1024) _ hz]
  simp only [View.readAt_eq_ld, h3.read_unread, h4.read_unread, h6.read_unread, View.ld_unit_zero (S := S1408x1408) hz,
    View.ld_unit_zero (S := S1408x1024) hz, View.ld_unit_zero (S := S1408x1024) hz]

end

/-- A block's product at an entry. -/
theorem prod_apply (x0 : Vec Ideal S1408x1408 .bf16) (x1 : Vec Ideal S1408x1024 .bf16) (i : Fin 1408) (j : Fin 1024) :
    k0_pay2 x0 x1 (ix2 i j) = ∑ x : Fin 1408, x0 (ix2 x i) * x1 (ix2 x j) := by
  pointwise [k0_pay2, k0_pay1]

/-- … and with what was held before. -/
theorem add_apply (x0 : Vec Ideal S1408x1408 .bf16) (x1 : Vec Ideal S1408x1024 .bf16) (xs : Vec Ideal S1408x1024 .f32) (i : Fin 1408) (j : Fin 1024) :
    k0_pay3 x0 x1 xs (ix2 i j) = xs (ix2 i j) + k0_pay2 x0 x1 (ix2 i j) := by
  pointwise [k0_pay3, k0_pay2, k0_pay1]

/-- The sum written out is the sum held. -/
theorem out_apply (v : Vec Ideal S1408x1024 .f32) (i : Fin 1408) (j : Fin 1024) : k0_pay4 v (ix2 i j) = v (ix2 i j) := by
  pointwise [k0_pay4]

theorem index0 (t : Fin cfg0.N) : win0_0.index t = ![t.val % 6, t.val / 6] :=
  (by decide +kernel : ∀ t : Fin grid0.N, win0_0.index t = ![t.val % 6, t.val / 6]) t

theorem index1 (t : Fin cfg0.N) : win0_1.index t = ![t.val % 6, 0] :=
  (by decide +kernel : ∀ t : Fin grid0.N, win0_1.index t = ![t.val % 6, 0]) t

theorem index2 (t : Fin cfg0.N) : win0_2.index t = ![t.val / 6, 0] :=
  (by decide +kernel : ∀ t : Fin grid0.N, win0_2.index t = ![t.val / 6, 0]) t

variable (m : (ℓ : Loc nD τ sig) → Buf (Elt Ideal) ℓ) (c : Dev nD)

/-- The gated hidden rows, as a matrix, … -/
def X (k : Fin 8448) (i : Fin 2816) : EReal := (m ((c : Thread nD τ).loc main_arg0) : Vec Ideal S8448x2816 .bf16) (ix2 k i)

/-- … and the block's output's cotangent. -/
def Y (k : Fin 8448) (j : Fin 1024) : EReal := (m ((c : Thread nD τ).loc main_arg1) : Vec Ideal S8448x1024 .bf16) (ix2 k j)

/-- The terms of the gradient's sum at an entry. -/
def term (i : Fin 2816) (j : Fin 1024) (k : Fin 8448) : EReal := X m c k i * Y m c k j

/-- The block's row in the array, … -/
def row (t : Fin cfg0.N) (x : Fin 1408) : Fin 8448 := ⟨t.val % 6 * 1408 + x.val, by omega⟩

/-- … and the result's row. -/
def col (t : Fin cfg0.N) (i : Fin 1408) : Fin 2816 := ⟨t.val / 6 * 1408 + i.val, by
  have := lt_of_lt_of_eq t.isLt N_0; omega⟩

theorem blk0 (t : Fin cfg0.N) (x : Fin 1408) (i : Fin 1408) : iblk m c 0 t (ix2 x i) = X m c (row t x) (col t i) := by
  blk_simp [iblk]
  refine congrArg (m (c.tc.loc main_arg0)) (funext fun a => Fin.ext ?_)
  fin_cases a
  · blk_simp [index0]; rfl
  · blk_simp [index0]; rfl

theorem blk1 (t : Fin cfg0.N) (x : Fin 1408) (j : Fin 1024) : iblk m c 1 t (ix2 x j) = Y m c (row t x) j := by
  blk_simp [iblk]
  refine congrArg (m (c.tc.loc main_arg1)) (funext fun a => Fin.ext ?_)
  fin_cases a
  · blk_simp [index1]; rfl
  · blk_simp [index1]; rfl

/-- A point's block adds its terms to the ones before. -/
theorem step (t : Fin cfg0.N) (i : Fin 1408) (j : Fin 1024) :
    upto (term m c (col t i) j) (t.val % 6 * 1408 + 1408) = upto (term m c (col t i) j) (t.val % 6 * 1408) +
      k0_pay2 (iblk m c 0 t) (iblk m c 1 t) (ix2 i j) := by
  rw [prod_apply]
  exact upto_add _ _ _ _ rfl (by omega) _ fun x h => by rw [blk0, blk1]; rfl

/-- What a last point writes out: all the terms. -/
theorem block_eq (t : Fin cfg0.N) (h : t.val % 6 = 5) (i : Fin 1408) (j : Fin 1024) :
    (outsAt0 m c t.val t.isLt).1 (ix2 i j) = ∑ k, term m c (col t i) j k := by
  have hn : t.val - 1 < cfg0.N := Nat.lt_of_le_of_lt (Nat.sub_le _ _) t.isLt
  rw [outsAt0_C m c t (by omega) (by omega) h]
  dsimp only
  rw [last_eq, out_apply, add_apply]
  refine carried_all 5 1408 (by decide) rfl (fun t => (outsAt0 m c t.val t.isLt).2 (ix2 i j))
    (fun t => k0_pay2 (iblk m c 0 t) (iblk m c 1 t) (ix2 i j)) (fun t => term m c (col t i) j)
    (fun t h0 => ?_) (fun t hp h0 h2 => ?_) (fun t hp h0 => ?_) (fun t => step m c t i j) t hn h
  · rw [outsAt0_A m c t h0 (by omega) (by omega)]
    dsimp only
    rw [first_eq]
  · rw [outsAt0_B m c t h0 (by omega) h2]
    dsimp only
    rw [middle_eq, add_apply]
  · exact congrArg (term m c · j) (Fin.ext (by simp only [col]; omega))

/-- The gradient. -/
def grad : Vec Ideal S2816x1024 .bf16 := fun y => ∑ k, term m c (y 0) (y 1) k

/-- Where a point's block of it lies in the array. -/
theorem at_grad (t : Fin cfg0.N) (i : Fin 1408) (j : Fin 1024) :
    grad m c ((win0_2.blk t).view.emb (ix2 i j)) = ∑ k, term m c (col t i) j k := by
  have h0 : (win0_2.blk t).view.emb (ix2 i j) 0 = col t i := by
    apply Fin.ext; blk_simp [index2]; rfl
  have h1 : (win0_2.blk t).view.emb (ix2 i j) 1 = j := by
    apply Fin.ext; blk_simp [index2]
  exact congrArg₂ (fun a b => ∑ k, term m c a b k) h0 h1

/-- The kernel ends with the gradient. -/
theorem array_eq : (dats m 0 c).arrAt 2 cfg0.N = grad m c := by
  refine (dats m 0 c).arrAt_eq_of_covers 2 _ (by decide +kernel) fun t hf y => ?_
  blk_simp
  rw [after0_2, eq_ix2 y]
  exact (block_eq m c t ((flush0_2 t).mp hf) _ _).trans (at_grad m c t _ _).symm

end Cert.Kernel3Ideal.Gradient

namespace Cert.Reference3Ideal.Gradient

open Cert.Reference3Ideal Cert.Reference3Ideal.Gen Idealize.ShloMosaic

/-- The reference's result at an entry. -/
theorem ref_apply (x : FVec Ideal S8448x2816 .bf16) (y : FVec Ideal S8448x1024 .bf16) (i : Fin 2816) (j : Fin 1024) :
    truncf .bf16 (transpose S2816x1024 [1, 0] (Host.dotGeneral dot_S8448x1024_S8448x2816_S1024x2816_0_0_1_1_n_n none
      (extf .f32 y bitsLt_bf16_f32) (extf .f32 x bitsLt_bf16_f32)) transposes_S1024x2816_S2816x1024_1_0) bitsLt_bf16_f32 (ix2 i j)
      = ∑ k : Fin 8448, x (ix2 k i) * y (ix2 k j) := by
  refine Eq.trans (b := ∑ k : Fin 8448, y (ix2 k j) * x (ix2 k i)) (by pointwise) ?_
  exact Finset.sum_congr rfl fun k _ => mul_comm _ _

/-- The reference runs, its arguments end unchanged, and it has no semaphore. -/
theorem frame : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- The kernel and the reference end with the same gradient. -/
theorem values : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => Cert.Kernel3Ideal.Gradient.grad m c, ?_, ?_⟩
  · refine (θ_run Cert.Kernel3Ideal.defs _ _).mono (fun r h c => ?_) (Cert.Kernel3Ideal.Value.run_blocks (F := Ideal) m ρ)
    exact ⟨(h c).1.trans (Cert.Kernel3Ideal.Gradient.array_eq m c), (h c).2⟩
  · refine (θ_run Cert.Reference3Ideal.defs _ _).mono (fun r h c => ?_) (Cert.Reference3Ideal.Value.run (F := Ideal) m' ρ')
    refine ⟨(h c).1.trans ?_, (h c).2⟩
    rw [(hagree c).1, (hagree c).2]
    funext y
    rw [eq_ix2 y]
    exact ref_apply _ _ _ _

end Cert.Reference3Ideal.Gradient
-- ==== Proof.Sw.lean ====
/- The cotangent of the feed-forward block's gated hidden rows: one point per block of rows, and the array they make. -/
module

public import proofs.«01_k».proof.Proof.Product
public import proofs.«01_k».proof.Defs
public import proofs.«01_k».proof.Proof.Gen.Kernel4Ideal.Value
public import proofs.«01_k».proof.Proof.Gen.Reference4Ideal.Run
public import Idealize.ShloMosaic.Lib.Pipeline.ValueKit.Geometry

@[expose] public section

set_option maxRecDepth 16384

noncomputable section

namespace Cert.Kernel4Ideal.Gradient

open Cert.Product
open Cert.Kernel4Ideal Cert.Kernel4Ideal.Gen Idealize.ShloMosaic Idealize.ShloMosaic.TcCoe

/-- A point writes out its blocks' product. -/
theorem out_eq (c : Dev nD) (i : grid0.Coords) (a3 : Memref sig .tc .vmem S1408x1024 .bf16) (h3 : a3.IsWhole)
    (a4 : Memref sig .tc .vmem S2816x1024 .bf16) (h4 : a4.IsWhole) (a5 : Memref sig .tc .vmem S1408x2816 .bf16) (h5 : a5.IsWhole)
    (a6 : Memref sig .tc .vmem S8x128 .f32) (h6 : a6.IsWhole) (x0 : Vec Ideal S1408x1024 .bf16) (x1 : Vec Ideal S2816x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  sl_unfold_words
  rw [View.canon_unit_zero hz]
  simp only [View.readAt_eq_ld, h3.read_unread, h4.read_unread, View.ld_unit_zero (S := S1408x1024) hz, View.ld_unit_zero (S := S2816x1024) hz]

/-- The product at an entry. -/
theorem prod_apply (x0 : Vec Ideal S1408x1024 .bf16) (x1 : Vec Ideal S2816x1024 .bf16) (i : Fin 1408) (j : Fin 2816) :
    k0_pay1 x0 x1 (ix2 i j) = ∑ x : Fin 1024, x0 (ix2 i x) * x1 (ix2 j x) := by
  pointwise [k0_pay1]

theorem index0 (t : Fin cfg0.N) : win0_0.index t = ![t.val, 0] :=
  (by decide +kernel : ∀ t : Fin grid0.N, win0_0.index t = ![t.val, 0]) t

theorem index1 (t : Fin cfg0.N) : win0_1.index t = ![0, 0] :=
  (by decide +kernel : ∀ t : Fin grid0.N, win0_1.index t = ![0, 0]) t

theorem index2 (t : Fin cfg0.N) : win0_2.index t = ![t.val, 0] :=
  (by decide +kernel : ∀ t : Fin grid0.N, win0_2.index t = ![t.val, 0]) t

variable (m : (ℓ : Loc nD τ sig) → Buf (Elt Ideal) ℓ) (c : Dev nD)

/-- The block's output's cotangent, as a matrix, … -/
def X (i : Fin 8448) (k : Fin 1024) : EReal := (m ((c : Thread nD τ).loc main_arg0) : Vec Ideal S8448x1024 .bf16) (ix2 i k)

/-- … and the weights. -/
def Y (j : Fin 2816) (k : Fin 1024) : EReal := (m ((c : Thread nD τ).loc main_arg1) : Vec Ideal S2816x1024 .bf16) (ix2 j k)

/-- The block's row in the array. -/
def row (t : Fin cfg0.N) (i : Fin 1408) : Fin 8448 := ⟨t.val * 1408 + i.val, by
  have := lt_of_lt_of_eq t.isLt N_0; omega⟩

theorem blk0 (t : Fin cfg0.N) (i : Fin 1408) (x : Fin 1024) : iblk m c 0 t (ix2 i x) = X m c (row t i) x := by
  blk_simp [iblk]
  refine congrArg (m (c.tc.loc main_arg0)) (funext fun a => Fin.ext ?_)
  fin_cases a
  · blk_simp [index0]; rfl
  · blk_simp [index0]; rfl

theorem blk1 (t : Fin cfg0.N) (j : Fin 2816) (x : Fin 1024) : iblk m c 1 t (ix2 j x) = Y m c j x := by
  blk_simp [iblk]
  refine congrArg (m (c.tc.loc main_arg1)) (funext fun a => Fin.ext ?_)
  fin_cases a
  · blk_simp [index1]
  · blk_simp [index1]

/-- What a point writes out. -/
theorem block_eq (t : Fin cfg0.N) (i : Fin 1408) (j : Fin 2816) :
    outsAt0 m c t (ix2 i j) = ∑ k, X m c (row t i) k * Y m c j k := by
  unfold outsAt0
  rw [out_eq, prod_apply]
  exact Finset.sum_congr rfl fun k _ => congrArg₂ (· * ·) (blk0 m c t i k) (blk1 m c t j k)

/-- The cotangent. -/
def grad : Vec Ideal S8448x2816 .bf16 := fun y => ∑ k, X m c (y 0) k * Y m c (y 1) k

/-- Where a point's block of it lies in the array. -/
theorem at_grad (t : Fin cfg0.N) (i : Fin 1408) (j : Fin 2816) :
    grad m c ((win0_2.blk t).view.emb (ix2 i j)) = ∑ k, X m c (row t i) k * Y m c j k := by
  have h0 : (win0_2.blk t).view.emb (ix2 i j) 0 = row t i := by
    apply Fin.ext; blk_simp [index2]; rfl
  have h1 : (win0_2.blk t).view.emb (ix2 i j) 1 = j := by
    apply Fin.ext; blk_simp [index2]
  exact congrArg₂ (fun a b => ∑ k, X m c a k * Y m c b k) h0 h1

/-- The kernel ends with the cotangent. -/
theorem array_eq : (dats m 0 c).arrAt 2 cfg0.N = grad m c := by
  refine (dats m 0 c).arrAt_eq_of_covers 2 _ (by decide +kernel) fun t hf y => ?_
  blk_simp
  rw [after0_2, eq_ix2 y]
  exact (block_eq m c t _ _).trans (at_grad m c t _ _).symm

end Cert.Kernel4Ideal.Gradient

namespace Cert.Reference4Ideal.Gradient

open Cert.Reference4Ideal Cert.Reference4Ideal.Gen Idealize.ShloMosaic

/-- The reference's result at an entry. -/
theorem ref_apply (x : FVec Ideal S8448x1024 .bf16) (y : FVec Ideal S2816x1024 .bf16) (i : Fin 8448) (j : Fin 2816) :
    truncf .bf16 (Host.dotGeneral dot_S8448x1024_S2816x1024_S8448x2816_1_1_0_0_n_n none
      (extf .f32 x bitsLt_bf16_f32) (extf .f32 y bitsLt_bf16_f32)) bitsLt_bf16_f32 (ix2 i j)
      = ∑ k : Fin 1024, x (ix2 i k) * y (ix2 j k) := by
  pointwise

/-- The reference runs, its arguments end unchanged, and it has no semaphore. -/
theorem frame : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- The kernel and the reference end with the same cotangent. -/
theorem values : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => Cert.Kernel4Ideal.Gradient.grad m c, ?_, ?_⟩
  · refine (θ_run Cert.Kernel4Ideal.defs _ _).mono (fun r h c => ?_) (Cert.Kernel4Ideal.Value.run_blocks (F := Ideal) m ρ)
    exact ⟨(h c).1.trans (Cert.Kernel4Ideal.Gradient.array_eq m c), (h c).2⟩
  · refine (θ_run Cert.Reference4Ideal.defs _ _).mono (fun r h c => ?_) (Cert.Reference4Ideal.Value.run (F := Ideal) m' ρ')
    refine ⟨(h c).1.trans ?_, (h c).2⟩
    rw [(hagree c).1, (hagree c).2]
    funext y
    rw [eq_ix2 y]
    exact ref_apply _ _ _ _

end Cert.Reference4Ideal.Gradient
-- ==== Proof.FfnIn.lean ====
/- The gradient of the feed-forward layer's input weights, one shard of columns after another: the kernel's blocks, its carried
   sum, and the array it ends with. -/
module

public import proofs.«01_k».proof.Proof.Product
public import proofs.«01_k».proof.Defs
public import proofs.«01_k».proof.Proof.Gen.Kernel5Ideal.Value
public import proofs.«01_k».proof.Proof.Gen.Reference5Ideal.Run
public import Idealize.ShloMosaic.Lib.Pipeline.ValueKit.Geometry

@[expose] public section

set_option maxRecDepth 16384

noncomputable section

namespace Cert.Kernel5Ideal.Gradient

open Cert.Product
open Cert.Kernel5Ideal Cert.Kernel5Ideal.Gen Idealize.ShloMosaic Idealize.ShloMosaic.TcCoe

section
variable (c : Dev nD) (i : grid0.Coords) (a3 : Memref sig .tc .vmem S1408x1024 .bf16) (h3 : a3.IsWhole)
  (a4 : Memref sig .tc .vmem S1x1408x1408 .bf16) (h4 : a4.IsWhole) (a5 : Memref sig .tc .vmem S1x1024x1408 .bf16) (h5 : a5.IsWhole)
  (a6 : Memref sig .tc .vmem S1024x1408 .f32) (h6 : a6.IsWhole) (x0 : Vec Ideal S1408x1024 .bf16) (x1 : Vec Ideal S1x1408x1408 .bf16)
  (xs : Vec Ideal S1024x1408 .f32)

/-- A first point leaves its blocks' product in the scratch. -/
theorem first_eq (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, View.ld_unit_zero (S := S1408x1024) hz, View.ld_unit_zero (S := S1x1408x1408) hz3]

/-- A middle point adds its blocks' product to what the scratch held, … -/
theorem middle_eq (hc0 : ¬cond0_0 i) (hc1 : cond0_1 i) (hc2 : ¬cond0_2 i) :
    sout0_B_0 c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero hz]
  simp only [View.readAt_eq_ld, h3.read_unread, h4.read_unread, h6.read_unread, View.ld_unit_zero (S := S1408x1024) hz,
    View.ld_unit_zero (S := S1x1408x1408) hz3, View.ld_unit_zero (S := S1024x1408) hz]

/-- … and a last point writes that sum out. -/
theorem last_eq (hc0 : ¬cond0_0 i) (hc1 : cond0_1 i) (hc2 : cond0_2 i) :
    out0_C_2 c i a3 h3 a4 h4 a5 h5 a6 h6 hc0 hc1 hc2 x0 x1 xs = k0_pay4 (k0_pay3 x0 x1 xs) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz3]
  rw [View.readCov_unit_zero (S := S1024x1408) _ hz]
  simp only [View.readAt_eq_ld, h3.read_unread, h4.read_unread, h6.read_unread, View.ld_unit_zero (S := S1408x1024) hz,
    View.ld_unit_zero (S := S1x1408x1408) hz3, View.ld_unit_zero (S := S1024x1408) hz]

end

/-- A block's product at an entry. -/
theorem prod_apply (x0 : Vec Ideal S1408x1024 .bf16) (x1 : Vec Ideal S1x1408x1408 .bf16) (i : Fin 1024) (j : Fin 1408) :
    k0_pay2 x0 x1 (ix2 i j) = ∑ x : Fin 1408, x0 (ix2 x i) * x1 (ix3 0 x j) := by
  pointwise [k0_pay2, k0_pay1]

/-- … and with what was held before. -/
theorem add_apply (x0 : Vec Ideal S1408x1024 .bf16) (x1 : Vec Ideal S1x1408x1408 .bf16) (xs : Vec Ideal S1024x1408 .f32) (i : Fin 1024) (j : Fin 1408) :
    k0_pay3 x0 x1 xs (ix2 i j) = xs (ix2 i j) + k0_pay2 x0 x1 (ix2 i j) := by
  pointwise [k0_pay3, k0_pay2, k0_pay1]

/-- The sum written out is the sum held. -/
theorem out_apply (v : Vec Ideal S1024x1408 .f32) (z : Fin 1) (i : Fin 1024) (j : Fin 1408) :
    k0_pay4 v (ix3 z i j) = v (ix2 i j) := by
  pointwise [k0_pay4]

theorem index0 (t : Fin cfg0.N) : win0_0.index t = ![t.val % 6, 0] :=
  (by decide +kernel : ∀ t : Fin grid0.N, win0_0.index t = ![t.val % 6, 0]) t

theorem index1 (t : Fin cfg0.N) : win0_1.index t = ![t.val / 6 / 2, t.val % 6, t.val / 6 % 2] :=
  (by decide +kernel : ∀ t : Fin grid0.N, win0_1.index t = ![t.val / 6 / 2, t.val % 6, t.val / 6 % 2]) t

theorem index2 (t : Fin cfg0.N) : win0_2.index t = ![t.val / 6, 0, 0] :=
  (by decide +kernel : ∀ t : Fin grid0.N, win0_2.index t = ![t.val / 6, 0, 0]) t

variable (m : (ℓ : Loc nD τ sig) → Buf (Elt Ideal) ℓ) (c : Dev nD)

/-- The layer's input, as a matrix, … -/
def X (k : Fin 8448) (i : Fin 1024) : EReal := (m ((c : Thread nD τ).loc main_arg0) : Vec Ideal S8448x1024 .bf16) (ix2 k i)

/-- … and the cotangents of its two halves. -/
def Y (h : Fin 2) (k : Fin 8448) (j : Fin 2816) : EReal :=
  (m ((c : Thread nD τ).loc main_arg1) : Vec Ideal S2x8448x2816 .bf16) (ix3 h k j)

/-- The half that a shard's columns are of, … -/
def half (s : Fin 4) : Fin 2 := ⟨s.val / 2, by omega⟩

/-- … and where in it they are. -/
def place (s : Fin 4) (j : Fin 1408) : Fin 2816 := ⟨s.val % 2 * 1408 + j.val, by omega⟩

/-- The terms of the gradient's sum at an entry. -/
def term (s : Fin 4) (i : Fin 1024) (j : Fin 1408) (k : Fin 8448) : EReal := X m c k i * Y m c (half s) k (place s j)

/-- The block's row in the array, … -/
def row (t : Fin cfg0.N) (x : Fin 1408) : Fin 8448 := ⟨t.val % 6 * 1408 + x.val, by omega⟩

/-- … and its shard. -/
def shard (t : Fin cfg0.N) : Fin 4 := ⟨t.val / 6, by have := lt_of_lt_of_eq t.isLt N_0; omega⟩

theorem blk0 (t : Fin cfg0.N) (x : Fin 1408) (i : Fin 1024) : iblk m c 0 t (ix2 x i) = X m c (row t x) i := by
  blk_simp [iblk]
  refine congrArg (m (c.tc.loc main_arg0)) (funext fun a => Fin.ext ?_)
  fin_cases a
  · blk_simp [index0]; rfl
  · blk_simp [index0]; rfl

theorem blk1 (t : Fin cfg0.N) (x : Fin 1408) (j : Fin 1408) :
    iblk m c 1 t (ix3 0 x j) = Y m c (half (shard t)) (row t x) (place (shard t) j) := by
  blk_simp [iblk]
  refine congrArg (m (c.tc.loc main_arg1)) (funext fun a => Fin.ext ?_)
  fin_cases a
  · blk_simp [index1]; rfl
  · blk_simp [index1]; rfl
  · blk_simp [index1]; rfl

/-- A point's block adds its terms to the ones before. -/
theorem step (t : Fin cfg0.N) (i : Fin 1024) (j : Fin 1408) :
    upto (term m c (shard t) i j) (t.val % 6 * 1408 + 1408) = upto (term m c (shard t) i j) (t.val % 6 * 1408) +
      k0_pay2 (iblk m c 0 t) (iblk m c 1 t) (ix2 i j) := by
  rw [prod_apply]
  exact upto_add _ _ _ _ rfl (by omega) _ fun x h => by rw [blk0, blk1]; rfl

/-- What a last point writes out: all the terms. -/
theorem block_eq (t : Fin cfg0.N) (h : t.val % 6 = 5) (z : Fin 1) (i : Fin 1024) (j : Fin 1408) :
    (outsAt0 m c t.val t.isLt).1 (ix3 z i j) = ∑ k, term m c (shard t) i j k := by
  have hn : t.val - 1 < cfg0.N := Nat.lt_of_le_of_lt (Nat.sub_le _ _) t.isLt
  rw [outsAt0_C m c t (by omega) (by omega) h]
  dsimp only
  rw [last_eq, out_apply, add_apply]
  refine carried_all 5 1408 (by decide) rfl (fun t => (outsAt0 m c t.val t.isLt).2 (ix2 i j))
    (fun t => k0_pay2 (iblk m c 0 t) (iblk m c 1 t) (ix2 i j)) (fun t => term m c (shard t) i j)
    (fun t h0 => ?_) (fun t hp h0 h2 => ?_) (fun t hp h0 => ?_) (fun t => step m c t i j) t hn h
  · rw [outsAt0_A m c t h0 (by omega) (by omega)]
    dsimp only
    rw [first_eq]
  · rw [outsAt0_B m c t h0 (by omega) h2]
    dsimp only
    rw [middle_eq, add_apply]
  · exact congrArg (fun s => term m c s i j) (Fin.ext (by simp only [shard]; omega))

/-- The gradient. -/
def grad : Vec Ideal S4x1024x1408 .bf16 := fun y => ∑ k, term m c (y 0) (y 1) (y 2) k

/-- Where a point's block of it lies in the array. -/
theorem at_grad (t : Fin cfg0.N) (z : Fin 1) (i : Fin 1024) (j : Fin 1408) :
    grad m c ((win0_2.blk t).view.emb (ix3 z i j)) = ∑ k, term m c (shard t) i j k := by
  have h0 : (win0_2.blk t).view.emb (ix3 z i j) 0 = shard t := by
    apply Fin.ext; blk_simp [index2, shard]
  have h1 : (win0_2.blk t).view.emb (ix3 z i j) 1 = i := by
    apply Fin.ext; blk_simp [index2]
  have h2 : (win0_2.blk t).view.emb (ix3 z i j) 2 = j := by
    apply Fin.ext; blk_simp [index2]
  refine (congrArg₂ (fun s a => ∑ k, term m c s a _ k) h0 h1).trans ?_
  exact congrArg (fun b => ∑ k, term m c (shard t) i b k) h2

/-- The kernel ends with the gradient. -/
theorem array_eq : (dats m 0 c).arrAt 2 cfg0.N = grad m c := by
  refine (dats m 0 c).arrAt_eq_of_covers 2 _ (by decide +kernel) fun t hf y => ?_
  blk_simp
  rw [after0_2, eq_ix3 y]
  exact (block_eq m c t ((flush0_2 t).mp hf) _ _ _).trans (at_grad m c t _ _ _).symm

end Cert.Kernel5Ideal.Gradient

namespace Cert.Reference5Ideal.Gradient

open Cert.Reference5Ideal Cert.Reference5Ideal.Gen Idealize.ShloMosaic
open Cert.Kernel5Ideal.Gradient (half place)

/-- The two halves' cotangents side by side. -/
def joined (y : FVec Ideal S2x8448x2816 .bf16) : FVec Ideal S8448x5632 .bf16 :=
  concatenate S8448x5632 1 [
    ⟨S8448x2816, shapeCast _ (extractStridedSlice S1x8448x2816 ![0, 0, 0] y slices_S2x8448x2816_S1x8448x2816_0_0_0)
      shapeCasts_S1x8448x2816_S8448x2816⟩,
    ⟨S8448x2816, shapeCast _ (extractStridedSlice S1x8448x2816 ![1, 0, 0] y slices_S2x8448x2816_S1x8448x2816_1_0_0)
      shapeCasts_S1x8448x2816_S8448x2816⟩] concatenates_S8448x2816_S8448x2816_S8448x5632_d1

/-- The column of a shard in the halves side by side. -/
def wide (s : Fin 4) (j : Fin 1408) : Fin 5632 := ⟨s.val * 1408 + j.val, by omega⟩

theorem joined_apply (y : FVec Ideal S2x8448x2816 .bf16) (k : Fin 8448) (s : Fin 4) (j : Fin 1408) :
    joined y (ix2 k (wide s j)) = y (ix3 (half s) k (place s j)) := by
  refine Eq.trans (b := if h : (wide s j).val < 2816 then y (ix3 0 k ⟨_, h⟩) else y (ix3 1 k ⟨(wide s j).val - 2816, by omega⟩)) (by
    pointwise [joined]) ?_
  have e : (wide s j).val = s.val * 1408 + j.val := rfl
  split
  all_goals refine congrArg y (congrArg₂ (fun a b => ix3 a k b) (Fin.ext ?_) (Fin.ext ?_)) <;> simp only [half, place] <;> omega

/-- The weights' gradient in one piece. -/
def whole (x : FVec Ideal S8448x1024 .bf16) (y : FVec Ideal S2x8448x2816 .bf16) : FVec Ideal S1024x5632 .f32 :=
  transpose S1024x5632 [1, 0] (Host.dotGeneral dot_S8448x5632_S8448x1024_S5632x1024_0_0_1_1_n_n none
    (extf .f32 (joined y) bitsLt_bf16_f32) (extf .f32 x bitsLt_bf16_f32)) transposes_S5632x1024_S1024x5632_1_0

theorem whole_apply (x : FVec Ideal S8448x1024 .bf16) (y : FVec Ideal S2x8448x2816 .bf16) (i : Fin 1024) (j : Fin 5632) :
    whole x y (ix2 i j) = ∑ k : Fin 8448, joined y (ix2 k j) * x (ix2 k i) := by
  pointwise [whole]

/-- … and cut into its shards. -/
def shards (v : FVec Ideal S1024x5632 .f32) : FVec Ideal S4x1024x1408 .bf16 :=
  truncf .bf16 (concatenate S4x1024x1408 0 [
    ⟨S1x1024x1408, broadcastInDim S1x1024x1408 ![1, 2] bcast_S1024x1408_S1x1024x1408_1_2
      (extractStridedSlice S1024x1408 ![0, 0] v slices_S1024x5632_S1024x1408_0_0)⟩,
    ⟨S1x1024x1408, broadcastInDim S1x1024x1408 ![1, 2] bcast_S1024x1408_S1x1024x1408_1_2
      (extractStridedSlice S1024x1408 ![0, 1408] v slices_S1024x5632_S1024x1408_0_1408)⟩,
    ⟨S1x1024x1408, broadcastInDim S1x1024x1408 ![1, 2] bcast_S1024x1408_S1x1024x1408_1_2
      (extractStridedSlice S1024x1408 ![0, 2816] v slices_S1024x5632_S1024x1408_0_2816)⟩,
    ⟨S1x1024x1408, broadcastInDim S1x1024x1408 ![1, 2] bcast_S1024x1408_S1x1024x1408_1_2
      (extractStridedSlice S1024x1408 ![0, 4224] v slices_S1024x5632_S1024x1408_0_4224)⟩]
    concatenates_S1x1024x1408_S1x1024x1408_S1x1024x1408_S1x1024x1408_S4x1024x1408_d0) bitsLt_bf16_f32

theorem shards_apply (v : FVec Ideal S1024x5632 .f32) (s : Fin 4) (i : Fin 1024) (j : Fin 1408) :
    shards v (ix3 s i j) = v (ix2 i (wide s j)) := by
  fin_cases s
  · pointwise [shards, wide]
  · pointwise [shards, wide]
  · pointwise [shards, wide]
  · pointwise [shards, wide]

/-- The reference's result at an entry. -/
theorem ref_apply (x : FVec Ideal S8448x1024 .bf16) (y : FVec Ideal S2x8448x2816 .bf16) (s : Fin 4) (i : Fin 1024) (j : Fin 1408) :
    shards (whole x y) (ix3 s i j) = ∑ k : Fin 8448, x (ix2 k i) * y (ix3 (half s) k (place s j)) := by
  rw [shards_apply, whole_apply]
  exact Finset.sum_congr rfl fun k _ => by rw [joined_apply, mul_comm]

/-- The reference runs, its arguments end unchanged, and it has no semaphore. -/
theorem frame : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- The kernel and the reference end with the same gradient. -/
theorem values : Cert.algebraic_Kernel5Ideal_Reference5Ideal (hKernel5Ideal := Cert.Kernel5Ideal.Gen.facts)
    (hReference5Ideal := Cert.Reference5Ideal.Gen.facts) := by
  intro m ρ m' ρ' _ hagree
  refine ⟨fun c => Cert.Kernel5Ideal.Gradient.grad m c, ?_, ?_⟩
  · refine (θ_run Cert.Kernel5Ideal.defs _ _).mono (fun r h c => ?_) (Cert.Kernel5Ideal.Value.run_blocks (F := Ideal) m ρ)
    exact ⟨(h c).1.trans (Cert.Kernel5Ideal.Gradient.array_eq m c), (h c).2⟩
  · refine (θ_run Cert.Reference5Ideal.defs _ _).mono (fun r h c => ?_) (Cert.Reference5Ideal.Value.run (F := Ideal) m' ρ')
    refine ⟨(h c).1.trans ?_, (h c).2⟩
    rw [(hagree c).1, (hagree c).2]
    funext y
    rw [eq_ix3 y]
    exact ref_apply _ _ _ _ _

end Cert.Reference5Ideal.Gradient
-- ==== Proof.FfnX.lean ====
/- The feed-forward layer's input cotangent, summed over the two halves' columns: the kernel's blocks, its carried sum, and the
   array it ends with. -/
module

public import proofs.«01_k».proof.Proof.Product
public import proofs.«01_k».proof.Defs
public import proofs.«01_k».proof.Proof.Gen.Kernel6Ideal.Value
public import proofs.«01_k».proof.Proof.Gen.Reference6Ideal.Run
public import Idealize.ShloMosaic.Lib.Pipeline.ValueKit.Geometry

@[expose] public section

set_option maxRecDepth 16384

noncomputable section

namespace Cert.Kernel6Ideal.Gradient

open Cert.Product
open Cert.Kernel6Ideal Cert.Kernel6Ideal.Gen Idealize.ShloMosaic Idealize.ShloMosaic.TcCoe

section
variable (c : Dev nD) (i : grid0.Coords) (a3 : Memref sig .tc .vmem S1x1408x1408 .bf16) (h3 : a3.IsWhole)
  (a4 : Memref sig .tc .vmem S1x1024x1408 .bf16) (h4 : a4.IsWhole) (a5 : Memref sig .tc .vmem S1408x1024 .f32) (h5 : a5.IsWhole)
  (a6 : Memref sig .tc .vmem S1408x1024 .f32) (h6 : a6.IsWhole) (x0 : Vec Ideal S1x1408x1408 .bf16) (x1 : Vec Ideal S1x1024x1408 .bf16)
  (xs : Vec Ideal S1408x1024 .f32)

/-- A first point leaves its blocks' product in the scratch. -/
theorem first_eq (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, View.ld_unit_zero (S := S1x1408x1408) hz3, View.ld_unit_zero (S := S1x1024x1408) hz3]

/-- A middle point adds its blocks' product to what the scratch held, … -/
theorem middle_eq (hc0 : ¬cond0_0 i) (hc1 : cond0_1 i) (hc2 : ¬cond0_2 i) :
    sout0_B_0 c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero hz]
  simp only [View.readAt_eq_ld, h3.read_unread, h4.read_unread, h6.read_unread, View.ld_unit_zero (S := S1x1408x1408) hz3,
    View.ld_unit_zero (S := S1x1024x1408) hz3, View.ld_unit_zero (S := S1408x1024) hz]

/-- … and a last point writes that sum out. -/
theorem last_eq (hc0 : ¬cond0_0 i) (hc1 : cond0_1 i) (hc2 : cond0_2 i) :
    out0_C_2 c i a3 h3 a4 h4 a5 h5 a6 h6 hc0 hc1 hc2 x0 x1 xs = k0_pay3 x0 x1 xs := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz]
  rw [View.readCov_unit_zero (S := S1408x1024) _ hz]
  simp only [View.readAt_eq_ld, h3.read_unread, h4.read_unread, h6.read_unread, View.ld_unit_zero (S := S1x1408x1408) hz3,
    View.ld_unit_zero (S := S1x1024x1408) hz3, View.ld_unit_zero (S := S1408x1024) hz]

end

/-- A block's product at an entry. -/
theorem prod_apply (x0 : Vec Ideal S1x1408x1408 .bf16) (x1 : Vec Ideal S1x1024x1408 .bf16) (i : Fin 1408) (j : Fin 1024) :
    k0_pay2 x0 x1 (ix2 i j) = ∑ x : Fin 1408, x0 (ix3 0 i x) * x1 (ix3 0 j x) := by
  pointwise [k0_pay2, k0_pay1]

/-- … and with what was held before. -/
theorem add_apply (x0 : Vec Ideal S1x1408x1408 .bf16) (x1 : Vec Ideal S1x1024x1408 .bf16) (xs : Vec Ideal S1408x1024 .f32)
    (i : Fin 1408) (j : Fin 1024) : k0_pay3 x0 x1 xs (ix2 i j) = xs (ix2 i j) + k0_pay2 x0 x1 (ix2 i j) := by
  pointwise [k0_pay3, k0_pay2, k0_pay1]

theorem index0 (t : Fin cfg0.N) : win0_0.index t = ![t.val % 4 / 2, t.val / 4, t.val % 4 % 2] :=
  (by decide +kernel : ∀ t : Fin grid0.N, win0_0.index t = ![t.val % 4 / 2, t.val / 4, t.val % 4 % 2]) t

theorem index1 (t : Fin cfg0.N) : win0_1.index t = ![t.val % 4, 0, 0] :=
  (by decide +kernel : ∀ t : Fin grid0.N, win0_1.index t = ![t.val % 4, 0, 0]) t

theorem index2 (t : Fin cfg0.N) : win0_2.index t = ![t.val / 4, 0] :=
  (by decide +kernel : ∀ t : Fin grid0.N, win0_2.index t = ![t.val / 4, 0]) t

variable (m : (ℓ : Loc nD τ sig) → Buf (Elt Ideal) ℓ) (c : Dev nD)

/-- The half that a column of the two side by side is of, … -/
def half (k : Fin 5632) : Fin 2 := ⟨k.val / 2816, by omega⟩

/-- … and where in it the column is. -/
def place (k : Fin 5632) : Fin 2816 := ⟨k.val % 2816, by omega⟩

/-- The shard that the column is of, … -/
def shard (k : Fin 5632) : Fin 4 := ⟨k.val / 1408, by omega⟩

/-- … and where in it the column is. -/
def spot (k : Fin 5632) : Fin 1408 := ⟨k.val % 1408, by omega⟩

/-- The two halves' cotangents, as a matrix, … -/
def X (i : Fin 8448) (k : Fin 5632) : EReal :=
  (m ((c : Thread nD τ).loc main_arg0) : Vec Ideal S2x8448x2816 .bf16) (ix3 (half k) i (place k))

/-- … and the weights, as one. -/
def Y (j : Fin 1024) (k : Fin 5632) : EReal :=
  (m ((c : Thread nD τ).loc main_arg1) : Vec Ideal S4x1024x1408 .bf16) (ix3 (shard k) j (spot k))

/-- The terms of the cotangent's sum at an entry. -/
def term (i : Fin 8448) (j : Fin 1024) (k : Fin 5632) : EReal := X m c i k * Y m c j k

/-- The block's row in the array, … -/
def row (t : Fin cfg0.N) (i : Fin 1408) : Fin 8448 := ⟨t.val / 4 * 1408 + i.val, by
  have := lt_of_lt_of_eq t.isLt N_0; omega⟩

/-- … and its column of the weights. -/
def col (t : Fin cfg0.N) (x : Fin 1408) : Fin 5632 := ⟨t.val % 4 * 1408 + x.val, by omega⟩

theorem blk0 (t : Fin cfg0.N) (i : Fin 1408) (x : Fin 1408) : iblk m c 0 t (ix3 0 i x) = X m c (row t i) (col t x) := by
  blk_simp [iblk]
  refine congrArg (m (c.tc.loc main_arg0)) (funext fun a => Fin.ext ?_)
  fin_cases a
  · blk_simp [index0]; exact (by omega : t.val % 4 / 2 = (t.val % 4 * 1408 + x.val) / 2816)
  · blk_simp [index0]; rfl
  · blk_simp [index0]; exact (by omega : t.val % 4 % 2 * 1408 + x.val = (t.val % 4 * 1408 + x.val) % 2816)

theorem blk1 (t : Fin cfg0.N) (j : Fin 1024) (x : Fin 1408) : iblk m c 1 t (ix3 0 j x) = Y m c j (col t x) := by
  blk_simp [iblk]
  refine congrArg (m (c.tc.loc main_arg1)) (funext fun a => Fin.ext ?_)
  fin_cases a
  · blk_simp [index1]; exact (by omega : t.val % 4 = (t.val % 4 * 1408 + x.val) / 1408)
  · blk_simp [index1]; rfl
  · blk_simp [index1]; exact (by omega : x.val = (t.val % 4 * 1408 + x.val) % 1408)

/-- A point's block adds its terms to the ones before. -/
theorem step (t : Fin cfg0.N) (i : Fin 1408) (j : Fin 1024) :
    upto (term m c (row t i) j) (t.val % 4 * 1408 + 1408) = upto (term m c (row t i) j) (t.val % 4 * 1408) +
      k0_pay2 (iblk m c 0 t) (iblk m c 1 t) (ix2 i j) := by
  rw [prod_apply]
  exact upto_add _ _ _ _ rfl (by omega) _ fun x h => by rw [blk0, blk1]; rfl

/-- What a last point writes out: all the terms. -/
theorem block_eq (t : Fin cfg0.N) (h : t.val % 4 = 3) (i : Fin 1408) (j : Fin 1024) :
    (outsAt0 m c t.val t.isLt).1 (ix2 i j) = ∑ k, term m c (row t i) j k := by
  have hn : t.val - 1 < cfg0.N := Nat.lt_of_le_of_lt (Nat.sub_le _ _) t.isLt
  rw [outsAt0_C m c t (by omega) (by omega) h]
  dsimp only
  rw [last_eq, add_apply]
  refine carried_all 3 1408 (by decide) rfl (fun t => (outsAt0 m c t.val t.isLt).2 (ix2 i j))
    (fun t => k0_pay2 (iblk m c 0 t) (iblk m c 1 t) (ix2 i j)) (fun t => term m c (row t i) j)
    (fun t h0 => ?_) (fun t hp h0 h2 => ?_) (fun t hp h0 => ?_) (fun t => step m c t i j) t hn h
  · rw [outsAt0_A m c t h0 (by omega) (by omega)]
    dsimp only
    rw [first_eq]
  · rw [outsAt0_B m c t h0 (by omega) h2]
    dsimp only
    rw [middle_eq, add_apply]
  · exact congrArg (fun a => term m c a j) (Fin.ext (by simp only [row]; omega))

/-- The cotangent. -/
def grad : Vec Ideal S8448x1024 .f32 := fun y => ∑ k, term m c (y 0) (y 1) k

/-- Where a point's block of it lies in the array. -/
theorem at_grad (t : Fin cfg0.N) (i : Fin 1408) (j : Fin 1024) :
    grad m c ((win0_2.blk t).view.emb (ix2 i j)) = ∑ k, term m c (row t i) j k := by
  have h0 : (win0_2.blk t).view.emb (ix2 i j) 0 = row t i := by
    apply Fin.ext; blk_simp [index2]; rfl
  have h1 : (win0_2.blk t).view.emb (ix2 i j) 1 = j := by
    apply Fin.ext; blk_simp [index2]
  exact congrArg₂ (fun a b => ∑ k, term m c a b k) h0 h1

/-- The kernel ends with the cotangent. -/
theorem array_eq : (dats m 0 c).arrAt 2 cfg0.N = grad m c := by
  refine (dats m 0 c).arrAt_eq_of_covers 2 _ (by decide +kernel) fun t hf y => ?_
  blk_simp
  rw [after0_2, eq_ix2 y]
  exact (block_eq m c t ((flush0_2 t).mp hf) _ _).trans (at_grad m c t _ _).symm

end Cert.Kernel6Ideal.Gradient

namespace Cert.Reference6Ideal.Gradient

open Cert.Reference6Ideal Cert.Reference6Ideal.Gen Idealize.ShloMosaic
open Cert.Kernel6Ideal.Gradient (half place shard spot)

/-- The two halves' cotangents side by side, … -/
def joined (y : FVec Ideal S2x8448x2816 .bf16) : FVec Ideal S8448x5632 .bf16 :=
  concatenate S8448x5632 1 [
    ⟨S8448x2816, shapeCast _ (extractStridedSlice S1x8448x2816 ![0, 0, 0] y slices_S2x8448x2816_S1x8448x2816_0_0_0)
      shapeCasts_S1x8448x2816_S8448x2816⟩,
    ⟨S8448x2816, shapeCast _ (extractStridedSlice S1x8448x2816 ![1, 0, 0] y slices_S2x8448x2816_S1x8448x2816_1_0_0)
      shapeCasts_S1x8448x2816_S8448x2816⟩] concatenates_S8448x2816_S8448x2816_S8448x5632_d1

theorem joined_apply (y : FVec Ideal S2x8448x2816 .bf16) (i : Fin 8448) (k : Fin 5632) :
    joined y (ix2 i k) = y (ix3 (half k) i (place k)) := by
  refine Eq.trans (b := if h : k.val < 2816 then y (ix3 0 i ⟨_, h⟩) else y (ix3 1 i ⟨k.val - 2816, by omega⟩)) (by
    pointwise [joined]) ?_
  split
  all_goals refine congrArg y (congrArg₂ (fun a b => ix3 a i b) (Fin.ext ?_) (Fin.ext ?_)) <;> simp only [half, place] <;> omega

/-- … and the shards of the weights. -/
def flat (w : FVec Ideal S4x1024x1408 .bf16) : FVec Ideal S1024x5632 .bf16 :=
  concatenate S1024x5632 1 [
    ⟨S1024x1408, shapeCast _ (extractStridedSlice S1x1024x1408 ![0, 0, 0] w slices_S4x1024x1408_S1x1024x1408_0_0_0)
      shapeCasts_S1x1024x1408_S1024x1408⟩,
    ⟨S1024x1408, shapeCast _ (extractStridedSlice S1x1024x1408 ![1, 0, 0] w slices_S4x1024x1408_S1x1024x1408_1_0_0)
      shapeCasts_S1x1024x1408_S1024x1408⟩,
    ⟨S1024x1408, shapeCast _ (extractStridedSlice S1x1024x1408 ![2, 0, 0] w slices_S4x1024x1408_S1x1024x1408_2_0_0)
      shapeCasts_S1x1024x1408_S1024x1408⟩,
    ⟨S1024x1408, shapeCast _ (extractStridedSlice S1x1024x1408 ![3, 0, 0] w slices_S4x1024x1408_S1x1024x1408_3_0_0)
      shapeCasts_S1x1024x1408_S1024x1408⟩] concatenates_S1024x1408_S1024x1408_S1024x1408_S1024x1408_S1024x5632_d1

/-- The column of a shard in the shards side by side. -/
def wide (s : Fin 4) (x : Fin 1408) : Fin 5632 := ⟨s.val * 1408 + x.val, by omega⟩

theorem flat_wide (w : FVec Ideal S4x1024x1408 .bf16) (j : Fin 1024) (s : Fin 4) (x : Fin 1408) :
    flat w (ix2 j (wide s x)) = w (ix3 s j x) := by
  fin_cases s
  · pointwise [flat, wide]
  · pointwise [flat, wide]
  · pointwise [flat, wide]
    rw [dif_neg (by omega), dif_neg (by omega), dif_pos (by omega)]
    exact congrArg (fun x => w (ix3 2 j x)) (Fin.ext (by dsimp only; omega))
  · pointwise [flat, wide]
    rw [dif_neg (by omega), dif_neg (by omega), dif_neg (by omega)]
    exact congrArg (fun x => w (ix3 3 j x)) (Fin.ext (by dsimp only; omega))

theorem flat_apply (w : FVec Ideal S4x1024x1408 .bf16) (j : Fin 1024) (k : Fin 5632) :
    flat w (ix2 j k) = w (ix3 (shard k) j (spot k)) := by
  refine Eq.trans (congrArg (fun k => flat w (ix2 j k)) (Fin.ext ?_)) (flat_wide w j (shard k) (spot k))
  simp only [wide, shard, spot]; omega

/-- The reference's result at an entry. -/
theorem ref_apply (y : FVec Ideal S2x8448x2816 .bf16) (w : FVec Ideal S4x1024x1408 .bf16) (i : Fin 8448) (j : Fin 1024) :
    Host.dotGeneral (F := Ideal) dot_S8448x5632_S1024x5632_S8448x1024_1_1_0_0_n_n none (extf .f32 (joined y) bitsLt_bf16_f32)
      (extf .f32 (flat w) bitsLt_bf16_f32) (ix2 i j)
      = ∑ k : Fin 5632, y (ix3 (half k) i (place k)) * w (ix3 (shard k) j (spot k)) := by
  refine Eq.trans (b := ∑ k : Fin 5632, joined y (ix2 i k) * flat w (ix2 j k)) (by pointwise) ?_
  exact Finset.sum_congr rfl fun k _ => by rw [joined_apply, flat_apply]

/-- The reference runs, its arguments end unchanged, and it has no semaphore. -/
theorem frame : Cert.quiescent_Reference6Ideal (hReference6Ideal := Cert.Reference6Ideal.Gen.facts) := fun m ρ _ =>
  (θ_run Cert.Reference6Ideal.defs _ _).mono (fun r h => ⟨fun c => (h c).2, sem_eq_zero_of_no_sems (by decide) r.2⟩)
    (Cert.Reference6Ideal.Value.run (F := Ideal) m ρ)

/-- The kernel and the reference end with the same cotangent. -/
theorem values : Cert.algebraic_Kernel6Ideal_Reference6Ideal (hKernel6Ideal := Cert.Kernel6Ideal.Gen.facts)
    (hReference6Ideal := Cert.Reference6Ideal.Gen.facts) := by
  intro m ρ m' ρ' _ hagree
  refine ⟨fun c => Cert.Kernel6Ideal.Gradient.grad m c, ?_, ?_⟩
  · refine (θ_run Cert.Kernel6Ideal.defs _ _).mono (fun r h c => ?_) (Cert.Kernel6Ideal.Value.run_blocks (F := Ideal) m ρ)
    exact ⟨(h c).1.trans (Cert.Kernel6Ideal.Gradient.array_eq m c), (h c).2⟩
  · refine (θ_run Cert.Reference6Ideal.defs _ _).mono (fun r h c => ?_) (Cert.Reference6Ideal.Value.run (F := Ideal) m' ρ')
    refine ⟨(h c).1.trans ?_, (h c).2⟩
    rw [(hagree c).1, (hagree c).2]
    funext y
    rw [eq_ix2 y]
    exact ref_apply _ _ _ _

end Cert.Reference6Ideal.Gradient
-- ==== Proof.WOut.lean ====
/- The gradient of the mixer's output weights: the kernel's blocks, its carried sum, and the array it ends with. -/
module

public import proofs.«01_k».proof.Proof.Product
public import proofs.«01_k».proof.Defs
public import proofs.«01_k».proof.Proof.Gen.Kernel7Ideal.Value
public import proofs.«01_k».proof.Proof.Gen.Reference7Ideal.Run
public import Idealize.ShloMosaic.Lib.Pipeline.ValueKit.Geometry

@[expose] public section

set_option maxRecDepth 16384

noncomputable section

namespace Cert.Kernel7Ideal.Gradient

open Cert.Product
open Cert.Kernel7Ideal Cert.Kernel7Ideal.Gen Idealize.ShloMosaic Idealize.ShloMosaic.TcCoe

section
variable (c : Dev nD) (i : grid0.Coords) (a3 : Memref sig .tc .vmem S2816x1024 .bf16) (h3 : a3.IsWhole)
  (a4 : Memref sig .tc .vmem S2816x1024 .bf16) (h4 : a4.IsWhole) (a5 : Memref sig .tc .vmem S1024x1024 .bf16) (h5 : a5.IsWhole)
  (a6 : Memref sig .tc .vmem S1024x1024 .f32) (h6 : a6.IsWhole) (x0 : Vec Ideal S2816x1024 .bf16) (x1 : Vec Ideal S2816x1024 .bf16)
  (xs : Vec Ideal S1024x1024 .f32)

/-- A first point leaves its blocks' product in the scratch. -/
theorem first_eq (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, View.ld_unit_zero (S := S2816x1024) hz, View.ld_unit_zero (S := S2816x1024) hz]

/-- A middle point adds its blocks' product to what the scratch held, … -/
theorem middle_eq (hc0 : ¬cond0_0 i) (hc1 : cond0_1 i) (hc2 : ¬cond0_2 i) :
    sout0_B_0 c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero hz]
  simp only [View.readAt_eq_ld, h3.read_unread, h4.read_unread, h6.read_unread, View.ld_unit_zero (S := S2816x1024) hz,
    View.ld_unit_zero (S := S2816x1024) hz, View.ld_unit_zero (S := S1024x1024) hz]

/-- … and a last point writes that sum out. -/
theorem last_eq (hc0 : ¬cond0_0 i) (hc1 : cond0_1 i) (hc2 : cond0_2 i) :
    out0_C_2 c i a3 h3 a4 h4 a5 h5 a6 h6 hc0 hc1 hc2 x0 x1 xs = k0_pay4 (k0_pay3 x0 x1 xs) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz]
  rw [View.readCov_unit_zero (S := S1024x1024) _ hz]
  simp only [View.readAt_eq_ld, h3.read_unread, h4.read_unread, h6.read_unread, View.ld_unit_zero (S := S2816x1024) hz,
    View.ld_unit_zero (S := S2816x1024) hz, View.ld_unit_zero (S := S1024x1024) hz]

end

/-- A block's product at an entry. -/
theorem prod_apply (x0 : Vec Ideal S2816x1024 .bf16) (x1 : Vec Ideal S2816x1024 .bf16) (i : Fin 1024) (j : Fin 1024) :
    k0_pay2 x0 x1 (ix2 i j) = ∑ x : Fin 2816, x0 (ix2 x i) * x1 (ix2 x j) := by
  pointwise [k0_pay2, k0_pay1]

/-- … and with what was held before. -/
theorem add_apply (x0 : Vec Ideal S2816x1024 .bf16) (x1 : Vec Ideal S2816x1024 .bf16) (xs : Vec Ideal S1024x1024 .f32) (i : Fin 1024) (j : Fin 1024) :
    k0_pay3 x0 x1 xs (ix2 i j) = xs (ix2 i j) + k0_pay2 x0 x1 (ix2 i j) := by
  pointwise [k0_pay3, k0_pay2, k0_pay1]

/-- The sum written out is the sum held. -/
theorem out_apply (v : Vec Ideal S1024x1024 .f32) (i : Fin 1024) (j : Fin 1024) : k0_pay4 v (ix2 i j) = v (ix2 i j) := by
  pointwise [k0_pay4]

theorem index0 (t : Fin cfg0.N) : win0_0.index t = ![t.val, 0] :=
  (by decide +kernel : ∀ t : Fin grid0.N, win0_0.index t = ![t.val, 0]) t

theorem index1 (t : Fin cfg0.N) : win0_1.index t = ![t.val, 0] :=
  (by decide +kernel : ∀ t : Fin grid0.N, win0_1.index t = ![t.val, 0]) t

theorem index2 (t : Fin cfg0.N) : win0_2.index t = ![0, 0] :=
  (by decide +kernel : ∀ t : Fin grid0.N, win0_2.index t = ![0, 0]) t

variable (m : (ℓ : Loc nD τ sig) → Buf (Elt Ideal) ℓ) (c : Dev nD)

/-- The branches' merged output, as a matrix, … -/
def X (k : Fin 8448) (i : Fin 1024) : EReal := (m ((c : Thread nD τ).loc main_arg0) : Vec Ideal S8448x1024 .bf16) (ix2 k i)

/-- … and the cotangent of its projection. -/
def Y (k : Fin 8448) (j : Fin 1024) : EReal := (m ((c : Thread nD τ).loc main_arg1) : Vec Ideal S8448x1024 .bf16) (ix2 k j)

/-- The terms of the gradient's sum at an entry. -/
def term (i : Fin 1024) (j : Fin 1024) (k : Fin 8448) : EReal := X m c k i * Y m c k j

/-- The block's row in the array. -/
def row (t : Fin cfg0.N) (x : Fin 2816) : Fin 8448 := ⟨t.val * 2816 + x.val, by
  have := lt_of_lt_of_eq t.isLt N_0; omega⟩

theorem blk0 (t : Fin cfg0.N) (x : Fin 2816) (i : Fin 1024) : iblk m c 0 t (ix2 x i) = X m c (row t x) i := by
  blk_simp [iblk]
  refine congrArg (m (c.tc.loc main_arg0)) (funext fun a => Fin.ext ?_)
  fin_cases a
  · blk_simp [index0]; rfl
  · blk_simp [index0]; rfl

theorem blk1 (t : Fin cfg0.N) (x : Fin 2816) (j : Fin 1024) : iblk m c 1 t (ix2 x j) = Y m c (row t x) j := by
  blk_simp [iblk]
  refine congrArg (m (c.tc.loc main_arg1)) (funext fun a => Fin.ext ?_)
  fin_cases a
  · blk_simp [index1]; rfl
  · blk_simp [index1]; rfl

/-- A point's block adds its terms to the ones before. -/
theorem step (t : Fin cfg0.N) (i : Fin 1024) (j : Fin 1024) :
    upto (term m c i j) (t.val % 3 * 2816 + 2816) = upto (term m c i j) (t.val % 3 * 2816) +
      k0_pay2 (iblk m c 0 t) (iblk m c 1 t) (ix2 i j) := by
  rw [prod_apply]
  have := lt_of_lt_of_eq t.isLt N_0
  exact upto_add _ _ _ _ rfl (by omega) _ fun x h => by
    rw [blk0, blk1]
    exact congrArg (term m c i j) (Fin.ext (by simp only [row]; omega))

/-- What a last point writes out: all the terms. -/
theorem block_eq (t : Fin cfg0.N) (h : t.val % 3 = 2) (i : Fin 1024) (j : Fin 1024) :
    (outsAt0 m c t.val t.isLt).1 (ix2 i j) = ∑ k, term m c i j k := by
  have hn : t.val - 1 < cfg0.N := Nat.lt_of_le_of_lt (Nat.sub_le _ _) t.isLt
  have hN : cfg0.N = 3 := N_0
  rw [outsAt0_C m c t (by omega) (by omega) h]
  dsimp only
  rw [last_eq, out_apply, add_apply]
  refine carried_all 2 2816 (by decide) rfl (fun t => (outsAt0 m c t.val t.isLt).2 (ix2 i j))
    (fun t => k0_pay2 (iblk m c 0 t) (iblk m c 1 t) (ix2 i j)) (fun t => term m c i j)
    (fun t h0 => ?_) (fun t hp h0 h2 => ?_) (fun t hp h0 => ?_) (fun t => step m c t i j) t hn h
  · have := t.isLt
    rw [outsAt0_A m c t h0 (by omega) (by omega)]
    dsimp only
    rw [first_eq]
  · rw [outsAt0_B m c t h0 (by omega) h2]
    dsimp only
    rw [middle_eq, add_apply]
  · rfl

/-- The gradient. -/
def grad : Vec Ideal S1024x1024 .bf16 := fun y => ∑ k, term m c (y 0) (y 1) k

/-- Where a point's block of it lies in the array. -/
theorem at_grad (t : Fin cfg0.N) (i : Fin 1024) (j : Fin 1024) :
    grad m c ((win0_2.blk t).view.emb (ix2 i j)) = ∑ k, term m c i j k := by
  have h0 : (win0_2.blk t).view.emb (ix2 i j) 0 = i := by
    apply Fin.ext; blk_simp [index2]
  have h1 : (win0_2.blk t).view.emb (ix2 i j) 1 = j := by
    apply Fin.ext; blk_simp [index2]
  exact congrArg₂ (fun a b => ∑ k, term m c a b k) h0 h1

/-- The kernel ends with the gradient. -/
theorem array_eq : (dats m 0 c).arrAt 2 cfg0.N = grad m c := by
  refine (dats m 0 c).arrAt_eq_of_covers 2 _ (by decide +kernel) fun t hf y => ?_
  blk_simp
  rw [after0_2, eq_ix2 y]
  exact (block_eq m c t ((flush0_2 t).mp hf) _ _).trans (at_grad m c t _ _).symm

end Cert.Kernel7Ideal.Gradient

namespace Cert.Reference7Ideal.Gradient

open Cert.Reference7Ideal Cert.Reference7Ideal.Gen Idealize.ShloMosaic

/-- The reference's result at an entry. -/
theorem ref_apply (x : FVec Ideal S8448x1024 .bf16) (y : FVec Ideal S8448x1024 .bf16) (i : Fin 1024) (j : Fin 1024) :
    truncf .bf16 (transpose S1024x1024 [1, 0] (Host.dotGeneral dot_S8448x1024_S8448x1024_S1024x1024_0_0_1_1_n_n none
      (extf .f32 y bitsLt_bf16_f32) (extf .f32 x bitsLt_bf16_f32)) transposes_S1024x1024_S1024x1024_1_0) bitsLt_bf16_f32 (ix2 i j)
      = ∑ k : Fin 8448, x (ix2 k i) * y (ix2 k j) := by
  refine Eq.trans (b := ∑ k : Fin 8448, y (ix2 k j) * x (ix2 k i)) (by pointwise) ?_
  exact Finset.sum_congr rfl fun k _ => mul_comm _ _

/-- The reference runs, its arguments end unchanged, and it has no semaphore. -/
theorem frame : Cert.quiescent_Reference7Ideal (hReference7Ideal := Cert.Reference7Ideal.Gen.facts) := fun m ρ _ =>
  (θ_run Cert.Reference7Ideal.defs _ _).mono (fun r h => ⟨fun c => (h c).2, sem_eq_zero_of_no_sems (by decide) r.2⟩)
    (Cert.Reference7Ideal.Value.run (F := Ideal) m ρ)

/-- The kernel and the reference end with the same gradient. -/
theorem values : Cert.algebraic_Kernel7Ideal_Reference7Ideal (hKernel7Ideal := Cert.Kernel7Ideal.Gen.facts)
    (hReference7Ideal := Cert.Reference7Ideal.Gen.facts) := by
  intro m ρ m' ρ' _ hagree
  refine ⟨fun c => Cert.Kernel7Ideal.Gradient.grad m c, ?_, ?_⟩
  · refine (θ_run Cert.Kernel7Ideal.defs _ _).mono (fun r h c => ?_) (Cert.Kernel7Ideal.Value.run_blocks (F := Ideal) m ρ)
    exact ⟨(h c).1.trans (Cert.Kernel7Ideal.Gradient.array_eq m c), (h c).2⟩
  · refine (θ_run Cert.Reference7Ideal.defs _ _).mono (fun r h c => ?_) (Cert.Reference7Ideal.Value.run (F := Ideal) m' ρ')
    refine ⟨(h c).1.trans ?_, (h c).2⟩
    rw [(hagree c).1, (hagree c).2]
    funext y
    rw [eq_ix2 y]
    exact ref_apply _ _ _ _

end Cert.Reference7Ideal.Gradient
-- ==== Proof.Mrg.lean ====
/- The cotangent of the branches' merged output: one point per block of rows, and the array they make. -/
module

public import proofs.«01_k».proof.Proof.Product
public import proofs.«01_k».proof.Defs
public import proofs.«01_k».proof.Proof.Gen.Kernel8Ideal.Value
public import proofs.«01_k».proof.Proof.Gen.Reference8Ideal.Run
public import Idealize.ShloMosaic.Lib.Pipeline.ValueKit.Geometry

@[expose] public section

set_option maxRecDepth 16384

noncomputable section

namespace Cert.Kernel8Ideal.Gradient

open Cert.Product
open Cert.Kernel8Ideal Cert.Kernel8Ideal.Gen Idealize.ShloMosaic Idealize.ShloMosaic.TcCoe

/-- A point writes out its blocks' product. -/
theorem out_eq (c : Dev nD) (i : grid0.Coords) (a3 : Memref sig .tc .vmem S2816x1024 .bf16) (h3 : a3.IsWhole)
    (a4 : Memref sig .tc .vmem S1024x1024 .bf16) (h4 : a4.IsWhole) (a5 : Memref sig .tc .vmem S2816x1024 .bf16) (h5 : a5.IsWhole)
    (a6 : Memref sig .tc .vmem S8x128 .f32) (h6 : a6.IsWhole) (x0 : Vec Ideal S2816x1024 .bf16) (x1 : Vec Ideal S1024x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  sl_unfold_words
  rw [View.canon_unit_zero hz]
  simp only [View.readAt_eq_ld, h3.read_unread, h4.read_unread, View.ld_unit_zero (S := S2816x1024) hz, View.ld_unit_zero (S := S1024x1024) hz]

/-- The product at an entry. -/
theorem prod_apply (x0 : Vec Ideal S2816x1024 .bf16) (x1 : Vec Ideal S1024x1024 .bf16) (i : Fin 2816) (j : Fin 1024) :
    k0_pay1 x0 x1 (ix2 i j) = ∑ x : Fin 1024, x0 (ix2 i x) * x1 (ix2 j x) := by
  pointwise [k0_pay1]

theorem index0 (t : Fin cfg0.N) : win0_0.index t = ![t.val, 0] :=
  (by decide +kernel : ∀ t : Fin grid0.N, win0_0.index t = ![t.val, 0]) t

theorem index1 (t : Fin cfg0.N) : win0_1.index t = ![0, 0] :=
  (by decide +kernel : ∀ t : Fin grid0.N, win0_1.index t = ![0, 0]) t

theorem index2 (t : Fin cfg0.N) : win0_2.index t = ![t.val, 0] :=
  (by decide +kernel : ∀ t : Fin grid0.N, win0_2.index t = ![t.val, 0]) t

variable (m : (ℓ : Loc nD τ sig) → Buf (Elt Ideal) ℓ) (c : Dev nD)

/-- The mixer's output's cotangent, as a matrix, … -/
def X (i : Fin 8448) (k : Fin 1024) : EReal := (m ((c : Thread nD τ).loc main_arg0) : Vec Ideal S8448x1024 .bf16) (ix2 i k)

/-- … and the weights. -/
def Y (j : Fin 1024) (k : Fin 1024) : EReal := (m ((c : Thread nD τ).loc main_arg1) : Vec Ideal S1024x1024 .bf16) (ix2 j k)

/-- The block's row in the array. -/
def row (t : Fin cfg0.N) (i : Fin 2816) : Fin 8448 := ⟨t.val * 2816 + i.val, by
  have := lt_of_lt_of_eq t.isLt N_0; omega⟩

theorem blk0 (t : Fin cfg0.N) (i : Fin 2816) (x : Fin 1024) : iblk m c 0 t (ix2 i x) = X m c (row t i) x := by
  blk_simp [iblk]
  refine congrArg (m (c.tc.loc main_arg0)) (funext fun a => Fin.ext ?_)
  fin_cases a
  · blk_simp [index0]; rfl
  · blk_simp [index0]; rfl

theorem blk1 (t : Fin cfg0.N) (j : Fin 1024) (x : Fin 1024) : iblk m c 1 t (ix2 j x) = Y m c j x := by
  blk_simp [iblk]
  refine congrArg (m (c.tc.loc main_arg1)) (funext fun a => Fin.ext ?_)
  fin_cases a
  · blk_simp [index1]
  · blk_simp [index1]

/-- What a point writes out. -/
theorem block_eq (t : Fin cfg0.N) (i : Fin 2816) (j : Fin 1024) :
    outsAt0 m c t (ix2 i j) = ∑ k, X m c (row t i) k * Y m c j k := by
  unfold outsAt0
  rw [out_eq, prod_apply]
  exact Finset.sum_congr rfl fun k _ => congrArg₂ (· * ·) (blk0 m c t i k) (blk1 m c t j k)

/-- The cotangent. -/
def grad : Vec Ideal S8448x1024 .bf16 := fun y => ∑ k, X m c (y 0) k * Y m c (y 1) k

/-- Where a point's block of it lies in the array. -/
theorem at_grad (t : Fin cfg0.N) (i : Fin 2816) (j : Fin 1024) :
    grad m c ((win0_2.blk t).view.emb (ix2 i j)) = ∑ k, X m c (row t i) k * Y m c j k := by
  have h0 : (win0_2.blk t).view.emb (ix2 i j) 0 = row t i := by
    apply Fin.ext; blk_simp [index2]; rfl
  have h1 : (win0_2.blk t).view.emb (ix2 i j) 1 = j := by
    apply Fin.ext; blk_simp [index2]
  exact congrArg₂ (fun a b => ∑ k, X m c a k * Y m c b k) h0 h1

/-- The kernel ends with the cotangent. -/
theorem array_eq : (dats m 0 c).arrAt 2 cfg0.N = grad m c := by
  refine (dats m 0 c).arrAt_eq_of_covers 2 _ (by decide +kernel) fun t hf y => ?_
  blk_simp
  rw [after0_2, eq_ix2 y]
  exact (block_eq m c t _ _).trans (at_grad m c t _ _).symm

end Cert.Kernel8Ideal.Gradient

namespace Cert.Reference8Ideal.Gradient

open Cert.Reference8Ideal Cert.Reference8Ideal.Gen Idealize.ShloMosaic

/-- The reference's result at an entry. -/
theorem ref_apply (x : FVec Ideal S8448x1024 .bf16) (y : FVec Ideal S1024x1024 .bf16) (i : Fin 8448) (j : Fin 1024) :
    truncf .bf16 (Host.dotGeneral dot_S8448x1024_S1024x1024_S8448x1024_1_1_0_0_n_n none
      (extf .f32 x bitsLt_bf16_f32) (extf .f32 y bitsLt_bf16_f32)) bitsLt_bf16_f32 (ix2 i j)
      = ∑ k : Fin 1024, x (ix2 i k) * y (ix2 j k) := by
  pointwise

/-- The reference runs, its arguments end unchanged, and it has no semaphore. -/
theorem frame : Cert.quiescent_Reference8Ideal (hReference8Ideal := Cert.Reference8Ideal.Gen.facts) := fun m ρ _ =>
  (θ_run Cert.Reference8Ideal.defs _ _).mono (fun r h => ⟨fun c => (h c).2, sem_eq_zero_of_no_sems (by decide) r.2⟩)
    (Cert.Reference8Ideal.Value.run (F := Ideal) m ρ)

/-- The kernel and the reference end with the same cotangent. -/
theorem values : Cert.algebraic_Kernel8Ideal_Reference8Ideal (hKernel8Ideal := Cert.Kernel8Ideal.Gen.facts)
    (hReference8Ideal := Cert.Reference8Ideal.Gen.facts) := by
  intro m ρ m' ρ' _ hagree
  refine ⟨fun c => Cert.Kernel8Ideal.Gradient.grad m c, ?_, ?_⟩
  · refine (θ_run Cert.Kernel8Ideal.defs _ _).mono (fun r h c => ?_) (Cert.Kernel8Ideal.Value.run_blocks (F := Ideal) m ρ)
    exact ⟨(h c).1.trans (Cert.Kernel8Ideal.Gradient.array_eq m c), (h c).2⟩
  · refine (θ_run Cert.Reference8Ideal.defs _ _).mono (fun r h c => ?_) (Cert.Reference8Ideal.Value.run (F := Ideal) m' ρ')
    refine ⟨(h c).1.trans ?_, (h c).2⟩
    rw [(hagree c).1, (hagree c).2]
    funext y
    rw [eq_ix2 y]
    exact ref_apply _ _ _ _

end Cert.Reference8Ideal.Gradient
-- ==== Proof.BrSsm.lean ====
/- The gradient of the SSD branch's output weights: the kernel's blocks, its carried sum, and the array it ends with. -/
module

public import proofs.«01_k».proof.Proof.Product
public import proofs.«01_k».proof.Defs
public import proofs.«01_k».proof.Proof.Gen.Kernel9Ideal.Value
public import proofs.«01_k».proof.Proof.Gen.Reference9Ideal.Run
public import Idealize.ShloMosaic.Lib.Pipeline.ValueKit.Geometry

@[expose] public section

set_option maxRecDepth 16384

noncomputable section

namespace Cert.Kernel9Ideal.Gradient

open Cert.Product
open Cert.Kernel9Ideal Cert.Kernel9Ideal.Gen Idealize.ShloMosaic Idealize.ShloMosaic.TcCoe

section
variable (c : Dev nD) (i : grid0.Coords) (a3 : Memref sig .tc .vmem S2816x1024 .bf16) (h3 : a3.IsWhole)
  (a4 : Memref sig .tc .vmem S2816x1024 .bf16) (h4 : a4.IsWhole) (a5 : Memref sig .tc .vmem S1024x1024 .bf16) (h5 : a5.IsWhole)
  (a6 : Memref sig .tc .vmem S1024x1024 .f32) (h6 : a6.IsWhole) (x0 : Vec Ideal S2816x1024 .bf16) (x1 : Vec Ideal S2816x1024 .bf16)
  (xs : Vec Ideal S1024x1024 .f32)

/-- A first point leaves its blocks' product in the scratch. -/
theorem first_eq (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, View.ld_unit_zero (S := S2816x1024) hz, View.ld_unit_zero (S := S2816x1024) hz]

/-- A middle point adds its blocks' product to what the scratch held, … -/
theorem middle_eq (hc0 : ¬cond0_0 i) (hc1 : cond0_1 i) (hc2 : ¬cond0_2 i) :
    sout0_B_0 c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero hz]
  simp only [View.readAt_eq_ld, h3.read_unread, h4.read_unread, h6.read_unread, View.ld_unit_zero (S := S2816x1024) hz,
    View.ld_unit_zero (S := S2816x1024) hz, View.ld_unit_zero (S := S1024x1024) hz]

/-- … and a last point writes that sum out. -/
theorem last_eq (hc0 : ¬cond0_0 i) (hc1 : cond0_1 i) (hc2 : cond0_2 i) :
    out0_C_2 c i a3 h3 a4 h4 a5 h5 a6 h6 hc0 hc1 hc2 x0 x1 xs = k0_pay4 (k0_pay3 x0 x1 xs) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz]
  rw [View.readCov_unit_zero (S := S1024x1024) _ hz]
  simp only [View.readAt_eq_ld, h3.read_unread, h4.read_unread, h6.read_unread, View.ld_unit_zero (S := S2816x1024) hz,
    View.ld_unit_zero (S := S2816x1024) hz, View.ld_unit_zero (S := S1024x1024) hz]

end

/-- A block's product at an entry. -/
theorem prod_apply (x0 : Vec Ideal S2816x1024 .bf16) (x1 : Vec Ideal S2816x1024 .bf16) (i : Fin 1024) (j : Fin 1024) :
    k0_pay2 x0 x1 (ix2 i j) = ∑ x : Fin 2816, x0 (ix2 x i) * x1 (ix2 x j) := by
  pointwise [k0_pay2, k0_pay1]

/-- … and with what was held before. -/
theorem add_apply (x0 : Vec Ideal S2816x1024 .bf16) (x1 : Vec Ideal S2816x1024 .bf16) (xs : Vec Ideal S1024x1024 .f32) (i : Fin 1024) (j : Fin 1024) :
    k0_pay3 x0 x1 xs (ix2 i j) = xs (ix2 i j) + k0_pay2 x0 x1 (ix2 i j) := by
  pointwise [k0_pay3, k0_pay2, k0_pay1]

/-- The sum written out is the sum held. -/
theorem out_apply (v : Vec Ideal S1024x1024 .f32) (i : Fin 1024) (j : Fin 1024) : k0_pay4 v (ix2 i j) = v (ix2 i j) := by
  pointwise [k0_pay4]

theorem index0 (t : Fin cfg0.N) : win0_0.index t = ![t.val % 3, t.val / 3] :=
  (by decide +kernel : ∀ t : Fin grid0.N, win0_0.index t = ![t.val % 3, t.val / 3]) t

theorem index1 (t : Fin cfg0.N) : win0_1.index t = ![t.val % 3, 0] :=
  (by decide +kernel : ∀ t : Fin grid0.N, win0_1.index t = ![t.val % 3, 0]) t

theorem index2 (t : Fin cfg0.N) : win0_2.index t = ![t.val / 3, 0] :=
  (by decide +kernel : ∀ t : Fin grid0.N, win0_2.index t = ![t.val / 3, 0]) t

variable (m : (ℓ : Loc nD τ sig) → Buf (Elt Ideal) ℓ) (c : Dev nD)

/-- The branch's gated output, as a matrix, … -/
def X (k : Fin 8448) (i : Fin 2048) : EReal := (m ((c : Thread nD τ).loc main_arg0) : Vec Ideal S8448x2048 .bf16) (ix2 k i)

/-- … and the cotangent of its projection. -/
def Y (k : Fin 8448) (j : Fin 1024) : EReal := (m ((c : Thread nD τ).loc main_arg1) : Vec Ideal S8448x1024 .bf16) (ix2 k j)

/-- The terms of the gradient's sum at an entry. -/
def term (i : Fin 2048) (j : Fin 1024) (k : Fin 8448) : EReal := X m c k i * Y m c k j

/-- The block's row in the array, … -/
def row (t : Fin cfg0.N) (x : Fin 2816) : Fin 8448 := ⟨t.val % 3 * 2816 + x.val, by omega⟩

/-- … and the result's row. -/
def col (t : Fin cfg0.N) (i : Fin 1024) : Fin 2048 := ⟨t.val / 3 * 1024 + i.val, by
  have := lt_of_lt_of_eq t.isLt N_0; omega⟩

theorem blk0 (t : Fin cfg0.N) (x : Fin 2816) (i : Fin 1024) : iblk m c 0 t (ix2 x i) = X m c (row t x) (col t i) := by
  blk_simp [iblk]
  refine congrArg (m (c.tc.loc main_arg0)) (funext fun a => Fin.ext ?_)
  fin_cases a
  · blk_simp [index0]; rfl
  · blk_simp [index0]; rfl

theorem blk1 (t : Fin cfg0.N) (x : Fin 2816) (j : Fin 1024) : iblk m c 1 t (ix2 x j) = Y m c (row t x) j := by
  blk_simp [iblk]
  refine congrArg (m (c.tc.loc main_arg1)) (funext fun a => Fin.ext ?_)
  fin_cases a
  · blk_simp [index1]; rfl
  · blk_simp [index1]; rfl

/-- A point's block adds its terms to the ones before. -/
theorem step (t : Fin cfg0.N) (i : Fin 1024) (j : Fin 1024) :
    upto (term m c (col t i) j) (t.val % 3 * 2816 + 2816) = upto (term m c (col t i) j) (t.val % 3 * 2816) +
      k0_pay2 (iblk m c 0 t) (iblk m c 1 t) (ix2 i j) := by
  rw [prod_apply]
  exact upto_add _ _ _ _ rfl (by omega) _ fun x h => by rw [blk0, blk1]; rfl

/-- What a last point writes out: all the terms. -/
theorem block_eq (t : Fin cfg0.N) (h : t.val % 3 = 2) (i : Fin 1024) (j : Fin 1024) :
    (outsAt0 m c t.val t.isLt).1 (ix2 i j) = ∑ k, term m c (col t i) j k := by
  have hn : t.val - 1 < cfg0.N := Nat.lt_of_le_of_lt (Nat.sub_le _ _) t.isLt
  rw [outsAt0_C m c t (by omega) (by omega) h]
  dsimp only
  rw [last_eq, out_apply, add_apply]
  refine carried_all 2 2816 (by decide) rfl (fun t => (outsAt0 m c t.val t.isLt).2 (ix2 i j))
    (fun t => k0_pay2 (iblk m c 0 t) (iblk m c 1 t) (ix2 i j)) (fun t => term m c (col t i) j)
    (fun t h0 => ?_) (fun t hp h0 h2 => ?_) (fun t hp h0 => ?_) (fun t => step m c t i j) t hn h
  · rw [outsAt0_A m c t h0 (by omega) (by omega)]
    dsimp only
    rw [first_eq]
  · rw [outsAt0_B m c t h0 (by omega) h2]
    dsimp only
    rw [middle_eq, add_apply]
  · exact congrArg (term m c · j) (Fin.ext (by simp only [col]; omega))

/-- The gradient. -/
def grad : Vec Ideal S2048x1024 .bf16 := fun y => ∑ k, term m c (y 0) (y 1) k

/-- Where a point's block of it lies in the array. -/
theorem at_grad (t : Fin cfg0.N) (i : Fin 1024) (j : Fin 1024) :
    grad m c ((win0_2.blk t).view.emb (ix2 i j)) = ∑ k, term m c (col t i) j k := by
  have h0 : (win0_2.blk t).view.emb (ix2 i j) 0 = col t i := by
    apply Fin.ext; blk_simp [index2]; rfl
  have h1 : (win0_2.blk t).view.emb (ix2 i j) 1 = j := by
    apply Fin.ext; blk_simp [index2]
  exact congrArg₂ (fun a b => ∑ k, term m c a b k) h0 h1

/-- The kernel ends with the gradient. -/
theorem array_eq : (dats m 0 c).arrAt 2 cfg0.N = grad m c := by
  refine (dats m 0 c).arrAt_eq_of_covers 2 _ (by decide +kernel) fun t hf y => ?_
  blk_simp
  rw [after0_2, eq_ix2 y]
  exact (block_eq m c t ((flush0_2 t).mp hf) _ _).trans (at_grad m c t _ _).symm

end Cert.Kernel9Ideal.Gradient

namespace Cert.Reference9Ideal.Gradient

open Cert.Reference9Ideal Cert.Reference9Ideal.Gen Idealize.ShloMosaic

/-- The reference's result at an entry. -/
theorem ref_apply (x : FVec Ideal S8448x2048 .bf16) (y : FVec Ideal S8448x1024 .bf16) (i : Fin 2048) (j : Fin 1024) :
    truncf .bf16 (transpose S2048x1024 [1, 0] (Host.dotGeneral dot_S8448x1024_S8448x2048_S1024x2048_0_0_1_1_n_n none
      (extf .f32 y bitsLt_bf16_f32) (extf .f32 x bitsLt_bf16_f32)) transposes_S1024x2048_S2048x1024_1_0) bitsLt_bf16_f32 (ix2 i j)
      = ∑ k : Fin 8448, x (ix2 k i) * y (ix2 k j) := by
  refine Eq.trans (b := ∑ k : Fin 8448, y (ix2 k j) * x (ix2 k i)) (by pointwise) ?_
  exact Finset.sum_congr rfl fun k _ => mul_comm _ _

/-- The reference runs, its arguments end unchanged, and it has no semaphore. -/
theorem frame : Cert.quiescent_Reference9Ideal (hReference9Ideal := Cert.Reference9Ideal.Gen.facts) := fun m ρ _ =>
  (θ_run Cert.Reference9Ideal.defs _ _).mono (fun r h => ⟨fun c => (h c).2, sem_eq_zero_of_no_sems (by decide) r.2⟩)
    (Cert.Reference9Ideal.Value.run (F := Ideal) m ρ)

/-- The kernel and the reference end with the same gradient. -/
theorem values : Cert.algebraic_Kernel9Ideal_Reference9Ideal (hKernel9Ideal := Cert.Kernel9Ideal.Gen.facts)
    (hReference9Ideal := Cert.Reference9Ideal.Gen.facts) := by
  intro m ρ m' ρ' _ hagree
  refine ⟨fun c => Cert.Kernel9Ideal.Gradient.grad m c, ?_, ?_⟩
  · refine (θ_run Cert.Kernel9Ideal.defs _ _).mono (fun r h c => ?_) (Cert.Kernel9Ideal.Value.run_blocks (F := Ideal) m ρ)
    exact ⟨(h c).1.trans (Cert.Kernel9Ideal.Gradient.array_eq m c), (h c).2⟩
  · refine (θ_run Cert.Reference9Ideal.defs _ _).mono (fun r h c => ?_) (Cert.Reference9Ideal.Value.run (F := Ideal) m' ρ')
    refine ⟨(h c).1.trans ?_, (h c).2⟩
    rw [(hagree c).1, (hagree c).2]
    funext y
    rw [eq_ix2 y]
    exact ref_apply _ _ _ _

end Cert.Reference9Ideal.Gradient
-- ==== Proof.Yg.lean ====
/- The cotangent of the SSD branch's gated output: one point per block of rows, and the array they make. -/
module

public import proofs.«01_k».proof.Proof.Product
public import proofs.«01_k».proof.Defs
public import proofs.«01_k».proof.Proof.Gen.Kernel10Ideal.Value
public import proofs.«01_k».proof.Proof.Gen.Reference10Ideal.Run
public import Idealize.ShloMosaic.Lib.Pipeline.ValueKit.Geometry

@[expose] public section

set_option maxRecDepth 16384

noncomputable section

namespace Cert.Kernel10Ideal.Gradient

open Cert.Product
open Cert.Kernel10Ideal Cert.Kernel10Ideal.Gen Idealize.ShloMosaic Idealize.ShloMosaic.TcCoe

/-- A point writes out its blocks' product. -/
theorem out_eq (c : Dev nD) (i : grid0.Coords) (a3 : Memref sig .tc .vmem S1408x1024 .bf16) (h3 : a3.IsWhole)
    (a4 : Memref sig .tc .vmem S2048x1024 .bf16) (h4 : a4.IsWhole) (a5 : Memref sig .tc .vmem S1408x2048 .f32) (h5 : a5.IsWhole)
    (a6 : Memref sig .tc .vmem S8x128 .f32) (h6 : a6.IsWhole) (x0 : Vec Ideal S1408x1024 .bf16) (x1 : Vec Ideal S2048x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  sl_unfold_words
  rw [View.canon_unit_zero hz]
  simp only [View.readAt_eq_ld, h3.read_unread, h4.read_unread, View.ld_unit_zero (S := S1408x1024) hz, View.ld_unit_zero (S := S2048x1024) hz]

/-- The product at an entry. -/
theorem prod_apply (x0 : Vec Ideal S1408x1024 .bf16) (x1 : Vec Ideal S2048x1024 .bf16) (i : Fin 1408) (j : Fin 2048) :
    k0_pay1 x0 x1 (ix2 i j) = ∑ x : Fin 1024, x0 (ix2 i x) * x1 (ix2 j x) := by
  pointwise [k0_pay1]

theorem index0 (t : Fin cfg0.N) : win0_0.index t = ![t.val, 0] :=
  (by decide +kernel : ∀ t : Fin grid0.N, win0_0.index t = ![t.val, 0]) t

theorem index1 (t : Fin cfg0.N) : win0_1.index t = ![0, 0] :=
  (by decide +kernel : ∀ t : Fin grid0.N, win0_1.index t = ![0, 0]) t

theorem index2 (t : Fin cfg0.N) : win0_2.index t = ![t.val, 0] :=
  (by decide +kernel : ∀ t : Fin grid0.N, win0_2.index t = ![t.val, 0]) t

variable (m : (ℓ : Loc nD τ sig) → Buf (Elt Ideal) ℓ) (c : Dev nD)

/-- The cotangent of the branch's projection, as a matrix, … -/
def X (i : Fin 8448) (k : Fin 1024) : EReal := (m ((c : Thread nD τ).loc main_arg0) : Vec Ideal S8448x1024 .bf16) (ix2 i k)

/-- … and the weights. -/
def Y (j : Fin 2048) (k : Fin 1024) : EReal := (m ((c : Thread nD τ).loc main_arg1) : Vec Ideal S2048x1024 .bf16) (ix2 j k)

/-- The block's row in the array. -/
def row (t : Fin cfg0.N) (i : Fin 1408) : Fin 8448 := ⟨t.val * 1408 + i.val, by
  have := lt_of_lt_of_eq t.isLt N_0; omega⟩

theorem blk0 (t : Fin cfg0.N) (i : Fin 1408) (x : Fin 1024) : iblk m c 0 t (ix2 i x) = X m c (row t i) x := by
  blk_simp [iblk]
  refine congrArg (m (c.tc.loc main_arg0)) (funext fun a => Fin.ext ?_)
  fin_cases a
  · blk_simp [index0]; rfl
  · blk_simp [index0]; rfl

theorem blk1 (t : Fin cfg0.N) (j : Fin 2048) (x : Fin 1024) : iblk m c 1 t (ix2 j x) = Y m c j x := by
  blk_simp [iblk]
  refine congrArg (m (c.tc.loc main_arg1)) (funext fun a => Fin.ext ?_)
  fin_cases a
  · blk_simp [index1]
  · blk_simp [index1]

/-- What a point writes out. -/
theorem block_eq (t : Fin cfg0.N) (i : Fin 1408) (j : Fin 2048) :
    outsAt0 m c t (ix2 i j) = ∑ k, X m c (row t i) k * Y m c j k := by
  unfold outsAt0
  rw [out_eq, prod_apply]
  exact Finset.sum_congr rfl fun k _ => congrArg₂ (· * ·) (blk0 m c t i k) (blk1 m c t j k)

/-- The cotangent. -/
def grad : Vec Ideal S8448x2048 .f32 := fun y => ∑ k, X m c (y 0) k * Y m c (y 1) k

/-- Where a point's block of it lies in the array. -/
theorem at_grad (t : Fin cfg0.N) (i : Fin 1408) (j : Fin 2048) :
    grad m c ((win0_2.blk t).view.emb (ix2 i j)) = ∑ k, X m c (row t i) k * Y m c j k := by
  have h0 : (win0_2.blk t).view.emb (ix2 i j) 0 = row t i := by
    apply Fin.ext; blk_simp [index2]; rfl
  have h1 : (win0_2.blk t).view.emb (ix2 i j) 1 = j := by
    apply Fin.ext; blk_simp [index2]
  exact congrArg₂ (fun a b => ∑ k, X m c a k * Y m c b k) h0 h1

/-- The kernel ends with the cotangent. -/
theorem array_eq : (dats m 0 c).arrAt 2 cfg0.N = grad m c := by
  refine (dats m 0 c).arrAt_eq_of_covers 2 _ (by decide +kernel) fun t hf y => ?_
  blk_simp
  rw [after0_2, eq_ix2 y]
  exact (block_eq m c t _ _).trans (at_grad m c t _ _).symm

end Cert.Kernel10Ideal.Gradient

namespace Cert.Reference10Ideal.Gradient

open Cert.Reference10Ideal Cert.Reference10Ideal.Gen Idealize.ShloMosaic

/-- The reference's result at an entry. -/
theorem ref_apply (x : FVec Ideal S8448x1024 .bf16) (y : FVec Ideal S2048x1024 .bf16) (i : Fin 8448) (j : Fin 2048) :
    Host.dotGeneral (F := Ideal) dot_S8448x1024_S2048x1024_S8448x2048_1_1_0_0_n_n none
      (extf .f32 x bitsLt_bf16_f32) (extf .f32 y bitsLt_bf16_f32) (ix2 i j)
      = ∑ k : Fin 1024, x (ix2 i k) * y (ix2 j k) := by
  pointwise

/-- The reference runs, its arguments end unchanged, and it has no semaphore. -/
theorem frame : Cert.quiescent_Reference10Ideal (hReference10Ideal := Cert.Reference10Ideal.Gen.facts) := fun m ρ _ =>
  (θ_run Cert.Reference10Ideal.defs _ _).mono (fun r h => ⟨fun c => (h c).2, sem_eq_zero_of_no_sems (by decide) r.2⟩)
    (Cert.Reference10Ideal.Value.run (F := Ideal) m ρ)

/-- The kernel and the reference end with the same cotangent. -/
theorem values : Cert.algebraic_Kernel10Ideal_Reference10Ideal (hKernel10Ideal := Cert.Kernel10Ideal.Gen.facts)
    (hReference10Ideal := Cert.Reference10Ideal.Gen.facts) := by
  intro m ρ m' ρ' _ hagree
  refine ⟨fun c => Cert.Kernel10Ideal.Gradient.grad m c, ?_, ?_⟩
  · refine (θ_run Cert.Kernel10Ideal.defs _ _).mono (fun r h c => ?_) (Cert.Kernel10Ideal.Value.run_blocks (F := Ideal) m ρ)
    exact ⟨(h c).1.trans (Cert.Kernel10Ideal.Gradient.array_eq m c), (h c).2⟩
  · refine (θ_run Cert.Reference10Ideal.defs _ _).mono (fun r h c => ?_) (Cert.Reference10Ideal.Value.run (F := Ideal) m' ρ')
    refine ⟨(h c).1.trans ?_, (h c).2⟩
    rw [(hagree c).1, (hagree c).2]
    funext y
    rw [eq_ix2 y]
    exact ref_apply _ _ _ _

end Cert.Reference10Ideal.Gradient
-- ==== Proof.Og.lean ====
/- The cotangent of the gated DeltaNet branch's gated output: one point per block of rows, and the array they make. -/
module

public import proofs.«01_k».proof.Proof.Product
public import proofs.«01_k».proof.Defs
public import proofs.«01_k».proof.Proof.Gen.Kernel11Ideal.Value
public import proofs.«01_k».proof.Proof.Gen.Reference11Ideal.Run
public import Idealize.ShloMosaic.Lib.Pipeline.ValueKit.Geometry

@[expose] public section

set_option maxRecDepth 16384

noncomputable section

namespace Cert.Kernel11Ideal.Gradient

open Cert.Product
open Cert.Kernel11Ideal Cert.Kernel11Ideal.Gen Idealize.ShloMosaic Idealize.ShloMosaic.TcCoe

/-- A point writes out its blocks' product. -/
theorem out_eq (c : Dev nD) (i : grid0.Coords) (a3 : Memref sig .tc .vmem S1408x1024 .bf16) (h3 : a3.IsWhole)
    (a4 : Memref sig .tc .vmem S1024x1024 .bf16) (h4 : a4.IsWhole) (a5 : Memref sig .tc .vmem S1408x1024 .f32) (h5 : a5.IsWhole)
    (a6 : Memref sig .tc .vmem S8x128 .f32) (h6 : a6.IsWhole) (x0 : Vec Ideal S1408x1024 .bf16) (x1 : Vec Ideal S1024x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  sl_unfold_words
  rw [View.canon_unit_zero hz]
  simp only [View.readAt_eq_ld, h3.read_unread, h4.read_unread, View.ld_unit_zero (S := S1408x1024) hz, View.ld_unit_zero (S := S1024x1024) hz]

/-- The product at an entry. -/
theorem prod_apply (x0 : Vec Ideal S1408x1024 .bf16) (x1 : Vec Ideal S1024x1024 .bf16) (i : Fin 1408) (j : Fin 1024) :
    k0_pay1 x0 x1 (ix2 i j) = ∑ x : Fin 1024, x0 (ix2 i x) * x1 (ix2 j x) := by
  pointwise [k0_pay1]

theorem index0 (t : Fin cfg0.N) : win0_0.index t = ![t.val, 0] :=
  (by decide +kernel : ∀ t : Fin grid0.N, win0_0.index t = ![t.val, 0]) t

theorem index1 (t : Fin cfg0.N) : win0_1.index t = ![0, 0] :=
  (by decide +kernel : ∀ t : Fin grid0.N, win0_1.index t = ![0, 0]) t

theorem index2 (t : Fin cfg0.N) : win0_2.index t = ![t.val, 0] :=
  (by decide +kernel : ∀ t : Fin grid0.N, win0_2.index t = ![t.val, 0]) t

variable (m : (ℓ : Loc nD τ sig) → Buf (Elt Ideal) ℓ) (c : Dev nD)

/-- The cotangent of the branch's projection, as a matrix, … -/
def X (i : Fin 8448) (k : Fin 1024) : EReal := (m ((c : Thread nD τ).loc main_arg0) : Vec Ideal S8448x1024 .bf16) (ix2 i k)

/-- … and the weights. -/
def Y (j : Fin 1024) (k : Fin 1024) : EReal := (m ((c : Thread nD τ).loc main_arg1) : Vec Ideal S1024x1024 .bf16) (ix2 j k)

/-- The block's row in the array. -/
def row (t : Fin cfg0.N) (i : Fin 1408) : Fin 8448 := ⟨t.val * 1408 + i.val, by
  have := lt_of_lt_of_eq t.isLt N_0; omega⟩

theorem blk0 (t : Fin cfg0.N) (i : Fin 1408) (x : Fin 1024) : iblk m c 0 t (ix2 i x) = X m c (row t i) x := by
  blk_simp [iblk]
  refine congrArg (m (c.tc.loc main_arg0)) (funext fun a => Fin.ext ?_)
  fin_cases a
  · blk_simp [index0]; rfl
  · blk_simp [index0]; rfl

theorem blk1 (t : Fin cfg0.N) (j : Fin 1024) (x : Fin 1024) : iblk m c 1 t (ix2 j x) = Y m c j x := by
  blk_simp [iblk]
  refine congrArg (m (c.tc.loc main_arg1)) (funext fun a => Fin.ext ?_)
  fin_cases a
  · blk_simp [index1]
  · blk_simp [index1]

/-- What a point writes out. -/
theorem block_eq (t : Fin cfg0.N) (i : Fin 1408) (j : Fin 1024) :
    outsAt0 m c t (ix2 i j) = ∑ k, X m c (row t i) k * Y m c j k := by
  unfold outsAt0
  rw [out_eq, prod_apply]
  exact Finset.sum_congr rfl fun k _ => congrArg₂ (· * ·) (blk0 m c t i k) (blk1 m c t j k)

/-- The cotangent. -/
def grad : Vec Ideal S8448x1024 .f32 := fun y => ∑ k, X m c (y 0) k * Y m c (y 1) k

/-- Where a point's block of it lies in the array. -/
theorem at_grad (t : Fin cfg0.N) (i : Fin 1408) (j : Fin 1024) :
    grad m c ((win0_2.blk t).view.emb (ix2 i j)) = ∑ k, X m c (row t i) k * Y m c j k := by
  have h0 : (win0_2.blk t).view.emb (ix2 i j) 0 = row t i := by
    apply Fin.ext; blk_simp [index2]; rfl
  have h1 : (win0_2.blk t).view.emb (ix2 i j) 1 = j := by
    apply Fin.ext; blk_simp [index2]
  exact congrArg₂ (fun a b => ∑ k, X m c a k * Y m c b k) h0 h1

/-- The kernel ends with the cotangent. -/
theorem array_eq : (dats m 0 c).arrAt 2 cfg0.N = grad m c := by
  refine (dats m 0 c).arrAt_eq_of_covers 2 _ (by decide +kernel) fun t hf y => ?_
  blk_simp
  rw [after0_2, eq_ix2 y]
  exact (block_eq m c t _ _).trans (at_grad m c t _ _).symm

end Cert.Kernel11Ideal.Gradient

namespace Cert.Reference11Ideal.Gradient

open Cert.Reference11Ideal Cert.Reference11Ideal.Gen Idealize.ShloMosaic

/-- The reference's result at an entry. -/
theorem ref_apply (x : FVec Ideal S8448x1024 .bf16) (y : FVec Ideal S1024x1024 .bf16) (i : Fin 8448) (j : Fin 1024) :
    Host.dotGeneral (F := Ideal) dot_S8448x1024_S1024x1024_S8448x1024_1_1_0_0_n_n none
      (extf .f32 x bitsLt_bf16_f32) (extf .f32 y bitsLt_bf16_f32) (ix2 i j)
      = ∑ k : Fin 1024, x (ix2 i k) * y (ix2 j k) := by
  pointwise

/-- The reference runs, its arguments end unchanged, and it has no semaphore. -/
theorem frame : Cert.quiescent_Reference11Ideal (hReference11Ideal := Cert.Reference11Ideal.Gen.facts) := fun m ρ _ =>
  (θ_run Cert.Reference11Ideal.defs _ _).mono (fun r h => ⟨fun c => (h c).2, sem_eq_zero_of_no_sems (by decide) r.2⟩)
    (Cert.Reference11Ideal.Value.run (F := Ideal) m ρ)

/-- The kernel and the reference end with the same cotangent. -/
theorem values : Cert.algebraic_Kernel11Ideal_Reference11Ideal (hKernel11Ideal := Cert.Kernel11Ideal.Gen.facts)
    (hReference11Ideal := Cert.Reference11Ideal.Gen.facts) := by
  intro m ρ m' ρ' _ hagree
  refine ⟨fun c => Cert.Kernel11Ideal.Gradient.grad m c, ?_, ?_⟩
  · refine (θ_run Cert.Kernel11Ideal.defs _ _).mono (fun r h c => ?_) (Cert.Kernel11Ideal.Value.run_blocks (F := Ideal) m ρ)
    exact ⟨(h c).1.trans (Cert.Kernel11Ideal.Gradient.array_eq m c), (h c).2⟩
  · refine (θ_run Cert.Reference11Ideal.defs _ _).mono (fun r h c => ?_) (Cert.Reference11Ideal.Value.run (F := Ideal) m' ρ')
    refine ⟨(h c).1.trans ?_, (h c).2⟩
    rw [(hagree c).1, (hagree c).2]
    funext y
    rw [eq_ix2 y]
    exact ref_apply _ _ _ _

end Cert.Reference11Ideal.Gradient
-- ==== Proof.InProj.lean ====
/- The input projection: one point per block of rows, and the array they make. -/
module

public import proofs.«01_k».proof.Proof.Product
public import proofs.«01_k».proof.Defs
public import proofs.«01_k».proof.Proof.Gen.Kernel12Ideal.Value
public import proofs.«01_k».proof.Proof.Gen.Reference12Ideal.Run
public import Idealize.ShloMosaic.Lib.Pipeline.ValueKit.Geometry

@[expose] public section

set_option maxRecDepth 16384

noncomputable section

namespace Cert.Kernel12Ideal.Forward

open Cert.Product
open Cert.Kernel12Ideal Cert.Kernel12Ideal.Gen Idealize.ShloMosaic Idealize.ShloMosaic.TcCoe

/-- A point writes out its blocks' product. -/
theorem out_eq (c : Dev nD) (i : grid0.Coords) (a3 : Memref sig .tc .vmem S2816x1024 .bf16) (h3 : a3.IsWhole)
    (a4 : Memref sig .tc .vmem S1024x512 .bf16) (h4 : a4.IsWhole) (a5 : Memref sig .tc .vmem S2816x512 .f32) (h5 : a5.IsWhole)
    (a6 : Memref sig .tc .vmem S8x128 .f32) (h6 : a6.IsWhole) (x0 : Vec Ideal S2816x1024 .bf16) (x1 : Vec Ideal S1024x512 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  sl_unfold_words
  rw [View.canon_unit_zero hz]
  simp only [View.readAt_eq_ld, h3.read_unread, h4.read_unread, View.ld_unit_zero (S := S2816x1024) hz, View.ld_unit_zero (S := S1024x512) hz]

/-- The product at an entry. -/
theorem prod_apply (x0 : Vec Ideal S2816x1024 .bf16) (x1 : Vec Ideal S1024x512 .bf16) (i : Fin 2816) (j : Fin 512) :
    k0_pay1 x0 x1 (ix2 i j) = ∑ x : Fin 1024, x0 (ix2 i x) * x1 (ix2 x j) := by
  pointwise [k0_pay1]

theorem index0 (t : Fin cfg0.N) : win0_0.index t = ![t.val / 23, 0] :=
  (by decide +kernel : ∀ t : Fin grid0.N, win0_0.index t = ![t.val / 23, 0]) t

theorem index1 (t : Fin cfg0.N) : win0_1.index t = ![0, t.val % 23] :=
  (by decide +kernel : ∀ t : Fin grid0.N, win0_1.index t = ![0, t.val % 23]) t

theorem index2 (t : Fin cfg0.N) : win0_2.index t = ![t.val / 23, t.val % 23] :=
  (by decide +kernel : ∀ t : Fin grid0.N, win0_2.index t = ![t.val / 23, t.val % 23]) t

variable (m : (ℓ : Loc nD τ sig) → Buf (Elt Ideal) ℓ) (c : Dev nD)

/-- The layer's input, as a matrix, … -/
def X (i : Fin 8448) (k : Fin 1024) : EReal := (m ((c : Thread nD τ).loc main_arg0) : Vec Ideal S8448x1024 .bf16) (ix2 i k)

/-- … and the weights. -/
def Y (k : Fin 1024) (j : Fin 11776) : EReal := (m ((c : Thread nD τ).loc main_arg1) : Vec Ideal S1024x11776 .bf16) (ix2 k j)

/-- The block's row in the array, … -/
def row (t : Fin cfg0.N) (i : Fin 2816) : Fin 8448 := ⟨t.val / 23 * 2816 + i.val, by
  have := lt_of_lt_of_eq t.isLt N_0; omega⟩

/-- … and its column. -/
def col (t : Fin cfg0.N) (j : Fin 512) : Fin 11776 := ⟨t.val % 23 * 512 + j.val, by omega⟩

theorem blk0 (t : Fin cfg0.N) (i : Fin 2816) (x : Fin 1024) : iblk m c 0 t (ix2 i x) = X m c (row t i) x := by
  blk_simp [iblk]
  refine congrArg (m (c.tc.loc main_arg0)) (funext fun a => Fin.ext ?_)
  fin_cases a
  · blk_simp [index0]; rfl
  · blk_simp [index0]; rfl

theorem blk1 (t : Fin cfg0.N) (x : Fin 1024) (j : Fin 512) : iblk m c 1 t (ix2 x j) = Y m c x (col t j) := by
  blk_simp [iblk]
  refine congrArg (m (c.tc.loc main_arg1)) (funext fun a => Fin.ext ?_)
  fin_cases a
  · blk_simp [index1]; rfl
  · blk_simp [index1]; rfl

/-- What a point writes out. -/
theorem block_eq (t : Fin cfg0.N) (i : Fin 2816) (j : Fin 512) :
    outsAt0 m c t (ix2 i j) = ∑ k, X m c (row t i) k * Y m c k (col t j) := by
  unfold outsAt0
  rw [out_eq, prod_apply]
  exact Finset.sum_congr rfl fun k _ => congrArg₂ (· * ·) (blk0 m c t i k) (blk1 m c t k j)

/-- The product. -/
def prod : Vec Ideal S8448x11776 .f32 := fun y => ∑ k, X m c (y 0) k * Y m c k (y 1)

/-- Where a point's block of it lies in the array. -/
theorem at_prod (t : Fin cfg0.N) (i : Fin 2816) (j : Fin 512) :
    prod m c ((win0_2.blk t).view.emb (ix2 i j)) = ∑ k, X m c (row t i) k * Y m c k (col t j) := by
  have h0 : (win0_2.blk t).view.emb (ix2 i j) 0 = row t i := by
    apply Fin.ext; blk_simp [index2]; rfl
  have h1 : (win0_2.blk t).view.emb (ix2 i j) 1 = col t j := by
    apply Fin.ext; blk_simp [index2]; rfl
  exact congrArg₂ (fun a b => ∑ k, X m c a k * Y m c k b) h0 h1

/-- The kernel ends with the product. -/
theorem array_eq : (dats m 0 c).arrAt 2 cfg0.N = prod m c := by
  refine (dats m 0 c).arrAt_eq_of_covers 2 _ (by decide +kernel) fun t hf y => ?_
  blk_simp
  rw [after0_2, eq_ix2 y]
  exact (block_eq m c t _ _).trans (at_prod m c t _ _).symm

end Cert.Kernel12Ideal.Forward

namespace Cert.Reference12Ideal.Forward

open Cert.Reference12Ideal Cert.Reference12Ideal.Gen Idealize.ShloMosaic

/-- The reference's result at an entry. -/
theorem ref_apply (x : FVec Ideal S8448x1024 .bf16) (y : FVec Ideal S1024x11776 .bf16) (i : Fin 8448) (j : Fin 11776) :
    Host.dotGeneral (F := Ideal) dot_S8448x1024_S1024x11776_S8448x11776_1_0_0_1_n_n none
      (extf .f32 x bitsLt_bf16_f32) (extf .f32 y bitsLt_bf16_f32) (ix2 i j)
      = ∑ k : Fin 1024, x (ix2 i k) * y (ix2 k j) := by
  pointwise

/-- The reference runs, its arguments end unchanged, and it has no semaphore. -/
theorem frame : Cert.quiescent_Reference12Ideal (hReference12Ideal := Cert.Reference12Ideal.Gen.facts) := fun m ρ _ =>
  (θ_run Cert.Reference12Ideal.defs _ _).mono (fun r h => ⟨fun c => (h c).2, sem_eq_zero_of_no_sems (by decide) r.2⟩)
    (Cert.Reference12Ideal.Value.run (F := Ideal) m ρ)

/-- The kernel and the reference end with the same product. -/
theorem values : Cert.algebraic_Kernel12Ideal_Reference12Ideal (hKernel12Ideal := Cert.Kernel12Ideal.Gen.facts)
    (hReference12Ideal := Cert.Reference12Ideal.Gen.facts) := by
  intro m ρ m' ρ' _ hagree
  refine ⟨fun c => Cert.Kernel12Ideal.Forward.prod m c, ?_, ?_⟩
  · refine (θ_run Cert.Kernel12Ideal.defs _ _).mono (fun r h c => ?_) (Cert.Kernel12Ideal.Value.run_blocks (F := Ideal) m ρ)
    exact ⟨(h c).1.trans (Cert.Kernel12Ideal.Forward.array_eq m c), (h c).2⟩
  · refine (θ_run Cert.Reference12Ideal.defs _ _).mono (fun r h c => ?_) (Cert.Reference12Ideal.Value.run (F := Ideal) m' ρ')
    refine ⟨(h c).1.trans ?_, (h c).2⟩
    rw [(hagree c).1, (hagree c).2]
    funext y
    rw [eq_ix2 y]
    exact ref_apply _ _ _ _

end Cert.Reference12Ideal.Forward
-- ==== Proof.FfnUp.lean ====
/- The feed-forward layer's input product, its columns in two halves: one point per block of rows and shard of columns, and the
   array they make. -/
module

public import proofs.«01_k».proof.Proof.Product
public import proofs.«01_k».proof.Defs
public import proofs.«01_k».proof.Proof.Gen.Kernel13Ideal.Value
public import proofs.«01_k».proof.Proof.Gen.Reference13Ideal.Run
public import Idealize.ShloMosaic.Lib.Pipeline.ValueKit.Geometry

@[expose] public section

set_option maxRecDepth 16384

noncomputable section

namespace Cert.Kernel13Ideal.Forward

open Cert.Product
open Cert.Kernel13Ideal Cert.Kernel13Ideal.Gen Idealize.ShloMosaic Idealize.ShloMosaic.TcCoe

/-- A point writes out its blocks' product. -/
theorem out_eq (c : Dev nD) (i : grid0.Coords) (a3 : Memref sig .tc .vmem S2816x1024 .bf16) (h3 : a3.IsWhole)
    (a4 : Memref sig .tc .vmem S1x1024x1408 .bf16) (h4 : a4.IsWhole) (a5 : Memref sig .tc .vmem S1x2816x1408 .bf16) (h5 : a5.IsWhole)
    (a6 : Memref sig .tc .vmem S8x128 .f32) (h6 : a6.IsWhole) (x0 : Vec Ideal S2816x1024 .bf16) (x1 : Vec Ideal S1x1024x1408 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  sl_unfold_words
  rw [View.canon_unit_zero hz3]
  simp only [View.readAt_eq_ld, h3.read_unread, h4.read_unread, View.ld_unit_zero (S := S2816x1024) hz, View.ld_unit_zero (S := S1x1024x1408) hz3]

/-- The product at an entry. -/
theorem prod_apply (x0 : Vec Ideal S2816x1024 .bf16) (x1 : Vec Ideal S1x1024x1408 .bf16) (z : Fin 1) (i : Fin 2816) (j : Fin 1408) :
    k0_pay1 x0 x1 (ix3 z i j) = ∑ x : Fin 1024, x0 (ix2 i x) * x1 (ix3 0 x j) := by
  pointwise [k0_pay1]

theorem index0 (t : Fin cfg0.N) : win0_0.index t = ![t.val / 4, 0] :=
  (by decide +kernel : ∀ t : Fin grid0.N, win0_0.index t = ![t.val / 4, 0]) t

theorem index1 (t : Fin cfg0.N) : win0_1.index t = ![t.val % 4, 0, 0] :=
  (by decide +kernel : ∀ t : Fin grid0.N, win0_1.index t = ![t.val % 4, 0, 0]) t

theorem index2 (t : Fin cfg0.N) : win0_2.index t = ![t.val % 4 / 2, t.val / 4, t.val % 4 % 2] :=
  (by decide +kernel : ∀ t : Fin grid0.N, win0_2.index t = ![t.val % 4 / 2, t.val / 4, t.val % 4 % 2]) t

variable (m : (ℓ : Loc nD τ sig) → Buf (Elt Ideal) ℓ) (c : Dev nD)

/-- The shard that a column of the halves is of, … -/
def shard (h : Fin 2) (j : Fin 2816) : Fin 4 := ⟨h.val * 2 + j.val / 1408, by omega⟩

/-- … and where in it the column is. -/
def spot (j : Fin 2816) : Fin 1408 := ⟨j.val % 1408, by omega⟩

/-- The layer's input, as a matrix, … -/
def X (i : Fin 8448) (k : Fin 1024) : EReal := (m ((c : Thread nD τ).loc main_arg0) : Vec Ideal S8448x1024 .bf16) (ix2 i k)

/-- … and the weights of a half. -/
def Y (h : Fin 2) (k : Fin 1024) (j : Fin 2816) : EReal :=
  (m ((c : Thread nD τ).loc main_arg1) : Vec Ideal S4x1024x1408 .bf16) (ix3 (shard h j) k (spot j))

/-- The block's row in the array, … -/
def row (t : Fin cfg0.N) (i : Fin 2816) : Fin 8448 := ⟨t.val / 4 * 2816 + i.val, by
  have := lt_of_lt_of_eq t.isLt N_0; omega⟩

/-- … the half that its columns are of, … -/
def half (t : Fin cfg0.N) : Fin 2 := ⟨t.val % 4 / 2, by omega⟩

/-- … and where in it they are. -/
def place (t : Fin cfg0.N) (j : Fin 1408) : Fin 2816 := ⟨t.val % 4 % 2 * 1408 + j.val, by omega⟩

theorem blk0 (t : Fin cfg0.N) (i : Fin 2816) (x : Fin 1024) : iblk m c 0 t (ix2 i x) = X m c (row t i) x := by
  blk_simp [iblk]
  refine congrArg (m (c.tc.loc main_arg0)) (funext fun a => Fin.ext ?_)
  fin_cases a
  · blk_simp [index0]; rfl
  · blk_simp [index0]; rfl

theorem blk1 (t : Fin cfg0.N) (x : Fin 1024) (j : Fin 1408) : iblk m c 1 t (ix3 0 x j) = Y m c (half t) x (place t j) := by
  blk_simp [iblk]
  refine congrArg (m (c.tc.loc main_arg1)) (funext fun a => Fin.ext ?_)
  fin_cases a
  · blk_simp [index1]; exact (by omega : t.val % 4 = t.val % 4 / 2 * 2 + (t.val % 4 % 2 * 1408 + j.val) / 1408)
  · blk_simp [index1]; rfl
  · blk_simp [index1]; exact (by omega : j.val = (t.val % 4 % 2 * 1408 + j.val) % 1408)

/-- What a point writes out. -/
theorem block_eq (t : Fin cfg0.N) (z : Fin 1) (i : Fin 2816) (j : Fin 1408) :
    outsAt0 m c t (ix3 z i j) = ∑ k, X m c (row t i) k * Y m c (half t) k (place t j) := by
  unfold outsAt0
  rw [out_eq, prod_apply]
  exact Finset.sum_congr rfl fun k _ => congrArg₂ (· * ·) (blk0 m c t i k) (blk1 m c t k j)

/-- The product. -/
def prod : Vec Ideal S2x8448x2816 .bf16 := fun y => ∑ k, X m c (y 1) k * Y m c (y 0) k (y 2)

/-- Where a point's block of it lies in the array. -/
theorem at_prod (t : Fin cfg0.N) (z : Fin 1) (i : Fin 2816) (j : Fin 1408) :
    prod m c ((win0_2.blk t).view.emb (ix3 z i j)) = ∑ k, X m c (row t i) k * Y m c (half t) k (place t j) := by
  have h0 : (win0_2.blk t).view.emb (ix3 z i j) 0 = half t := by
    apply Fin.ext; blk_simp [index2, half]
  have h1 : (win0_2.blk t).view.emb (ix3 z i j) 1 = row t i := by
    apply Fin.ext; blk_simp [index2]; rfl
  have h2 : (win0_2.blk t).view.emb (ix3 z i j) 2 = place t j := by
    apply Fin.ext; blk_simp [index2]; rfl
  refine (congrArg₂ (fun h a => ∑ k, X m c a k * Y m c h k _) h0 h1).trans ?_
  exact congrArg (fun b => ∑ k, X m c (row t i) k * Y m c (half t) k b) h2

/-- The kernel ends with the product. -/
theorem array_eq : (dats m 0 c).arrAt 2 cfg0.N = prod m c := by
  refine (dats m 0 c).arrAt_eq_of_covers 2 _ (by decide +kernel) fun t hf y => ?_
  blk_simp
  rw [after0_2, eq_ix3 y]
  exact (block_eq m c t _ _ _).trans (at_prod m c t _ _ _).symm

end Cert.Kernel13Ideal.Forward

namespace Cert.Reference13Ideal.Forward

open Cert.Reference13Ideal Cert.Reference13Ideal.Gen Idealize.ShloMosaic
open Cert.Kernel13Ideal.Forward (shard spot)

/-- The shards of the weights side by side. -/
def flat (w : FVec Ideal S4x1024x1408 .bf16) : FVec Ideal S1024x5632 .bf16 :=
  concatenate S1024x5632 1 [
    ⟨S1024x1408, shapeCast _ (extractStridedSlice S1x1024x1408 ![0, 0, 0] w slices_S4x1024x1408_S1x1024x1408_0_0_0)
      shapeCasts_S1x1024x1408_S1024x1408⟩,
    ⟨S1024x1408, shapeCast _ (extractStridedSlice S1x1024x1408 ![1, 0, 0] w slices_S4x1024x1408_S1x1024x1408_1_0_0)
      shapeCasts_S1x1024x1408_S1024x1408⟩,
    ⟨S1024x1408, shapeCast _ (extractStridedSlice S1x1024x1408 ![2, 0, 0] w slices_S4x1024x1408_S1x1024x1408_2_0_0)
      shapeCasts_S1x1024x1408_S1024x1408⟩,
    ⟨S1024x1408, shapeCast _ (extractStridedSlice S1x1024x1408 ![3, 0, 0] w slices_S4x1024x1408_S1x1024x1408_3_0_0)
      shapeCasts_S1x1024x1408_S1024x1408⟩] concatenates_S1024x1408_S1024x1408_S1024x1408_S1024x1408_S1024x5632_d1

/-- The column of a shard in the shards side by side. -/
def wide (s : Fin 4) (x : Fin 1408) : Fin 5632 := ⟨s.val * 1408 + x.val, by omega⟩

theorem flat_wide (w : FVec Ideal S4x1024x1408 .bf16) (j : Fin 1024) (s : Fin 4) (x : Fin 1408) :
    flat w (ix2 j (wide s x)) = w (ix3 s j x) := by
  fin_cases s
  · pointwise [flat, wide]
  · pointwise [flat, wide]
  · pointwise [flat, wide]
    rw [dif_neg (by omega), dif_neg (by omega), dif_pos (by omega)]
    exact congrArg (fun x => w (ix3 2 j x)) (Fin.ext (by dsimp only; omega))
  · pointwise [flat, wide]
    rw [dif_neg (by omega), dif_neg (by omega), dif_neg (by omega)]
    exact congrArg (fun x => w (ix3 3 j x)) (Fin.ext (by dsimp only; omega))

/-- The product in one piece. -/
def whole (x : FVec Ideal S8448x1024 .bf16) (w : FVec Ideal S4x1024x1408 .bf16) : FVec Ideal S8448x5632 .f32 :=
  Host.dotGeneral dot_S8448x1024_S1024x5632_S8448x5632_1_0_0_1_n_n none (extf .f32 x bitsLt_bf16_f32) (extf .f32 (flat w) bitsLt_bf16_f32)

theorem whole_apply (x : FVec Ideal S8448x1024 .bf16) (w : FVec Ideal S4x1024x1408 .bf16) (i : Fin 8448) (j : Fin 5632) :
    whole x w (ix2 i j) = ∑ k : Fin 1024, x (ix2 i k) * flat w (ix2 k j) := by
  pointwise [whole]

/-- … and cut into its halves. -/
def halves (v : FVec Ideal S8448x5632 .f32) : FVec Ideal S2x8448x2816 .bf16 :=
  truncf .bf16 (concatenate S2x8448x2816 0 [
    ⟨S1x8448x2816, broadcastInDim S1x8448x2816 ![1, 2] bcast_S8448x2816_S1x8448x2816_1_2
      (extractStridedSlice S8448x2816 ![0, 0] v slices_S8448x5632_S8448x2816_0_0)⟩,
    ⟨S1x8448x2816, broadcastInDim S1x8448x2816 ![1, 2] bcast_S8448x2816_S1x8448x2816_1_2
      (extractStridedSlice S8448x2816 ![0, 2816] v slices_S8448x5632_S8448x2816_0_2816)⟩]
    concatenates_S1x8448x2816_S1x8448x2816_S2x8448x2816_d0) bitsLt_bf16_f32

/-- A half's column is one of a shard. -/
theorem halves_apply (v : FVec Ideal S8448x5632 .f32) (h : Fin 2) (i : Fin 8448) (j : Fin 2816) :
    halves v (ix3 h i j) = v (ix2 i (wide (shard h j) (spot j))) := by
  refine Eq.trans (b := v (ix2 i ⟨h.val * 2816 + j.val, by omega⟩)) ?_ (congrArg (fun a => v (ix2 i a)) (Fin.ext ?_))
  · fin_cases h
    · pointwise [halves]
    · pointwise [halves]
  · simp only [wide, shard, spot]; omega

/-- The reference's result at an entry. -/
theorem ref_apply (x : FVec Ideal S8448x1024 .bf16) (w : FVec Ideal S4x1024x1408 .bf16) (h : Fin 2) (i : Fin 8448) (j : Fin 2816) :
    halves (whole x w) (ix3 h i j) = ∑ k : Fin 1024, x (ix2 i k) * w (ix3 (shard h j) k (spot j)) := by
  rw [halves_apply, whole_apply]
  exact Finset.sum_congr rfl fun k _ => by rw [flat_wide]

/-- The reference runs, its arguments end unchanged, and it has no semaphore. -/
theorem frame : Cert.quiescent_Reference13Ideal (hReference13Ideal := Cert.Reference13Ideal.Gen.facts) := fun m ρ _ =>
  (θ_run Cert.Reference13Ideal.defs _ _).mono (fun r h => ⟨fun c => (h c).2, sem_eq_zero_of_no_sems (by decide) r.2⟩)
    (Cert.Reference13Ideal.Value.run (F := Ideal) m ρ)

/-- The kernel and the reference end with the same product. -/
theorem values : Cert.algebraic_Kernel13Ideal_Reference13Ideal (hKernel13Ideal := Cert.Kernel13Ideal.Gen.facts)
    (hReference13Ideal := Cert.Reference13Ideal.Gen.facts) := by
  intro m ρ m' ρ' _ hagree
  refine ⟨fun c => Cert.Kernel13Ideal.Forward.prod m c, ?_, ?_⟩
  · refine (θ_run Cert.Kernel13Ideal.defs _ _).mono (fun r h c => ?_) (Cert.Kernel13Ideal.Value.run_blocks (F := Ideal) m ρ)
    exact ⟨(h c).1.trans (Cert.Kernel13Ideal.Forward.array_eq m c), (h c).2⟩
  · refine (θ_run Cert.Reference13Ideal.defs _ _).mono (fun r h c => ?_) (Cert.Reference13Ideal.Value.run (F := Ideal) m' ρ')
    refine ⟨(h c).1.trans ?_, (h c).2⟩
    rw [(hagree c).1, (hagree c).2]
    funext y
    rw [eq_ix3 y]
    exact ref_apply _ _ _ _ _

end Cert.Reference13Ideal.Forward
-- ==== Proof.FfnDown.lean ====
/- The feed-forward layer's output product: one point per block of rows, and the array they make. -/
module

public import proofs.«01_k».proof.Proof.Product
public import proofs.«01_k».proof.Defs
public import proofs.«01_k».proof.Proof.Gen.Kernel14Ideal.Value
public import proofs.«01_k».proof.Proof.Gen.Reference14Ideal.Run
public import Idealize.ShloMosaic.Lib.Pipeline.ValueKit.Geometry

@[expose] public section

set_option maxRecDepth 16384

noncomputable section

namespace Cert.Kernel14Ideal.Forward

open Cert.Product
open Cert.Kernel14Ideal Cert.Kernel14Ideal.Gen Idealize.ShloMosaic Idealize.ShloMosaic.TcCoe

/-- A point writes out its blocks' product. -/
theorem out_eq (c : Dev nD) (i : grid0.Coords) (a3 : Memref sig .tc .vmem S768x2816 .bf16) (h3 : a3.IsWhole)
    (a4 : Memref sig .tc .vmem S2816x1024 .bf16) (h4 : a4.IsWhole) (a5 : Memref sig .tc .vmem S768x1024 .f32) (h5 : a5.IsWhole)
    (a6 : Memref sig .tc .vmem S8x128 .f32) (h6 : a6.IsWhole) (x0 : Vec Ideal S768x2816 .bf16) (x1 : Vec Ideal S2816x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  sl_unfold_words
  rw [View.canon_unit_zero hz]
  simp only [View.readAt_eq_ld, h3.read_unread, h4.read_unread, View.ld_unit_zero (S := S768x2816) hz, View.ld_unit_zero (S := S2816x1024) hz]

/-- The product at an entry. -/
theorem prod_apply (x0 : Vec Ideal S768x2816 .bf16) (x1 : Vec Ideal S2816x1024 .bf16) (i : Fin 768) (j : Fin 1024) :
    k0_pay1 x0 x1 (ix2 i j) = ∑ x : Fin 2816, x0 (ix2 i x) * x1 (ix2 x j) := by
  pointwise [k0_pay1]

theorem index0 (t : Fin cfg0.N) : win0_0.index t = ![t.val, 0] :=
  (by decide +kernel : ∀ t : Fin grid0.N, win0_0.index t = ![t.val, 0]) t

theorem index1 (t : Fin cfg0.N) : win0_1.index t = ![0, 0] :=
  (by decide +kernel : ∀ t : Fin grid0.N, win0_1.index t = ![0, 0]) t

theorem index2 (t : Fin cfg0.N) : win0_2.index t = ![t.val, 0] :=
  (by decide +kernel : ∀ t : Fin grid0.N, win0_2.index t = ![t.val, 0]) t

variable (m : (ℓ : Loc nD τ sig) → Buf (Elt Ideal) ℓ) (c : Dev nD)

/-- The gated hidden rows, as a matrix, … -/
def X (i : Fin 8448) (k : Fin 2816) : EReal := (m ((c : Thread nD τ).loc main_arg0) : Vec Ideal S8448x2816 .bf16) (ix2 i k)

/-- … and the weights. -/
def Y (k : Fin 2816) (j : Fin 1024) : EReal := (m ((c : Thread nD τ).loc main_arg1) : Vec Ideal S2816x1024 .bf16) (ix2 k j)

/-- The block's row in the array. -/
def row (t : Fin cfg0.N) (i : Fin 768) : Fin 8448 := ⟨t.val * 768 + i.val, by
  have := lt_of_lt_of_eq t.isLt N_0; omega⟩

theorem blk0 (t : Fin cfg0.N) (i : Fin 768) (x : Fin 2816) : iblk m c 0 t (ix2 i x) = X m c (row t i) x := by
  blk_simp [iblk]
  refine congrArg (m (c.tc.loc main_arg0)) (funext fun a => Fin.ext ?_)
  fin_cases a
  · blk_simp [index0]; rfl
  · blk_simp [index0]; rfl

theorem blk1 (t : Fin cfg0.N) (x : Fin 2816) (j : Fin 1024) : iblk m c 1 t (ix2 x j) = Y m c x j := by
  blk_simp [iblk]
  refine congrArg (m (c.tc.loc main_arg1)) (funext fun a => Fin.ext ?_)
  fin_cases a
  · blk_simp [index1]
  · blk_simp [index1]

/-- What a point writes out. -/
theorem block_eq (t : Fin cfg0.N) (i : Fin 768) (j : Fin 1024) :
    outsAt0 m c t (ix2 i j) = ∑ k, X m c (row t i) k * Y m c k j := by
  unfold outsAt0
  rw [out_eq, prod_apply]
  exact Finset.sum_congr rfl fun k _ => congrArg₂ (· * ·) (blk0 m c t i k) (blk1 m c t k j)

/-- The product. -/
def prod : Vec Ideal S8448x1024 .f32 := fun y => ∑ k, X m c (y 0) k * Y m c k (y 1)

/-- Where a point's block of it lies in the array. -/
theorem at_prod (t : Fin cfg0.N) (i : Fin 768) (j : Fin 1024) :
    prod m c ((win0_2.blk t).view.emb (ix2 i j)) = ∑ k, X m c (row t i) k * Y m c k j := by
  have h0 : (win0_2.blk t).view.emb (ix2 i j) 0 = row t i := by
    apply Fin.ext; blk_simp [index2]; rfl
  have h1 : (win0_2.blk t).view.emb (ix2 i j) 1 = j := by
    apply Fin.ext; blk_simp [index2]
  exact congrArg₂ (fun a b => ∑ k, X m c a k * Y m c k b) h0 h1

/-- The kernel ends with the product. -/
theorem array_eq : (dats m 0 c).arrAt 2 cfg0.N = prod m c := by
  refine (dats m 0 c).arrAt_eq_of_covers 2 _ (by decide +kernel) fun t hf y => ?_
  blk_simp
  rw [after0_2, eq_ix2 y]
  exact (block_eq m c t _ _).trans (at_prod m c t _ _).symm

end Cert.Kernel14Ideal.Forward

namespace Cert.Reference14Ideal.Forward

open Cert.Reference14Ideal Cert.Reference14Ideal.Gen Idealize.ShloMosaic

/-- The reference's result at an entry. -/
theorem ref_apply (x : FVec Ideal S8448x2816 .bf16) (y : FVec Ideal S2816x1024 .bf16) (i : Fin 8448) (j : Fin 1024) :
    Host.dotGeneral (F := Ideal) dot_S8448x2816_S2816x1024_S8448x1024_1_0_0_1_n_n none
      (extf .f32 x bitsLt_bf16_f32) (extf .f32 y bitsLt_bf16_f32) (ix2 i j)
      = ∑ k : Fin 2816, x (ix2 i k) * y (ix2 k j) := by
  pointwise

/-- The reference runs, its arguments end unchanged, and it has no semaphore. -/
theorem frame : Cert.quiescent_Reference14Ideal (hReference14Ideal := Cert.Reference14Ideal.Gen.facts) := fun m ρ _ =>
  (θ_run Cert.Reference14Ideal.defs _ _).mono (fun r h => ⟨fun c => (h c).2, sem_eq_zero_of_no_sems (by decide) r.2⟩)
    (Cert.Reference14Ideal.Value.run (F := Ideal) m ρ)

/-- The kernel and the reference end with the same product. -/
theorem values : Cert.algebraic_Kernel14Ideal_Reference14Ideal (hKernel14Ideal := Cert.Kernel14Ideal.Gen.facts)
    (hReference14Ideal := Cert.Reference14Ideal.Gen.facts) := by
  intro m ρ m' ρ' _ hagree
  refine ⟨fun c => Cert.Kernel14Ideal.Forward.prod m c, ?_, ?_⟩
  · refine (θ_run Cert.Kernel14Ideal.defs _ _).mono (fun r h c => ?_) (Cert.Kernel14Ideal.Value.run_blocks (F := Ideal) m ρ)
    exact ⟨(h c).1.trans (Cert.Kernel14Ideal.Forward.array_eq m c), (h c).2⟩
  · refine (θ_run Cert.Reference14Ideal.defs _ _).mono (fun r h c => ?_) (Cert.Reference14Ideal.Value.run (F := Ideal) m' ρ')
    refine ⟨(h c).1.trans ?_, (h c).2⟩
    rw [(hagree c).1, (hagree c).2]
    funext y
    rw [eq_ix2 y]
    exact ref_apply _ _ _ _

end Cert.Reference14Ideal.Forward
-- ==== Proof.SsmProj.lean ====
/- The SSD branch's projection: one point per block of rows, and the array they make. -/
module

public import proofs.«01_k».proof.Proof.Product
public import proofs.«01_k».proof.Defs
public import proofs.«01_k».proof.Proof.Gen.Kernel15Ideal.Value
public import proofs.«01_k».proof.Proof.Gen.Reference15Ideal.Run
public import Idealize.ShloMosaic.Lib.Pipeline.ValueKit.Geometry

@[expose] public section

set_option maxRecDepth 16384

noncomputable section

namespace Cert.Kernel15Ideal.Forward

open Cert.Product
open Cert.Kernel15Ideal Cert.Kernel15Ideal.Gen Idealize.ShloMosaic Idealize.ShloMosaic.TcCoe

/-- A point writes out its blocks' product. -/
theorem out_eq (c : Dev nD) (i : grid0.Coords) (a3 : Memref sig .tc .vmem S1408x2048 .bf16) (h3 : a3.IsWhole)
    (a4 : Memref sig .tc .vmem S2048x1024 .bf16) (h4 : a4.IsWhole) (a5 : Memref sig .tc .vmem S1408x1024 .bf16) (h5 : a5.IsWhole)
    (a6 : Memref sig .tc .vmem S8x128 .f32) (h6 : a6.IsWhole) (x0 : Vec Ideal S1408x2048 .bf16) (x1 : Vec Ideal S2048x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  sl_unfold_words
  rw [View.canon_unit_zero hz]
  simp only [View.readAt_eq_ld, h3.read_unread, h4.read_unread, View.ld_unit_zero (S := S1408x2048) hz, View.ld_unit_zero (S := S2048x1024) hz]

/-- The product at an entry. -/
theorem prod_apply (x0 : Vec Ideal S1408x2048 .bf16) (x1 : Vec Ideal S2048x1024 .bf16) (i : Fin 1408) (j : Fin 1024) :
    k0_pay1 x0 x1 (ix2 i j) = ∑ x : Fin 2048, x0 (ix2 i x) * x1 (ix2 x j) := by
  pointwise [k0_pay1]

theorem index0 (t : Fin cfg0.N) : win0_0.index t = ![t.val, 0] :=
  (by decide +kernel : ∀ t : Fin grid0.N, win0_0.index t = ![t.val, 0]) t

theorem index1 (t : Fin cfg0.N) : win0_1.index t = ![0, 0] :=
  (by decide +kernel : ∀ t : Fin grid0.N, win0_1.index t = ![0, 0]) t

theorem index2 (t : Fin cfg0.N) : win0_2.index t = ![t.val, 0] :=
  (by decide +kernel : ∀ t : Fin grid0.N, win0_2.index t = ![t.val, 0]) t

variable (m : (ℓ : Loc nD τ sig) → Buf (Elt Ideal) ℓ) (c : Dev nD)

/-- The branch's gated output, as a matrix, … -/
def X (i : Fin 8448) (k : Fin 2048) : EReal := (m ((c : Thread nD τ).loc main_arg0) : Vec Ideal S8448x2048 .bf16) (ix2 i k)

/-- … and the weights. -/
def Y (k : Fin 2048) (j : Fin 1024) : EReal := (m ((c : Thread nD τ).loc main_arg1) : Vec Ideal S2048x1024 .bf16) (ix2 k j)

/-- The block's row in the array. -/
def row (t : Fin cfg0.N) (i : Fin 1408) : Fin 8448 := ⟨t.val * 1408 + i.val, by
  have := lt_of_lt_of_eq t.isLt N_0; omega⟩

theorem blk0 (t : Fin cfg0.N) (i : Fin 1408) (x : Fin 2048) : iblk m c 0 t (ix2 i x) = X m c (row t i) x := by
  blk_simp [iblk]
  refine congrArg (m (c.tc.loc main_arg0)) (funext fun a => Fin.ext ?_)
  fin_cases a
  · blk_simp [index0]; rfl
  · blk_simp [index0]; rfl

theorem blk1 (t : Fin cfg0.N) (x : Fin 2048) (j : Fin 1024) : iblk m c 1 t (ix2 x j) = Y m c x j := by
  blk_simp [iblk]
  refine congrArg (m (c.tc.loc main_arg1)) (funext fun a => Fin.ext ?_)
  fin_cases a
  · blk_simp [index1]
  · blk_simp [index1]

/-- What a point writes out. -/
theorem block_eq (t : Fin cfg0.N) (i : Fin 1408) (j : Fin 1024) :
    outsAt0 m c t (ix2 i j) = ∑ k, X m c (row t i) k * Y m c k j := by
  unfold outsAt0
  rw [out_eq, prod_apply]
  exact Finset.sum_congr rfl fun k _ => congrArg₂ (· * ·) (blk0 m c t i k) (blk1 m c t k j)

/-- The product. -/
def prod : Vec Ideal S8448x1024 .bf16 := fun y => ∑ k, X m c (y 0) k * Y m c k (y 1)

/-- Where a point's block of it lies in the array. -/
theorem at_prod (t : Fin cfg0.N) (i : Fin 1408) (j : Fin 1024) :
    prod m c ((win0_2.blk t).view.emb (ix2 i j)) = ∑ k, X m c (row t i) k * Y m c k j := by
  have h0 : (win0_2.blk t).view.emb (ix2 i j) 0 = row t i := by
    apply Fin.ext; blk_simp [index2]; rfl
  have h1 : (win0_2.blk t).view.emb (ix2 i j) 1 = j := by
    apply Fin.ext; blk_simp [index2]
  exact congrArg₂ (fun a b => ∑ k, X m c a k * Y m c k b) h0 h1

/-- The kernel ends with the product. -/
theorem array_eq : (dats m 0 c).arrAt 2 cfg0.N = prod m c := by
  refine (dats m 0 c).arrAt_eq_of_covers 2 _ (by decide +kernel) fun t hf y => ?_
  blk_simp
  rw [after0_2, eq_ix2 y]
  exact (block_eq m c t _ _).trans (at_prod m c t _ _).symm

end Cert.Kernel15Ideal.Forward

namespace Cert.Reference15Ideal.Forward

open Cert.Reference15Ideal Cert.Reference15Ideal.Gen Idealize.ShloMosaic

/-- The reference's result at an entry. -/
theorem ref_apply (x : FVec Ideal S8448x2048 .bf16) (y : FVec Ideal S2048x1024 .bf16) (i : Fin 8448) (j : Fin 1024) :
    truncf .bf16 (Host.dotGeneral dot_S8448x2048_S2048x1024_S8448x1024_1_0_0_1_n_n none
      (extf .f32 x bitsLt_bf16_f32) (extf .f32 y bitsLt_bf16_f32)) bitsLt_bf16_f32 (ix2 i j)
      = ∑ k : Fin 2048, x (ix2 i k) * y (ix2 k j) := by
  pointwise

/-- The reference runs, its arguments end unchanged, and it has no semaphore. -/
theorem frame : Cert.quiescent_Reference15Ideal (hReference15Ideal := Cert.Reference15Ideal.Gen.facts) := fun m ρ _ =>
  (θ_run Cert.Reference15Ideal.defs _ _).mono (fun r h => ⟨fun c => (h c).2, sem_eq_zero_of_no_sems (by decide) r.2⟩)
    (Cert.Reference15Ideal.Value.run (F := Ideal) m ρ)

/-- The kernel and the reference end with the same product. -/
theorem values : Cert.algebraic_Kernel15Ideal_Reference15Ideal (hKernel15Ideal := Cert.Kernel15Ideal.Gen.facts)
    (hReference15Ideal := Cert.Reference15Ideal.Gen.facts) := by
  intro m ρ m' ρ' _ hagree
  refine ⟨fun c => Cert.Kernel15Ideal.Forward.prod m c, ?_, ?_⟩
  · refine (θ_run Cert.Kernel15Ideal.defs _ _).mono (fun r h c => ?_) (Cert.Kernel15Ideal.Value.run_blocks (F := Ideal) m ρ)
    exact ⟨(h c).1.trans (Cert.Kernel15Ideal.Forward.array_eq m c), (h c).2⟩
  · refine (θ_run Cert.Reference15Ideal.defs _ _).mono (fun r h c => ?_) (Cert.Reference15Ideal.Value.run (F := Ideal) m' ρ')
    refine ⟨(h c).1.trans ?_, (h c).2⟩
    rw [(hagree c).1, (hagree c).2]
    funext y
    rw [eq_ix2 y]
    exact ref_apply _ _ _ _

end Cert.Reference15Ideal.Forward
-- ==== Proof.GdnProj.lean ====
/- The gated DeltaNet branch's projection: one point per block of rows, and the array they make. -/
module

public import proofs.«01_k».proof.Proof.Product
public import proofs.«01_k».proof.Defs
public import proofs.«01_k».proof.Proof.Gen.Kernel16Ideal.Value
public import proofs.«01_k».proof.Proof.Gen.Reference16Ideal.Run
public import Idealize.ShloMosaic.Lib.Pipeline.ValueKit.Geometry

@[expose] public section

set_option maxRecDepth 16384

noncomputable section

namespace Cert.Kernel16Ideal.Forward

open Cert.Product
open Cert.Kernel16Ideal Cert.Kernel16Ideal.Gen Idealize.ShloMosaic Idealize.ShloMosaic.TcCoe

/-- A point writes out its blocks' product. -/
theorem out_eq (c : Dev nD) (i : grid0.Coords) (a3 : Memref sig .tc .vmem S2816x1024 .bf16) (h3 : a3.IsWhole)
    (a4 : Memref sig .tc .vmem S1024x1024 .bf16) (h4 : a4.IsWhole) (a5 : Memref sig .tc .vmem S2816x1024 .bf16) (h5 : a5.IsWhole)
    (a6 : Memref sig .tc .vmem S8x128 .f32) (h6 : a6.IsWhole) (x0 : Vec Ideal S2816x1024 .bf16) (x1 : Vec Ideal S1024x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  sl_unfold_words
  rw [View.canon_unit_zero hz]
  simp only [View.readAt_eq_ld, h3.read_unread, h4.read_unread, View.ld_unit_zero (S := S2816x1024) hz, View.ld_unit_zero (S := S1024x1024) hz]

/-- The product at an entry. -/
theorem prod_apply (x0 : Vec Ideal S2816x1024 .bf16) (x1 : Vec Ideal S1024x1024 .bf16) (i : Fin 2816) (j : Fin 1024) :
    k0_pay1 x0 x1 (ix2 i j) = ∑ x : Fin 1024, x0 (ix2 i x) * x1 (ix2 x j) := by
  pointwise [k0_pay1]

theorem index0 (t : Fin cfg0.N) : win0_0.index t = ![t.val, 0] :=
  (by decide +kernel : ∀ t : Fin grid0.N, win0_0.index t = ![t.val, 0]) t

theorem index1 (t : Fin cfg0.N) : win0_1.index t = ![0, 0] :=
  (by decide +kernel : ∀ t : Fin grid0.N, win0_1.index t = ![0, 0]) t

theorem index2 (t : Fin cfg0.N) : win0_2.index t = ![t.val, 0] :=
  (by decide +kernel : ∀ t : Fin grid0.N, win0_2.index t = ![t.val, 0]) t

variable (m : (ℓ : Loc nD τ sig) → Buf (Elt Ideal) ℓ) (c : Dev nD)

/-- The branch's gated output, as a matrix, … -/
def X (i : Fin 8448) (k : Fin 1024) : EReal := (m ((c : Thread nD τ).loc main_arg0) : Vec Ideal S8448x1024 .bf16) (ix2 i k)

/-- … and the weights. -/
def Y (k : Fin 1024) (j : Fin 1024) : EReal := (m ((c : Thread nD τ).loc main_arg1) : Vec Ideal S1024x1024 .bf16) (ix2 k j)

/-- The block's row in the array. -/
def row (t : Fin cfg0.N) (i : Fin 2816) : Fin 8448 := ⟨t.val * 2816 + i.val, by
  have := lt_of_lt_of_eq t.isLt N_0; omega⟩

theorem blk0 (t : Fin cfg0.N) (i : Fin 2816) (x : Fin 1024) : iblk m c 0 t (ix2 i x) = X m c (row t i) x := by
  blk_simp [iblk]
  refine congrArg (m (c.tc.loc main_arg0)) (funext fun a => Fin.ext ?_)
  fin_cases a
  · blk_simp [index0]; rfl
  · blk_simp [index0]; rfl

theorem blk1 (t : Fin cfg0.N) (x : Fin 1024) (j : Fin 1024) : iblk m c 1 t (ix2 x j) = Y m c x j := by
  blk_simp [iblk]
  refine congrArg (m (c.tc.loc main_arg1)) (funext fun a => Fin.ext ?_)
  fin_cases a
  · blk_simp [index1]
  · blk_simp [index1]

/-- What a point writes out. -/
theorem block_eq (t : Fin cfg0.N) (i : Fin 2816) (j : Fin 1024) :
    outsAt0 m c t (ix2 i j) = ∑ k, X m c (row t i) k * Y m c k j := by
  unfold outsAt0
  rw [out_eq, prod_apply]
  exact Finset.sum_congr rfl fun k _ => congrArg₂ (· * ·) (blk0 m c t i k) (blk1 m c t k j)

/-- The product. -/
def prod : Vec Ideal S8448x1024 .bf16 := fun y => ∑ k, X m c (y 0) k * Y m c k (y 1)

/-- Where a point's block of it lies in the array. -/
theorem at_prod (t : Fin cfg0.N) (i : Fin 2816) (j : Fin 1024) :
    prod m c ((win0_2.blk t).view.emb (ix2 i j)) = ∑ k, X m c (row t i) k * Y m c k j := by
  have h0 : (win0_2.blk t).view.emb (ix2 i j) 0 = row t i := by
    apply Fin.ext; blk_simp [index2]; rfl
  have h1 : (win0_2.blk t).view.emb (ix2 i j) 1 = j := by
    apply Fin.ext; blk_simp [index2]
  exact congrArg₂ (fun a b => ∑ k, X m c a k * Y m c k b) h0 h1

/-- The kernel ends with the product. -/
theorem array_eq : (dats m 0 c).arrAt 2 cfg0.N = prod m c := by
  refine (dats m 0 c).arrAt_eq_of_covers 2 _ (by decide +kernel) fun t hf y => ?_
  blk_simp
  rw [after0_2, eq_ix2 y]
  exact (block_eq m c t _ _).trans (at_prod m c t _ _).symm

end Cert.Kernel16Ideal.Forward

namespace Cert.Reference16Ideal.Forward

open Cert.Reference16Ideal Cert.Reference16Ideal.Gen Idealize.ShloMosaic

/-- The reference's result at an entry. -/
theorem ref_apply (x : FVec Ideal S8448x1024 .bf16) (y : FVec Ideal S1024x1024 .bf16) (i : Fin 8448) (j : Fin 1024) :
    truncf .bf16 (Host.dotGeneral dot_S8448x1024_S1024x1024_S8448x1024_1_0_0_1_n_n none
      (extf .f32 x bitsLt_bf16_f32) (extf .f32 y bitsLt_bf16_f32)) bitsLt_bf16_f32 (ix2 i j)
      = ∑ k : Fin 1024, x (ix2 i k) * y (ix2 k j) := by
  pointwise

/-- The reference runs, its arguments end unchanged, and it has no semaphore. -/
theorem frame : Cert.quiescent_Reference16Ideal (hReference16Ideal := Cert.Reference16Ideal.Gen.facts) := fun m ρ _ =>
  (θ_run Cert.Reference16Ideal.defs _ _).mono (fun r h => ⟨fun c => (h c).2, sem_eq_zero_of_no_sems (by decide) r.2⟩)
    (Cert.Reference16Ideal.Value.run (F := Ideal) m ρ)

/-- The kernel and the reference end with the same product. -/
theorem values : Cert.algebraic_Kernel16Ideal_Reference16Ideal (hKernel16Ideal := Cert.Kernel16Ideal.Gen.facts)
    (hReference16Ideal := Cert.Reference16Ideal.Gen.facts) := by
  intro m ρ m' ρ' _ hagree
  refine ⟨fun c => Cert.Kernel16Ideal.Forward.prod m c, ?_, ?_⟩
  · refine (θ_run Cert.Kernel16Ideal.defs _ _).mono (fun r h c => ?_) (Cert.Kernel16Ideal.Value.run_blocks (F := Ideal) m ρ)
    exact ⟨(h c).1.trans (Cert.Kernel16Ideal.Forward.array_eq m c), (h c).2⟩
  · refine (θ_run Cert.Reference16Ideal.defs _ _).mono (fun r h c => ?_) (Cert.Reference16Ideal.Value.run (F := Ideal) m' ρ')
    refine ⟨(h c).1.trans ?_, (h c).2⟩
    rw [(hagree c).1, (hagree c).2]
    funext y
    rw [eq_ix2 y]
    exact ref_apply _ _ _ _

end Cert.Reference16Ideal.Forward
-- ==== Proof.MixProj.lean ====
/- The mixer's output product: one point per block of rows, and the array they make. -/
module

public import proofs.«01_k».proof.Proof.Product
public import proofs.«01_k».proof.Defs
public import proofs.«01_k».proof.Proof.Gen.Kernel17Ideal.Value
public import proofs.«01_k».proof.Proof.Gen.Reference17Ideal.Run
public import Idealize.ShloMosaic.Lib.Pipeline.ValueKit.Geometry

@[expose] public section

set_option maxRecDepth 16384

noncomputable section

namespace Cert.Kernel17Ideal.Forward

open Cert.Product
open Cert.Kernel17Ideal Cert.Kernel17Ideal.Gen Idealize.ShloMosaic Idealize.ShloMosaic.TcCoe

/-- A point writes out its blocks' product. -/
theorem out_eq (c : Dev nD) (i : grid0.Coords) (a3 : Memref sig .tc .vmem S1408x1024 .bf16) (h3 : a3.IsWhole)
    (a4 : Memref sig .tc .vmem S1024x1024 .bf16) (h4 : a4.IsWhole) (a5 : Memref sig .tc .vmem S1408x1024 .f32) (h5 : a5.IsWhole)
    (a6 : Memref sig .tc .vmem S8x128 .f32) (h6 : a6.IsWhole) (x0 : Vec Ideal S1408x1024 .bf16) (x1 : Vec Ideal S1024x1024 .bf16) :
    out0_A_2 c i a3 h3 a4 h4 a5 h5 a6 h6 x0 x1 = k0_pay1 x0 x1 := by
  unfold out0_A_2
  rw [View.read_writes_eq_canon _ _ _ (cover0_A_2 c i a3 h3 a4 h4 a5 h5 a6 h6 x0 x1)]
  unfold kernelRun0_A
  dsimp only
  sl_unfold_words
  rw [View.canon_unit_zero hz]
  simp only [View.readAt_eq_ld, h3.read_unread, h4.read_unread, View.ld_unit_zero (S := S1408x1024) hz, View.ld_unit_zero (S := S1024x1024) hz]

/-- The product at an entry. -/
theorem prod_apply (x0 : Vec Ideal S1408x1024 .bf16) (x1 : Vec Ideal S1024x1024 .bf16) (i : Fin 1408) (j : Fin 1024) :
    k0_pay1 x0 x1 (ix2 i j) = ∑ x : Fin 1024, x0 (ix2 i x) * x1 (ix2 x j) := by
  pointwise [k0_pay1]

theorem index0 (t : Fin cfg0.N) : win0_0.index t = ![t.val, 0] :=
  (by decide +kernel : ∀ t : Fin grid0.N, win0_0.index t = ![t.val, 0]) t

theorem index1 (t : Fin cfg0.N) : win0_1.index t = ![0, 0] :=
  (by decide +kernel : ∀ t : Fin grid0.N, win0_1.index t = ![0, 0]) t

theorem index2 (t : Fin cfg0.N) : win0_2.index t = ![t.val, 0] :=
  (by decide +kernel : ∀ t : Fin grid0.N, win0_2.index t = ![t.val, 0]) t

variable (m : (ℓ : Loc nD τ sig) → Buf (Elt Ideal) ℓ) (c : Dev nD)

/-- The branches' merged output, as a matrix, … -/
def X (i : Fin 8448) (k : Fin 1024) : EReal := (m ((c : Thread nD τ).loc main_arg0) : Vec Ideal S8448x1024 .bf16) (ix2 i k)

/-- … and the weights. -/
def Y (k : Fin 1024) (j : Fin 1024) : EReal := (m ((c : Thread nD τ).loc main_arg1) : Vec Ideal S1024x1024 .bf16) (ix2 k j)

/-- The block's row in the array. -/
def row (t : Fin cfg0.N) (i : Fin 1408) : Fin 8448 := ⟨t.val * 1408 + i.val, by
  have := lt_of_lt_of_eq t.isLt N_0; omega⟩

theorem blk0 (t : Fin cfg0.N) (i : Fin 1408) (x : Fin 1024) : iblk m c 0 t (ix2 i x) = X m c (row t i) x := by
  blk_simp [iblk]
  refine congrArg (m (c.tc.loc main_arg0)) (funext fun a => Fin.ext ?_)
  fin_cases a
  · blk_simp [index0]; rfl
  · blk_simp [index0]; rfl

theorem blk1 (t : Fin cfg0.N) (x : Fin 1024) (j : Fin 1024) : iblk m c 1 t (ix2 x j) = Y m c x j := by
  blk_simp [iblk]
  refine congrArg (m (c.tc.loc main_arg1)) (funext fun a => Fin.ext ?_)
  fin_cases a
  · blk_simp [index1]
  · blk_simp [index1]

/-- What a point writes out. -/
theorem block_eq (t : Fin cfg0.N) (i : Fin 1408) (j : Fin 1024) :
    outsAt0 m c t (ix2 i j) = ∑ k, X m c (row t i) k * Y m c k j := by
  unfold outsAt0
  rw [out_eq, prod_apply]
  exact Finset.sum_congr rfl fun k _ => congrArg₂ (· * ·) (blk0 m c t i k) (blk1 m c t k j)

/-- The product. -/
def prod : Vec Ideal S8448x1024 .f32 := fun y => ∑ k, X m c (y 0) k * Y m c k (y 1)

/-- Where a point's block of it lies in the array. -/
theorem at_prod (t : Fin cfg0.N) (i : Fin 1408) (j : Fin 1024) :
    prod m c ((win0_2.blk t).view.emb (ix2 i j)) = ∑ k, X m c (row t i) k * Y m c k j := by
  have h0 : (win0_2.blk t).view.emb (ix2 i j) 0 = row t i := by
    apply Fin.ext; blk_simp [index2]; rfl
  have h1 : (win0_2.blk t).view.emb (ix2 i j) 1 = j := by
    apply Fin.ext; blk_simp [index2]
  exact congrArg₂ (fun a b => ∑ k, X m c a k * Y m c k b) h0 h1

/-- The kernel ends with the product. -/
theorem array_eq : (dats m 0 c).arrAt 2 cfg0.N = prod m c := by
  refine (dats m 0 c).arrAt_eq_of_covers 2 _ (by decide +kernel) fun t hf y => ?_
  blk_simp
  rw [after0_2, eq_ix2 y]
  exact (block_eq m c t _ _).trans (at_prod m c t _ _).symm

end Cert.Kernel17Ideal.Forward

namespace Cert.Reference17Ideal.Forward

open Cert.Reference17Ideal Cert.Reference17Ideal.Gen Idealize.ShloMosaic

/-- The reference's result at an entry. -/
theorem ref_apply (x : FVec Ideal S8448x1024 .bf16) (y : FVec Ideal S1024x1024 .bf16) (i : Fin 8448) (j : Fin 1024) :
    Host.dotGeneral (F := Ideal) dot_S8448x1024_S1024x1024_S8448x1024_1_0_0_1_n_n none
      (extf .f32 x bitsLt_bf16_f32) (extf .f32 y bitsLt_bf16_f32) (ix2 i j)
      = ∑ k : Fin 1024, x (ix2 i k) * y (ix2 k j) := by
  pointwise

/-- The reference runs, its arguments end unchanged, and it has no semaphore. -/
theorem frame : Cert.quiescent_Reference17Ideal (hReference17Ideal := Cert.Reference17Ideal.Gen.facts) := fun m ρ _ =>
  (θ_run Cert.Reference17Ideal.defs _ _).mono (fun r h => ⟨fun c => (h c).2, sem_eq_zero_of_no_sems (by decide) r.2⟩)
    (Cert.Reference17Ideal.Value.run (F := Ideal) m ρ)

/-- The kernel and the reference end with the same product. -/
theorem values : Cert.algebraic_Kernel17Ideal_Reference17Ideal (hKernel17Ideal := Cert.Kernel17Ideal.Gen.facts)
    (hReference17Ideal := Cert.Reference17Ideal.Gen.facts) := by
  intro m ρ m' ρ' _ hagree
  refine ⟨fun c => Cert.Kernel17Ideal.Forward.prod m c, ?_, ?_⟩
  · refine (θ_run Cert.Kernel17Ideal.defs _ _).mono (fun r h c => ?_) (Cert.Kernel17Ideal.Value.run_blocks (F := Ideal) m ρ)
    exact ⟨(h c).1.trans (Cert.Kernel17Ideal.Forward.array_eq m c), (h c).2⟩
  · refine (θ_run Cert.Reference17Ideal.defs _ _).mono (fun r h c => ?_) (Cert.Reference17Ideal.Value.run (F := Ideal) m' ρ')
    refine ⟨(h c).1.trans ?_, (h c).2⟩
    rw [(hagree c).1, (hagree c).2]
    funext y
    rw [eq_ix2 y]
    exact ref_apply _ _ _ _

end Cert.Reference17Ideal.Forward
-- ==== Proof.GdnOut.lean ====
/- The gradient of the gated DeltaNet branch's output weights: the kernel's blocks, its carried sum, and the array it ends with. -/
module

public import proofs.«01_k».proof.Proof.Product
public import proofs.«01_k».proof.Defs
public import proofs.«01_k».proof.Proof.Gen.Kernel18Ideal.Value
public import proofs.«01_k».proof.Proof.Gen.Reference18Ideal.Run
public import Idealize.ShloMosaic.Lib.Pipeline.ValueKit.Geometry

@[expose] public section

set_option maxRecDepth 16384

noncomputable section

namespace Cert.Kernel18Ideal.Gradient

open Cert.Product
open Cert.Kernel18Ideal Cert.Kernel18Ideal.Gen Idealize.ShloMosaic Idealize.ShloMosaic.TcCoe

section
variable (c : Dev nD) (i : grid0.Coords) (a3 : Memref sig .tc .vmem S2816x1024 .bf16) (h3 : a3.IsWhole)
  (a4 : Memref sig .tc .vmem S2816x1024 .bf16) (h4 : a4.IsWhole) (a5 : Memref sig .tc .vmem S1024x1024 .bf16) (h5 : a5.IsWhole)
  (a6 : Memref sig .tc .vmem S1024x1024 .f32) (h6 : a6.IsWhole) (x0 : Vec Ideal S2816x1024 .bf16) (x1 : Vec Ideal S2816x1024 .bf16)
  (xs : Vec Ideal S1024x1024 .f32)

/-- A first point leaves its blocks' product in the scratch. -/
theorem first_eq (hc0 : cond0_0 i) (hc1 : ¬cond0_1 i) (hc2 : ¬cond0_2 i) :
    sout0_A_0 c i a3 h3 a4 h4 a5 h5 a6 h6 hc0 hc1 hc2 x0 x1 = k0_pay2 x0 x1 := by
  unfold sout0_A_0
  rw [View.read_writes_eq_canon _ _ _ (scover0_A_0 c i a3 h3 a4 h4 a5 h5 a6 h6 hc0 hc1 hc2 x0 x1)]
  unfold kernelRun0_A
  dsimp only
  sl_unfold_words
  rw [View.canon_unit_zero hz]
  simp only [View.readAt_eq_ld, h3.read_unread, h4.read_unread, View.ld_unit_zero (S := S2816x1024) hz, View.ld_unit_zero (S := S2816x1024) hz]

/-- A middle point adds its blocks' product to what the scratch held, … -/
theorem middle_eq (hc0 : ¬cond0_0 i) (hc1 : cond0_1 i) (hc2 : ¬cond0_2 i) :
    sout0_B_0 c i a3 h3 a4 h4 a5 h5 a6 h6 hc0 hc1 hc2 x0 x1 xs = k0_pay3 x0 x1 xs := by
  unfold sout0_B_0
  rw [View.read_writes_eq_canon _ _ _ (scover0_B_0 c i a3 h3 a4 h4 a5 h5 a6 h6 hc0 hc1 hc2 x0 x1 xs)]
  unfold kernelRun0_B
  dsimp only
  sl_unfold_words
  rw [View.canon_unit_zero hz]
  simp only [View.readAt_eq_ld, h3.read_unread, h4.read_unread, h6.read_unread, View.ld_unit_zero (S := S2816x1024) hz,
    View.ld_unit_zero (S := S2816x1024) hz, View.ld_unit_zero (S := S1024x1024) hz]

/-- … and a last point writes that sum out. -/
theorem last_eq (hc0 : ¬cond0_0 i) (hc1 : cond0_1 i) (hc2 : cond0_2 i) :
    out0_C_2 c i a3 h3 a4 h4 a5 h5 a6 h6 hc0 hc1 hc2 x0 x1 xs = k0_pay4 (k0_pay3 x0 x1 xs) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz]
  rw [View.readCov_unit_zero (S := S1024x1024) _ hz]
  simp only [View.readAt_eq_ld, h3.read_unread, h4.read_unread, h6.read_unread, View.ld_unit_zero (S := S2816x1024) hz,
    View.ld_unit_zero (S := S2816x1024) hz, View.ld_unit_zero (S := S1024x1024) hz]

end

/-- A block's product at an entry. -/
theorem prod_apply (x0 : Vec Ideal S2816x1024 .bf16) (x1 : Vec Ideal S2816x1024 .bf16) (i : Fin 1024) (j : Fin 1024) :
    k0_pay2 x0 x1 (ix2 i j) = ∑ x : Fin 2816, x0 (ix2 x i) * x1 (ix2 x j) := by
  pointwise [k0_pay2, k0_pay1]

/-- … and with what was held before. -/
theorem add_apply (x0 : Vec Ideal S2816x1024 .bf16) (x1 : Vec Ideal S2816x1024 .bf16) (xs : Vec Ideal S1024x1024 .f32) (i : Fin 1024) (j : Fin 1024) :
    k0_pay3 x0 x1 xs (ix2 i j) = xs (ix2 i j) + k0_pay2 x0 x1 (ix2 i j) := by
  pointwise [k0_pay3, k0_pay2, k0_pay1]

/-- The sum written out is the sum held. -/
theorem out_apply (v : Vec Ideal S1024x1024 .f32) (i : Fin 1024) (j : Fin 1024) : k0_pay4 v (ix2 i j) = v (ix2 i j) := by
  pointwise [k0_pay4]

theorem index0 (t : Fin cfg0.N) : win0_0.index t = ![t.val, 0] :=
  (by decide +kernel : ∀ t : Fin grid0.N, win0_0.index t = ![t.val, 0]) t

theorem index1 (t : Fin cfg0.N) : win0_1.index t = ![t.val, 0] :=
  (by decide +kernel : ∀ t : Fin grid0.N, win0_1.index t = ![t.val, 0]) t

theorem index2 (t : Fin cfg0.N) : win0_2.index t = ![0, 0] :=
  (by decide +kernel : ∀ t : Fin grid0.N, win0_2.index t = ![0, 0]) t

variable (m : (ℓ : Loc nD τ sig) → Buf (Elt Ideal) ℓ) (c : Dev nD)

/-- The branch's gated output, as a matrix, … -/
def X (k : Fin 8448) (i : Fin 1024) : EReal := (m ((c : Thread nD τ).loc main_arg0) : Vec Ideal S8448x1024 .bf16) (ix2 k i)

/-- … and the cotangent of its projection. -/
def Y (k : Fin 8448) (j : Fin 1024) : EReal := (m ((c : Thread nD τ).loc main_arg1) : Vec Ideal S8448x1024 .bf16) (ix2 k j)

/-- The terms of the gradient's sum at an entry. -/
def term (i : Fin 1024) (j : Fin 1024) (k : Fin 8448) : EReal := X m c k i * Y m c k j

/-- The block's row in the array. -/
def row (t : Fin cfg0.N) (x : Fin 2816) : Fin 8448 := ⟨t.val * 2816 + x.val, by
  have := lt_of_lt_of_eq t.isLt N_0; omega⟩

theorem blk0 (t : Fin cfg0.N) (x : Fin 2816) (i : Fin 1024) : iblk m c 0 t (ix2 x i) = X m c (row t x) i := by
  blk_simp [iblk]
  refine congrArg (m (c.tc.loc main_arg0)) (funext fun a => Fin.ext ?_)
  fin_cases a
  · blk_simp [index0]; rfl
  · blk_simp [index0]; rfl

theorem blk1 (t : Fin cfg0.N) (x : Fin 2816) (j : Fin 1024) : iblk m c 1 t (ix2 x j) = Y m c (row t x) j := by
  blk_simp [iblk]
  refine congrArg (m (c.tc.loc main_arg1)) (funext fun a => Fin.ext ?_)
  fin_cases a
  · blk_simp [index1]; rfl
  · blk_simp [index1]; rfl

/-- A point's block adds its terms to the ones before. -/
theorem step (t : Fin cfg0.N) (i : Fin 1024) (j : Fin 1024) :
    upto (term m c i j) (t.val % 3 * 2816 + 2816) = upto (term m c i j) (t.val % 3 * 2816) +
      k0_pay2 (iblk m c 0 t) (iblk m c 1 t) (ix2 i j) := by
  rw [prod_apply]
  have := lt_of_lt_of_eq t.isLt N_0
  exact upto_add _ _ _ _ rfl (by omega) _ fun x h => by
    rw [blk0, blk1]
    exact congrArg (term m c i j) (Fin.ext (by simp only [row]; omega))

/-- What a last point writes out: all the terms. -/
theorem block_eq (t : Fin cfg0.N) (h : t.val % 3 = 2) (i : Fin 1024) (j : Fin 1024) :
    (outsAt0 m c t.val t.isLt).1 (ix2 i j) = ∑ k, term m c i j k := by
  have hn : t.val - 1 < cfg0.N := Nat.lt_of_le_of_lt (Nat.sub_le _ _) t.isLt
  have hN : cfg0.N = 3 := N_0
  rw [outsAt0_C m c t (by omega) (by omega) h]
  dsimp only
  rw [last_eq, out_apply, add_apply]
  refine carried_all 2 2816 (by decide) rfl (fun t => (outsAt0 m c t.val t.isLt).2 (ix2 i j))
    (fun t => k0_pay2 (iblk m c 0 t) (iblk m c 1 t) (ix2 i j)) (fun t => term m c i j)
    (fun t h0 => ?_) (fun t hp h0 h2 => ?_) (fun t hp h0 => ?_) (fun t => step m c t i j) t hn h
  · have := t.isLt
    rw [outsAt0_A m c t h0 (by omega) (by omega)]
    dsimp only
    rw [first_eq]
  · rw [outsAt0_B m c t h0 (by omega) h2]
    dsimp only
    rw [middle_eq, add_apply]
  · rfl

/-- The gradient. -/
def grad : Vec Ideal S1024x1024 .bf16 := fun y => ∑ k, term m c (y 0) (y 1) k

/-- Where a point's block of it lies in the array. -/
theorem at_grad (t : Fin cfg0.N) (i : Fin 1024) (j : Fin 1024) :
    grad m c ((win0_2.blk t).view.emb (ix2 i j)) = ∑ k, term m c i j k := by
  have h0 : (win0_2.blk t).view.emb (ix2 i j) 0 = i := by
    apply Fin.ext; blk_simp [index2]
  have h1 : (win0_2.blk t).view.emb (ix2 i j) 1 = j := by
    apply Fin.ext; blk_simp [index2]
  exact congrArg₂ (fun a b => ∑ k, term m c a b k) h0 h1

/-- The kernel ends with the gradient. -/
theorem array_eq : (dats m 0 c).arrAt 2 cfg0.N = grad m c := by
  refine (dats m 0 c).arrAt_eq_of_covers 2 _ (by decide +kernel) fun t hf y => ?_
  blk_simp
  rw [after0_2, eq_ix2 y]
  exact (block_eq m c t ((flush0_2 t).mp hf) _ _).trans (at_grad m c t _ _).symm

end Cert.Kernel18Ideal.Gradient

namespace Cert.Reference18Ideal.Gradient

open Cert.Reference18Ideal Cert.Reference18Ideal.Gen Idealize.ShloMosaic

/-- The reference's result at an entry. -/
theorem ref_apply (x : FVec Ideal S8448x1024 .bf16) (y : FVec Ideal S8448x1024 .bf16) (i : Fin 1024) (j : Fin 1024) :
    truncf .bf16 (transpose S1024x1024 [1, 0] (Host.dotGeneral dot_S8448x1024_S8448x1024_S1024x1024_0_0_1_1_n_n none
      (extf .f32 y bitsLt_bf16_f32) (extf .f32 x bitsLt_bf16_f32)) transposes_S1024x1024_S1024x1024_1_0) bitsLt_bf16_f32 (ix2 i j)
      = ∑ k : Fin 8448, x (ix2 k i) * y (ix2 k j) := by
  refine Eq.trans (b := ∑ k : Fin 8448, y (ix2 k j) * x (ix2 k i)) (by pointwise) ?_
  exact Finset.sum_congr rfl fun k _ => mul_comm _ _

/-- The reference runs, its arguments end unchanged, and it has no semaphore. -/
theorem frame : Cert.quiescent_Reference18Ideal (hReference18Ideal := Cert.Reference18Ideal.Gen.facts) := fun m ρ _ =>
  (θ_run Cert.Reference18Ideal.defs _ _).mono (fun r h => ⟨fun c => (h c).2, sem_eq_zero_of_no_sems (by decide) r.2⟩)
    (Cert.Reference18Ideal.Value.run (F := Ideal) m ρ)

/-- The kernel and the reference end with the same gradient. -/
theorem values : Cert.algebraic_Kernel18Ideal_Reference18Ideal (hKernel18Ideal := Cert.Kernel18Ideal.Gen.facts)
    (hReference18Ideal := Cert.Reference18Ideal.Gen.facts) := by
  intro m ρ m' ρ' _ hagree
  refine ⟨fun c => Cert.Kernel18Ideal.Gradient.grad m c, ?_, ?_⟩
  · refine (θ_run Cert.Kernel18Ideal.defs _ _).mono (fun r h c => ?_) (Cert.Kernel18Ideal.Value.run_blocks (F := Ideal) m ρ)
    exact ⟨(h c).1.trans (Cert.Kernel18Ideal.Gradient.array_eq m c), (h c).2⟩
  · refine (θ_run Cert.Reference18Ideal.defs _ _).mono (fun r h c => ?_) (Cert.Reference18Ideal.Value.run (F := Ideal) m' ρ')
    refine ⟨(h c).1.trans ?_, (h c).2⟩
    rw [(hagree c).1, (hagree c).2]
    funext y
    rw [eq_ix2 y]
    exact ref_apply _ _ _ _

end Cert.Reference18Ideal.Gradient
-- ==== Proof.SwigluBack.lean ====
/- The gradient of the feed-forward block's gate, `silu(gate) * up`: one point per block, and the array they make. -/
module

public import proofs.«01_k».proof.Proof.Product
public import proofs.«01_k».proof.Defs
public import proofs.«01_k».proof.Proof.Gen.Kernel19Ideal.Value
public import proofs.«01_k».proof.Proof.Gen.Reference19Ideal.Run
public import Idealize.ShloMosaic.Lib.Pipeline.ValueKit.Geometry

@[expose] public section

set_option maxRecDepth 16384

noncomputable section

namespace Cert.Product

open Idealize.ShloMosaic

/-- Two arrays of three axes with the same entries are equal. -/
theorem ext3 {a b e : ℕ} {α : Type} {f g : Shape.Idx ⟨3, ![a, b, e]⟩ → α} (h : ∀ p i j, f (ix3 p i j) = g (ix3 p i j)) : f = g :=
  funext fun y => by rw [eq_ix3 y]; exact h _ _ _

/-- The cotangents of `silu(g) * u` with respect to `g` (part 0) and `u` (part 1), for the cotangent `d`. -/
def gateBack (part : Fin 2) (g u d : EReal) : EReal :=
  if part = 0 then
    d * u * Ideal.logistic g + g * (d * u) *
      (Ideal.logistic g * (1 - Ideal.logistic g))
  else g * Ideal.logistic g * d

end Cert.Product

namespace Cert.Kernel19Ideal.Gradient

open Cert.Product
open Cert.Kernel19Ideal Cert.Kernel19Ideal.Gen Idealize.ShloMosaic Idealize.ShloMosaic.TcCoe

/-- A point writes out what it computes from its two blocks. -/
theorem out_eq (x0 : Vec Ideal S2x256x1408 .bf16) (x1 : Vec Ideal S256x1408 .bf16) : out0_2 x0 x1 = k0_pay1 x0 x1 := by
  unfold out0_2
  rw [View.canon_unit_zero hz3]
  simp only [View.ld_unit_zero (S := S2x256x1408) hz3, View.ld_unit_zero (S := S256x1408) hz]

/-- That, at an entry: the gate's cotangents. -/
theorem pay_apply (x0 : Vec Ideal S2x256x1408 .bf16) (x1 : Vec Ideal S256x1408 .bf16) (p : Fin 2) (i : Fin 256) (j : Fin 1408) :
    k0_pay1 x0 x1 (ix3 p i j) = gateBack p (x0 (ix3 0 i j)) (x0 (ix3 1 i j)) (x1 (ix2 i j)) := by
  fin_cases p
  · exact (show k0_pay1 x0 x1 (ix3 0 i j) = _ by pointwise [k0_pay1, gateBack])
  · exact (show k0_pay1 x0 x1 (ix3 1 i j) = _ by pointwise [k0_pay1, gateBack])

/-- The block of window 0 that a point takes. -/
theorem index0 (t : Fin cfg0.N) : win0_0.index t = ![0, t.val % 33, t.val / 33] :=
  (by decide +kernel : ∀ t : Fin grid0.N, win0_0.index t = ![0, t.val % 33, t.val / 33]) t

/-- The block of window 1 that a point takes. -/
theorem index1 (t : Fin cfg0.N) : win0_1.index t = ![t.val % 33, t.val / 33] :=
  (by decide +kernel : ∀ t : Fin grid0.N, win0_1.index t = ![t.val % 33, t.val / 33]) t

/-- The block of window 2 that a point takes. -/
theorem index2 (t : Fin cfg0.N) : win0_2.index t = ![0, t.val % 33, t.val / 33] :=
  (by decide +kernel : ∀ t : Fin grid0.N, win0_2.index t = ![0, t.val % 33, t.val / 33]) t

variable (m : (ℓ : Loc nD τ sig) → Buf (Elt Ideal) ℓ) (c : Dev nD)

/-- The gate's rows and the rows it gates (parts 0 and 1), … -/
def U (p : Fin 2) (i : Fin 8448) (j : Fin 2816) : EReal := (m ((c : Thread nD τ).loc main_arg0) : Vec Ideal S2x8448x2816 .bf16) (ix3 p i j)

/-- … and the gated rows' cotangent. -/
def D (i : Fin 8448) (j : Fin 2816) : EReal := (m ((c : Thread nD τ).loc main_arg1) : Vec Ideal S8448x2816 .bf16) (ix2 i j)

/-- The block's row … -/
def row (t : Fin cfg0.N) (i : Fin 256) : Fin 8448 := ⟨t.val % 33 * 256 + i.val, by omega⟩

/-- … and column in the array. -/
def col (t : Fin cfg0.N) (j : Fin 1408) : Fin 2816 := ⟨t.val / 33 * 1408 + j.val, by
  have := lt_of_lt_of_eq t.isLt N_0; omega⟩

/-- What the block of window 0 holds. -/
theorem blk0 (t : Fin cfg0.N) (p : Fin 2) (i : Fin 256) (j : Fin 1408) : iblk m c 0 t (ix3 p i j) = U m c p (row t i) (col t j) := by
  blk_simp [iblk]
  refine congrArg (m (c.tc.loc main_arg0)) (funext fun a => Fin.ext ?_)
  fin_cases a
  · blk_simp [index0]; rfl
  · blk_simp [index0]; rfl
  · blk_simp [index0]; rfl

/-- What the block of window 1 holds. -/
theorem blk1 (t : Fin cfg0.N) (i : Fin 256) (j : Fin 1408) : iblk m c 1 t (ix2 i j) = D m c (row t i) (col t j) := by
  blk_simp [iblk]
  refine congrArg (m (c.tc.loc main_arg1)) (funext fun a => Fin.ext ?_)
  fin_cases a
  · blk_simp [index1]; rfl
  · blk_simp [index1]; rfl

/-- The gradient. -/
def grad : Vec Ideal S2x8448x2816 .bf16 := fun y => gateBack (y 0) (U m c 0 (y 1) (y 2)) (U m c 1 (y 1) (y 2)) (D m c (y 1) (y 2))

/-- What a point writes out. -/
theorem block_eq (t : Fin cfg0.N) (p : Fin 2) (i : Fin 256) (j : Fin 1408) :
    out0_2 (iblk m c 0 t) (iblk m c 1 t) (ix3 p i j) = grad m c (ix3 p (row t i) (col t j)) := by
  rw [out_eq, pay_apply, blk0, blk0, blk1]
  rfl

/-- Where a point's block of it lies in the array. -/
theorem at_grad (t : Fin cfg0.N) (p : Fin 2) (i : Fin 256) (j : Fin 1408) :
    grad m c ((win0_2.blk t).view.emb (ix3 p i j)) = grad m c (ix3 p (row t i) (col t j)) := by
  refine congrArg (grad m c) (funext fun a => Fin.ext ?_)
  fin_cases a
  · blk_simp [index2]; rfl
  · blk_simp [index2]; rfl
  · blk_simp [index2]; rfl

/-- The kernel ends with the gradient. -/
theorem array_eq : (dats m 0 c).arrAt 2 cfg0.N = grad m c := by
  refine (dats m 0 c).arrAt_eq_of_covers 2 _ (by decide +kernel) fun t hf y => ?_
  blk_simp
  rw [after0_2, eq_ix3 y]
  exact (block_eq m c t _ _ _).trans (at_grad m c t _ _ _).symm

end Cert.Kernel19Ideal.Gradient

namespace Cert.Reference19Ideal.Gradient

open Cert.Product
open Cert.Reference19Ideal Cert.Reference19Ideal.Gen Idealize.ShloMosaic

/-- The reference runs, its arguments end unchanged, and it has no semaphore. -/
theorem frame : Cert.quiescent_Reference19Ideal (hReference19Ideal := Cert.Reference19Ideal.Gen.facts) := fun m ρ _ =>
  (θ_run Cert.Reference19Ideal.defs _ _).mono (fun r h => ⟨fun c => (h c).2, sem_eq_zero_of_no_sems (by decide) r.2⟩)
    (Cert.Reference19Ideal.Value.run (F := Ideal) m ρ)

/-- The kernel and the reference end with the same gradient. -/
theorem values : Cert.algebraic_Kernel19Ideal_Reference19Ideal (hKernel19Ideal := Cert.Kernel19Ideal.Gen.facts)
    (hReference19Ideal := Cert.Reference19Ideal.Gen.facts) := by
  intro m ρ m' ρ' _ hagree
  refine ⟨fun c => Cert.Kernel19Ideal.Gradient.grad m c, ?_, ?_⟩
  · refine (θ_run Cert.Kernel19Ideal.defs _ _).mono (fun r h c => ?_) (Cert.Kernel19Ideal.Value.run_blocks (F := Ideal) m ρ)
    exact ⟨(h c).1.trans (Cert.Kernel19Ideal.Gradient.array_eq m c), (h c).2⟩
  · refine (θ_run Cert.Reference19Ideal.defs _ _).mono (fun r h c => ?_) (Cert.Reference19Ideal.Value.run (F := Ideal) m' ρ')
    refine ⟨(h c).1.trans ?_, (h c).2⟩
    rw [(hagree c).1, (hagree c).2]
    refine ext3 (a := 2) (b := 8448) (e := 2816) fun p i j => ?_
    fin_cases p
    · show _ = Cert.Kernel19Ideal.Gradient.grad m c (ix3 0 i j)
      pointwise [Cert.Kernel19Ideal.Gradient.grad, gateBack]
      rfl
    · show _ = Cert.Kernel19Ideal.Gradient.grad m c (ix3 1 i j)
      pointwise [Cert.Kernel19Ideal.Gradient.grad, gateBack]
      rfl

end Cert.Reference19Ideal.Gradient
-- ==== Proof.MergeBack.lean ====
/- The gradient of the gated sum of the two branches: one point per block of rows, and the three arrays they make. -/
module

public import proofs.«01_k».proof.Proof.Product
public import proofs.«01_k».proof.Defs
public import proofs.«01_k».proof.Proof.Gen.Kernel20Ideal.Value
public import proofs.«01_k».proof.Proof.Gen.Reference20Ideal.Run
public import Idealize.ShloMosaic.Lib.Pipeline.ValueKit.Partial
public import Idealize.ShloMosaic.Lib.Pipeline.ValueKit.Point

@[expose] public section

set_option maxRecDepth 16384

noncomputable section

namespace Cert.Kernel20Ideal.Gradient

open Cert.Product
open Cert.Kernel20Ideal Cert.Kernel20Ideal.Gen Idealize.ShloMosaic Idealize.ShloMosaic.TcCoe

section
variable (c : Dev nD) (i : grid0.Coords) (a2 : Memref sig .tc .vmem S256x2048 .f32) (h2 : a2.IsWhole)
  (a3 : Memref sig .tc .vmem S256x1024 .bf16) (h3 : a3.IsWhole) (a4 : Memref sig .tc .vmem S256x1024 .bf16) (h4 : a4.IsWhole)
  (a5 : Memref sig .tc .vmem S256x1024 .bf16) (h5 : a5.IsWhole) (a7 : Memref sig .tc .vmem S256x2048 .bf16) (h7 : a7.IsWhole)
  (a8 : Memref sig .tc .vmem S256x1024 .bf16) (h8 : a8.IsWhole) (a9 : Memref sig .tc .vmem S256x1024 .bf16) (h9 : a9.IsWhole)
  (x0 : Vec Ideal S256x2048 .f32) (x1 x2 x3 : Vec Ideal S256x1024 .bf16)

/-- What a point writes out: the gates' cotangent, … -/
theorem out4_eq : out0_A_4 c i a2 h2 a3 h3 a4 h4 a5 h5 a7 h7 a8 h8 a9 h9 x0 x1 x2 x3 = k0_pay4 x0 x1 x2 x3 := by
  unfold out0_A_4
  rw [View.read_writes_eq_canon _ _ _ (cover0_A_4 c i a2 h2 a3 h3 a4 h4 a5 h5 a7 h7 a8 h8 a9 h9 x0 x1 x2 x3)]
  unfold kernelRun0_A
  dsimp only
  sl_unfold_words
  rw [View.canon_unit_zero hz]
  simp only [View.readAt_eq_ld, h2.read_unread, h3.read_unread, h4.read_unread, h5.read_unread,
    View.ld_unit_zero (S := S256x2048) hz, View.ld_unit_zero (S := S256x1024) hz]

/-- … the first branch's … -/
theorem out5_eq : out0_A_5 c i a2 h2 a3 h3 a4 h4 a5 h5 a7 h7 a8 h8 a9 h9 x0 x1 x2 x3 = k0_pay5 x0 x3 := by
  unfold out0_A_5
  rw [View.read_writes_eq_canon _ _ _ (cover0_A_5 c i a2 h2 a3 h3 a4 h4 a5 h5 a7 h7 a8 h8 a9 h9 x0 x1 x2 x3)]
  unfold kernelRun0_A
  dsimp only
  sl_unfold_words
  rw [View.canon_unit_zero hz]
  simp only [View.readAt_eq_ld, h2.read_unread, h5.read_unread, View.ld_unit_zero (S := S256x2048) hz, View.ld_unit_zero (S := S256x1024) hz]

/-- … and the second's. -/
theorem out6_eq : out0_A_6 c i a2 h2 a3 h3 a4 h4 a5 h5 a7 h7 a8 h8 a9 h9 x0 x1 x2 x3 = k0_pay6 x0 x3 := by
  unfold out0_A_6
  rw [View.read_writes_eq_canon _ _ _ (cover0_A_6 c i a2 h2 a3 h3 a4 h4 a5 h5 a7 h7 a8 h8 a9 h9 x0 x1 x2 x3)]
  unfold kernelRun0_A
  dsimp only
  sl_unfold_words
  rw [View.canon_unit_zero hz]
  simp only [View.readAt_eq_ld, h2.read_unread, h5.read_unread, View.ld_unit_zero (S := S256x2048) hz, View.ld_unit_zero (S := S256x1024) hz]

end

/-- The cotangent of a gate `g` on the row entry `p`, for the cotangent `d` of the sum. -/
def gateBack (g p d : EReal) : EReal := d * p * (Ideal.logistic g * (1 - Ideal.logistic g))

/-- The branch's row entry that a gate's column belongs to: the first branch's on the left half, the second's on the right. -/
def side {n : ℕ} (x1 x2 : Fin n → Fin 1024 → EReal) (i : Fin n) (j : Fin 2048) : EReal :=
  if h : j.val < 1024 then x1 i ⟨j.val, h⟩ else x2 i ⟨j.val - 1024, by omega⟩

/-- The gates' cotangent at an entry. -/
def gates {n : ℕ} (x0 : Fin n → Fin 2048 → EReal) (x1 x2 x3 : Fin n → Fin 1024 → EReal) (i : Fin n) (j : Fin 2048) : EReal :=
  gateBack (x0 i j) (side x1 x2 i j) (side x3 x3 i j)

/-- What a point computes for the gates … -/
theorem gates_apply (x0 : Vec Ideal S256x2048 .f32) (x1 x2 x3 : Vec Ideal S256x1024 .bf16) (i : Fin 256) (j : Fin 2048) :
    k0_pay4 x0 x1 x2 x3 (ix2 i j) = gates (fun i j => x0 (ix2 i j)) (fun i j => x1 (ix2 i j)) (fun i j => x2 (ix2 i j))
      (fun i j => x3 (ix2 i j)) i j := by
  unfold gates side
  by_cases h : j.val < 1024
  · pointwise [k0_pay4, k0_pay3, k0_pay2, k0_pay1, gateBack]
    rw [dif_pos h, dif_pos h, dif_pos h, dif_pos h, zero_add]
  · have e : (⟨1024 + (j.val - 1024), by omega⟩ : Fin 2048) = j := Fin.ext (by simp only; omega)
    pointwise [k0_pay4, k0_pay3, k0_pay2, k0_pay1, gateBack]
    rw [dif_neg h, dif_neg h, dif_neg h, dif_neg h, add_zero, e]

/-- … and for the branches. -/
theorem first_apply (x0 : Vec Ideal S256x2048 .f32) (x3 : Vec Ideal S256x1024 .bf16) (i : Fin 256) (j : Fin 1024) :
    k0_pay5 x0 x3 (ix2 i j) = Ideal.logistic (x0 (ix2 i ⟨j.val, by omega⟩)) * x3 (ix2 i j) := by
  pointwise [k0_pay5, k0_pay2, k0_pay1]

/-- The second branch's as well. -/
theorem second_apply (x0 : Vec Ideal S256x2048 .f32) (x3 : Vec Ideal S256x1024 .bf16) (i : Fin 256) (j : Fin 1024) :
    k0_pay6 x0 x3 (ix2 i j) = Ideal.logistic (x0 (ix2 i ⟨1024 + j.val, by omega⟩)) * x3 (ix2 i j) := by
  pointwise [k0_pay6, k0_pay3, k0_pay1]

/-- The block of window 0 that a point takes. -/
theorem index0 (t : Fin cfg0.N) : win0_0.index t = ![t.val, 2] :=
  (by decide +kernel : ∀ t : Fin grid0.N, win0_0.index t = ![t.val, 2]) t

/-- The block of window 1 that a point takes. -/
theorem index1 (t : Fin cfg0.N) : win0_1.index t = ![t.val, 0] :=
  (by decide +kernel : ∀ t : Fin grid0.N, win0_1.index t = ![t.val, 0]) t

/-- The block of window 2 that a point takes. -/
theorem index2 (t : Fin cfg0.N) : win0_2.index t = ![t.val, 0] :=
  (by decide +kernel : ∀ t : Fin grid0.N, win0_2.index t = ![t.val, 0]) t

/-- The block of window 3 that a point takes. -/
theorem index3 (t : Fin cfg0.N) : win0_3.index t = ![t.val, 0] :=
  (by decide +kernel : ∀ t : Fin grid0.N, win0_3.index t = ![t.val, 0]) t

/-- The block of window 4 that a point takes. -/
theorem index4 (t : Fin cfg0.N) : win0_4.index t = ![t.val, 2] :=
  (by decide +kernel : ∀ t : Fin grid0.N, win0_4.index t = ![t.val, 2]) t

/-- The block of window 5 that a point takes. -/
theorem index5 (t : Fin cfg0.N) : win0_5.index t = ![t.val, 0] :=
  (by decide +kernel : ∀ t : Fin grid0.N, win0_5.index t = ![t.val, 0]) t

/-- The block of window 6 that a point takes. -/
theorem index6 (t : Fin cfg0.N) : win0_6.index t = ![t.val, 0] :=
  (by decide +kernel : ∀ t : Fin grid0.N, win0_6.index t = ![t.val, 0]) t

variable (m : (ℓ : Loc nD τ sig) → Buf (Elt Ideal) ℓ) (c : Dev nD)

/-- The gates' inputs, … -/
def G (i : Fin 8448) (j : Fin 2048) : EReal :=
  (m ((c : Thread nD τ).loc main_arg0) : Vec Ideal S8448x11776 .f32) (ix2 i ⟨4096 + j.val, by omega⟩)

/-- … the two branches, … -/
def P (i : Fin 8448) (j : Fin 1024) : EReal := (m ((c : Thread nD τ).loc main_arg1) : Vec Ideal S8448x1024 .bf16) (ix2 i j)

/-- … both of them, … -/
def Q (i : Fin 8448) (j : Fin 1024) : EReal := (m ((c : Thread nD τ).loc main_arg2) : Vec Ideal S8448x1024 .bf16) (ix2 i j)

/-- … their gated sum's cotangent, … -/
def D (i : Fin 8448) (j : Fin 1024) : EReal := (m ((c : Thread nD τ).loc main_arg3) : Vec Ideal S8448x1024 .bf16) (ix2 i j)

/-- … and the array the gates' cotangent is written into. -/
def E (i : Fin 8448) (j : Fin 11776) : EReal := (m ((c : Thread nD τ).loc main_arg4) : Vec Ideal S8448x11776 .bf16) (ix2 i j)

/-- The block's row in the arrays. -/
def row (t : Fin cfg0.N) (i : Fin 256) : Fin 8448 := ⟨t.val * 256 + i.val, by
  have := lt_of_lt_of_eq t.isLt N_0; omega⟩

/-- What the block of window 0 holds. -/
theorem blk0 (t : Fin cfg0.N) (i : Fin 256) (j : Fin 2048) : X0_0 m c t (ix2 i j) = G m c (row t i) j := by
  unfold X0_0 Pipeline.Window.fill
  rw [dif_pos (moved0_0 t _)]
  blk_simp [iblk]
  refine congrArg (m (c.tc.loc main_arg0)) (funext fun a => Fin.ext ?_)
  fin_cases a
  · blk_simp [index0]; rfl
  · blk_simp [index0]; rfl

/-- What the block of window 1 holds. -/
theorem blk1 (t : Fin cfg0.N) (i : Fin 256) (j : Fin 1024) : iblk m c 1 t (ix2 i j) = P m c (row t i) j := by
  blk_simp [iblk]
  refine congrArg (m (c.tc.loc main_arg1)) (funext fun a => Fin.ext ?_)
  fin_cases a
  · blk_simp [index1]; rfl
  · blk_simp [index1]; rfl

/-- What the block of window 2 holds. -/
theorem blk2 (t : Fin cfg0.N) (i : Fin 256) (j : Fin 1024) : iblk m c 2 t (ix2 i j) = Q m c (row t i) j := by
  blk_simp [iblk]
  refine congrArg (m (c.tc.loc main_arg2)) (funext fun a => Fin.ext ?_)
  fin_cases a
  · blk_simp [index2]; rfl
  · blk_simp [index2]; rfl

/-- What the block of window 3 holds. -/
theorem blk3 (t : Fin cfg0.N) (i : Fin 256) (j : Fin 1024) : iblk m c 3 t (ix2 i j) = D m c (row t i) j := by
  blk_simp [iblk]
  refine congrArg (m (c.tc.loc main_arg3)) (funext fun a => Fin.ext ?_)
  fin_cases a
  · blk_simp [index3]; rfl
  · blk_simp [index3]; rfl

/-- The array with the gates' cotangent in it, … -/
def grad0 : Vec Ideal S8448x11776 .bf16 := fun y =>
  if (y 1).val < 4096 then E m c (y 0) (y 1) else
    if h : (y 1).val - 4096 < 2048 then gates (G m c) (P m c) (Q m c) (D m c) (y 0) ⟨(y 1).val - 4096, h⟩ else E m c (y 0) (y 1)

/-- … the first branch's cotangent … -/
def grad1 : Vec Ideal S8448x1024 .bf16 := fun y => Ideal.logistic (G m c (y 0) ⟨(y 1).val, by have : (y 1).val < 1024 := (y 1).isLt; omega⟩) * D m c (y 0) (y 1)

/-- … and the second's. -/
def grad2 : Vec Ideal S8448x1024 .bf16 := fun y => Ideal.logistic (G m c (y 0) ⟨1024 + (y 1).val, by have : (y 1).val < 1024 := (y 1).isLt; omega⟩) * D m c (y 0) (y 1)

/-- What a point writes out. -/
theorem block0 (t : Fin cfg0.N) (i : Fin 256) (j : Fin 2048) :
    (outsAt0 m c t).1 (ix2 i j) = gates (G m c) (P m c) (Q m c) (D m c) (row t i) j := by
  unfold outsAt0
  dsimp only
  rw [out4_eq, gates_apply]
  unfold gates side
  simp only [blk0, blk1, blk2, blk3]

/-- What a point writes out for result 1, from 0. -/
theorem block1 (t : Fin cfg0.N) (i : Fin 256) (j : Fin 1024) : (outsAt0 m c t).2.1 (ix2 i j) = grad1 m c (ix2 (row t i) j) := by
  unfold outsAt0
  dsimp only
  rw [out5_eq, first_apply, blk0, blk3]
  rfl

/-- What a point writes out for result 2, from 0. -/
theorem block2 (t : Fin cfg0.N) (i : Fin 256) (j : Fin 1024) : (outsAt0 m c t).2.2 (ix2 i j) = grad2 m c (ix2 (row t i) j) := by
  unfold outsAt0
  dsimp only
  rw [out6_eq, second_apply, blk0, blk3]
  rfl

/-- Where a point's blocks lie in the arrays. -/
theorem at1 (t : Fin cfg0.N) (i : Fin 256) (j : Fin 1024) :
    grad1 m c ((win0_5.blk t).view.emb (ix2 i j)) = grad1 m c (ix2 (row t i) j) := by
  refine congrArg (grad1 m c) (funext fun a => Fin.ext ?_)
  fin_cases a
  · blk_simp [index5]; rfl
  · blk_simp [index5]; rfl

/-- Where a point's block of result 2, from 0, lies in its array. -/
theorem at2 (t : Fin cfg0.N) (i : Fin 256) (j : Fin 1024) :
    grad2 m c ((win0_6.blk t).view.emb (ix2 i j)) = grad2 m c (ix2 (row t i) j) := by
  refine congrArg (grad2 m c) (funext fun a => Fin.ext ?_)
  fin_cases a
  · blk_simp [index6]; rfl
  · blk_simp [index6]; rfl

/-- The array the kernel writes into starts as the argument. -/
theorem entry : V m c main_v0_0 = (m ((c : Thread nD τ).loc main_arg4)) := by
  entry_read
  rfl

/-- The array with the gates' cotangent in it, at a gate's column … -/
theorem grad0_gate (i : Fin 8448) (j : Fin 2048) :
    grad0 m c (ix2 i ⟨4096 + j.val, by omega⟩) = gates (G m c) (P m c) (Q m c) (D m c) i j := by
  have e : 4096 + j.val - 4096 = j.val := by omega
  show (if 4096 + j.val < 4096 then _ else if h : 4096 + j.val - 4096 < 2048 then
    gates (G m c) (P m c) (Q m c) (D m c) i ⟨4096 + j.val - 4096, h⟩ else _) = _
  rw [if_neg (by omega), dif_pos (by omega)]
  exact congrArg _ (Fin.ext e)

/-- … and at another. -/
theorem grad0_rest (y : S8448x11776.Idx) (h : (y 1).val / 2048 ≠ 2) : grad0 m c y = E m c (y 0) (y 1) := by
  unfold grad0
  by_cases h1 : (y 1).val < 4096
  · rw [if_pos h1]
  · rw [if_neg h1, dif_neg (by omega)]

/-- Where a point's block lies in the array. -/
theorem at0 (t : Fin cfg0.N) (y : ((cfg0.win 4).xblock (cfg0.grid.coords t)).Idx) (i : Fin 256) (j : Fin 2048)
    (h : (cfg0.win 4).xinj (cfg0.grid.coords t) y = ix2 i j) :
    (win0_4.blk t).view.emb y = ix2 (row t i) ⟨4096 + j.val, by omega⟩ := by
  have h0 : (y 0).val = i.val := congrArg (fun z => (z 0).val) h
  have h1 : (y 1).val = j.val := congrArg (fun z => (z 1).val) h
  refine funext fun a => Fin.ext ?_
  fin_cases a
  · blk_simp [index4]
    show t.val * 256 + (y 0).val = t.val * 256 + i.val
    rw [h0]
  · blk_simp [index4]
    show 2 * 2048 + (y 1).val = 4096 + j.val
    rw [h1]

/-- The kernel ends with the gates' cotangent in its columns of the array, … -/
theorem array0 : (dats m 0 c).arrAt 4 cfg0.N = grad0 m c := by
  refine (dats m 0 c).arrAt_eq_of_coversWhere_of_agree 4 _ (fun β => β (1 : Fin 2) = 2) (by decide +kernel) (fun t hf y => ?_) (fun j hj => ?_)
  · blk_simp
    rw [after0_4]
    obtain ⟨p, q, h⟩ : ∃ p q, (cfg0.win 4).xinj (cfg0.grid.coords t) y = ix2 p q := ⟨_, _, eq_ix2 _⟩
    rw [at0 t y p q h, h, block0, grad0_gate]
  · blk_simp [Pipeline.Window.cell_apply] at hj
    refine Eq.trans ?_ (grad0_rest m c j hj).symm
    rw [A_eq]
    show V m c main_v0_0 j = _
    rw [entry]
    exact congrArg (m (c.tc.loc main_arg4)) (eq_ix2 j)

/-- … with the first branch's cotangent … -/
theorem array1 : (dats m 0 c).arrAt 5 cfg0.N = grad1 m c := by
  refine (dats m 0 c).arrAt_eq_of_covers 5 _ (by decide +kernel) fun t hf y => ?_
  blk_simp
  rw [after0_5, eq_ix2 y]
  exact (block1 m c t _ _).trans (at1 m c t _ _).symm

/-- … and the second's. -/
theorem array2 : (dats m 0 c).arrAt 6 cfg0.N = grad2 m c := by
  refine (dats m 0 c).arrAt_eq_of_covers 6 _ (by decide +kernel) fun t hf y => ?_
  blk_simp
  rw [after0_6, eq_ix2 y]
  exact (block2 m c t _ _).trans (at2 m c t _ _).symm

end Cert.Kernel20Ideal.Gradient

namespace Cert.Product

open Idealize.ShloMosaic

/-- Two arrays of two axes are equal if they are at every pair of indices. -/
theorem ext2 {a b : ℕ} {α : Type} {f g : Shape.Idx ⟨2, ![a, b]⟩ → α} (h : ∀ i j, f (ix2 i j) = g (ix2 i j)) : f = g :=
  funext fun y => by rw [eq_ix2 y]; exact h _ _

end Cert.Product

namespace Cert.Reference20Ideal.Gradient

open Cert.Product
open Cert.Reference20Ideal Cert.Reference20Ideal.Gen Idealize.ShloMosaic

/-- The reference runs, its arguments end unchanged, and it has no semaphore. -/
theorem frame : Cert.quiescent_Reference20Ideal (hReference20Ideal := Cert.Reference20Ideal.Gen.facts) := fun m ρ _ =>
  (θ_run Cert.Reference20Ideal.defs _ _).mono (fun r h => ⟨fun c => (h c).2.2.2, sem_eq_zero_of_no_sems (by decide) r.2⟩)
    (Cert.Reference20Ideal.Value.run (F := Ideal) m ρ)

set_option maxHeartbeats 1000000 in
/-- The kernel and the reference end with the same three cotangents. -/
theorem values : Cert.algebraic_Kernel20Ideal_Reference20Ideal (hKernel20Ideal := Cert.Kernel20Ideal.Gen.facts)
    (hReference20Ideal := Cert.Reference20Ideal.Gen.facts) := by
  intro m ρ m' ρ' _ hagree
  refine ⟨fun c => Cert.Kernel20Ideal.Gradient.grad0 m c, fun c => Cert.Kernel20Ideal.Gradient.grad1 m c,
    fun c => Cert.Kernel20Ideal.Gradient.grad2 m c, ?_, ?_⟩
  · refine (θ_run Cert.Kernel20Ideal.defs _ _).mono (fun r h c => ?_) (Cert.Kernel20Ideal.Value.run_blocks (F := Ideal) m ρ)
    exact ⟨(h c).1.trans (Cert.Kernel20Ideal.Gradient.array0 m c), (h c).2.1.trans (Cert.Kernel20Ideal.Gradient.array1 m c),
      (h c).2.2.1.trans (Cert.Kernel20Ideal.Gradient.array2 m c), (h c).2.2.2⟩
  · refine (θ_run Cert.Reference20Ideal.defs _ _).mono (fun r h c => ?_) (Cert.Reference20Ideal.Value.run (F := Ideal) m' ρ')
    refine ⟨(h c).1.trans ?_, (h c).2.1.trans ?_, (h c).2.2.1.trans ?_, (h c).2.2.2⟩
    · rw [(hagree c).1, (hagree c).2.1, (hagree c).2.2.1, (hagree c).2.2.2.1, (hagree c).2.2.2.2]
      refine ext2 (a := 8448) (b := 11776) fun i j => ?_
      show _ = Cert.Kernel20Ideal.Gradient.grad0 m c (ix2 i j)
      pointwise [Cert.Kernel20Ideal.Gradient.grad0]
      by_cases h0 : j.val < 4096
      · rw [dif_pos h0, if_pos h0]
        rfl
      rw [dif_neg h0, if_neg h0]
      by_cases h1 : j.val - 4096 < 2048
      · rw [dif_pos h1, dif_pos h1]
        unfold Cert.Kernel20Ideal.Gradient.gates Cert.Kernel20Ideal.Gradient.side
        by_cases h2 : j.val - 4096 < 1024
        · rw [dif_pos h2, dif_pos h2, dif_pos h2]
          rfl
        · have e : (⟨4096 + (1024 + (j.val - 4096 - 1024)), by omega⟩ : Fin 11776) = ⟨4096 + (j.val - 4096), by omega⟩ :=
            Fin.ext (by simp only; omega)
          rw [dif_neg h2, dif_neg h2, dif_neg h2, e]
          rfl
      · have e : (⟨6144 + (j.val - 4096 - 2048), by omega⟩ : Fin 11776) = j := Fin.ext (by simp only; omega)
        rw [dif_neg h1, dif_neg h1, e]
        rfl
    · rw [(hagree c).1, (hagree c).2.2.2.1]
      refine ext2 (a := 8448) (b := 1024) fun i j => ?_
      show _ = Cert.Kernel20Ideal.Gradient.grad1 m c (ix2 i j)
      pointwise [Cert.Kernel20Ideal.Gradient.grad1]
      rfl
    · rw [(hagree c).1, (hagree c).2.2.2.1]
      refine ext2 (a := 8448) (b := 1024) fun i j => ?_
      show _ = Cert.Kernel20Ideal.Gradient.grad2 m c (ix2 i j)
      pointwise [Cert.Kernel20Ideal.Gradient.grad2]
      rfl

end Cert.Reference20Ideal.Gradient
-- ==== Proof.NormBack.lean ====
/- The gradient of the norm before the feed-forward layer: one point per block of rows, the two arrays they make
and the four parameter gradients they sum up. -/
module

public import proofs.«01_k».proof.Proof.Product
public import proofs.«01_k».proof.Proof.MergeBack
public import proofs.«01_k».proof.Defs
public import proofs.«01_k».proof.Proof.Gen.Kernel21Ideal.Value
public import proofs.«01_k».proof.Proof.Gen.Reference21Ideal.Run
public import Idealize.ShloMosaic.Lib.Pipeline.ValueKit.Acc

@[expose] public section

set_option maxRecDepth 16384

noncomputable section

namespace Cert.Kernel21Ideal.Gradient

open Cert.Product
open Cert.Kernel21Ideal Cert.Kernel21Ideal.Gen Idealize.ShloMosaic Idealize.ShloMosaic.TcCoe

/-- An array by its rows and columns. -/
def rows {n k : ℕ} (x : Shape.Idx ⟨2, ![n, k]⟩ → EReal) (i : Fin n) (j : Fin k) : EReal := x (ix2 i j)

/-- The residual sum: the rows `x` with the mixer's rows `mo`, gated by `g`. -/
def resid {n : ℕ} (x mo : Fin n → Fin 1024 → EReal) (g : Fin 1024 → EReal) (i : Fin n) (j : Fin 1024) : EReal :=
  x i j + g j * mo i j

/-- A row's mean square, with the norm's small constant. -/
def power {n : ℕ} (h : Fin n → Fin 1024 → EReal) (i : Fin n) : EReal :=
  Ideal.div (∑ k, h i k * h i k) (Ideal.ofBits .f32 0x44800000#32) + Ideal.ofBits .f32 0x358637BD#32

/-- The cotangent of the normed row, from the cotangent of the modulated and weighted one. -/
def scaled {n : ℕ} (df : Fin n → Fin 1024 → EReal) (s w : Fin 1024 → EReal) (i : Fin n) (j : Fin 1024) : EReal :=
  df i j * (1 + s j) * w j

/-- The cotangent of the norm's row `h`, from the normed row's cotangent `q` and the row's own cotangent `dh`. -/
def back {n : ℕ} (h q dh : Fin n → Fin 1024 → EReal) (i : Fin n) (j : Fin 1024) : EReal :=
  let u := Ideal.div ((∑ k, h i k * q i k) * (Ideal.ofBits .f32 0xBF000000#32 * Ideal.div (Ideal.rsqrt (power h i)) (power h i)))
    (Ideal.ofBits .f32 0x44800000#32)
  dh i j + q i j * Ideal.rsqrt (power h i) + h i j * u + u * h i j

/-- The cotangent of the residual sum, at a block's entry. -/
theorem pay18_apply (x0 x1 : Vec Ideal S256x1024 .f32) (x2 : Vec Ideal S8x1024 .f32) (x3 : Vec Ideal S1x1024 .f32)
    (x4 : Vec Ideal S8x1024 .f32) (x6 x7 : Vec Ideal S256x1024 .f32) (i : Fin 256) (j : Fin 1024) :
    k0_pay18 x3 x6 (k0_pay6 x0 x1 x2) (k0_pay8 x0 x1 x2) (k0_pay9 x0 x1 x2) (k0_pay11 x4) (k0_pay12 x7) (ix2 i j)
      = back (resid (rows (n := 256) (k := 1024) x0) (rows (n := 256) (k := 1024) x1) (rows (n := 8) (k := 1024) x2 0))
          (scaled (rows (n := 256) (k := 1024) x7) (rows (n := 8) (k := 1024) x4 0) (rows (n := 1) (k := 1024) x3 0))
          (rows (n := 256) (k := 1024) x6) i j := by
  pointwise [k0_pay20, k0_pay19, k0_pay18, k0_pay17, k0_pay16, k0_pay15, k0_pay14, k0_pay12, k0_pay11, k0_pay10, k0_pay9, k0_pay8, k0_pay7, k0_pay6, k0_pay5, resid, power, scaled, back, rows]
  simp only [Finset.univ_unique, Finset.sum_singleton]

/-- The mixer's rows' cotangent: the gate times that of the residual sum. -/
theorem pay21_apply (x0 x1 : Vec Ideal S256x1024 .f32) (x2 : Vec Ideal S8x1024 .f32) (x3 : Vec Ideal S1x1024 .f32)
    (x4 : Vec Ideal S8x1024 .f32) (x6 x7 : Vec Ideal S256x1024 .f32) (i : Fin 256) (j : Fin 1024) :
    k0_pay21 x3 x6 (k0_pay5 x2) (k0_pay6 x0 x1 x2) (k0_pay8 x0 x1 x2) (k0_pay9 x0 x1 x2) (k0_pay11 x4) (k0_pay12 x7) (ix2 i j)
      = rows (n := 8) (k := 1024) x2 0 j * k0_pay18 x3 x6 (k0_pay6 x0 x1 x2) (k0_pay8 x0 x1 x2) (k0_pay9 x0 x1 x2) (k0_pay11 x4) (k0_pay12 x7) (ix2 i j) := by
  pointwise [k0_pay21, k0_pay19, k0_pay5, rows]

/-- The gate's gradient, summed over the block's rows. -/
theorem pay20_apply (x0 x1 : Vec Ideal S256x1024 .f32) (x2 : Vec Ideal S8x1024 .f32) (x3 : Vec Ideal S1x1024 .f32)
    (x4 : Vec Ideal S8x1024 .f32) (x6 x7 : Vec Ideal S256x1024 .f32) (i : Fin 8) (j : Fin 1024) :
    k0_pay20 x1 x3 x6 (k0_pay6 x0 x1 x2) (k0_pay8 x0 x1 x2) (k0_pay9 x0 x1 x2) (k0_pay11 x4) (k0_pay12 x7) (ix2 i j)
      = if i.val < 1 then ∑ k : Fin 256, k0_pay18 x3 x6 (k0_pay6 x0 x1 x2) (k0_pay8 x0 x1 x2) (k0_pay9 x0 x1 x2) (k0_pay11 x4) (k0_pay12 x7) (ix2 k j) * rows (n := 256) (k := 1024) x1 k j else 0 := by
  pointwise [k0_pay20, k0_pay19, rows]
  split <;> rfl

/-- The weight's gradient, summed over the block's rows. -/
theorem pay17_apply (x0 x1 : Vec Ideal S256x1024 .f32) (x2 : Vec Ideal S8x1024 .f32) (x3 : Vec Ideal S1x1024 .f32)
    (x4 : Vec Ideal S8x1024 .f32) (x6 x7 : Vec Ideal S256x1024 .f32) (i : Fin 1) (j : Fin 1024) :
    k0_pay17 (k0_pay10 x0 x1 x2) (k0_pay11 x4) (k0_pay12 x7) (ix2 i j)
      = ∑ k : Fin 256, k0_pay6 x0 x1 x2 (ix2 k j) * k0_pay8 x0 x1 x2 (ix2 k 0) * (rows (n := 256) (k := 1024) x7 k j * (1 + rows (n := 8) (k := 1024) x4 0 j)) := by
  pointwise [k0_pay17, k0_pay15, k0_pay12, k0_pay11, k0_pay10, rows]

/-- The residual sum, at a block's entry. -/
theorem pay6_apply (x0 x1 : Vec Ideal S256x1024 .f32) (x2 : Vec Ideal S8x1024 .f32) (i : Fin 256) (j : Fin 1024) :
    k0_pay6 x0 x1 x2 (ix2 i j) = resid (rows (n := 256) (k := 1024) x0) (rows (n := 256) (k := 1024) x1) (rows (n := 8) (k := 1024) x2 0) i j := by
  pointwise [k0_pay6, k0_pay5, resid, rows]

/-- The reciprocal of the root of its mean square, at a block's row. -/
theorem pay8_apply (x0 x1 : Vec Ideal S256x1024 .f32) (x2 : Vec Ideal S8x1024 .f32) (i : Fin 256) :
    k0_pay8 x0 x1 x2 (ix2 i 0) = Ideal.rsqrt (power (resid (rows (n := 256) (k := 1024) x0) (rows (n := 256) (k := 1024) x1)
      (rows (n := 8) (k := 1024) x2 0)) i) := by
  pointwise [k0_pay8, k0_pay7, k0_pay6, k0_pay5, power, resid, rows]

/-- The modulating scale's gradient, summed over the block's rows. -/
theorem pay16_apply (x0 x1 : Vec Ideal S256x1024 .f32) (x2 : Vec Ideal S8x1024 .f32) (x3 : Vec Ideal S1x1024 .f32)
    (x4 : Vec Ideal S8x1024 .f32) (x6 x7 : Vec Ideal S256x1024 .f32) (i : Fin 8) (j : Fin 1024) :
    k0_pay16 (k0_pay14 x0 x1 x2 x3 x7) (ix2 i j)
      = if i.val < 1 then ∑ k : Fin 256, k0_pay6 x0 x1 x2 (ix2 k j) * k0_pay8 x0 x1 x2 (ix2 k 0) * rows (n := 1) (k := 1024) x3 0 j
          * rows (n := 256) (k := 1024) x7 k j else 0 := by
  pointwise [k0_pay16, k0_pay14, k0_pay12, k0_pay10, rows]
  split <;> rfl

/-- The modulating shift's gradient, summed over the block's rows. -/
theorem pay13_apply (x7 : Vec Ideal S256x1024 .f32) (i : Fin 8) (j : Fin 1024) :
    k0_pay13 x7 (ix2 i j) = if i.val < 1 then ∑ k : Fin 256, rows (n := 256) (k := 1024) x7 k j else 0 := by
  pointwise [k0_pay13, rows]
  split <;> rfl

variable (m : (ℓ : Loc nD τ sig) → Buf (Elt Ideal) ℓ) (c : Dev nD)

/-- What a point writes out: the residual's cotangent … -/
theorem out8 (t : Fin cfg0.N) : (outsAt0 m c t.val t.isLt).1 = k0_pay18 (iblk m c 3 t) (iblk m c 6 t)
    (k0_pay6 (iblk m c 0 t) (iblk m c 1 t) (iblk m c 2 t)) (k0_pay8 (iblk m c 0 t) (iblk m c 1 t) (iblk m c 2 t))
    (k0_pay9 (iblk m c 0 t) (iblk m c 1 t) (iblk m c 2 t)) (k0_pay11 (iblk m c 4 t)) (k0_pay12 (iblk m c 7 t)) := by
  have hN := lt_of_lt_of_eq t.isLt N_0
  by_cases h : t.val % 33 = 0
  · have h1 : ¬1 ≤ t.val := by omega
    rw [outsAt0_A m c t h h1 h h1 h h1 h h1]
    frame_out
  · have h1 : 1 ≤ t.val := by omega
    rw [outsAt0_B m c t h h1 h h1 h h1 h h1]
    frame_out

/-- … and the mixer's. -/
theorem out9 (t : Fin cfg0.N) : (outsAt0 m c t.val t.isLt).2.1 = k0_pay21 (iblk m c 3 t) (iblk m c 6 t) (k0_pay5 (iblk m c 2 t))
    (k0_pay6 (iblk m c 0 t) (iblk m c 1 t) (iblk m c 2 t)) (k0_pay8 (iblk m c 0 t) (iblk m c 1 t) (iblk m c 2 t))
    (k0_pay9 (iblk m c 0 t) (iblk m c 1 t) (iblk m c 2 t)) (k0_pay11 (iblk m c 4 t)) (k0_pay12 (iblk m c 7 t)) := by
  have hN := lt_of_lt_of_eq t.isLt N_0
  by_cases h : t.val % 33 = 0
  · have h1 : ¬1 ≤ t.val := by omega
    rw [outsAt0_A m c t h h1 h h1 h h1 h h1]
    frame_out
  · have h1 : 1 ≤ t.val := by omega
    rw [outsAt0_B m c t h h1 h h1 h h1 h h1]
    frame_out

/-- The gate's gradient's start, at the first block of rows … -/
theorem start10 (t : Fin cfg0.N) (h : t.val % 33 = 0) : (outsAt0 m c t.val t.isLt).2.2.1 = k0_pay20 (iblk m c 1 t) (iblk m c 3 t) (iblk m c 6 t) (k0_pay6 (iblk m c 0 t) (iblk m c 1 t) (iblk m c 2 t)) (k0_pay8 (iblk m c 0 t) (iblk m c 1 t) (iblk m c 2 t))
      (k0_pay9 (iblk m c 0 t) (iblk m c 1 t) (iblk m c 2 t)) (k0_pay11 (iblk m c 4 t)) (k0_pay12 (iblk m c 7 t)) := by
  have hN := lt_of_lt_of_eq t.isLt N_0
  have h1 : ¬1 ≤ t.val := by omega
  rw [outsAt0_A m c t h h1 h h1 h h1 h h1]
  frame_out

/-- … and its step, at the others. -/
theorem step10 (t : Fin cfg0.N) (h : ¬t.val % 33 = 0) (j : S8x1024.Idx) : (outsAt0 m c t.val t.isLt).2.2.1 j
    = (outsAt0 m c (t.val - 1) (Nat.lt_of_le_of_lt (Nat.sub_le _ _) t.isLt)).2.2.1 j + k0_pay20 (iblk m c 1 t) (iblk m c 3 t) (iblk m c 6 t) (k0_pay6 (iblk m c 0 t) (iblk m c 1 t) (iblk m c 2 t)) (k0_pay8 (iblk m c 0 t) (iblk m c 1 t) (iblk m c 2 t))
      (k0_pay9 (iblk m c 0 t) (iblk m c 1 t) (iblk m c 2 t)) (k0_pay11 (iblk m c 4 t)) (k0_pay12 (iblk m c 7 t)) j := by
  have hN := lt_of_lt_of_eq t.isLt N_0
  have h1 : 1 ≤ t.val := by omega
  rw [outsAt0_B m c t h h1 h h1 h h1 h h1]
  frame_out
  pointwise [k0_pay1]

/-- The weight's gradient's start, at the first block of rows … -/
theorem start11 (t : Fin cfg0.N) (h : t.val % 33 = 0) : (outsAt0 m c t.val t.isLt).2.2.2.1 = k0_pay17 (k0_pay10 (iblk m c 0 t) (iblk m c 1 t) (iblk m c 2 t)) (k0_pay11 (iblk m c 4 t)) (k0_pay12 (iblk m c 7 t)) := by
  have hN := lt_of_lt_of_eq t.isLt N_0
  have h1 : ¬1 ≤ t.val := by omega
  rw [outsAt0_A m c t h h1 h h1 h h1 h h1]
  frame_out

/-- … and its step, at the others. -/
theorem step11 (t : Fin cfg0.N) (h : ¬t.val % 33 = 0) (j : S1x1024.Idx) : (outsAt0 m c t.val t.isLt).2.2.2.1 j
    = (outsAt0 m c (t.val - 1) (Nat.lt_of_le_of_lt (Nat.sub_le _ _) t.isLt)).2.2.2.1 j + k0_pay17 (k0_pay10 (iblk m c 0 t) (iblk m c 1 t) (iblk m c 2 t)) (k0_pay11 (iblk m c 4 t)) (k0_pay12 (iblk m c 7 t)) j := by
  have hN := lt_of_lt_of_eq t.isLt N_0
  have h1 : 1 ≤ t.val := by omega
  rw [outsAt0_B m c t h h1 h h1 h h1 h h1]
  frame_out
  pointwise [k0_pay2]

/-- The scale's gradient's start, at the first block of rows … -/
theorem start12 (t : Fin cfg0.N) (h : t.val % 33 = 0) : (outsAt0 m c t.val t.isLt).2.2.2.2.1 = k0_pay16 (k0_pay14 (iblk m c 0 t) (iblk m c 1 t) (iblk m c 2 t) (iblk m c 3 t) (iblk m c 7 t)) := by
  have hN := lt_of_lt_of_eq t.isLt N_0
  have h1 : ¬1 ≤ t.val := by omega
  rw [outsAt0_A m c t h h1 h h1 h h1 h h1]
  frame_out

/-- … and its step, at the others. -/
theorem step12 (t : Fin cfg0.N) (h : ¬t.val % 33 = 0) (j : S8x1024.Idx) : (outsAt0 m c t.val t.isLt).2.2.2.2.1 j
    = (outsAt0 m c (t.val - 1) (Nat.lt_of_le_of_lt (Nat.sub_le _ _) t.isLt)).2.2.2.2.1 j + k0_pay16 (k0_pay14 (iblk m c 0 t) (iblk m c 1 t) (iblk m c 2 t) (iblk m c 3 t) (iblk m c 7 t)) j := by
  have hN := lt_of_lt_of_eq t.isLt N_0
  have h1 : 1 ≤ t.val := by omega
  rw [outsAt0_B m c t h h1 h h1 h h1 h h1]
  frame_out
  pointwise [k0_pay3]

/-- The shift's gradient's start, at the first block of rows … -/
theorem start13 (t : Fin cfg0.N) (h : t.val % 33 = 0) : (outsAt0 m c t.val t.isLt).2.2.2.2.2 = k0_pay13 (iblk m c 7 t) := by
  have hN := lt_of_lt_of_eq t.isLt N_0
  have h1 : ¬1 ≤ t.val := by omega
  rw [outsAt0_A m c t h h1 h h1 h h1 h h1]
  frame_out

/-- … and its step, at the others. -/
theorem step13 (t : Fin cfg0.N) (h : ¬t.val % 33 = 0) (j : S8x1024.Idx) : (outsAt0 m c t.val t.isLt).2.2.2.2.2 j
    = (outsAt0 m c (t.val - 1) (Nat.lt_of_le_of_lt (Nat.sub_le _ _) t.isLt)).2.2.2.2.2 j + k0_pay13 (iblk m c 7 t) j := by
  have hN := lt_of_lt_of_eq t.isLt N_0
  have h1 : 1 ≤ t.val := by omega
  rw [outsAt0_B m c t h h1 h h1 h h1 h h1]
  frame_out
  pointwise [k0_pay4]

/-- The block of window 0 that a point takes. -/
theorem index0 (t : Fin cfg0.N) : win0_0.index t = ![t.val, 0] :=
  (by decide +kernel : ∀ t : Fin grid0.N, win0_0.index t = ![t.val, 0]) t

/-- The block of window 1 that a point takes. -/
theorem index1 (t : Fin cfg0.N) : win0_1.index t = ![t.val, 0] :=
  (by decide +kernel : ∀ t : Fin grid0.N, win0_1.index t = ![t.val, 0]) t

/-- The block of window 2 that a point takes. -/
theorem index2 (t : Fin cfg0.N) : win0_2.index t = ![0, 2] :=
  (by decide +kernel : ∀ t : Fin grid0.N, win0_2.index t = ![0, 2]) t

/-- The block of window 3 that a point takes. -/
theorem index3 (t : Fin cfg0.N) : win0_3.index t = ![0, 0] :=
  (by decide +kernel : ∀ t : Fin grid0.N, win0_3.index t = ![0, 0]) t

/-- The block of window 4 that a point takes. -/
theorem index4 (t : Fin cfg0.N) : win0_4.index t = ![0, 4] :=
  (by decide +kernel : ∀ t : Fin grid0.N, win0_4.index t = ![0, 4]) t

/-- The block of window 6 that a point takes. -/
theorem index6 (t : Fin cfg0.N) : win0_6.index t = ![t.val, 0] :=
  (by decide +kernel : ∀ t : Fin grid0.N, win0_6.index t = ![t.val, 0]) t

/-- The block of window 7 that a point takes. -/
theorem index7 (t : Fin cfg0.N) : win0_7.index t = ![t.val, 0] :=
  (by decide +kernel : ∀ t : Fin grid0.N, win0_7.index t = ![t.val, 0]) t

/-- The block of window 8 that a point takes. -/
theorem index8 (t : Fin cfg0.N) : win0_8.index t = ![t.val, 0] :=
  (by decide +kernel : ∀ t : Fin grid0.N, win0_8.index t = ![t.val, 0]) t

/-- The block of window 9 that a point takes. -/
theorem index9 (t : Fin cfg0.N) : win0_9.index t = ![t.val, 0] :=
  (by decide +kernel : ∀ t : Fin grid0.N, win0_9.index t = ![t.val, 0]) t

/-- The block of window 10 that a point takes. -/
theorem index10 (t : Fin cfg0.N) : win0_10.index t = ![0, 0] :=
  (by decide +kernel : ∀ t : Fin grid0.N, win0_10.index t = ![0, 0]) t

/-- The block of window 11 that a point takes. -/
theorem index11 (t : Fin cfg0.N) : win0_11.index t = ![0, 0] :=
  (by decide +kernel : ∀ t : Fin grid0.N, win0_11.index t = ![0, 0]) t

/-- The block of window 12 that a point takes. -/
theorem index12 (t : Fin cfg0.N) : win0_12.index t = ![0, 0] :=
  (by decide +kernel : ∀ t : Fin grid0.N, win0_12.index t = ![0, 0]) t

/-- The block of window 13 that a point takes. -/
theorem index13 (t : Fin cfg0.N) : win0_13.index t = ![0, 0] :=
  (by decide +kernel : ∀ t : Fin grid0.N, win0_13.index t = ![0, 0]) t

/-- The rows before the mixer, … -/
def X (i : Fin 8448) (j : Fin 1024) : EReal := (m ((c : Thread nD τ).loc main_arg0) : Vec Ideal S8448x1024 .f32) (ix2 i j)

/-- … the mixer's, … -/
def M (i : Fin 8448) (j : Fin 1024) : EReal := (m ((c : Thread nD τ).loc main_arg1) : Vec Ideal S8448x1024 .f32) (ix2 i j)

/-- … the residual gate, … -/
def G (j : Fin 1024) : EReal := (m ((c : Thread nD τ).loc main_arg2) : Vec Ideal S8x6144 .f32) (ix2 0 ⟨2048 + j.val, by omega⟩)

/-- … the norm's weight … -/
def W (j : Fin 1024) : EReal := (m ((c : Thread nD τ).loc main_arg3) : Vec Ideal S1x1024 .f32) (ix2 0 j)

/-- … and its modulating scale, … -/
def S (j : Fin 1024) : EReal := (m ((c : Thread nD τ).loc main_arg2) : Vec Ideal S8x6144 .f32) (ix2 0 ⟨4096 + j.val, by omega⟩)

/-- … the residual sum's own cotangent, … -/
def R (i : Fin 8448) (j : Fin 1024) : EReal := (m ((c : Thread nD τ).loc main_arg4) : Vec Ideal S8448x1024 .f32) (ix2 i j)

/-- … and the cotangent of the modulated norm. -/
def D (i : Fin 8448) (j : Fin 1024) : EReal := (m ((c : Thread nD τ).loc main_arg5) : Vec Ideal S8448x1024 .f32) (ix2 i j)

/-- The block's row in the arrays. -/
def row (t : Fin cfg0.N) (i : Fin 256) : Fin 8448 := ⟨t.val * 256 + i.val, by
  have := lt_of_lt_of_eq t.isLt N_0; omega⟩

/-- What the block of window 0 holds. -/
theorem blk0 (t : Fin cfg0.N) : rows (n := 256) (k := 1024) (iblk m c 0 t) = fun i j => X m c (row t i) j := by
  funext i j
  unfold rows
  blk_simp [iblk]
  refine congrArg (m (c.tc.loc main_arg0)) (funext fun a => Fin.ext ?_)
  fin_cases a
  · blk_simp [index0]; rfl
  · blk_simp [index0]; rfl

/-- What the block of window 1 holds. -/
theorem blk1 (t : Fin cfg0.N) : rows (n := 256) (k := 1024) (iblk m c 1 t) = fun i j => M m c (row t i) j := by
  funext i j
  unfold rows
  blk_simp [iblk]
  refine congrArg (m (c.tc.loc main_arg1)) (funext fun a => Fin.ext ?_)
  fin_cases a
  · blk_simp [index1]; rfl
  · blk_simp [index1]; rfl

/-- What the block of window 6 holds. -/
theorem blk6 (t : Fin cfg0.N) : rows (n := 256) (k := 1024) (iblk m c 6 t) = fun i j => R m c (row t i) j := by
  funext i j
  unfold rows
  blk_simp [iblk]
  refine congrArg (m (c.tc.loc main_arg4)) (funext fun a => Fin.ext ?_)
  fin_cases a
  · blk_simp [index6]; rfl
  · blk_simp [index6]; rfl

/-- What the block of window 7 holds. -/
theorem blk7 (t : Fin cfg0.N) : rows (n := 256) (k := 1024) (iblk m c 7 t) = fun i j => D m c (row t i) j := by
  funext i j
  unfold rows
  blk_simp [iblk]
  refine congrArg (m (c.tc.loc main_arg5)) (funext fun a => Fin.ext ?_)
  fin_cases a
  · blk_simp [index7]; rfl
  · blk_simp [index7]; rfl

/-- What the block of window 2 holds. -/
theorem blk2 (t : Fin cfg0.N) : rows (n := 8) (k := 1024) (iblk m c 2 t) 0 = G m c := by
  funext j
  unfold rows
  blk_simp [iblk]
  refine congrArg (m (c.tc.loc main_arg2)) (funext fun a => Fin.ext ?_)
  fin_cases a
  · blk_simp [index2]; rfl
  · blk_simp [index2]; rfl

/-- What the block of window 3 holds. -/
theorem blk3 (t : Fin cfg0.N) : rows (n := 1) (k := 1024) (iblk m c 3 t) 0 = W m c := by
  funext j
  unfold rows
  blk_simp [iblk]
  refine congrArg (m (c.tc.loc main_arg3)) (funext fun a => Fin.ext ?_)
  fin_cases a
  · blk_simp [index3]
  · blk_simp [index3]

/-- What the block of window 4 holds. -/
theorem blk4 (t : Fin cfg0.N) : rows (n := 8) (k := 1024) (iblk m c 4 t) 0 = S m c := by
  funext j
  unfold rows
  blk_simp [iblk]
  refine congrArg (m (c.tc.loc main_arg2)) (funext fun a => Fin.ext ?_)
  fin_cases a
  · blk_simp [index4]; rfl
  · blk_simp [index4]; rfl

/-- The residual sum. -/
def H : Fin 8448 → Fin 1024 → EReal := resid (X m c) (M m c) (G m c)

/-- Its cotangent. -/
def dH : Fin 8448 → Fin 1024 → EReal := back (H m c) (scaled (D m c) (S m c) (W m c)) (R m c)

/-- The gradients: of the rows before the mixer, … -/
def grad0 : Vec Ideal S8448x1024 .f32 := fun y => dH m c (y 0) (y 1)

/-- … of the mixer's rows, … -/
def grad1 : Vec Ideal S8448x1024 .bf16 := fun y => G m c (y 1) * dH m c (y 0) (y 1)

/-- … of the residual gate, … -/
def grad2 : Vec Ideal S8x1024 .f32 := fun y => if (y 0).val < 1 then ∑ i, dH m c i (y 1) * M m c i (y 1) else 0

/-- … of the norm's weight, … -/
def grad3 : Vec Ideal S1x1024 .f32 := fun y =>
  ∑ i, H m c i (y 1) * Ideal.rsqrt (power (H m c) i) * (D m c i (y 1) * (1 + S m c (y 1)))

/-- … of the modulating scale … -/
def grad4 : Vec Ideal S8x1024 .f32 := fun y => if (y 0).val < 1 then
  ∑ i, H m c i (y 1) * Ideal.rsqrt (power (H m c) i) * W m c (y 1) * D m c i (y 1) else 0

/-- … and of the shift. -/
def grad5 : Vec Ideal S8x1024 .f32 := fun y => if (y 0).val < 1 then ∑ i, D m c i (y 1) else 0

/-- The residual sum at a block's rows, … -/
theorem resid_block (t : Fin cfg0.N) : resid (fun i j => X m c (row t i) j) (fun i j => M m c (row t i) j) (G m c)
    = fun i j => H m c (row t i) j := rfl

/-- … and its cotangent. -/
theorem pay18_block (t : Fin cfg0.N) (i : Fin 256) (j : Fin 1024) : k0_pay18 (iblk m c 3 t) (iblk m c 6 t) (k0_pay6 (iblk m c 0 t) (iblk m c 1 t) (iblk m c 2 t)) (k0_pay8 (iblk m c 0 t) (iblk m c 1 t) (iblk m c 2 t))
      (k0_pay9 (iblk m c 0 t) (iblk m c 1 t) (iblk m c 2 t)) (k0_pay11 (iblk m c 4 t)) (k0_pay12 (iblk m c 7 t)) (ix2 i j)
      = dH m c (row t i) j := by
  rw [pay18_apply, blk0, blk1, blk2, blk3, blk4, blk6, blk7]
  rfl

/-- What a point writes out. -/
theorem block0 (t : Fin cfg0.N) (i : Fin 256) (j : Fin 1024) :
    (outsAt0 m c t.val t.isLt).1 (ix2 i j) = grad0 m c (ix2 (row t i) j) := by
  rw [out8, pay18_block]
  rfl

/-- What a point writes out for result 1, from 0. -/
theorem block1 (t : Fin cfg0.N) (i : Fin 256) (j : Fin 1024) :
    (outsAt0 m c t.val t.isLt).2.1 (ix2 i j) = grad1 m c (ix2 (row t i) j) := by
  rw [out9, pay21_apply, pay18_block, blk2]
  rfl

/-- Where a point's blocks lie in the arrays. -/
theorem at0 (t : Fin cfg0.N) (i : Fin 256) (j : Fin 1024) :
    grad0 m c ((win0_8.blk t).view.emb (ix2 i j)) = grad0 m c (ix2 (row t i) j) := by
  refine congrArg (grad0 m c) (funext fun a => Fin.ext ?_)
  fin_cases a
  · blk_simp [index8]; rfl
  · blk_simp [index8]; rfl

/-- Where a point's block of result 1, from 0, lies in its array. -/
theorem at1 (t : Fin cfg0.N) (i : Fin 256) (j : Fin 1024) :
    grad1 m c ((win0_9.blk t).view.emb (ix2 i j)) = grad1 m c (ix2 (row t i) j) := by
  refine congrArg (grad1 m c) (funext fun a => Fin.ext ?_)
  fin_cases a
  · blk_simp [index9]; rfl
  · blk_simp [index9]; rfl

/-- The kernel ends with the gradient of the rows before the mixer, … -/
theorem array0 : (dats m 0 c).arrAt 8 cfg0.N = grad0 m c := by
  refine (dats m 0 c).arrAt_eq_of_covers 8 _ (by decide +kernel) fun t hf y => ?_
  blk_simp
  rw [after0_8, eq_ix2 y]
  exact (block0 m c t _ _).trans (at0 m c t _ _).symm

/-- … of the mixer's rows, … -/
theorem array1 : (dats m 0 c).arrAt 9 cfg0.N = grad1 m c := by
  refine (dats m 0 c).arrAt_eq_of_covers 9 _ (by decide +kernel) fun t hf y => ?_
  blk_simp
  rw [after0_9, eq_ix2 y]
  exact (block1 m c t _ _).trans (at1 m c t _ _).symm

/-- A sum over the blocks of rows is one over the rows. -/
theorem sum_rows (φ : Fin 8448 → EReal) : ∑ t : Fin cfg0.N, ∑ k : Fin 256, φ (row t k) = ∑ i, φ i :=
  Fin.sum_mul_add_fin cfg0.N 256 φ (by have : cfg0.N = 33 := N_0; omega)

/-- … with the rows after the first left at zero. -/
theorem sum_top (φ : Fin 8448 → EReal) (p : Prop) [Decidable p] :
    ∑ t : Fin cfg0.N, (if p then ∑ k : Fin 256, φ (row t k) else 0) = if p then ∑ i, φ i else 0 := by
  by_cases h : p
  · simp only [if_pos h]
    exact sum_rows φ
  · simp only [if_neg h, Finset.sum_const_zero]

/-- A block of rows' part of the gate's gradient, … -/
theorem part10 (t : Fin cfg0.N) (i : Fin 8) (j : Fin 1024) : k0_pay20 (iblk m c 1 t) (iblk m c 3 t) (iblk m c 6 t) (k0_pay6 (iblk m c 0 t) (iblk m c 1 t) (iblk m c 2 t)) (k0_pay8 (iblk m c 0 t) (iblk m c 1 t) (iblk m c 2 t))
      (k0_pay9 (iblk m c 0 t) (iblk m c 1 t) (iblk m c 2 t)) (k0_pay11 (iblk m c 4 t)) (k0_pay12 (iblk m c 7 t)) (ix2 i j)
      = if i.val < 1 then ∑ k : Fin 256, dH m c (row t k) j * M m c (row t k) j else 0 := by
  rw [pay20_apply, blk1]
  simp only [pay18_block]

/-- … the parts' sum … -/
theorem total10 (t : Fin cfg0.N) (h : t.val % 33 = 32) (i : Fin 8) (j : Fin 1024) :
    (outsAt0 m c t.val t.isLt).2.2.1 (ix2 i j) = grad2 m c (ix2 i j) := by
  have hN := lt_of_lt_of_eq t.isLt N_0
  refine (Pipeline.eq_sum_fin_of_reset_step_apply_last (fun n h => ((outsAt0 m c n h).2.2.1 : S8x1024.Idx → EReal)) 33 (fun _ => 0)
    (fun t => k0_pay20 (iblk m c 1 t) (iblk m c 3 t) (iblk m c 6 t) (k0_pay6 (iblk m c 0 t) (iblk m c 1 t) (iblk m c 2 t)) (k0_pay8 (iblk m c 0 t) (iblk m c 1 t) (iblk m c 2 t))
      (k0_pay9 (iblk m c 0 t) (iblk m c 1 t) (iblk m c 2 t)) (k0_pay11 (iblk m c 4 t)) (k0_pay12 (iblk m c 7 t)))
    (fun t h j => by rw [start10 m c t h, zero_add]) (fun t h j => step10 m c t h j) (le_of_eq N_0) t (by have : cfg0.N = 33 := N_0; omega) (ix2 i j)).trans ?_
  rw [zero_add]
  simp only [part10]
  exact sum_top (fun i => dH m c i j * M m c i j) _

/-- … and the array. -/
theorem array10 : (dats m 0 c).arrAt 10 cfg0.N = grad2 m c := by
  refine (dats m 0 c).arrAt_eq_of_covers 10 _ (by decide +kernel) fun t hf y => ?_
  blk_simp
  rw [after0_10]
  rw [eq_ix2 y]
  refine (total10 m c t ((flush0_10 t).mp hf) _ _).trans (congrArg (grad2 m c) (funext fun a => Fin.ext ?_))
  fin_cases a
  · blk_simp [index10]
  · blk_simp [index10]

/-- A block of rows' part of the weight's gradient, … -/
theorem part11 (t : Fin cfg0.N) (i : Fin 1) (j : Fin 1024) : k0_pay17 (k0_pay10 (iblk m c 0 t) (iblk m c 1 t) (iblk m c 2 t)) (k0_pay11 (iblk m c 4 t)) (k0_pay12 (iblk m c 7 t)) (ix2 i j)
      = ∑ k : Fin 256, H m c (row t k) j * Ideal.rsqrt (power (H m c) (row t k)) * (D m c (row t k) j * (1 + S m c j)) := by
  rw [pay17_apply _ _ _ (iblk m c 3 t) _ (iblk m c 6 t)]
  simp only [pay6_apply, pay8_apply, blk0, blk1, blk2, blk4, blk7]
  rfl

/-- … the parts' sum … -/
theorem total11 (t : Fin cfg0.N) (h : t.val % 33 = 32) (i : Fin 1) (j : Fin 1024) :
    (outsAt0 m c t.val t.isLt).2.2.2.1 (ix2 i j) = grad3 m c (ix2 i j) := by
  have hN := lt_of_lt_of_eq t.isLt N_0
  refine (Pipeline.eq_sum_fin_of_reset_step_apply_last (fun n h => ((outsAt0 m c n h).2.2.2.1 : S1x1024.Idx → EReal)) 33 (fun _ => 0)
    (fun t => k0_pay17 (k0_pay10 (iblk m c 0 t) (iblk m c 1 t) (iblk m c 2 t)) (k0_pay11 (iblk m c 4 t)) (k0_pay12 (iblk m c 7 t)))
    (fun t h j => by rw [start11 m c t h, zero_add]) (fun t h j => step11 m c t h j) (le_of_eq N_0) t (by have : cfg0.N = 33 := N_0; omega) (ix2 i j)).trans ?_
  rw [zero_add]
  simp only [part11]
  exact sum_rows fun i => H m c i j * Ideal.rsqrt (power (H m c) i) * (D m c i j * (1 + S m c j))

/-- … and the array. -/
theorem array11 : (dats m 0 c).arrAt 11 cfg0.N = grad3 m c := by
  refine (dats m 0 c).arrAt_eq_of_covers 11 _ (by decide +kernel) fun t hf y => ?_
  blk_simp
  rw [after0_11]
  rw [eq_ix2 y]
  refine (total11 m c t ((flush0_11 t).mp hf) _ _).trans (congrArg (grad3 m c) (funext fun a => Fin.ext ?_))
  fin_cases a
  · blk_simp [index11]
  · blk_simp [index11]

/-- A block of rows' part of the scale's gradient, … -/
theorem part12 (t : Fin cfg0.N) (i : Fin 8) (j : Fin 1024) : k0_pay16 (k0_pay14 (iblk m c 0 t) (iblk m c 1 t) (iblk m c 2 t) (iblk m c 3 t) (iblk m c 7 t)) (ix2 i j)
      = if i.val < 1 then ∑ k : Fin 256, H m c (row t k) j * Ideal.rsqrt (power (H m c) (row t k)) * W m c j * D m c (row t k) j else 0 := by
  rw [pay16_apply _ _ _ _ (iblk m c 4 t) (iblk m c 6 t)]
  simp only [pay6_apply, pay8_apply, blk0, blk1, blk2, blk3, blk7]
  rfl

/-- … the parts' sum … -/
theorem total12 (t : Fin cfg0.N) (h : t.val % 33 = 32) (i : Fin 8) (j : Fin 1024) :
    (outsAt0 m c t.val t.isLt).2.2.2.2.1 (ix2 i j) = grad4 m c (ix2 i j) := by
  have hN := lt_of_lt_of_eq t.isLt N_0
  refine (Pipeline.eq_sum_fin_of_reset_step_apply_last (fun n h => ((outsAt0 m c n h).2.2.2.2.1 : S8x1024.Idx → EReal)) 33 (fun _ => 0)
    (fun t => k0_pay16 (k0_pay14 (iblk m c 0 t) (iblk m c 1 t) (iblk m c 2 t) (iblk m c 3 t) (iblk m c 7 t)))
    (fun t h j => by rw [start12 m c t h, zero_add]) (fun t h j => step12 m c t h j) (le_of_eq N_0) t (by have : cfg0.N = 33 := N_0; omega) (ix2 i j)).trans ?_
  rw [zero_add]
  simp only [part12]
  exact sum_top (fun i => H m c i j * Ideal.rsqrt (power (H m c) i) * W m c j * D m c i j) _

/-- … and the array. -/
theorem array12 : (dats m 0 c).arrAt 12 cfg0.N = grad4 m c := by
  refine (dats m 0 c).arrAt_eq_of_covers 12 _ (by decide +kernel) fun t hf y => ?_
  blk_simp
  rw [after0_12]
  rw [eq_ix2 y]
  refine (total12 m c t ((flush0_12 t).mp hf) _ _).trans (congrArg (grad4 m c) (funext fun a => Fin.ext ?_))
  fin_cases a
  · blk_simp [index12]
  · blk_simp [index12]

/-- A block of rows' part of the shift's gradient, … -/
theorem part13 (t : Fin cfg0.N) (i : Fin 8) (j : Fin 1024) : k0_pay13 (iblk m c 7 t) (ix2 i j)
      = if i.val < 1 then ∑ k : Fin 256, D m c (row t k) j else 0 := by
  rw [pay13_apply, blk7]

/-- … the parts' sum … -/
theorem total13 (t : Fin cfg0.N) (h : t.val % 33 = 32) (i : Fin 8) (j : Fin 1024) :
    (outsAt0 m c t.val t.isLt).2.2.2.2.2 (ix2 i j) = grad5 m c (ix2 i j) := by
  have hN := lt_of_lt_of_eq t.isLt N_0
  refine (Pipeline.eq_sum_fin_of_reset_step_apply_last (fun n h => ((outsAt0 m c n h).2.2.2.2.2 : S8x1024.Idx → EReal)) 33 (fun _ => 0)
    (fun t => k0_pay13 (iblk m c 7 t))
    (fun t h j => by rw [start13 m c t h, zero_add]) (fun t h j => step13 m c t h j) (le_of_eq N_0) t (by have : cfg0.N = 33 := N_0; omega) (ix2 i j)).trans ?_
  rw [zero_add]
  simp only [part13]
  exact sum_top (fun i => D m c i j) _

/-- … and the array. -/
theorem array13 : (dats m 0 c).arrAt 13 cfg0.N = grad5 m c := by
  refine (dats m 0 c).arrAt_eq_of_covers 13 _ (by decide +kernel) fun t hf y => ?_
  blk_simp
  rw [after0_13]
  rw [eq_ix2 y]
  refine (total13 m c t ((flush0_13 t).mp hf) _ _).trans (congrArg (grad5 m c) (funext fun a => Fin.ext ?_))
  fin_cases a
  · blk_simp [index13]
  · blk_simp [index13]

end Cert.Kernel21Ideal.Gradient

namespace Cert.Reference21Ideal.Gradient

open Cert.Product
open Cert.Kernel21Ideal.Gradient (resid power scaled back)
open Cert.Reference21Ideal Cert.Reference21Ideal.Gen Idealize.ShloMosaic Idealize.ShloMosaic.TcCoe

/-- The reference runs, its arguments end unchanged, and it has no semaphore. -/
theorem frame : Cert.quiescent_Reference21Ideal (hReference21Ideal := Cert.Reference21Ideal.Gen.facts) := fun m ρ _ =>
  (θ_run Cert.Reference21Ideal.defs _ _).mono (fun r h => ⟨fun c => (h c).2.2.2.2.2.2, sem_eq_zero_of_no_sems (by decide) r.2⟩)
    (Cert.Reference21Ideal.Value.run (F := Ideal) m ρ)

section
variable (m : (ℓ : Loc nD τ sig) → Buf (Elt Ideal) ℓ) (c : Dev nD)

/-- The reference's residual gate. -/
def gate : Fin 1024 → EReal :=
  fun j => (m ((c : Thread nD τ).loc main_arg2) : Vec Ideal S8x6144 .f32) (ix2 0 ⟨2048 + j.val, by omega⟩)

/-- The reference's residual sum … -/
def H : Fin 8448 → Fin 1024 → EReal :=
  resid (fun i j => (m ((c : Thread nD τ).loc main_arg0) : Vec Ideal S8448x1024 .f32) (ix2 i j)) (fun i j => (m ((c : Thread nD τ).loc main_arg1) : Vec Ideal S8448x1024 .f32) (ix2 i j))
    fun j => (m ((c : Thread nD τ).loc main_arg2) : Vec Ideal S8x6144 .f32) (ix2 0 ⟨2048 + j.val, by omega⟩)

/-- … and its cotangent. -/
def dH : Fin 8448 → Fin 1024 → EReal :=
  back (H m c) (scaled (fun i j => (m ((c : Thread nD τ).loc main_arg5) : Vec Ideal S8448x1024 .f32) (ix2 i j))
    (fun j => (m ((c : Thread nD τ).loc main_arg2) : Vec Ideal S8x6144 .f32) (ix2 0 ⟨4096 + j.val, by omega⟩)) fun j => (m ((c : Thread nD τ).loc main_arg3) : Vec Ideal S1x1024 .f32) (ix2 0 j))
    fun i j => (m ((c : Thread nD τ).loc main_arg4) : Vec Ideal S8448x1024 .f32) (ix2 i j)

set_option maxHeartbeats 4000000 in
/-- The reference's results, at an index: the gradient of the rows before the mixer, … -/
theorem first (i : Fin 8448) (j : Fin 1024) : (Value.res_main_v72 m c : Vec Ideal S8448x1024 .f32) (ix2 i j) = dH m c i j := by
  unfold Value.res_main_v72 dH back power H resid scaled
  pointwise []
  simp only [Finset.univ_unique, Finset.sum_singleton]

set_option maxHeartbeats 4000000 in
/-- … of the mixer's rows, … -/
theorem second (i : Fin 8448) (j : Fin 1024) : (Value.res_main_v83 m c : Vec Ideal S8448x1024 .bf16) (ix2 i j)
    = gate m c j * dH m c i j := by
  unfold Value.res_main_v83 gate dH back power H resid scaled
  pointwise []
  simp only [Finset.univ_unique, Finset.sum_singleton]

set_option maxHeartbeats 4000000 in
/-- … and of the residual gate. -/
theorem third (i : Fin 8) (j : Fin 1024) : (Value.res_main_v82 m c : Vec Ideal S8x1024 .f32) (ix2 i j)
    = if i.val < 1 then ∑ k, dH m c k j * (m ((c : Thread nD τ).loc main_arg1) : Vec Ideal S8448x1024 .f32) (ix2 k j) else 0 := by
  unfold Value.res_main_v82 dH back power H resid scaled
  pointwise []
  simp only [Finset.univ_unique, Finset.sum_singleton]
  split <;> rfl

end

set_option maxHeartbeats 4000000 in
/-- The kernel and the reference end with the same six gradients. -/
theorem values : Cert.algebraic_Kernel21Ideal_Reference21Ideal (hKernel21Ideal := Cert.Kernel21Ideal.Gen.facts)
    (hReference21Ideal := Cert.Reference21Ideal.Gen.facts) := by
  intro m ρ m' ρ' _ hagree
  refine ⟨fun c => Cert.Kernel21Ideal.Gradient.grad0 m c, fun c => Cert.Kernel21Ideal.Gradient.grad1 m c,
    fun c => Cert.Kernel21Ideal.Gradient.grad2 m c, fun c => Cert.Kernel21Ideal.Gradient.grad3 m c,
    fun c => Cert.Kernel21Ideal.Gradient.grad4 m c, fun c => Cert.Kernel21Ideal.Gradient.grad5 m c, ?_, ?_⟩
  · refine (θ_run Cert.Kernel21Ideal.defs _ _).mono (fun r h c => ?_) (Cert.Kernel21Ideal.Value.run_blocks (F := Ideal) m ρ)
    obtain ⟨h0, h1, h2, h3, h4, h5, h6⟩ := h c
    exact ⟨h0.trans (Cert.Kernel21Ideal.Gradient.array0 m c), h1.trans (Cert.Kernel21Ideal.Gradient.array1 m c),
      h2.trans (Cert.Kernel21Ideal.Gradient.array10 m c), h3.trans (Cert.Kernel21Ideal.Gradient.array11 m c),
      h4.trans (Cert.Kernel21Ideal.Gradient.array12 m c), h5.trans (Cert.Kernel21Ideal.Gradient.array13 m c), h6⟩
  · refine (θ_run Cert.Reference21Ideal.defs _ _).mono (fun r h c => ?_) (Cert.Reference21Ideal.Value.run (F := Ideal) m' ρ')
    obtain ⟨h0, h1, h2, h3, h4, h5, h6⟩ := h c
    obtain ⟨e0, e1, e2, e3, e4, e5⟩ := hagree c
    refine ⟨h0.trans ?_, h1.trans ?_, h2.trans ?_, h3.trans ?_, h4.trans ?_, h5.trans ?_, h6⟩ <;> clear h0 h1 h2 h3 h4 h5 h6 h hagree
    · refine ext2 (a := 8448) (b := 1024) fun i j => (first m' c i j).trans ?_
      unfold dH H
      rw [e0, e1, e2, e3, e4, e5]
      rfl
    · refine ext2 (a := 8448) (b := 1024) fun i j => (second m' c i j).trans ?_
      unfold gate dH H
      rw [e0, e1, e2, e3, e4, e5]
      rfl
    · refine ext2 (a := 8) (b := 1024) fun i j => (third m' c i j).trans ?_
      unfold dH H
      rw [e0, e1, e2, e3, e4, e5]
      rfl
    · rw [e0, e1, e2, e5]
      refine ext2 (a := 1) (b := 1024) fun i j => ?_
      show _ = Cert.Kernel21Ideal.Gradient.grad3 m c (ix2 i j)
      pointwise [Cert.Kernel21Ideal.Gradient.grad3]
      simp only [Finset.univ_unique, Finset.sum_singleton]
      rfl
    · rw [e0, e1, e2, e3, e5]
      refine ext2 (a := 8) (b := 1024) fun i j => ?_
      show _ = Cert.Kernel21Ideal.Gradient.grad4 m c (ix2 i j)
      pointwise [Cert.Kernel21Ideal.Gradient.grad4]
      simp only [Finset.univ_unique, Finset.sum_singleton]
      split <;> rfl
    · rw [e5]
      refine ext2 (a := 8) (b := 1024) fun i j => ?_
      show _ = Cert.Kernel21Ideal.Gradient.grad5 m c (ix2 i j)
      pointwise [Cert.Kernel21Ideal.Gradient.grad5]
      simp only [Finset.univ_unique, Finset.sum_singleton]
      split <;> rfl

end Cert.Reference21Ideal.Gradient
-- ==== Proof.GatedNormBack.lean ====
/- The gradient of the gated norm of the gated DeltaNet's heads: one point per block of rows, the two arrays they make
and the weight's gradient that they sum up. -/
module

public import proofs.«01_k».proof.Proof.Product
public import proofs.«01_k».proof.Proof.MergeBack
public import proofs.«01_k».proof.Defs
public import proofs.«01_k».proof.Proof.Gen.Kernel22Ideal.Value
public import proofs.«01_k».proof.Proof.Gen.Reference22Ideal.Run
public import Idealize.ShloMosaic.Lib.Pipeline.ValueKit.Partial
public import Idealize.ShloMosaic.Lib.Pipeline.ValueKit.Acc

@[expose] public section

set_option maxRecDepth 16384

noncomputable section

namespace Cert.Kernel22Ideal.Gradient

open Cert.Product
open Cert.Kernel22Ideal Cert.Kernel22Ideal.Gen Idealize.ShloMosaic Idealize.ShloMosaic.TcCoe

/-- The column of a head's lane. -/
def col (h : Fin 8) (l : Fin 128) : Fin 1024 := ⟨h.val * 128 + l.val, by omega⟩

/-- A head's mean square in a row, with the norm's small constant. -/
def power {n : ℕ} (o : Fin n → Fin 1024 → EReal) (i : Fin n) (h : Fin 8) : EReal :=
  Ideal.div (∑ k, o i (col h k) * o i (col h k)) (Ideal.ofBits .f32 0x43000000#32) + Ideal.ofBits .f32 0x358637BD#32

/-- The cotangent of the weighted norm: that of the gated one, `d`, times the gate. -/
def gated {n : ℕ} (z d : Fin n → Fin 1024 → EReal) (i : Fin n) (j : Fin 1024) : EReal :=
  d i j * (z i j * Ideal.logistic (z i j))

/-- The cotangent of a head's row, from that of its weighted norm. -/
def back {n : ℕ} (o q : Fin n → Fin 1024 → EReal) (w : Fin 128 → EReal) (i : Fin n) (h : Fin 8) (l : Fin 128) : EReal :=
  let u := Ideal.div ((∑ k, o i (col h k) * (q i (col h k) * w k))
    * (Ideal.ofBits .f32 0xBF000000#32 * Ideal.div (Ideal.rsqrt (power o i h)) (power o i h))) (Ideal.ofBits .f32 0x43000000#32)
  q i (col h l) * w l * Ideal.rsqrt (power o i h) + o i (col h l) * u + u * o i (col h l)

/-- The cotangent of the gate's row. -/
def gateBack {n : ℕ} (o z d : Fin n → Fin 1024 → EReal) (w : Fin 128 → EReal) (i : Fin n) (h : Fin 8) (l : Fin 128) : EReal :=
  let y := o i (col h l) * Ideal.rsqrt (power o i h) * w l * d i (col h l)
  y * Ideal.logistic (z i (col h l)) + z i (col h l) * y * (Ideal.logistic (z i (col h l)) * (1 - Ideal.logistic (z i (col h l))))

section
variable (x0 x1 x2 : Vec Ideal S128x1024 .f32) (x3 : Vec Ideal S1x128 .f32) (x4 : Vec Ideal S128x1024 .f32)

/-- What a point computes: the heads' rows' cotangent, … -/
def out0 : Vec Ideal S128x1024 .f32 := k0_pay1 (k0_pay5 x0 x1) (k0_pay7 x0 x1) (k0_pay8 x0 x1) (k0_pay78 x3 (k0_pay11 x0 x1) (k0_pay13 x0 x1) (k0_pay14 x0 x1) (k0_pay17 x0 x1) (k0_pay20 (k0_pay18 x0 x1)) (k0_pay21 (k0_pay18 x0 x1)) (k0_pay57 x2 x4 (k0_pay53 x2)) (k0_pay74 x3 (k0_pay24 (k0_pay4 x0 x1)) (k0_pay26 (k0_pay4 x0 x1)) (k0_pay27 (k0_pay4 x0 x1)) (k0_pay30 (k0_pay4 x0 x1)) (k0_pay33 (k0_pay4 x0 x1)) (k0_pay59 x2 x4 (k0_pay53 x2)) (k0_pay69 x3 (k0_pay36 (k0_pay4 x0 x1)) (k0_pay39 (k0_pay37 (k0_pay4 x0 x1))) (k0_pay40 (k0_pay37 (k0_pay4 x0 x1))) (k0_pay42 (k0_pay4 x0 x1)) (k0_pay61 x2 x4 (k0_pay53 x2)) (k0_pay64 x2 x3 x4 (k0_pay47 (k0_pay4 x0 x1)) (k0_pay49 (k0_pay4 x0 x1)) (k0_pay50 (k0_pay4 x0 x1)) (k0_pay53 x2)) (k0_pay67 x2 x3 x4 (k0_pay44 (k0_pay4 x0 x1)) (k0_pay53 x2)) (k0_pay68 x2 x3 x4 (k0_pay42 (k0_pay4 x0 x1)) (k0_pay45 (k0_pay4 x0 x1)) (k0_pay53 x2))) (k0_pay71 x3 (k0_pay60 x2 x4 (k0_pay53 x2))) (k0_pay72 x3 (k0_pay30 (k0_pay4 x0 x1)) (k0_pay60 x2 x4 (k0_pay53 x2))) (k0_pay73 (k0_pay32 (k0_pay4 x0 x1)))) (k0_pay76 x3 (k0_pay58 x2 x4 (k0_pay53 x2))) (k0_pay77 x3 (k0_pay17 x0 x1) (k0_pay58 x2 x4 (k0_pay53 x2)))) (k0_pay80 x3 (k0_pay56 x2 x4 (k0_pay53 x2))) (k0_pay81 x3 (k0_pay5 x0 x1) (k0_pay56 x2 x4 (k0_pay53 x2)))

/-- … the gates', … -/
def out1 : Vec Ideal S128x1024 .bf16 := k0_pay2 (k0_pay55 x2 x4 (k0_pay52 (k0_pay4 x0 x1) x3 (k0_pay10 x0 x1 x3) (k0_pay16 x0 x1 x3) (k0_pay23 x3 (k0_pay17 x0 x1) (k0_pay18 x0 x1)) (k0_pay29 (k0_pay4 x0 x1) x3) (k0_pay35 (k0_pay4 x0 x1) x3) (k0_pay36 (k0_pay4 x0 x1)) (k0_pay37 (k0_pay4 x0 x1))) (k0_pay53 x2))

/-- … and the block's part of the weight's gradient. -/
def out2 : Vec Ideal S1x128 .f32 := k0_pay79 (k0_pay9 x0 x1) (k0_pay15 x0 x1) (k0_pay56 x2 x4 (k0_pay53 x2)) (k0_pay57 x2 x4 (k0_pay53 x2)) (k0_pay75 (k0_pay22 (k0_pay17 x0 x1) (k0_pay18 x0 x1)) (k0_pay28 (k0_pay4 x0 x1)) (k0_pay58 x2 x4 (k0_pay53 x2)) (k0_pay59 x2 x4 (k0_pay53 x2)) (k0_pay70 (k0_pay34 (k0_pay4 x0 x1)) (k0_pay41 (k0_pay36 (k0_pay4 x0 x1)) (k0_pay37 (k0_pay4 x0 x1))) (k0_pay60 x2 x4 (k0_pay53 x2)) (k0_pay61 x2 x4 (k0_pay53 x2)) (k0_pay65 x2 x4 (k0_pay46 (k0_pay4 x0 x1)) (k0_pay51 (k0_pay4 x0 x1)) (k0_pay53 x2))))

/-- The heads' rows: the sum of the two directions'. -/
def both (i : Fin 128) (j : Fin 1024) : EReal := x0 (ix2 i j) + x1 (ix2 i j)

/-- A head is one of the eight. -/
theorem heads (h : Fin 8) : h = 0 ∨ h = 1 ∨ h = 2 ∨ h = 3 ∨ h = 4 ∨ h = 5 ∨ h = 6 ∨ h = 7 := by
  revert h
  decide

set_option maxHeartbeats 4000000 in
/-- The heads' rows' cotangent, at a head's lane, … -/
theorem out0_apply (i : Fin 128) (h : Fin 8) (l : Fin 128) : out0 x0 x1 x2 x3 x4 (ix2 i (col h l))
    = back (both x0 x1) (gated (fun i j => x2 (ix2 i j)) fun i j => x4 (ix2 i j)) (fun l => x3 (ix2 0 l)) i h l := by
  unfold out0 col
  rcases heads h with rfl | rfl | rfl | rfl | rfl | rfl | rfl | rfl <;>
    pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, back, gated, power, both, col] <;>
    simp (disch := omega) only [dif_pos, dif_neg, Nat.sub_sub, Nat.reduceAdd, Nat.add_sub_cancel_left, zero_add, add_zero,
      Finset.univ_unique, Finset.sum_singleton]

set_option maxHeartbeats 4000000 in
/-- … the gates', … -/
theorem out1_apply (i : Fin 128) (h : Fin 8) (l : Fin 128) : out1 x0 x1 x2 x3 x4 (ix2 i (col h l))
    = gateBack (both x0 x1) (fun i j => x2 (ix2 i j)) (fun i j => x4 (ix2 i j)) (fun l => x3 (ix2 0 l)) i h l := by
  unfold out1 col
  rcases heads h with rfl | rfl | rfl | rfl | rfl | rfl | rfl | rfl <;>
    pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, gateBack, power, both, col] <;>
    simp (disch := omega) only [dif_pos, dif_neg, Nat.sub_sub, Nat.reduceAdd, Nat.add_sub_cancel_left]

set_option maxHeartbeats 4000000 in
/-- … and the block's part of the weight's gradient, at a lane. -/
theorem out2_apply (i : Fin 1) (l : Fin 128) : out2 x0 x1 x2 x4 (ix2 i l)
    = ∑ h, ∑ i, both x0 x1 i (col h l) * Ideal.rsqrt (power (both x0 x1) i h)
      * gated (fun i j => x2 (ix2 i j)) (fun i j => x4 (ix2 i j)) i (col h l) := by
  rw [Fin.sum_univ_eight]
  unfold out2
  pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, gated, power, both, col]
  ac_rfl

end

/-- The head of a column … -/
def head (j : Fin 1024) : Fin 8 := ⟨j.val / 128, by omega⟩

/-- … and its lane in the head. -/
def lane (j : Fin 1024) : Fin 128 := ⟨j.val % 128, by omega⟩

/-- They give the column back. -/
theorem col_head_lane (j : Fin 1024) : col (head j) (lane j) = j := Fin.ext (by simp only [col, head, lane]; omega)

variable (m : (ℓ : Loc nD τ sig) → Buf (Elt Ideal) ℓ) (c : Dev nD)

/-- What a point writes out: the heads' rows' cotangent … -/
theorem out5 (t : Fin cfg0.N) : (outsAt0 m c t.val t.isLt).1
    = out0 (iblk m c 0 t) (iblk m c 1 t) (X0_2 m c t) (iblk m c 3 t) (iblk m c 4 t) := by
  have hN := lt_of_lt_of_eq t.isLt N_0
  by_cases h : t.val % 66 = 0
  · have h1 : ¬1 ≤ t.val := by omega
    rw [outsAt0_A m c t h h1]
    frame_out
    rfl
  · have h1 : 1 ≤ t.val := by omega
    rw [outsAt0_B m c t h h1]
    frame_out
    rfl

/-- … and the gates'. -/
theorem out6 (t : Fin cfg0.N) : (outsAt0 m c t.val t.isLt).2.1
    = out1 (iblk m c 0 t) (iblk m c 1 t) (X0_2 m c t) (iblk m c 3 t) (iblk m c 4 t) := by
  have hN := lt_of_lt_of_eq t.isLt N_0
  by_cases h : t.val % 66 = 0
  · have h1 : ¬1 ≤ t.val := by omega
    rw [outsAt0_A m c t h h1]
    frame_out
    rfl
  · have h1 : 1 ≤ t.val := by omega
    rw [outsAt0_B m c t h h1]
    frame_out
    rfl

/-- The weight's gradient's start, at the first block of rows … -/
theorem start7 (t : Fin cfg0.N) (h : t.val % 66 = 0) : (outsAt0 m c t.val t.isLt).2.2
    = out2 (iblk m c 0 t) (iblk m c 1 t) (X0_2 m c t) (iblk m c 4 t) := by
  have hN := lt_of_lt_of_eq t.isLt N_0
  have h1 : ¬1 ≤ t.val := by omega
  rw [outsAt0_A m c t h h1]
  frame_out
  rfl

/-- … and its step, at the others. -/
theorem step7 (t : Fin cfg0.N) (h : ¬t.val % 66 = 0) (j : S1x128.Idx) : (outsAt0 m c t.val t.isLt).2.2 j
    = (outsAt0 m c (t.val - 1) (Nat.lt_of_le_of_lt (Nat.sub_le _ _) t.isLt)).2.2 j
      + out2 (iblk m c 0 t) (iblk m c 1 t) (X0_2 m c t) (iblk m c 4 t) j := by
  have hN := lt_of_lt_of_eq t.isLt N_0
  have h1 : 1 ≤ t.val := by omega
  rw [outsAt0_B m c t h h1]
  frame_out
  pointwise [k0_pay3]
  rfl

/-- The block of window 0 that a point takes. -/
theorem index0 (t : Fin cfg0.N) : win0_0.index t = ![t.val, 0] :=
  (by decide +kernel : ∀ t : Fin grid0.N, win0_0.index t = ![t.val, 0]) t

/-- The block of window 1 that a point takes. -/
theorem index1 (t : Fin cfg0.N) : win0_1.index t = ![t.val, 0] :=
  (by decide +kernel : ∀ t : Fin grid0.N, win0_1.index t = ![t.val, 0]) t

/-- The block of window 2 that a point takes. -/
theorem index2 (t : Fin cfg0.N) : win0_2.index t = ![t.val, 3] :=
  (by decide +kernel : ∀ t : Fin grid0.N, win0_2.index t = ![t.val, 3]) t

/-- The block of window 3 that a point takes. -/
theorem index3 (t : Fin cfg0.N) : win0_3.index t = ![0, 0] :=
  (by decide +kernel : ∀ t : Fin grid0.N, win0_3.index t = ![0, 0]) t

/-- The block of window 4 that a point takes. -/
theorem index4 (t : Fin cfg0.N) : win0_4.index t = ![t.val, 0] :=
  (by decide +kernel : ∀ t : Fin grid0.N, win0_4.index t = ![t.val, 0]) t

/-- The block of window 5 that a point takes. -/
theorem index5 (t : Fin cfg0.N) : win0_5.index t = ![t.val, 0] :=
  (by decide +kernel : ∀ t : Fin grid0.N, win0_5.index t = ![t.val, 0]) t

/-- The block of window 6 that a point takes. -/
theorem index6 (t : Fin cfg0.N) : win0_6.index t = ![t.val, 3] :=
  (by decide +kernel : ∀ t : Fin grid0.N, win0_6.index t = ![t.val, 3]) t

/-- The block of window 7 that a point takes. -/
theorem index7 (t : Fin cfg0.N) : win0_7.index t = ![0, 0] :=
  (by decide +kernel : ∀ t : Fin grid0.N, win0_7.index t = ![0, 0]) t

/-- The heads' rows, the two directions' sum, … -/
def X (i : Fin 8448) (j : Fin 1024) : EReal :=
  HAdd.hAdd (α := EReal) ((m ((c : Thread nD τ).loc main_arg0) : Vec Ideal S8448x1024 .f32) (ix2 i j))
    ((m ((c : Thread nD τ).loc main_arg1) : Vec Ideal S8448x1024 .f32) (ix2 i j))

/-- … their gates, … -/
def Z (i : Fin 8448) (j : Fin 1024) : EReal := (m ((c : Thread nD τ).loc main_arg2) : Vec Ideal S8448x11776 .f32) (ix2 i ⟨3072 + j.val, by omega⟩)

/-- … the norm's weight, … -/
def W (l : Fin 128) : EReal := (m ((c : Thread nD τ).loc main_arg3) : Vec Ideal S1x128 .f32) (ix2 0 l)

/-- … the gated norm's cotangent, … -/
def D (i : Fin 8448) (j : Fin 1024) : EReal := (m ((c : Thread nD τ).loc main_arg4) : Vec Ideal S8448x1024 .f32) (ix2 i j)

/-- … and the array the gates' cotangent is written into. -/
def E (i : Fin 8448) (j : Fin 11776) : EReal := (m ((c : Thread nD τ).loc main_arg5) : Vec Ideal S8448x11776 .bf16) (ix2 i j)

/-- The block's row in the arrays. -/
def row (t : Fin cfg0.N) (i : Fin 128) : Fin 8448 := ⟨t.val * 128 + i.val, by
  have := lt_of_lt_of_eq t.isLt N_0; omega⟩

/-- What the blocks of windows 0 and 1 hold. -/
theorem blk01 (t : Fin cfg0.N) : both (iblk m c 0 t) (iblk m c 1 t) = fun i => X m c (row t i) := by
  funext i j
  unfold both X
  refine congrArg₂ (HAdd.hAdd (α := EReal)) ?_ ?_
  · blk_simp [iblk]
    refine congrArg (m (c.tc.loc main_arg0)) (funext fun a => Fin.ext ?_)
    fin_cases a
    · blk_simp [index0]; rfl
    · blk_simp [index0]; rfl
  · blk_simp [iblk]
    refine congrArg (m (c.tc.loc main_arg1)) (funext fun a => Fin.ext ?_)
    fin_cases a
    · blk_simp [index1]; rfl
    · blk_simp [index1]; rfl

/-- What the block of window 2 holds. -/
theorem blk2 (t : Fin cfg0.N) : (fun i j => X0_2 m c t (ix2 i j)) = fun i => Z m c (row t i) := by
  funext i j
  unfold X0_2 Pipeline.Window.fill
  rw [dif_pos (moved0_2 t _)]
  blk_simp [iblk]
  refine congrArg (m (c.tc.loc main_arg2)) (funext fun a => Fin.ext ?_)
  fin_cases a
  · blk_simp [index2]; rfl
  · blk_simp [index2]; rfl

/-- What the block of window 3 holds. -/
theorem blk3 (t : Fin cfg0.N) : (fun l => iblk m c 3 t (ix2 0 l)) = W m c := by
  funext l
  blk_simp [iblk]
  refine congrArg (m (c.tc.loc main_arg3)) (funext fun a => Fin.ext ?_)
  fin_cases a
  · blk_simp [index3]
  · blk_simp [index3]

/-- What the block of window 4 holds. -/
theorem blk4 (t : Fin cfg0.N) : (fun i j => iblk m c 4 t (ix2 i j)) = fun i => D m c (row t i) := by
  funext i j
  blk_simp [iblk]
  refine congrArg (m (c.tc.loc main_arg4)) (funext fun a => Fin.ext ?_)
  fin_cases a
  · blk_simp [index4]; rfl
  · blk_simp [index4]; rfl

/-- The heads' rows' cotangent, … -/
def grad0 : Vec Ideal S8448x1024 .f32 := fun y => back (X m c) (gated (Z m c) (D m c)) (W m c) (y 0) (head (y 1)) (lane (y 1))

/-- … the array with the gates' cotangent in it … -/
def grad1 : Vec Ideal S8448x11776 .bf16 := fun y =>
  if (y 1).val < 3072 then E m c (y 0) (y 1) else
    if h : (y 1).val - 3072 < 1024 then gateBack (X m c) (Z m c) (D m c) (W m c) (y 0) (head ⟨(y 1).val - 3072, h⟩) (lane ⟨(y 1).val - 3072, h⟩)
    else E m c (y 0) (y 1)

/-- … and the weight's gradient. -/
def grad2 : Vec Ideal S1x128 .f32 := fun y =>
  ∑ h, ∑ i, X m c i (col h (y 1)) * Ideal.rsqrt (power (X m c) i h) * gated (Z m c) (D m c) i (col h (y 1))

/-- What a point writes out for result 0, from 0. -/
theorem block0 (t : Fin cfg0.N) (i : Fin 128) (j : Fin 1024) :
    (outsAt0 m c t.val t.isLt).1 (ix2 i j) = grad0 m c (ix2 (row t i) j) := by
  have e := out0_apply (iblk m c 0 t) (iblk m c 1 t) (X0_2 m c t) (iblk m c 3 t) (iblk m c 4 t) i (head j) (lane j)
  rw [col_head_lane, blk01, blk2, blk3, blk4] at e
  rw [out5]
  exact e

/-- What a point writes out for result 1, from 0. -/
theorem block1 (t : Fin cfg0.N) (i : Fin 128) (j : Fin 1024) : (outsAt0 m c t.val t.isLt).2.1 (ix2 i j)
    = gateBack (X m c) (Z m c) (D m c) (W m c) (row t i) (head j) (lane j) := by
  have e := out1_apply (iblk m c 0 t) (iblk m c 1 t) (X0_2 m c t) (iblk m c 3 t) (iblk m c 4 t) i (head j) (lane j)
  rw [col_head_lane, blk01, blk2, blk3, blk4] at e
  rw [out6]
  exact e

/-- Where a point's block of result 0, from 0, lies in its array. -/
theorem at0 (t : Fin cfg0.N) (i : Fin 128) (j : Fin 1024) :
    grad0 m c ((win0_5.blk t).view.emb (ix2 i j)) = grad0 m c (ix2 (row t i) j) := by
  refine congrArg (grad0 m c) (funext fun a => Fin.ext ?_)
  fin_cases a
  · blk_simp [index5]; rfl
  · blk_simp [index5]; rfl

/-- The array the kernel writes into starts as the argument. -/
theorem entry : V m c main_v0_1 = (m ((c : Thread nD τ).loc main_arg5)) := by
  entry_read
  rfl

/-- The array with the gates' cotangent in it, at a gate's column … -/
theorem grad1_gate (i : Fin 8448) (j : Fin 1024) : grad1 m c (ix2 i ⟨3072 + j.val, by omega⟩)
    = gateBack (X m c) (Z m c) (D m c) (W m c) i (head j) (lane j) := by
  have e : ∀ h, (⟨3072 + j.val - 3072, h⟩ : Fin 1024) = j := fun h => Fin.ext (by simp only; omega)
  show (if 3072 + j.val < 3072 then _ else if h : 3072 + j.val - 3072 < 1024 then
    gateBack (X m c) (Z m c) (D m c) (W m c) i (head ⟨3072 + j.val - 3072, h⟩) (lane ⟨3072 + j.val - 3072, h⟩) else _) = _
  rw [if_neg (by omega), dif_pos (by omega), e]

/-- … and at another. -/
theorem grad1_rest (y : S8448x11776.Idx) (h : (y 1).val / 1024 ≠ 3) : grad1 m c y = E m c (y 0) (y 1) := by
  unfold grad1
  by_cases h1 : (y 1).val < 3072
  · rw [if_pos h1]
  · rw [if_neg h1, dif_neg (by omega)]

/-- Where a point's block of result 1, from 0, lies in its array. -/
theorem at1 (t : Fin cfg0.N) (y : ((cfg0.win 6).xblock (cfg0.grid.coords t)).Idx) (i : Fin 128) (j : Fin 1024)
    (h : (cfg0.win 6).xinj (cfg0.grid.coords t) y = ix2 i j) :
    (win0_6.blk t).view.emb y = ix2 (row t i) ⟨3072 + j.val, by omega⟩ := by
  have h0 : (y 0).val = i.val := congrArg (fun z => (z 0).val) h
  have h1 : (y 1).val = j.val := congrArg (fun z => (z 1).val) h
  refine funext fun a => Fin.ext ?_
  fin_cases a
  · blk_simp [index6]
    show t.val * 128 + (y 0).val = t.val * 128 + i.val
    rw [h0]
  · blk_simp [index6]
    show 3 * 1024 + (y 1).val = 3072 + j.val
    rw [h1]

/-- The kernel ends with the heads' rows' cotangent, … -/
theorem array0 : (dats m 0 c).arrAt 5 cfg0.N = grad0 m c := by
  refine (dats m 0 c).arrAt_eq_of_covers 5 _ (by decide +kernel) fun t hf y => ?_
  blk_simp
  rw [after0_5, eq_ix2 y]
  exact (block0 m c t _ _).trans (at0 m c t _ _).symm

/-- … with the gates' in its columns of the array … -/
theorem array1 : (dats m 0 c).arrAt 6 cfg0.N = grad1 m c := by
  refine (dats m 0 c).arrAt_eq_of_coversWhere_of_agree 6 _ (fun β => β (1 : Fin 2) = 3) (by decide +kernel) (fun t hf y => ?_) (fun j hj => ?_)
  · blk_simp
    rw [after0_6]
    obtain ⟨p, q, h⟩ : ∃ p q, (cfg0.win 6).xinj (cfg0.grid.coords t) y = ix2 p q := ⟨_, _, eq_ix2 _⟩
    rw [at1 t y p q h, h, block1, grad1_gate]
  · blk_simp [Pipeline.Window.cell_apply] at hj
    refine Eq.trans ?_ (grad1_rest m c j hj).symm
    rw [A_eq]
    show V m c main_v0_1 j = _
    rw [entry]
    exact congrArg (m (c.tc.loc main_arg5)) (eq_ix2 j)

/-- A sum over the blocks of rows is one over the rows. -/
theorem sum_rows (φ : Fin 8448 → EReal) : ∑ t : Fin cfg0.N, ∑ k : Fin 128, φ (row t k) = ∑ i, φ i :=
  Fin.sum_mul_add_fin cfg0.N 128 φ (by have : cfg0.N = 66 := N_0; omega)

/-- A block of rows' part of the weight's gradient, … -/
theorem part7 (t : Fin cfg0.N) (i : Fin 1) (l : Fin 128) : out2 (iblk m c 0 t) (iblk m c 1 t) (X0_2 m c t) (iblk m c 4 t) (ix2 i l)
    = ∑ h, ∑ k, X m c (row t k) (col h l) * Ideal.rsqrt (power (X m c) (row t k) h) * gated (Z m c) (D m c) (row t k) (col h l) := by
  have e := out2_apply (iblk m c 0 t) (iblk m c 1 t) (X0_2 m c t) (iblk m c 4 t) i l
  rw [blk01, blk2, blk4] at e
  exact e

/-- … the parts' sum … -/
theorem total7 (t : Fin cfg0.N) (h : t.val % 66 = 65) (i : Fin 1) (l : Fin 128) :
    (outsAt0 m c t.val t.isLt).2.2 (ix2 i l) = grad2 m c (ix2 i l) := by
  have hN := lt_of_lt_of_eq t.isLt N_0
  refine (Pipeline.eq_sum_fin_of_reset_step_apply_last (fun n h => ((outsAt0 m c n h).2.2 : S1x128.Idx → EReal)) 66 (fun _ => 0)
    (fun t => out2 (iblk m c 0 t) (iblk m c 1 t) (X0_2 m c t) (iblk m c 4 t))
    (fun t h j => by rw [start7 m c t h, zero_add]) (fun t h j => step7 m c t h j) (le_of_eq N_0) t (by have : cfg0.N = 66 := N_0; omega) (ix2 i l)).trans ?_
  rw [zero_add]
  simp only [part7]
  rw [Finset.sum_comm]
  exact Finset.sum_congr rfl fun h _ =>
    sum_rows fun i => X m c i (col h l) * Ideal.rsqrt (power (X m c) i h) * gated (Z m c) (D m c) i (col h l)

/-- … and with the weight's gradient. -/
theorem array2 : (dats m 0 c).arrAt 7 cfg0.N = grad2 m c := by
  refine (dats m 0 c).arrAt_eq_of_covers 7 _ (by decide +kernel) fun t hf y => ?_
  blk_simp
  rw [after0_7]
  rw [eq_ix2 y]
  refine (total7 m c t ((flush0_7 t).mp hf) _ _).trans (congrArg (grad2 m c) (funext fun a => Fin.ext ?_))
  fin_cases a
  · blk_simp [index7]
  · blk_simp [index7]

end Cert.Kernel22Ideal.Gradient

namespace Cert.Reference22Ideal.Gradient

open Cert.Product
open Cert.Kernel22Ideal.Gradient (col head lane col_head_lane power gated back gateBack)
open Cert.Reference22Ideal Cert.Reference22Ideal.Gen Idealize.ShloMosaic Idealize.ShloMosaic.TcCoe

/-- The reference runs, its arguments end unchanged, and it has no semaphore. -/
theorem frame : Cert.quiescent_Reference22Ideal (hReference22Ideal := Cert.Reference22Ideal.Gen.facts) := fun m ρ _ =>
  (θ_run Cert.Reference22Ideal.defs _ _).mono (fun r h => ⟨fun c => (h c).2.2.2, sem_eq_zero_of_no_sems (by decide) r.2⟩)
    (Cert.Reference22Ideal.Value.run (F := Ideal) m ρ)

/-- An array's sum over its first two axes, at an index of the third. -/
theorem lead_sum {a b n : ℕ} {t : Shape} (h : (⟨3, ![a, b, n]⟩ : Shape).ReducesTo [0, 1] t) (v : (⟨3, ![a, b, n]⟩ : Shape).Idx → EReal)
    (z : EReal) (j : t.Idx) (h0 : 0 < t.rank) (l : Fin n) (hl : (j ⟨0, h0⟩).val = l.val) :
    Ideal.hostReduceAdd h v z j = z + ∑ p : Fin a, ∑ q : Fin b, v (ix3 p q l) := by
  refine congrArg (z + ·) ((Finset.sum_filter_eq_sum_of_fiber _ (fun k : Fin a × Fin b => ix3 k.1 k.2 l)
    (fun _ _ e => Prod.ext (congrFun e 0) (congrFun e 1)) (fun i => ⟨fun e => ⟨(i 0, i 1), ?_⟩, ?_⟩) v).trans (by simp only [Fintype.sum_prod_type]))
  · have e0 : (i 2).val = (j ⟨0, h0⟩).val := congrArg Fin.val (congrFun e ⟨0, h0⟩)
    funext x
    apply Fin.ext
    match x with
    | ⟨0, _⟩ => rfl
    | ⟨1, _⟩ => rfl
    | ⟨2, _⟩ => exact (e0.trans hl).symm
  · rintro ⟨k, rfl⟩
    funext x
    apply Fin.ext
    match x with
    | ⟨0, _⟩ => exact hl.symm
    | ⟨_ + 1, hb⟩ => exact absurd hb (by have : t.rank = 1 := h.1; omega)

section
variable (m : (ℓ : Loc nD τ sig) → Buf (Elt Ideal) ℓ) (c : Dev nD)

/-- The reference's heads' rows, … -/
def X (i : Fin 8448) (j : Fin 1024) : EReal :=
  HAdd.hAdd (α := EReal) ((m ((c : Thread nD τ).loc main_arg0) : Vec Ideal S8448x1024 .f32) (ix2 i j))
    ((m ((c : Thread nD τ).loc main_arg1) : Vec Ideal S8448x1024 .f32) (ix2 i j))

/-- … their gates, … -/
def Z (i : Fin 8448) (j : Fin 1024) : EReal := (m ((c : Thread nD τ).loc main_arg2) : Vec Ideal S8448x11776 .f32) (ix2 i ⟨3072 + j.val, by omega⟩)

/-- … the norm's weight, … -/
def W (l : Fin 128) : EReal := (m ((c : Thread nD τ).loc main_arg3) : Vec Ideal S1x128 .f32) (ix2 0 l)

/-- … the gated norm's cotangent, … -/
def D (i : Fin 8448) (j : Fin 1024) : EReal := (m ((c : Thread nD τ).loc main_arg4) : Vec Ideal S8448x1024 .f32) (ix2 i j)

/-- … and the array the gates' cotangent is written into. -/
def E (i : Fin 8448) (j : Fin 11776) : EReal := (m ((c : Thread nD τ).loc main_arg5) : Vec Ideal S8448x11776 .bf16) (ix2 i j)

set_option maxHeartbeats 4000000 in
/-- The reference's results, at an index: the heads' rows' cotangent, … -/
theorem first (i : Fin 8448) (j : Fin 1024) : (Value.res_main_v50 m c : Vec Ideal S8448x1024 .f32) (ix2 i j)
    = back (X m c) (gated (Z m c) (D m c)) (W m c) i (head j) (lane j) := by
  simp only [back, col_head_lane]
  unfold Value.res_main_v50
  pointwise []
  simp only [Finset.univ_unique, Finset.sum_singleton]
  rfl

set_option maxHeartbeats 4000000 in
/-- … and the array with the gates' cotangent in it. -/
theorem second (i : Fin 8448) (j : Fin 11776) : (Value.res_main_v54 m c : Vec Ideal S8448x11776 .bf16) (ix2 i j)
    = if j.val < 3072 then E m c i j else
        if h : j.val - 3072 < 1024 then gateBack (X m c) (Z m c) (D m c) (W m c) i (head ⟨j.val - 3072, h⟩) (lane ⟨j.val - 3072, h⟩)
        else E m c i j := by
  unfold Value.res_main_v54
  pointwise []
  by_cases h0 : j.val < 3072
  · rw [dif_pos h0, if_pos h0]
    rfl
  rw [dif_neg h0, if_neg h0]
  by_cases h1 : j.val - 3072 < 1024
  · rw [dif_pos h1, dif_pos h1]
    unfold gateBack
    rfl
  · have e : (⟨4096 + (j.val - 3072 - 1024), by omega⟩ : Fin 11776) = j := Fin.ext (by simp only; omega)
    rw [dif_neg h1, dif_neg h1, e]
    rfl

end

set_option maxHeartbeats 4000000 in
/-- The kernel and the reference end with the same three gradients. -/
theorem values : Cert.algebraic_Kernel22Ideal_Reference22Ideal (hKernel22Ideal := Cert.Kernel22Ideal.Gen.facts)
    (hReference22Ideal := Cert.Reference22Ideal.Gen.facts) := by
  intro m ρ m' ρ' _ hagree
  refine ⟨fun c => Cert.Kernel22Ideal.Gradient.grad0 m c, fun c => Cert.Kernel22Ideal.Gradient.grad1 m c,
    fun c => Cert.Kernel22Ideal.Gradient.grad2 m c, ?_, ?_⟩
  · refine (θ_run Cert.Kernel22Ideal.defs _ _).mono (fun r h c => ?_) (Cert.Kernel22Ideal.Value.run_blocks (F := Ideal) m ρ)
    exact ⟨(h c).1.trans (Cert.Kernel22Ideal.Gradient.array0 m c), (h c).2.1.trans (Cert.Kernel22Ideal.Gradient.array1 m c),
      (h c).2.2.1.trans (Cert.Kernel22Ideal.Gradient.array2 m c), (h c).2.2.2⟩
  · refine (θ_run Cert.Reference22Ideal.defs _ _).mono (fun r h c => ?_) (Cert.Reference22Ideal.Value.run (F := Ideal) m' ρ')
    obtain ⟨h0, h1, h2, h3⟩ := h c
    obtain ⟨e0, e1, e2, e3, e4, e5⟩ := hagree c
    refine ⟨h0.trans ?_, h1.trans ?_, h2.trans ?_, h3⟩ <;> clear h0 h1 h2 h3 h hagree
    · refine ext2 (a := 8448) (b := 1024) fun i j => (first m' c i j).trans ?_
      unfold X Z W D
      rw [e0, e1, e2, e3, e4]
      rfl
    · refine ext2 (a := 8448) (b := 11776) fun i j => (second m' c i j).trans ?_
      unfold X Z W D E
      rw [e0, e1, e2, e3, e4, e5]
      rfl
    · rw [e0, e1, e2, e4]
      refine ext2 (a := 1) (b := 128) fun i j => ?_
      show _ = Cert.Kernel22Ideal.Gradient.grad2 m c (ix2 i j)
      pointwise [Cert.Kernel22Ideal.Gradient.grad2]
      rw [lead_sum reducesTo_S1x1x128_S128_d0_1 _ _ _ (by decide) j rfl]
      pointwise []
      rw [lead_sum reducesTo_S8448x8x128_S128_d0_1 _ _ _ (by decide) j rfl]
      pointwise []
      exact (Fintype.sum_unique _).trans ((Fintype.sum_unique _).trans (Finset.sum_comm.trans
        (Finset.sum_congr rfl fun h _ => Finset.sum_congr rfl fun k _ => rfl)))

end Cert.Reference22Ideal.Gradient
-- ==== Proof.lean ====
/- The claim: for each call the two kernels' frames and the reference's, the idealization, and the value claim — the scan's q and
   v cotangents are the reference's, and so are the results of each of the products and of the pointwise gradients. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.KernelResult
public import proofs.«01_k».proof.Proof.Decays
public import proofs.«01_k».proof.Proof.RefScan
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.WIn
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.FfnOut
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Sw
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.FfnIn
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.FfnX
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.WOut
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Mrg
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.BrSsm
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Yg
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Og
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.InProj
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.FfnUp
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.FfnDown
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.SsmProj
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.GdnProj
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.MixProj
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.GdnOut
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.SwigluBack
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.MergeBack
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.NormBack
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.GatedNormBack
public import Idealize.ShloMosaic.Adequacy
public import Idealize.ShloMosaic.Init

@[expose] public section

noncomputable section

namespace Cert.Proof

open Idealize.ShloMosaic Idealize.SL.Sem

/-- The reference runs, its arguments end unchanged, and it has no semaphore. -/
theorem referenceFrame : Cert.quiescent_ReferenceIdeal (hReferenceIdeal := Cert.ReferenceIdeal.Gen.facts) := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- Where the reference's arguments are the kernel's, both read the same arrays. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Scan.args m' c = Cert.KernelIdeal.Unit.args m c := by
  obtain ⟨h0, h1, h2, h3, h4, h5, h6⟩ := h
  unfold Cert.ReferenceIdeal.Scan.args Cert.KernelIdeal.Unit.args
  rw [h0, h1, h2, h3, h4, h5, h6]

/-- The kernel and the reference end with the same cotangents of q and of v. -/
theorem values : Cert.algebraic_KernelIdeal_ReferenceIdeal_pre_log_decays_nonpositive
    (hKernelIdeal := Cert.KernelIdeal.Gen.facts) (hReferenceIdeal := Cert.ReferenceIdeal.Gen.facts)
    (hPre_log_decays_nonpositive := Cert.KernelIdeal.Unit.decaysFacts) := by
  intro m ρ m' ρ' hm hagree
  refine ⟨fun c => Cert.KernelIdeal.Unit.dqArr (Cert.KernelIdeal.Unit.args m c),
    fun c => Cert.KernelIdeal.Unit.dvArr (Cert.KernelIdeal.Unit.args m c), ?_, ?_⟩
  · refine (θ_run Cert.KernelIdeal.defs _ _).mono (fun r h c => ?_) (Cert.KernelIdeal.Value.run_blocks (F := Ideal) m ρ)
    have hA := Cert.KernelIdeal.Unit.decays_of_pre m hm c
    obtain ⟨a7, _, a9, _, rest⟩ := h c
    exact ⟨a7.trans (Cert.KernelIdeal.Unit.dq_array m c hA), a9.trans (Cert.KernelIdeal.Unit.dv_array m c hA), rest⟩
  · refine (θ_run Cert.ReferenceIdeal.defs _ _).mono (fun r h c => ?_) (Cert.ReferenceIdeal.Value.run (F := Ideal) m' ρ')
    have hB := args_eq m m' c (hagree c)
    obtain ⟨a, b, rest⟩ := h c
    refine ⟨(a.trans (Cert.ReferenceIdeal.Scan.dq_result m' c)).trans ?_,
      (b.trans (Cert.ReferenceIdeal.Scan.dv_result m' c)).trans ?_, rest⟩
    · rw [hB]
      rfl
    · rw [hB]
      rfl

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.KernelIdeal.Unit.decaysFacts,
    fun m ρ _ => Cert.Kernel.Gen.frame m ρ, fun m ρ _ => Cert.KernelIdeal.Gen.frame m ρ,
    fun m ρ _ => Cert.KernelIdeal.Gen.frame m ρ, referenceFrame, fun m ρ _ => referenceFrame m ρ trivial,
    fun m ρ _ => Cert.Kernel2.Gen.frame m ρ, fun m ρ _ => Cert.Kernel2Ideal.Gen.frame m ρ, Cert.Reference2Ideal.Gradient.frame,
    fun m ρ _ => Cert.Kernel3.Gen.frame m ρ, fun m ρ _ => Cert.Kernel3Ideal.Gen.frame m ρ, Cert.Reference3Ideal.Gradient.frame,
    fun m ρ _ => Cert.Kernel4.Gen.frame m ρ, fun m ρ _ => Cert.Kernel4Ideal.Gen.frame m ρ, Cert.Reference4Ideal.Gradient.frame,
    fun m ρ _ => Cert.Kernel5.Gen.frame m ρ, fun m ρ _ => Cert.Kernel5Ideal.Gen.frame m ρ, Cert.Reference5Ideal.Gradient.frame,
    fun m ρ _ => Cert.Kernel6.Gen.frame m ρ, fun m ρ _ => Cert.Kernel6Ideal.Gen.frame m ρ, Cert.Reference6Ideal.Gradient.frame,
    fun m ρ _ => Cert.Kernel7.Gen.frame m ρ, fun m ρ _ => Cert.Kernel7Ideal.Gen.frame m ρ, Cert.Reference7Ideal.Gradient.frame,
    fun m ρ _ => Cert.Kernel8.Gen.frame m ρ, fun m ρ _ => Cert.Kernel8Ideal.Gen.frame m ρ, Cert.Reference8Ideal.Gradient.frame,
    fun m ρ _ => Cert.Kernel9.Gen.frame m ρ, fun m ρ _ => Cert.Kernel9Ideal.Gen.frame m ρ, Cert.Reference9Ideal.Gradient.frame,
    fun m ρ _ => Cert.Kernel10.Gen.frame m ρ, fun m ρ _ => Cert.Kernel10Ideal.Gen.frame m ρ, Cert.Reference10Ideal.Gradient.frame,
    fun m ρ _ => Cert.Kernel11.Gen.frame m ρ, fun m ρ _ => Cert.Kernel11Ideal.Gen.frame m ρ, Cert.Reference11Ideal.Gradient.frame,
    fun m ρ _ => Cert.Kernel12.Gen.frame m ρ, fun m ρ _ => Cert.Kernel12Ideal.Gen.frame m ρ, Cert.Reference12Ideal.Forward.frame,
    fun m ρ _ => Cert.Kernel13.Gen.frame m ρ, fun m ρ _ => Cert.Kernel13Ideal.Gen.frame m ρ, Cert.Reference13Ideal.Forward.frame,
    fun m ρ _ => Cert.Kernel14.Gen.frame m ρ, fun m ρ _ => Cert.Kernel14Ideal.Gen.frame m ρ, Cert.Reference14Ideal.Forward.frame,
    fun m ρ _ => Cert.Kernel15.Gen.frame m ρ, fun m ρ _ => Cert.Kernel15Ideal.Gen.frame m ρ, Cert.Reference15Ideal.Forward.frame,
    fun m ρ _ => Cert.Kernel16.Gen.frame m ρ, fun m ρ _ => Cert.Kernel16Ideal.Gen.frame m ρ, Cert.Reference16Ideal.Forward.frame,
    fun m ρ _ => Cert.Kernel17.Gen.frame m ρ, fun m ρ _ => Cert.Kernel17Ideal.Gen.frame m ρ, Cert.Reference17Ideal.Forward.frame,
    fun m ρ _ => Cert.Kernel18.Gen.frame m ρ, fun m ρ _ => Cert.Kernel18Ideal.Gen.frame m ρ, Cert.Reference18Ideal.Gradient.frame,
    fun m ρ _ => Cert.Kernel19.Gen.frame m ρ, fun m ρ _ => Cert.Kernel19Ideal.Gen.frame m ρ, Cert.Reference19Ideal.Gradient.frame,
    fun m ρ _ => Cert.Kernel20.Gen.frame m ρ, fun m ρ _ => Cert.Kernel20Ideal.Gen.frame m ρ, Cert.Reference20Ideal.Gradient.frame,
    fun m ρ _ => Cert.Kernel21.Gen.frame m ρ, fun m ρ _ => Cert.Kernel21Ideal.Gen.frame m ρ, Cert.Reference21Ideal.Gradient.frame,
    fun m ρ _ => Cert.Kernel22.Gen.frame m ρ, fun m ρ _ => Cert.Kernel22Ideal.Gen.frame m ρ, Cert.Reference22Ideal.Gradient.frame,
    trivial, values,
    trivial, Cert.Reference2Ideal.Gradient.values,
    trivial, Cert.Reference3Ideal.Gradient.values,
    trivial, Cert.Reference4Ideal.Gradient.values,
    trivial, Cert.Reference5Ideal.Gradient.values,
    trivial, Cert.Reference6Ideal.Gradient.values,
    trivial, Cert.Reference7Ideal.Gradient.values,
    trivial, Cert.Reference8Ideal.Gradient.values,
    trivial, Cert.Reference9Ideal.Gradient.values,
    trivial, Cert.Reference10Ideal.Gradient.values,
    trivial, Cert.Reference11Ideal.Gradient.values,
    trivial, Cert.Reference12Ideal.Forward.values,
    trivial, Cert.Reference13Ideal.Forward.values,
    trivial, Cert.Reference14Ideal.Forward.values,
    trivial, Cert.Reference15Ideal.Forward.values,
    trivial, Cert.Reference16Ideal.Forward.values,
    trivial, Cert.Reference17Ideal.Forward.values,
    trivial, Cert.Reference18Ideal.Gradient.values,
    trivial, Cert.Reference19Ideal.Gradient.values,
    trivial, Cert.Reference20Ideal.Gradient.values,
    trivial, Cert.Reference21Ideal.Gradient.values,
    trivial, Cert.Reference22Ideal.Gradient.values⟩

end Cert.Proof

end
